-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_and_finite [hPre_sorted_and_finite : Cert.Pre_sorted_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_and_finite [hPre_sorted_and_finite : Cert.Pre_sorted_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sorted_and_finite [hKernelIdeal : Cert.KernelIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sorted_and_finite [hReferenceIdeal : Cert.ReferenceIdeal.Facts] [hPre_sorted_and_finite : Cert.Pre_sorted_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "ninf" .f32 0xFF7FFFFF#32 ⊥

def algebraic_KernelIdeal_ReferenceIdeal_pre_sorted_and_finite [hKernelIdeal : Cert.KernelIdeal.Facts] [hReferenceIdeal : Cert.ReferenceIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sorted_and_finite : Cert.Pre_sorted_and_finite.Facts),
    quiescent_Kernel (hKernel := hKernel)
    ∧ quiescent_KernelIdeal (hKernelIdeal := hKernelIdeal)
    ∧ quiescent_KernelIdeal_pre_sorted_and_finite (hKernelIdeal := hKernelIdeal) (hPre_sorted_and_finite := hPre_sorted_and_finite)
    ∧ quiescent_ReferenceIdeal (hReferenceIdeal := hReferenceIdeal)
    ∧ quiescent_ReferenceIdeal_pre_sorted_and_finite (hReferenceIdeal := hReferenceIdeal) (hPre_sorted_and_finite := hPre_sorted_and_finite)
    ∧ preserves_Kernel_KernelIdeal
    ∧ algebraic_KernelIdeal_ReferenceIdeal_pre_sorted_and_finite (hKernelIdeal := hKernelIdeal) (hReferenceIdeal := hReferenceIdeal) (hPre_sorted_and_finite := hPre_sorted_and_finite)
-- ==== Pre_sorted_and_finite.lean ====
abbrev S50000x512 : Shape := ⟨2, ![50000, 512]⟩
abbrev S50000 : Shape := ⟨1, ![50000]⟩
abbrev S3 : Shape := ⟨1, ![3]⟩
abbrev S49999 : Shape := ⟨1, ![49999]⟩
abbrev S_ : Shape := ⟨0, ![]⟩

class Facts : Prop where
  slices_S50000_S49999_0 : S50000.Slices ![0] S49999
  slices_S50000_S49999_1 : S50000.Slices ![1] S49999
  bcast_S_S50000x512 : S_.BroadcastsInDim S50000x512 (![] : Fin 0 → Fin S50000x512.rank)
  bcast_S_S3 : S_.BroadcastsInDim S3 (![] : Fin 0 → Fin S3.rank)

variable [Facts]

def fn {F : FTy → Type} [FloatOps F] (main_arg0 : FVec F S50000x512 .f32) (main_arg1 : IVec S50000 32) (main_arg2 : FVec F S3 .f32) : IVec S49999 1 × IVec S50000x512 1 × IVec S3 1 :=
  let main_v0 : IVec S49999 32 := (extractStridedSlice S49999 ![0] · slices_S50000_S49999_0) main_arg1
  let main_v1 : IVec S49999 32 := (extractStridedSlice S49999 ![1] · slices_S50000_S49999_1) main_arg1
  let main_v2 : IVec S49999 1 := cmpi .sle main_v0 main_v1
  let main_v3 : FVec F S50000x512 .f32 := Host.absf main_arg0
  let main_cst : FVec F S_ .f32 := constant S_ .f32 0x7F800000#32
  let main_v4 : FVec F S50000x512 .f32 := broadcastInDim S50000x512 ![] bcast_S_S50000x512 main_cst
  let main_v5 : IVec S50000x512 1 := cmpf .olt main_v3 main_v4
  let main_v6 : FVec F S3 .f32 := Host.absf main_arg2
  let main_cst_0 : FVec F S_ .f32 := constant S_ .f32 0x7F800000#32
  let main_v7 : FVec F S3 .f32 := broadcastInDim S3 ![] bcast_S_S3 main_cst_0
  let main_v8 : IVec S3 1 := cmpf .olt main_v6 main_v7
  (main_v2, main_v5, main_v8)
-- ==== Kernel.lean ====
abbrev S50000x512 : Shape := ⟨2, ![50000, 512]⟩
abbrev S50000 : Shape := ⟨1, ![50000]⟩
abbrev S3 : Shape := ⟨1, ![3]⟩
abbrev S3x16 : Shape := ⟨2, ![3, 16]⟩
abbrev S48 : Shape := ⟨1, ![48]⟩
abbrev S256x512 : Shape := ⟨2, ![256, 512]⟩
abbrev S50016 : Shape := ⟨1, ![50016]⟩
abbrev S3x40x512 : Shape := ⟨3, ![3, 40, 512]⟩
abbrev S8x1024 : Shape := ⟨2, ![8, 1024]⟩
abbrev S9 : Shape := ⟨1, ![9]⟩
abbrev S_ : Shape := ⟨0, ![]⟩
abbrev S16 : Shape := ⟨1, ![16]⟩
abbrev S1 : Shape := ⟨1, ![1]⟩
abbrev S1x16 : Shape := ⟨2, ![1, 16]⟩
abbrev S1x40x512 : Shape := ⟨3, ![1, 40, 512]⟩
abbrev S40x512 : Shape := ⟨2, ![40, 512]⟩
abbrev S1x1x16 : Shape := ⟨3, ![1, 1, 16]⟩
abbrev S8x512 : Shape := ⟨2, ![8, 512]⟩

abbrev nBuf : Table → Nat
  | .hbm => 6
  | .local .scVector .smem => 1
  | .local .scVector .vmem => 4
  | _ => 0

abbrev bufTy : (tb : Table) → Fin (nBuf tb) → BufTy
  | .hbm, ⟨0, _⟩ => ⟨S50000x512, .f32⟩
  | .hbm, ⟨1, _⟩ => ⟨S50000, .i32⟩
  | .hbm, ⟨2, _⟩ => ⟨S3, .f32⟩
  | .hbm, ⟨3, _⟩ => ⟨S3x16, .f32⟩
  | .hbm, ⟨4, _⟩ => ⟨S48, .f32⟩
  | .hbm, ⟨5, _⟩ => ⟨S256x512, .f32⟩
  | .local .scVector .smem, ⟨0, _⟩ => ⟨S9, .i32⟩
  | .local .scVector .vmem, ⟨0, _⟩ => ⟨S50016, .i32⟩
  | .local .scVector .vmem, ⟨1, _⟩ => ⟨S3x40x512, .f32⟩
  | .local .scVector .vmem, ⟨2, _⟩ => ⟨S8x1024, .f32⟩
  | .local .scVector .vmem, ⟨3, _⟩ => ⟨S48, .f32⟩
  | _, _ => ⟨S50000x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0_scv : Ref sig .scVector := ⟨.hbm, 0, rfl⟩
abbrev main_arg1_scv : Ref sig .scVector := ⟨.hbm, 1, rfl⟩
abbrev main_v1_scv : Ref sig .scVector := ⟨.hbm, 4, rfl⟩
abbrev main_v2_scv : Ref sig .scVector := ⟨.hbm, 5, rfl⟩
abbrev cc0_scratch4 : Ref sig .scVector := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c16_i32 : BitVec 32 := 16#32
  let v10 : BitVec 32 := Scalar.addi c0_i32_1 c16_i32
  let c1_i32 : BitVec 32 := 1#32
  ⟨c0_i32_1, v10, c1_i32⟩
def k0_off1 (arg13 : BitVec 32) (arg14 : BitVec 32) : Fin 1 → Nat :=
  let v3552 : BitVec 32 := Scalar.addi arg13 arg14
  let c0_i32_1596 : BitVec 32 := 0#32
  let v3554 : BitVec 1 := Scalar.cmpi .sgt v3552 c0_i32_1596
  let v3555 : BitVec 32 := Scalar.extui v3554
  let c0_i32_1597 : BitVec 32 := 0#32
  let v3556 : BitVec 1 := Scalar.cmpi .slt v3552 c0_i32_1597
  let v3557 : BitVec 32 := Scalar.extui v3556
  let v3558 : BitVec 32 := Scalar.subi v3555 v3557
  let c2_i32_1595 : BitVec 32 := 2#32
  let c0_i32_1598 : BitVec 32 := 0#32
  let v3559 : BitVec 1 := Scalar.cmpi .sgt c2_i32_1595 c0_i32_1598
  let v3560 : BitVec 32 := Scalar.extui v3559
  let c0_i32_1599 : BitVec 32 := 0#32
  let v3561 : BitVec 1 := Scalar.cmpi .slt c2_i32_1595 c0_i32_1599
  let v3562 : BitVec 32 := Scalar.extui v3561
  let v3563 : BitVec 32 := Scalar.subi v3560 v3562
  let v3564 : BitVec 1 := Scalar.cmpi .ne v3558 v3563
  let v3565 : BitVec 32 := Scalar.remsi v3552 c2_i32_1595
  let c0_i32_1600 : BitVec 32 := 0#32
  let v3566 : BitVec 1 := Scalar.cmpi .ne v3565 c0_i32_1600
  let v3567 : BitVec 1 := Scalar.andi v3564 v3566
  let v3553 : BitVec 32 := Scalar.divsi v3552 c2_i32_1595
  let c1_i32_1601 : BitVec 32 := 1#32
  let v3568 : BitVec 32 := Scalar.subi v3553 c1_i32_1601
  let v3569 : BitVec 32 := Scalar.select v3567 v3568 v3553
  let c49999_i32 : BitVec 32 := 49999#32
  let v3570 : BitVec 32 := Scalar.minsi v3569 c49999_i32
  let v3571 : Index := Scalar.indexCast v3570
  ![v3571.toNat]

def k0_chk1 (arg13 : BitVec 32) (arg14 : BitVec 32) : Prop :=
  (∀ a, (k0_off1 arg13 arg14) a + S16.size a ≤ S50016.size a)
theorem k0_off1_inb : ∀ (arg13 : BitVec 32) (arg14 : BitVec 32) (k0_hw1 : k0_chk1 arg13 arg14), ∀ a, (k0_off1 arg13 arg14) a + S16.size a ≤ S50016.size a := fun arg13 arg14 k0_hw1 => k0_hw1

@[reducible] def k0_t2_loop : Scf.Loop 32 :=
  let c0_i32_7 : BitVec 32 := 0#32
  let c16_i32_8 : BitVec 32 := 16#32
  let v15 : BitVec 32 := Scalar.addi c0_i32_7 c16_i32_8
  let c1_i32_9 : BitVec 32 := 1#32
  ⟨c0_i32_7, v15, c1_i32_9⟩
def k0_off2 (arg13 : BitVec 32) (arg14 : BitVec 32) : Fin 1 → Nat :=
  let v3552 : BitVec 32 := Scalar.addi arg13 arg14
  let c0_i32_1596 : BitVec 32 := 0#32
  let v3554 : BitVec 1 := Scalar.cmpi .sgt v3552 c0_i32_1596
  let v3555 : BitVec 32 := Scalar.extui v3554
  let c0_i32_1597 : BitVec 32 := 0#32
  let v3556 : BitVec 1 := Scalar.cmpi .slt v3552 c0_i32_1597
  let v3557 : BitVec 32 := Scalar.extui v3556
  let v3558 : BitVec 32 := Scalar.subi v3555 v3557
  let c2_i32_1595 : BitVec 32 := 2#32
  let c0_i32_1598 : BitVec 32 := 0#32
  let v3559 : BitVec 1 := Scalar.cmpi .sgt c2_i32_1595 c0_i32_1598
  let v3560 : BitVec 32 := Scalar.extui v3559
  let c0_i32_1599 : BitVec 32 := 0#32
  let v3561 : BitVec 1 := Scalar.cmpi .slt c2_i32_1595 c0_i32_1599
  let v3562 : BitVec 32 := Scalar.extui v3561
  let v3563 : BitVec 32 := Scalar.subi v3560 v3562
  let v3564 : BitVec 1 := Scalar.cmpi .ne v3558 v3563
  let v3565 : BitVec 32 := Scalar.remsi v3552 c2_i32_1595
  let c0_i32_1600 : BitVec 32 := 0#32
  let v3566 : BitVec 1 := Scalar.cmpi .ne v3565 c0_i32_1600
  let v3567 : BitVec 1 := Scalar.andi v3564 v3566
  let v3553 : BitVec 32 := Scalar.divsi v3552 c2_i32_1595
  let c1_i32_1601 : BitVec 32 := 1#32
  let v3568 : BitVec 32 := Scalar.subi v3553 c1_i32_1601
  let v3569 : BitVec 32 := Scalar.select v3567 v3568 v3553
  let c49999_i32 : BitVec 32 := 49999#32
  let v3570 : BitVec 32 := Scalar.minsi v3569 c49999_i32
  let v3571 : Index := Scalar.indexCast v3570
  ![v3571.toNat]

def k0_chk2 (arg13 : BitVec 32) (arg14 : BitVec 32) : Prop :=
  (∀ a, (k0_off2 arg13 arg14) a + S16.size a ≤ S50016.size a)
theorem k0_off2_inb : ∀ (arg13 : BitVec 32) (arg14 : BitVec 32) (k0_hw2 : k0_chk2 arg13 arg14), ∀ a, (k0_off2 arg13 arg14) a + S16.size a ≤ S50016.size a := fun arg13 arg14 k0_hw2 => k0_hw2

@[reducible] def k0_t3_loop : Scf.Loop 32 :=
  let c0_i32_15 : BitVec 32 := 0#32
  let c16_i32_16 : BitVec 32 := 16#32
  let v20 : BitVec 32 := Scalar.addi c0_i32_15 c16_i32_16
  let c1_i32_17 : BitVec 32 := 1#32
  ⟨c0_i32_15, v20, c1_i32_17⟩
def k0_off3 (arg13 : BitVec 32) (arg14 : BitVec 32) : Fin 1 → Nat :=
  let v3552 : BitVec 32 := Scalar.addi arg13 arg14
  let c0_i32_1596 : BitVec 32 := 0#32
  let v3554 : BitVec 1 := Scalar.cmpi .sgt v3552 c0_i32_1596
  let v3555 : BitVec 32 := Scalar.extui v3554
  let c0_i32_1597 : BitVec 32 := 0#32
  let v3556 : BitVec 1 := Scalar.cmpi .slt v3552 c0_i32_1597
  let v3557 : BitVec 32 := Scalar.extui v3556
  let v3558 : BitVec 32 := Scalar.subi v3555 v3557
  let c2_i32_1595 : BitVec 32 := 2#32
  let c0_i32_1598 : BitVec 32 := 0#32
  let v3559 : BitVec 1 := Scalar.cmpi .sgt c2_i32_1595 c0_i32_1598
  let v3560 : BitVec 32 := Scalar.extui v3559
  let c0_i32_1599 : BitVec 32 := 0#32
  let v3561 : BitVec 1 := Scalar.cmpi .slt c2_i32_1595 c0_i32_1599
  let v3562 : BitVec 32 := Scalar.extui v3561
  let v3563 : BitVec 32 := Scalar.subi v3560 v3562
  let v3564 : BitVec 1 := Scalar.cmpi .ne v3558 v3563
  let v3565 : BitVec 32 := Scalar.remsi v3552 c2_i32_1595
  let c0_i32_1600 : BitVec 32 := 0#32
  let v3566 : BitVec 1 := Scalar.cmpi .ne v3565 c0_i32_1600
  let v3567 : BitVec 1 := Scalar.andi v3564 v3566
  let v3553 : BitVec 32 := Scalar.divsi v3552 c2_i32_1595
  let c1_i32_1601 : BitVec 32 := 1#32
  let v3568 : BitVec 32 := Scalar.subi v3553 c1_i32_1601
  let v3569 : BitVec 32 := Scalar.select v3567 v3568 v3553
  let c49999_i32 : BitVec 32 := 49999#32
  let v3570 : BitVec 32 := Scalar.minsi v3569 c49999_i32
  let v3571 : Index := Scalar.indexCast v3570
  ![v3571.toNat]

def k0_chk3 (arg13 : BitVec 32) (arg14 : BitVec 32) : Prop :=
  (∀ a, (k0_off3 arg13 arg14) a + S16.size a ≤ S50016.size a)
theorem k0_off3_inb : ∀ (arg13 : BitVec 32) (arg14 : BitVec 32) (k0_hw3 : k0_chk3 arg13 arg14), ∀ a, (k0_off3 arg13 arg14) a + S16.size a ≤ S50016.size a := fun arg13 arg14 k0_hw3 => k0_hw3

@[reducible] def k0_t4_loop : Scf.Loop 32 :=
  let c0_i32_22 : BitVec 32 := 0#32
  let c16_i32_23 : BitVec 32 := 16#32
  let v25 : BitVec 32 := Scalar.addi c0_i32_22 c16_i32_23
  let c1_i32_24 : BitVec 32 := 1#32
  ⟨c0_i32_22, v25, c1_i32_24⟩
def k0_off4 (arg13 : BitVec 32) (arg14 : BitVec 32) : Fin 1 → Nat :=
  let v3552 : BitVec 32 := Scalar.addi arg13 arg14
  let c0_i32_1596 : BitVec 32 := 0#32
  let v3554 : BitVec 1 := Scalar.cmpi .sgt v3552 c0_i32_1596
  let v3555 : BitVec 32 := Scalar.extui v3554
  let c0_i32_1597 : BitVec 32 := 0#32
  let v3556 : BitVec 1 := Scalar.cmpi .slt v3552 c0_i32_1597
  let v3557 : BitVec 32 := Scalar.extui v3556
  let v3558 : BitVec 32 := Scalar.subi v3555 v3557
  let c2_i32_1595 : BitVec 32 := 2#32
  let c0_i32_1598 : BitVec 32 := 0#32
  let v3559 : BitVec 1 := Scalar.cmpi .sgt c2_i32_1595 c0_i32_1598
  let v3560 : BitVec 32 := Scalar.extui v3559
  let c0_i32_1599 : BitVec 32 := 0#32
  let v3561 : BitVec 1 := Scalar.cmpi .slt c2_i32_1595 c0_i32_1599
  let v3562 : BitVec 32 := Scalar.extui v3561
  let v3563 : BitVec 32 := Scalar.subi v3560 v3562
  let v3564 : BitVec 1 := Scalar.cmpi .ne v3558 v3563
  let v3565 : BitVec 32 := Scalar.remsi v3552 c2_i32_1595
  let c0_i32_1600 : BitVec 32 := 0#32
  let v3566 : BitVec 1 := Scalar.cmpi .ne v3565 c0_i32_1600
  let v3567 : BitVec 1 := Scalar.andi v3564 v3566
  let v3553 : BitVec 32 := Scalar.divsi v3552 c2_i32_1595
  let c1_i32_1601 : BitVec 32 := 1#32
  let v3568 : BitVec 32 := Scalar.subi v3553 c1_i32_1601
  let v3569 : BitVec 32 := Scalar.select v3567 v3568 v3553
  let c49999_i32 : BitVec 32 := 49999#32
  let v3570 : BitVec 32 := Scalar.minsi v3569 c49999_i32
  let v3571 : Index := Scalar.indexCast v3570
  ![v3571.toNat]

def k0_chk4 (arg13 : BitVec 32) (arg14 : BitVec 32) : Prop :=
  (∀ a, (k0_off4 arg13 arg14) a + S16.size a ≤ S50016.size a)
theorem k0_off4_inb : ∀ (arg13 : BitVec 32) (arg14 : BitVec 32) (k0_hw4 : k0_chk4 arg13 arg14), ∀ a, (k0_off4 arg13 arg14) a + S16.size a ≤ S50016.size a := fun arg13 arg14 k0_hw4 => k0_hw4

@[reducible] def k0_t5_loop : Scf.Loop 32 :=
  let c0_i32_29 : BitVec 32 := 0#32
  let c16_i32_30 : BitVec 32 := 16#32
  let v30 : BitVec 32 := Scalar.addi c0_i32_29 c16_i32_30
  let c1_i32_31 : BitVec 32 := 1#32
  ⟨c0_i32_29, v30, c1_i32_31⟩
def k0_off5 (arg13 : BitVec 32) (arg14 : BitVec 32) : Fin 1 → Nat :=
  let v3552 : BitVec 32 := Scalar.addi arg13 arg14
  let c0_i32_1596 : BitVec 32 := 0#32
  let v3554 : BitVec 1 := Scalar.cmpi .sgt v3552 c0_i32_1596
  let v3555 : BitVec 32 := Scalar.extui v3554
  let c0_i32_1597 : BitVec 32 := 0#32
  let v3556 : BitVec 1 := Scalar.cmpi .slt v3552 c0_i32_1597
  let v3557 : BitVec 32 := Scalar.extui v3556
  let v3558 : BitVec 32 := Scalar.subi v3555 v3557
  let c2_i32_1595 : BitVec 32 := 2#32
  let c0_i32_1598 : BitVec 32 := 0#32
  let v3559 : BitVec 1 := Scalar.cmpi .sgt c2_i32_1595 c0_i32_1598
  let v3560 : BitVec 32 := Scalar.extui v3559
  let c0_i32_1599 : BitVec 32 := 0#32
  let v3561 : BitVec 1 := Scalar.cmpi .slt c2_i32_1595 c0_i32_1599
  let v3562 : BitVec 32 := Scalar.extui v3561
  let v3563 : BitVec 32 := Scalar.subi v3560 v3562
  let v3564 : BitVec 1 := Scalar.cmpi .ne v3558 v3563
  let v3565 : BitVec 32 := Scalar.remsi v3552 c2_i32_1595
  let c0_i32_1600 : BitVec 32 := 0#32
  let v3566 : BitVec 1 := Scalar.cmpi .ne v3565 c0_i32_1600
  let v3567 : BitVec 1 := Scalar.andi v3564 v3566
  let v3553 : BitVec 32 := Scalar.divsi v3552 c2_i32_1595
  let c1_i32_1601 : BitVec 32 := 1#32
  let v3568 : BitVec 32 := Scalar.subi v3553 c1_i32_1601
  let v3569 : BitVec 32 := Scalar.select v3567 v3568 v3553
  let c49999_i32 : BitVec 32 := 49999#32
  let v3570 : BitVec 32 := Scalar.minsi v3569 c49999_i32
  let v3571 : Index := Scalar.indexCast v3570
  ![v3571.toNat]

def k0_chk5 (arg13 : BitVec 32) (arg14 : BitVec 32) : Prop :=
  (∀ a, (k0_off5 arg13 arg14) a + S16.size a ≤ S50016.size a)
theorem k0_off5_inb : ∀ (arg13 : BitVec 32) (arg14 : BitVec 32) (k0_hw5 : k0_chk5 arg13 arg14), ∀ a, (k0_off5 arg13 arg14) a + S16.size a ≤ S50016.size a := fun arg13 arg14 k0_hw5 => k0_hw5

@[reducible] def k0_t6_loop : Scf.Loop 32 :=
  let c0_i32_36 : BitVec 32 := 0#32
  let c16_i32_37 : BitVec 32 := 16#32
  let v35 : BitVec 32 := Scalar.addi c0_i32_36 c16_i32_37
  let c1_i32_38 : BitVec 32 := 1#32
  ⟨c0_i32_36, v35, c1_i32_38⟩
def k0_off6 (arg13 : BitVec 32) (arg14 : BitVec 32) : Fin 1 → Nat :=
  let v3552 : BitVec 32 := Scalar.addi arg13 arg14
  let c0_i32_1596 : BitVec 32 := 0#32
  let v3554 : BitVec 1 := Scalar.cmpi .sgt v3552 c0_i32_1596
  let v3555 : BitVec 32 := Scalar.extui v3554
  let c0_i32_1597 : BitVec 32 := 0#32
  let v3556 : BitVec 1 := Scalar.cmpi .slt v3552 c0_i32_1597
  let v3557 : BitVec 32 := Scalar.extui v3556
  let v3558 : BitVec 32 := Scalar.subi v3555 v3557
  let c2_i32_1595 : BitVec 32 := 2#32
  let c0_i32_1598 : BitVec 32 := 0#32
  let v3559 : BitVec 1 := Scalar.cmpi .sgt c2_i32_1595 c0_i32_1598
  let v3560 : BitVec 32 := Scalar.extui v3559
  let c0_i32_1599 : BitVec 32 := 0#32
  let v3561 : BitVec 1 := Scalar.cmpi .slt c2_i32_1595 c0_i32_1599
  let v3562 : BitVec 32 := Scalar.extui v3561
  let v3563 : BitVec 32 := Scalar.subi v3560 v3562
  let v3564 : BitVec 1 := Scalar.cmpi .ne v3558 v3563
  let v3565 : BitVec 32 := Scalar.remsi v3552 c2_i32_1595
  let c0_i32_1600 : BitVec 32 := 0#32
  let v3566 : BitVec 1 := Scalar.cmpi .ne v3565 c0_i32_1600
  let v3567 : BitVec 1 := Scalar.andi v3564 v3566
  let v3553 : BitVec 32 := Scalar.divsi v3552 c2_i32_1595
  let c1_i32_1601 : BitVec 32 := 1#32
  let v3568 : BitVec 32 := Scalar.subi v3553 c1_i32_1601
  let v3569 : BitVec 32 := Scalar.select v3567 v3568 v3553
  let c49999_i32 : BitVec 32 := 49999#32
  let v3570 : BitVec 32 := Scalar.minsi v3569 c49999_i32
  let v3571 : Index := Scalar.indexCast v3570
  ![v3571.toNat]

def k0_chk6 (arg13 : BitVec 32) (arg14 : BitVec 32) : Prop :=
  (∀ a, (k0_off6 arg13 arg14) a + S16.size a ≤ S50016.size a)
theorem k0_off6_inb : ∀ (arg13 : BitVec 32) (arg14 : BitVec 32) (k0_hw6 : k0_chk6 arg13 arg14), ∀ a, (k0_off6 arg13 arg14) a + S16.size a ≤ S50016.size a := fun arg13 arg14 k0_hw6 => k0_hw6

@[reducible] def k0_t7_loop : Scf.Loop 32 :=
  let c0_i32_43 : BitVec 32 := 0#32
  let c16_i32_44 : BitVec 32 := 16#32
  let v40 : BitVec 32 := Scalar.addi c0_i32_43 c16_i32_44
  let c1_i32_45 : BitVec 32 := 1#32
  ⟨c0_i32_43, v40, c1_i32_45⟩
def k0_off7 (arg13 : BitVec 32) (arg14 : BitVec 32) : Fin 1 → Nat :=
  let v3552 : BitVec 32 := Scalar.addi arg13 arg14
  let c0_i32_1596 : BitVec 32 := 0#32
  let v3554 : BitVec 1 := Scalar.cmpi .sgt v3552 c0_i32_1596
  let v3555 : BitVec 32 := Scalar.extui v3554
  let c0_i32_1597 : BitVec 32 := 0#32
  let v3556 : BitVec 1 := Scalar.cmpi .slt v3552 c0_i32_1597
  let v3557 : BitVec 32 := Scalar.extui v3556
  let v3558 : BitVec 32 := Scalar.subi v3555 v3557
  let c2_i32_1595 : BitVec 32 := 2#32
  let c0_i32_1598 : BitVec 32 := 0#32
  let v3559 : BitVec 1 := Scalar.cmpi .sgt c2_i32_1595 c0_i32_1598
  let v3560 : BitVec 32 := Scalar.extui v3559
  let c0_i32_1599 : BitVec 32 := 0#32
  let v3561 : BitVec 1 := Scalar.cmpi .slt c2_i32_1595 c0_i32_1599
  let v3562 : BitVec 32 := Scalar.extui v3561
  let v3563 : BitVec 32 := Scalar.subi v3560 v3562
  let v3564 : BitVec 1 := Scalar.cmpi .ne v3558 v3563
  let v3565 : BitVec 32 := Scalar.remsi v3552 c2_i32_1595
  let c0_i32_1600 : BitVec 32 := 0#32
  let v3566 : BitVec 1 := Scalar.cmpi .ne v3565 c0_i32_1600
  let v3567 : BitVec 1 := Scalar.andi v3564 v3566
  let v3553 : BitVec 32 := Scalar.divsi v3552 c2_i32_1595
  let c1_i32_1601 : BitVec 32 := 1#32
  let v3568 : BitVec 32 := Scalar.subi v3553 c1_i32_1601
  let v3569 : BitVec 32 := Scalar.select v3567 v3568 v3553
  let c49999_i32 : BitVec 32 := 49999#32
  let v3570 : BitVec 32 := Scalar.minsi v3569 c49999_i32
  let v3571 : Index := Scalar.indexCast v3570
  ![v3571.toNat]

def k0_chk7 (arg13 : BitVec 32) (arg14 : BitVec 32) : Prop :=
  (∀ a, (k0_off7 arg13 arg14) a + S16.size a ≤ S50016.size a)
theorem k0_off7_inb : ∀ (arg13 : BitVec 32) (arg14 : BitVec 32) (k0_hw7 : k0_chk7 arg13 arg14), ∀ a, (k0_off7 arg13 arg14) a + S16.size a ≤ S50016.size a := fun arg13 arg14 k0_hw7 => k0_hw7

@[reducible] def k0_t8_loop : Scf.Loop 32 :=
  let c0_i32_50 : BitVec 32 := 0#32
  let c16_i32_51 : BitVec 32 := 16#32
  let v45 : BitVec 32 := Scalar.addi c0_i32_50 c16_i32_51
  let c1_i32_52 : BitVec 32 := 1#32
  ⟨c0_i32_50, v45, c1_i32_52⟩
def k0_off8 (arg13 : BitVec 32) (arg14 : BitVec 32) : Fin 1 → Nat :=
  let v3552 : BitVec 32 := Scalar.addi arg13 arg14
  let c0_i32_1596 : BitVec 32 := 0#32
  let v3554 : BitVec 1 := Scalar.cmpi .sgt v3552 c0_i32_1596
  let v3555 : BitVec 32 := Scalar.extui v3554
  let c0_i32_1597 : BitVec 32 := 0#32
  let v3556 : BitVec 1 := Scalar.cmpi .slt v3552 c0_i32_1597
  let v3557 : BitVec 32 := Scalar.extui v3556
  let v3558 : BitVec 32 := Scalar.subi v3555 v3557
  let c2_i32_1595 : BitVec 32 := 2#32
  let c0_i32_1598 : BitVec 32 := 0#32
  let v3559 : BitVec 1 := Scalar.cmpi .sgt c2_i32_1595 c0_i32_1598
  let v3560 : BitVec 32 := Scalar.extui v3559
  let c0_i32_1599 : BitVec 32 := 0#32
  let v3561 : BitVec 1 := Scalar.cmpi .slt c2_i32_1595 c0_i32_1599
  let v3562 : BitVec 32 := Scalar.extui v3561
  let v3563 : BitVec 32 := Scalar.subi v3560 v3562
  let v3564 : BitVec 1 := Scalar.cmpi .ne v3558 v3563
  let v3565 : BitVec 32 := Scalar.remsi v3552 c2_i32_1595
  let c0_i32_1600 : BitVec 32 := 0#32
  let v3566 : BitVec 1 := Scalar.cmpi .ne v3565 c0_i32_1600
  let v3567 : BitVec 1 := Scalar.andi v3564 v3566
  let v3553 : BitVec 32 := Scalar.divsi v3552 c2_i32_1595
  let c1_i32_1601 : BitVec 32 := 1#32
  let v3568 : BitVec 32 := Scalar.subi v3553 c1_i32_1601
  let v3569 : BitVec 32 := Scalar.select v3567 v3568 v3553
  let c49999_i32 : BitVec 32 := 49999#32
  let v3570 : BitVec 32 := Scalar.minsi v3569 c49999_i32
  let v3571 : Index := Scalar.indexCast v3570
  ![v3571.toNat]

def k0_chk8 (arg13 : BitVec 32) (arg14 : BitVec 32) : Prop :=
  (∀ a, (k0_off8 arg13 arg14) a + S16.size a ≤ S50016.size a)
theorem k0_off8_inb : ∀ (arg13 : BitVec 32) (arg14 : BitVec 32) (k0_hw8 : k0_chk8 arg13 arg14), ∀ a, (k0_off8 arg13 arg14) a + S16.size a ≤ S50016.size a := fun arg13 arg14 k0_hw8 => k0_hw8

@[reducible] def k0_t9_loop : Scf.Loop 32 :=
  let c0_i32_58 : BitVec 32 := 0#32
  let c16_i32_59 : BitVec 32 := 16#32
  let v50 : BitVec 32 := Scalar.addi c0_i32_58 c16_i32_59
  let c1_i32_60 : BitVec 32 := 1#32
  ⟨c0_i32_58, v50, c1_i32_60⟩
def k0_off9 (arg13 : BitVec 32) (arg14 : BitVec 32) : Fin 1 → Nat :=
  let v3552 : BitVec 32 := Scalar.addi arg13 arg14
  let c0_i32_1596 : BitVec 32 := 0#32
  let v3554 : BitVec 1 := Scalar.cmpi .sgt v3552 c0_i32_1596
  let v3555 : BitVec 32 := Scalar.extui v3554
  let c0_i32_1597 : BitVec 32 := 0#32
  let v3556 : BitVec 1 := Scalar.cmpi .slt v3552 c0_i32_1597
  let v3557 : BitVec 32 := Scalar.extui v3556
  let v3558 : BitVec 32 := Scalar.subi v3555 v3557
  let c2_i32_1595 : BitVec 32 := 2#32
  let c0_i32_1598 : BitVec 32 := 0#32
  let v3559 : BitVec 1 := Scalar.cmpi .sgt c2_i32_1595 c0_i32_1598
  let v3560 : BitVec 32 := Scalar.extui v3559
  let c0_i32_1599 : BitVec 32 := 0#32
  let v3561 : BitVec 1 := Scalar.cmpi .slt c2_i32_1595 c0_i32_1599
  let v3562 : BitVec 32 := Scalar.extui v3561
  let v3563 : BitVec 32 := Scalar.subi v3560 v3562
  let v3564 : BitVec 1 := Scalar.cmpi .ne v3558 v3563
  let v3565 : BitVec 32 := Scalar.remsi v3552 c2_i32_1595
  let c0_i32_1600 : BitVec 32 := 0#32
  let v3566 : BitVec 1 := Scalar.cmpi .ne v3565 c0_i32_1600
  let v3567 : BitVec 1 := Scalar.andi v3564 v3566
  let v3553 : BitVec 32 := Scalar.divsi v3552 c2_i32_1595
  let c1_i32_1601 : BitVec 32 := 1#32
  let v3568 : BitVec 32 := Scalar.subi v3553 c1_i32_1601
  let v3569 : BitVec 32 := Scalar.select v3567 v3568 v3553
  let c49999_i32 : BitVec 32 := 49999#32
  let v3570 : BitVec 32 := Scalar.minsi v3569 c49999_i32
  let v3571 : Index := Scalar.indexCast v3570
  ![v3571.toNat]

def k0_chk9 (arg13 : BitVec 32) (arg14 : BitVec 32) : Prop :=
  (∀ a, (k0_off9 arg13 arg14) a + S16.size a ≤ S50016.size a)
theorem k0_off9_inb : ∀ (arg13 : BitVec 32) (arg14 : BitVec 32) (k0_hw9 : k0_chk9 arg13 arg14), ∀ a, (k0_off9 arg13 arg14) a + S16.size a ≤ S50016.size a := fun arg13 arg14 k0_hw9 => k0_hw9

@[reducible] def k0_t10_loop : Scf.Loop 32 :=
  let c0_i32_65 : BitVec 32 := 0#32
  let c8_i32_66 : BitVec 32 := 8#32
  let v56 : BitVec 32 := Scalar.addi c0_i32_65 c8_i32_66
  let c1_i32_67 : BitVec 32 := 1#32
  ⟨c0_i32_65, v56, c1_i32_67⟩
def k0_off10 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3551 : Index := Scalar.indexCast arg12
  let c0_1595 : Index := 0#32
  ![v3551.toNat, 0]
def k0_off11 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3555 : Index := Scalar.indexCast arg12
  let c512_1596 : Index := 512#32
  ![v3555.toNat, 512]
def k0_off12 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3559 : Index := Scalar.indexCast arg12
  let c16_1597 : Index := 16#32
  ![v3559.toNat, 16]
def k0_off13 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3563 : Index := Scalar.indexCast arg12
  let c528_1598 : Index := 528#32
  ![v3563.toNat, 528]
def k0_off14 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3567 : Index := Scalar.indexCast arg12
  let c32_1599 : Index := 32#32
  ![v3567.toNat, 32]
def k0_off15 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3571 : Index := Scalar.indexCast arg12
  let c544_1600 : Index := 544#32
  ![v3571.toNat, 544]
def k0_off16 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3575 : Index := Scalar.indexCast arg12
  let c48_1601 : Index := 48#32
  ![v3575.toNat, 48]
def k0_off17 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3579 : Index := Scalar.indexCast arg12
  let c560_1602 : Index := 560#32
  ![v3579.toNat, 560]
def k0_off18 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3583 : Index := Scalar.indexCast arg12
  let c64_1603 : Index := 64#32
  ![v3583.toNat, 64]
def k0_off19 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3587 : Index := Scalar.indexCast arg12
  let c576_1604 : Index := 576#32
  ![v3587.toNat, 576]
def k0_off20 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3591 : Index := Scalar.indexCast arg12
  let c80_1605 : Index := 80#32
  ![v3591.toNat, 80]
def k0_off21 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3595 : Index := Scalar.indexCast arg12
  let c592_1606 : Index := 592#32
  ![v3595.toNat, 592]
def k0_off22 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3599 : Index := Scalar.indexCast arg12
  let c96_1607 : Index := 96#32
  ![v3599.toNat, 96]
def k0_off23 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3603 : Index := Scalar.indexCast arg12
  let c608_1608 : Index := 608#32
  ![v3603.toNat, 608]
def k0_off24 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3607 : Index := Scalar.indexCast arg12
  let c112_1609 : Index := 112#32
  ![v3607.toNat, 112]
def k0_off25 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3611 : Index := Scalar.indexCast arg12
  let c624_1610 : Index := 624#32
  ![v3611.toNat, 624]
def k0_off26 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3615 : Index := Scalar.indexCast arg12
  let c128_1611 : Index := 128#32
  ![v3615.toNat, 128]
def k0_off27 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3619 : Index := Scalar.indexCast arg12
  let c640_1612 : Index := 640#32
  ![v3619.toNat, 640]
def k0_off28 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3623 : Index := Scalar.indexCast arg12
  let c144_1613 : Index := 144#32
  ![v3623.toNat, 144]
def k0_off29 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3627 : Index := Scalar.indexCast arg12
  let c656_1614 : Index := 656#32
  ![v3627.toNat, 656]
def k0_off30 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3631 : Index := Scalar.indexCast arg12
  let c160_1615 : Index := 160#32
  ![v3631.toNat, 160]
def k0_off31 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3635 : Index := Scalar.indexCast arg12
  let c672_1616 : Index := 672#32
  ![v3635.toNat, 672]
def k0_off32 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3639 : Index := Scalar.indexCast arg12
  let c176_1617 : Index := 176#32
  ![v3639.toNat, 176]
def k0_off33 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3643 : Index := Scalar.indexCast arg12
  let c688_1618 : Index := 688#32
  ![v3643.toNat, 688]
def k0_off34 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3647 : Index := Scalar.indexCast arg12
  let c192_1619 : Index := 192#32
  ![v3647.toNat, 192]
def k0_off35 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3651 : Index := Scalar.indexCast arg12
  let c704_1620 : Index := 704#32
  ![v3651.toNat, 704]
def k0_off36 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3655 : Index := Scalar.indexCast arg12
  let c208_1621 : Index := 208#32
  ![v3655.toNat, 208]
def k0_off37 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3659 : Index := Scalar.indexCast arg12
  let c720_1622 : Index := 720#32
  ![v3659.toNat, 720]
def k0_off38 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3663 : Index := Scalar.indexCast arg12
  let c224_1623 : Index := 224#32
  ![v3663.toNat, 224]
def k0_off39 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3667 : Index := Scalar.indexCast arg12
  let c736_1624 : Index := 736#32
  ![v3667.toNat, 736]
def k0_off40 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3671 : Index := Scalar.indexCast arg12
  let c240_1625 : Index := 240#32
  ![v3671.toNat, 240]
def k0_off41 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3675 : Index := Scalar.indexCast arg12
  let c752_1626 : Index := 752#32
  ![v3675.toNat, 752]
def k0_off42 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3679 : Index := Scalar.indexCast arg12
  let c256_1627 : Index := 256#32
  ![v3679.toNat, 256]
def k0_off43 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3683 : Index := Scalar.indexCast arg12
  let c768_1628 : Index := 768#32
  ![v3683.toNat, 768]
def k0_off44 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3687 : Index := Scalar.indexCast arg12
  let c272_1629 : Index := 272#32
  ![v3687.toNat, 272]
def k0_off45 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3691 : Index := Scalar.indexCast arg12
  let c784_1630 : Index := 784#32
  ![v3691.toNat, 784]
def k0_off46 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3695 : Index := Scalar.indexCast arg12
  let c288_1631 : Index := 288#32
  ![v3695.toNat, 288]
def k0_off47 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3699 : Index := Scalar.indexCast arg12
  let c800_1632 : Index := 800#32
  ![v3699.toNat, 800]
def k0_off48 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3703 : Index := Scalar.indexCast arg12
  let c304_1633 : Index := 304#32
  ![v3703.toNat, 304]
def k0_off49 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3707 : Index := Scalar.indexCast arg12
  let c816_1634 : Index := 816#32
  ![v3707.toNat, 816]
def k0_off50 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3711 : Index := Scalar.indexCast arg12
  let c320_1635 : Index := 320#32
  ![v3711.toNat, 320]
def k0_off51 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3715 : Index := Scalar.indexCast arg12
  let c832_1636 : Index := 832#32
  ![v3715.toNat, 832]
def k0_off52 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3719 : Index := Scalar.indexCast arg12
  let c336_1637 : Index := 336#32
  ![v3719.toNat, 336]
def k0_off53 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3723 : Index := Scalar.indexCast arg12
  let c848_1638 : Index := 848#32
  ![v3723.toNat, 848]
def k0_off54 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3727 : Index := Scalar.indexCast arg12
  let c352_1639 : Index := 352#32
  ![v3727.toNat, 352]
def k0_off55 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3731 : Index := Scalar.indexCast arg12
  let c864_1640 : Index := 864#32
  ![v3731.toNat, 864]
def k0_off56 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3735 : Index := Scalar.indexCast arg12
  let c368_1641 : Index := 368#32
  ![v3735.toNat, 368]
def k0_off57 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3739 : Index := Scalar.indexCast arg12
  let c880_1642 : Index := 880#32
  ![v3739.toNat, 880]
def k0_off58 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3743 : Index := Scalar.indexCast arg12
  let c384_1643 : Index := 384#32
  ![v3743.toNat, 384]
def k0_off59 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3747 : Index := Scalar.indexCast arg12
  let c896_1644 : Index := 896#32
  ![v3747.toNat, 896]
def k0_off60 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3751 : Index := Scalar.indexCast arg12
  let c400_1645 : Index := 400#32
  ![v3751.toNat, 400]
def k0_off61 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3755 : Index := Scalar.indexCast arg12
  let c912_1646 : Index := 912#32
  ![v3755.toNat, 912]
def k0_off62 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3759 : Index := Scalar.indexCast arg12
  let c416_1647 : Index := 416#32
  ![v3759.toNat, 416]
def k0_off63 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3763 : Index := Scalar.indexCast arg12
  let c928_1648 : Index := 928#32
  ![v3763.toNat, 928]
def k0_off64 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3767 : Index := Scalar.indexCast arg12
  let c432_1649 : Index := 432#32
  ![v3767.toNat, 432]
def k0_off65 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3771 : Index := Scalar.indexCast arg12
  let c944_1650 : Index := 944#32
  ![v3771.toNat, 944]
def k0_off66 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3775 : Index := Scalar.indexCast arg12
  let c448_1651 : Index := 448#32
  ![v3775.toNat, 448]
def k0_off67 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3779 : Index := Scalar.indexCast arg12
  let c960_1652 : Index := 960#32
  ![v3779.toNat, 960]
def k0_off68 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3783 : Index := Scalar.indexCast arg12
  let c464_1653 : Index := 464#32
  ![v3783.toNat, 464]
def k0_off69 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3787 : Index := Scalar.indexCast arg12
  let c976_1654 : Index := 976#32
  ![v3787.toNat, 976]
def k0_off70 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3791 : Index := Scalar.indexCast arg12
  let c480_1655 : Index := 480#32
  ![v3791.toNat, 480]
def k0_off71 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3795 : Index := Scalar.indexCast arg12
  let c992_1656 : Index := 992#32
  ![v3795.toNat, 992]
def k0_off72 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3799 : Index := Scalar.indexCast arg12
  let c496_1657 : Index := 496#32
  ![v3799.toNat, 496]
def k0_off73 (k0_t10 : Fin k0_t10_loop.trips) : Fin 2 → Nat :=
  let c0_i32_65 : BitVec 32 := 0#32
  let c1_i32_67 : BitVec 32 := 1#32
  let arg12 : BitVec 32 := Scf.iv c0_i32_65 c1_i32_67 k0_t10
  let v3803 : Index := Scalar.indexCast arg12
  let c1008_1658 : Index := 1008#32
  ![v3803.toNat, 1008]
def k0_mult1 (v58 : BitVec 32) : BitVec 32 :=
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c0_i32_1604 : BitVec 32 := 0#32
  let c40_i32_1605 : BitVec 32 := 40#32
  let v3562 : BitVec 32 := Scalar.muli c0_i32_1604 c40_i32_1605
  let v3563 : BitVec 32 := Scalar.addi v78 v3562
  let c49960_i32 : BitVec 32 := 49960#32
  let v3564 : BitVec 32 := Scalar.minsi v3563 c49960_i32
  v3564
def k0_cond1 (v58 : BitVec 32) (v60 : BitVec 32) : BitVec 1 :=
  let v99 : BitVec 1 := Scalar.cmpi .sgt v60 v58
  let v100 : BitVec 32 := Scalar.extui v99
  let c0_i32_87 : BitVec 32 := 0#32
  let v101 : BitVec 1 := Scalar.cmpi .ne v100 c0_i32_87
  v101

def k0_cond2 (v58 : BitVec 32) (v60 : BitVec 32) : BitVec 1 :=
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let c0_i32_1595 : BitVec 32 := 0#32
  let v3551 : BitVec 1 := Scalar.cmpi .sgt v98 c0_i32_1595
  let v3552 : BitVec 32 := Scalar.extui v3551
  let c0_i32_1596 : BitVec 32 := 0#32
  let v3553 : BitVec 1 := Scalar.cmpi .ne v3552 c0_i32_1596
  v3553

def k0_off74 : Fin 3 → Nat :=
  let c0_i32_1606 : BitVec 32 := 0#32
  let c3_i32_1607 : BitVec 32 := 3#32
  let v3566 : BitVec 32 := Scalar.remsi c0_i32_1606 c3_i32_1607
  let c0_i32_1608 : BitVec 32 := 0#32
  let c0_i32_1609 : BitVec 32 := 0#32
  ![v3566.toNat, 0, 0]
def k0_off75 (v58 : BitVec 32) : Fin 2 → Nat :=
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c0_i32_1604 : BitVec 32 := 0#32
  let c40_i32_1605 : BitVec 32 := 40#32
  let v3562 : BitVec 32 := Scalar.muli c0_i32_1604 c40_i32_1605
  let v3563 : BitVec 32 := Scalar.addi v78 v3562
  let c49960_i32 : BitVec 32 := 49960#32
  let v3564 : BitVec 32 := Scalar.minsi v3563 c49960_i32
  let v3565 : BitVec 32 := v3564
  let c0_i32_1610 : BitVec 32 := 0#32
  ![v3565.toNat, 0]
def k0_off76 : Fin 1 → Nat :=
  let c0_i32_1606 : BitVec 32 := 0#32
  let c3_i32_1607 : BitVec 32 := 3#32
  let v3566 : BitVec 32 := Scalar.remsi c0_i32_1606 c3_i32_1607
  ![v3566.toNat]
def k0_mult2 (v58 : BitVec 32) : BitVec 32 :=
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c1_i32_1604 : BitVec 32 := 1#32
  let c40_i32_1605 : BitVec 32 := 40#32
  let v3562 : BitVec 32 := Scalar.muli c1_i32_1604 c40_i32_1605
  let v3563 : BitVec 32 := Scalar.addi v78 v3562
  let c49960_i32 : BitVec 32 := 49960#32
  let v3564 : BitVec 32 := Scalar.minsi v3563 c49960_i32
  v3564
def k0_cond3 (v58 : BitVec 32) (v60 : BitVec 32) : BitVec 1 :=
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let c1_i32_1597 : BitVec 32 := 1#32
  let v3554 : BitVec 1 := Scalar.cmpi .sgt v98 c1_i32_1597
  let v3555 : BitVec 32 := Scalar.extui v3554
  let c0_i32_1598 : BitVec 32 := 0#32
  let v3556 : BitVec 1 := Scalar.cmpi .ne v3555 c0_i32_1598
  v3556

def k0_off77 : Fin 3 → Nat :=
  let c1_i32_1606 : BitVec 32 := 1#32
  let c3_i32_1607 : BitVec 32 := 3#32
  let v3566 : BitVec 32 := Scalar.remsi c1_i32_1606 c3_i32_1607
  let c0_i32_1608 : BitVec 32 := 0#32
  let c0_i32_1609 : BitVec 32 := 0#32
  ![v3566.toNat, 0, 0]
def k0_off78 (v58 : BitVec 32) : Fin 2 → Nat :=
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c1_i32_1604 : BitVec 32 := 1#32
  let c40_i32_1605 : BitVec 32 := 40#32
  let v3562 : BitVec 32 := Scalar.muli c1_i32_1604 c40_i32_1605
  let v3563 : BitVec 32 := Scalar.addi v78 v3562
  let c49960_i32 : BitVec 32 := 49960#32
  let v3564 : BitVec 32 := Scalar.minsi v3563 c49960_i32
  let v3565 : BitVec 32 := v3564
  let c0_i32_1610 : BitVec 32 := 0#32
  ![v3565.toNat, 0]
def k0_off79 : Fin 1 → Nat :=
  let c1_i32_1606 : BitVec 32 := 1#32
  let c3_i32_1607 : BitVec 32 := 3#32
  let v3566 : BitVec 32 := Scalar.remsi c1_i32_1606 c3_i32_1607
  ![v3566.toNat]
@[reducible] def k0_t11_loop (v58 : BitVec 32) (v60 : BitVec 32) : Scf.Loop 32 :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1602 : BitVec 32 := 1#32
  ⟨c0_i32_1600, v3561, c1_i32_1602⟩
def k0_off80 (v58 : BitVec 32) (v60 : BitVec 32) (k0_t11 : Fin (k0_t11_loop v58 v60).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let c0_i32_1606 : BitVec 32 := 0#32
  let c0_i32_1607 : BitVec 32 := 0#32
  ![v3562.toNat, 0, 0]
def k0_off81 (v58 : BitVec 32) (v60 : BitVec 32) (k0_t11 : Fin (k0_t11_loop v58 v60).trips) : Fin 1 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  ![v3562.toNat]
def k0_mult3 (v58 : BitVec 32) (v60 : BitVec 32) (k0_t11 : Fin (k0_t11_loop v58 v60).trips) : BitVec 32 :=
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c0_i32_1600 : BitVec 32 := 0#32
  let c1_i32_1602 : BitVec 32 := 1#32
  let arg12 : BitVec 32 := Scf.iv c0_i32_1600 c1_i32_1602 k0_t11
  let c3_i32_1622 : BitVec 32 := 3#32
  let v3580 : BitVec 32 := Scalar.addi arg12 c3_i32_1622
  let c1_i32_1623 : BitVec 32 := 1#32
  let v3581 : BitVec 32 := Scalar.subi v3580 c1_i32_1623
  let c40_i32_1624 : BitVec 32 := 40#32
  let v3582 : BitVec 32 := Scalar.muli v3581 c40_i32_1624
  let v3583 : BitVec 32 := Scalar.addi v78 v3582
  let c49960_i32_1625 : BitVec 32 := 49960#32
  let v3584 : BitVec 32 := Scalar.minsi v3583 c49960_i32_1625
  v3584
def k0_cond4 (v58 : BitVec 32) (v60 : BitVec 32) (k0_t11 : Fin (k0_t11_loop v58 v60).trips) : BitVec 1 :=
  let c0_i32_1600 : BitVec 32 := 0#32
  let c1_i32_1602 : BitVec 32 := 1#32
  let arg12 : BitVec 32 := Scf.iv c0_i32_1600 c1_i32_1602 k0_t11
  let c3_i32_1614 : BitVec 32 := 3#32
  let v3574 : BitVec 32 := Scalar.addi arg12 c3_i32_1614
  let c1_i32_1615 : BitVec 32 := 1#32
  let v3575 : BitVec 32 := Scalar.subi v3574 c1_i32_1615
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3576 : BitVec 1 := Scalar.cmpi .slt v3575 v98
  let v3577 : BitVec 32 := Scalar.extui v3576
  let c0_i32_1616 : BitVec 32 := 0#32
  let v3578 : BitVec 1 := Scalar.cmpi .ne v3577 c0_i32_1616
  v3578

def k0_off82 (v58 : BitVec 32) (v60 : BitVec 32) (k0_t11 : Fin (k0_t11_loop v58 v60).trips) : Fin 3 → Nat :=
  let c0_i32_1600 : BitVec 32 := 0#32
  let c1_i32_1602 : BitVec 32 := 1#32
  let arg12 : BitVec 32 := Scf.iv c0_i32_1600 c1_i32_1602 k0_t11
  let c3_i32_1622 : BitVec 32 := 3#32
  let v3580 : BitVec 32 := Scalar.addi arg12 c3_i32_1622
  let c1_i32_1623 : BitVec 32 := 1#32
  let v3581 : BitVec 32 := Scalar.subi v3580 c1_i32_1623
  let c3_i32_1626 : BitVec 32 := 3#32
  let v3586 : BitVec 32 := Scalar.remsi v3581 c3_i32_1626
  let c0_i32_1627 : BitVec 32 := 0#32
  let c0_i32_1628 : BitVec 32 := 0#32
  ![v3586.toNat, 0, 0]
def k0_off83 (v58 : BitVec 32) (v60 : BitVec 32) (k0_t11 : Fin (k0_t11_loop v58 v60).trips) : Fin 2 → Nat :=
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c0_i32_1600 : BitVec 32 := 0#32
  let c1_i32_1602 : BitVec 32 := 1#32
  let arg12 : BitVec 32 := Scf.iv c0_i32_1600 c1_i32_1602 k0_t11
  let c3_i32_1622 : BitVec 32 := 3#32
  let v3580 : BitVec 32 := Scalar.addi arg12 c3_i32_1622
  let c1_i32_1623 : BitVec 32 := 1#32
  let v3581 : BitVec 32 := Scalar.subi v3580 c1_i32_1623
  let c40_i32_1624 : BitVec 32 := 40#32
  let v3582 : BitVec 32 := Scalar.muli v3581 c40_i32_1624
  let v3583 : BitVec 32 := Scalar.addi v78 v3582
  let c49960_i32_1625 : BitVec 32 := 49960#32
  let v3584 : BitVec 32 := Scalar.minsi v3583 c49960_i32_1625
  let v3585 : BitVec 32 := v3584
  let c0_i32_1629 : BitVec 32 := 0#32
  ![v3585.toNat, 0]
def k0_off84 (v58 : BitVec 32) (v60 : BitVec 32) (k0_t11 : Fin (k0_t11_loop v58 v60).trips) : Fin 1 → Nat :=
  let c0_i32_1600 : BitVec 32 := 0#32
  let c1_i32_1602 : BitVec 32 := 1#32
  let arg12 : BitVec 32 := Scf.iv c0_i32_1600 c1_i32_1602 k0_t11
  let c3_i32_1622 : BitVec 32 := 3#32
  let v3580 : BitVec 32 := Scalar.addi arg12 c3_i32_1622
  let c1_i32_1623 : BitVec 32 := 1#32
  let v3581 : BitVec 32 := Scalar.subi v3580 c1_i32_1623
  let c3_i32_1626 : BitVec 32 := 3#32
  let v3586 : BitVec 32 := Scalar.remsi v3581 c3_i32_1626
  ![v3586.toNat]
@[reducible] def k0_t12_loop : Scf.Loop 32 :=
  let c0_i32_1618 : BitVec 32 := 0#32
  let c8_i32_1619 : BitVec 32 := 8#32
  let v3579 : BitVec 32 := Scalar.addi c0_i32_1618 c8_i32_1619
  let c1_i32_1620 : BitVec 32 := 1#32
  ⟨c0_i32_1618, v3579, c1_i32_1620⟩
def k0_off85 (k0_t12 : Fin k0_t12_loop.trips) : Fin 1 → Nat :=
  let c0_i32_1618 : BitVec 32 := 0#32
  let c1_i32_1620 : BitVec 32 := 1#32
  let arg13 : BitVec 32 := Scf.iv c0_i32_1618 c1_i32_1620 k0_t12
  let v3580 : Index := Scalar.indexCast arg13
  ![v3580.toNat]
def k0_off86 (k0_t12 : Fin k0_t12_loop.trips) : Fin 1 → Nat :=
  let c0_i32_1618 : BitVec 32 := 0#32
  let c1_i32_1620 : BitVec 32 := 1#32
  let arg13 : BitVec 32 := Scf.iv c0_i32_1618 c1_i32_1620 k0_t12
  let c1_i32_1622 : BitVec 32 := 1#32
  let v3582 : BitVec 32 := Scalar.addi arg13 c1_i32_1622
  let v3583 : Index := Scalar.indexCast v3582
  ![v3583.toNat]
def k0_off87 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3593 : Index := Scalar.indexCast arg13
  let c0_1625 : Index := 0#32
  ![v3593.toNat, 0]
def k0_off88 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3596 : Index := Scalar.indexCast arg13
  let c16_1626 : Index := 16#32
  ![v3596.toNat, 16]
def k0_off89 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3599 : Index := Scalar.indexCast arg13
  let c32_1627 : Index := 32#32
  ![v3599.toNat, 32]
def k0_off90 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3602 : Index := Scalar.indexCast arg13
  let c48_1628 : Index := 48#32
  ![v3602.toNat, 48]
def k0_off91 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3605 : Index := Scalar.indexCast arg13
  let c64_1629 : Index := 64#32
  ![v3605.toNat, 64]
def k0_off92 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3608 : Index := Scalar.indexCast arg13
  let c80_1630 : Index := 80#32
  ![v3608.toNat, 80]
def k0_off93 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3611 : Index := Scalar.indexCast arg13
  let c96_1631 : Index := 96#32
  ![v3611.toNat, 96]
def k0_off94 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3614 : Index := Scalar.indexCast arg13
  let c112_1632 : Index := 112#32
  ![v3614.toNat, 112]
def k0_off95 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3617 : Index := Scalar.indexCast arg13
  let c128_1633 : Index := 128#32
  ![v3617.toNat, 128]
def k0_off96 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3620 : Index := Scalar.indexCast arg13
  let c144_1634 : Index := 144#32
  ![v3620.toNat, 144]
def k0_off97 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3623 : Index := Scalar.indexCast arg13
  let c160_1635 : Index := 160#32
  ![v3623.toNat, 160]
def k0_off98 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3626 : Index := Scalar.indexCast arg13
  let c176_1636 : Index := 176#32
  ![v3626.toNat, 176]
def k0_off99 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3629 : Index := Scalar.indexCast arg13
  let c192_1637 : Index := 192#32
  ![v3629.toNat, 192]
def k0_off100 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3632 : Index := Scalar.indexCast arg13
  let c208_1638 : Index := 208#32
  ![v3632.toNat, 208]
def k0_off101 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3635 : Index := Scalar.indexCast arg13
  let c224_1639 : Index := 224#32
  ![v3635.toNat, 224]
def k0_off102 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3638 : Index := Scalar.indexCast arg13
  let c240_1640 : Index := 240#32
  ![v3638.toNat, 240]
def k0_off103 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3641 : Index := Scalar.indexCast arg13
  let c512_1641 : Index := 512#32
  ![v3641.toNat, 512]
def k0_off104 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3644 : Index := Scalar.indexCast arg13
  let c528_1642 : Index := 528#32
  ![v3644.toNat, 528]
def k0_off105 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3647 : Index := Scalar.indexCast arg13
  let c544_1643 : Index := 544#32
  ![v3647.toNat, 544]
def k0_off106 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3650 : Index := Scalar.indexCast arg13
  let c560_1644 : Index := 560#32
  ![v3650.toNat, 560]
def k0_off107 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3653 : Index := Scalar.indexCast arg13
  let c576_1645 : Index := 576#32
  ![v3653.toNat, 576]
def k0_off108 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3656 : Index := Scalar.indexCast arg13
  let c592_1646 : Index := 592#32
  ![v3656.toNat, 592]
def k0_off109 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3659 : Index := Scalar.indexCast arg13
  let c608_1647 : Index := 608#32
  ![v3659.toNat, 608]
def k0_off110 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3662 : Index := Scalar.indexCast arg13
  let c624_1648 : Index := 624#32
  ![v3662.toNat, 624]
def k0_off111 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3665 : Index := Scalar.indexCast arg13
  let c640_1649 : Index := 640#32
  ![v3665.toNat, 640]
def k0_off112 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3668 : Index := Scalar.indexCast arg13
  let c656_1650 : Index := 656#32
  ![v3668.toNat, 656]
def k0_off113 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3671 : Index := Scalar.indexCast arg13
  let c672_1651 : Index := 672#32
  ![v3671.toNat, 672]
def k0_off114 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3674 : Index := Scalar.indexCast arg13
  let c688_1652 : Index := 688#32
  ![v3674.toNat, 688]
def k0_off115 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3677 : Index := Scalar.indexCast arg13
  let c704_1653 : Index := 704#32
  ![v3677.toNat, 704]
def k0_off116 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3680 : Index := Scalar.indexCast arg13
  let c720_1654 : Index := 720#32
  ![v3680.toNat, 720]
def k0_off117 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3683 : Index := Scalar.indexCast arg13
  let c736_1655 : Index := 736#32
  ![v3683.toNat, 736]
def k0_off118 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3686 : Index := Scalar.indexCast arg13
  let c752_1656 : Index := 752#32
  ![v3686.toNat, 752]
@[reducible] def k0_t13_loop (v58 : BitVec 32) (v60 : BitVec 32) (k0_t11 : Fin (k0_t11_loop v58 v60).trips) (v3581 : BitVec 32) (v3584 : BitVec 32) : Scf.Loop 32 :=
  let c0_i32_1657 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c0_i32_1600 : BitVec 32 := 0#32
  let c1_i32_1602 : BitVec 32 := 1#32
  let arg12 : BitVec 32 := Scf.iv c0_i32_1600 c1_i32_1602 k0_t11
  let c40_i32_1605 : BitVec 32 := 40#32
  let v3563 : BitVec 32 := Scalar.muli arg12 c40_i32_1605
  let v3564 : BitVec 32 := Scalar.addi v78 v3563
  let c40_i32_1623 : BitVec 32 := 40#32
  let v3586 : BitVec 32 := Scalar.addi v3564 c40_i32_1623
  let v3587 : BitVec 32 := Scalar.minsi v3584 v3586
  let v3585 : BitVec 32 := Scalar.maxsi v3581 v3564
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1659 : BitVec 32 := 1#32
  ⟨c0_i32_1657, v3693, c1_i32_1659⟩
def k0_cond5 (v58 : BitVec 32) (v60 : BitVec 32) (k0_t11 : Fin (k0_t11_loop v58 v60).trips) (v3581 : BitVec 32) (v3584 : BitVec 32) : BitVec 1 :=
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c0_i32_1600 : BitVec 32 := 0#32
  let c1_i32_1602 : BitVec 32 := 1#32
  let arg12 : BitVec 32 := Scf.iv c0_i32_1600 c1_i32_1602 k0_t11
  let c40_i32_1605 : BitVec 32 := 40#32
  let v3563 : BitVec 32 := Scalar.muli arg12 c40_i32_1605
  let v3564 : BitVec 32 := Scalar.addi v78 v3563
  let c40_i32_1623 : BitVec 32 := 40#32
  let v3586 : BitVec 32 := Scalar.addi v3564 c40_i32_1623
  let v3587 : BitVec 32 := Scalar.minsi v3584 v3586
  let v3585 : BitVec 32 := Scalar.maxsi v3581 v3564
  let v3588 : BitVec 1 := Scalar.cmpi .sgt v3587 v3585
  let v3589 : BitVec 32 := Scalar.extui v3588
  let c0_i32_1624 : BitVec 32 := 0#32
  let v3590 : BitVec 1 := Scalar.cmpi .ne v3589 c0_i32_1624
  v3590

def k0_off119 (v58 : BitVec 32) (v60 : BitVec 32) (k0_t11 : Fin (k0_t11_loop v58 v60).trips) (v3581 : BitVec 32) (v3584 : BitVec 32) (k0_t13 : Fin (k0_t13_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4056 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t13
  let v4055 : BitVec 32 := Scalar.addi v3591 arg14
  let v4057 : Index := Scalar.indexCast v4055
  let c0_1761 : Index := 0#32
  ![v4056.toNat, v4057.toNat, 0]
def k0_off120 (v58 : BitVec 32) (v60 : BitVec 32) (k0_t11 : Fin (k0_t11_loop v58 v60).trips) (v3581 : BitVec 32) (v3584 : BitVec 32) (k0_t13 : Fin (k0_t13_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4061 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t13
  let v4060 : BitVec 32 := Scalar.addi v3591 arg14
  let v4062 : Index := Scalar.indexCast v4060
  let c16_1762 : Index := 16#32
  ![v4061.toNat, v4062.toNat, 16]
def k0_off121 (v58 : BitVec 32) (v60 : BitVec 32) (k0_t11 : Fin (k0_t11_loop v58 v60).trips) (v3581 : BitVec 32) (v3584 : BitVec 32) (k0_t13 : Fin (k0_t13_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4066 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t13
  let v4065 : BitVec 32 := Scalar.addi v3591 arg14
  let v4067 : Index := Scalar.indexCast v4065
  let c32_1763 : Index := 32#32
  ![v4066.toNat, v4067.toNat, 32]
def k0_off122 (v58 : BitVec 32) (v60 : BitVec 32) (k0_t11 : Fin (k0_t11_loop v58 v60).trips) (v3581 : BitVec 32) (v3584 : BitVec 32) (k0_t13 : Fin (k0_t13_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4071 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t13
  let v4070 : BitVec 32 := Scalar.addi v3591 arg14
  let v4072 : Index := Scalar.indexCast v4070
  let c48_1764 : Index := 48#32
  ![v4071.toNat, v4072.toNat, 48]
def k0_off123 (v58 : BitVec 32) (v60 : BitVec 32) (k0_t11 : Fin (k0_t11_loop v58 v60).trips) (v3581 : BitVec 32) (v3584 : BitVec 32) (k0_t13 : Fin (k0_t13_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4076 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t13
  let v4075 : BitVec 32 := Scalar.addi v3591 arg14
  let v4077 : Index := Scalar.indexCast v4075
  let c64_1765 : Index := 64#32
  ![v4076.toNat, v4077.toNat, 64]
def k0_off124 (v58 : BitVec 32) (v60 : BitVec 32) (k0_t11 : Fin (k0_t11_loop v58 v60).trips) (v3581 : BitVec 32) (v3584 : BitVec 32) (k0_t13 : Fin (k0_t13_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4081 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t13
  let v4080 : BitVec 32 := Scalar.addi v3591 arg14
  let v4082 : Index := Scalar.indexCast v4080
  let c80_1766 : Index := 80#32
  ![v4081.toNat, v4082.toNat, 80]
def k0_off125 (v58 : BitVec 32) (v60 : BitVec 32) (k0_t11 : Fin (k0_t11_loop v58 v60).trips) (v3581 : BitVec 32) (v3584 : BitVec 32) (k0_t13 : Fin (k0_t13_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4086 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t13
  let v4085 : BitVec 32 := Scalar.addi v3591 arg14
  let v4087 : Index := Scalar.indexCast v4085
  let c96_1767 : Index := 96#32
  ![v4086.toNat, v4087.toNat, 96]
def k0_off126 (v58 : BitVec 32) (v60 : BitVec 32) (k0_t11 : Fin (k0_t11_loop v58 v60).trips) (v3581 : BitVec 32) (v3584 : BitVec 32) (k0_t13 : Fin (k0_t13_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4091 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t13
  let v4090 : BitVec 32 := Scalar.addi v3591 arg14
  let v4092 : Index := Scalar.indexCast v4090
  let c112_1768 : Index := 112#32
  ![v4091.toNat, v4092.toNat, 112]
def k0_off127 (v58 : BitVec 32) (v60 : BitVec 32) (k0_t11 : Fin (k0_t11_loop v58 v60).trips) (v3581 : BitVec 32) (v3584 : BitVec 32) (k0_t13 : Fin (k0_t13_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4096 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t13
  let v4095 : BitVec 32 := Scalar.addi v3591 arg14
  let v4097 : Index := Scalar.indexCast v4095
  let c128_1769 : Index := 128#32
  ![v4096.toNat, v4097.toNat, 128]
def k0_off128 (v58 : BitVec 32) (v60 : BitVec 32) (k0_t11 : Fin (k0_t11_loop v58 v60).trips) (v3581 : BitVec 32) (v3584 : BitVec 32) (k0_t13 : Fin (k0_t13_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4101 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t13
  let v4100 : BitVec 32 := Scalar.addi v3591 arg14
  let v4102 : Index := Scalar.indexCast v4100
  let c144_1770 : Index := 144#32
  ![v4101.toNat, v4102.toNat, 144]
def k0_off129 (v58 : BitVec 32) (v60 : BitVec 32) (k0_t11 : Fin (k0_t11_loop v58 v60).trips) (v3581 : BitVec 32) (v3584 : BitVec 32) (k0_t13 : Fin (k0_t13_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4106 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t13
  let v4105 : BitVec 32 := Scalar.addi v3591 arg14
  let v4107 : Index := Scalar.indexCast v4105
  let c160_1771 : Index := 160#32
  ![v4106.toNat, v4107.toNat, 160]
def k0_off130 (v58 : BitVec 32) (v60 : BitVec 32) (k0_t11 : Fin (k0_t11_loop v58 v60).trips) (v3581 : BitVec 32) (v3584 : BitVec 32) (k0_t13 : Fin (k0_t13_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4111 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t13
  let v4110 : BitVec 32 := Scalar.addi v3591 arg14
  let v4112 : Index := Scalar.indexCast v4110
  let c176_1772 : Index := 176#32
  ![v4111.toNat, v4112.toNat, 176]
def k0_off131 (v58 : BitVec 32) (v60 : BitVec 32) (k0_t11 : Fin (k0_t11_loop v58 v60).trips) (v3581 : BitVec 32) (v3584 : BitVec 32) (k0_t13 : Fin (k0_t13_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4116 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t13
  let v4115 : BitVec 32 := Scalar.addi v3591 arg14
  let v4117 : Index := Scalar.indexCast v4115
  let c192_1773 : Index := 192#32
  ![v4116.toNat, v4117.toNat, 192]
def k0_off132 (v58 : BitVec 32) (v60 : BitVec 32) (k0_t11 : Fin (k0_t11_loop v58 v60).trips) (v3581 : BitVec 32) (v3584 : BitVec 32) (k0_t13 : Fin (k0_t13_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4121 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t13
  let v4120 : BitVec 32 := Scalar.addi v3591 arg14
  let v4122 : Index := Scalar.indexCast v4120
  let c208_1774 : Index := 208#32
  ![v4121.toNat, v4122.toNat, 208]
def k0_off133 (v58 : BitVec 32) (v60 : BitVec 32) (k0_t11 : Fin (k0_t11_loop v58 v60).trips) (v3581 : BitVec 32) (v3584 : BitVec 32) (k0_t13 : Fin (k0_t13_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4126 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t13
  let v4125 : BitVec 32 := Scalar.addi v3591 arg14
  let v4127 : Index := Scalar.indexCast v4125
  let c224_1775 : Index := 224#32
  ![v4126.toNat, v4127.toNat, 224]
def k0_off134 (v58 : BitVec 32) (v60 : BitVec 32) (k0_t11 : Fin (k0_t11_loop v58 v60).trips) (v3581 : BitVec 32) (v3584 : BitVec 32) (k0_t13 : Fin (k0_t13_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4131 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t13
  let v4130 : BitVec 32 := Scalar.addi v3591 arg14
  let v4132 : Index := Scalar.indexCast v4130
  let c240_1776 : Index := 240#32
  ![v4131.toNat, v4132.toNat, 240]
@[reducible] def k0_t14_loop (v58 : BitVec 32) (v60 : BitVec 32) (k0_t11 : Fin (k0_t11_loop v58 v60).trips) (v3581 : BitVec 32) (v3584 : BitVec 32) : Scf.Loop 32 :=
  let c0_i32_1657 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c0_i32_1600 : BitVec 32 := 0#32
  let c1_i32_1602 : BitVec 32 := 1#32
  let arg12 : BitVec 32 := Scf.iv c0_i32_1600 c1_i32_1602 k0_t11
  let c40_i32_1605 : BitVec 32 := 40#32
  let v3563 : BitVec 32 := Scalar.muli arg12 c40_i32_1605
  let v3564 : BitVec 32 := Scalar.addi v78 v3563
  let c40_i32_1623 : BitVec 32 := 40#32
  let v3586 : BitVec 32 := Scalar.addi v3564 c40_i32_1623
  let v3587 : BitVec 32 := Scalar.minsi v3584 v3586
  let v3585 : BitVec 32 := Scalar.maxsi v3581 v3564
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let v3690 : BitVec 32 := Scalar.addi c0_i32_1657 v3689
  let c1_i32_1660 : BitVec 32 := 1#32
  ⟨v3693, v3690, c1_i32_1660⟩
def k0_off135 (v58 : BitVec 32) (v60 : BitVec 32) (k0_t11 : Fin (k0_t11_loop v58 v60).trips) (v3581 : BitVec 32) (v3584 : BitVec 32) (k0_t14 : Fin (k0_t14_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4056 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t14
  let v4055 : BitVec 32 := Scalar.addi v3591 arg14
  let v4057 : Index := Scalar.indexCast v4055
  let c0_1761 : Index := 0#32
  ![v4056.toNat, v4057.toNat, 0]
def k0_off136 (v58 : BitVec 32) (v60 : BitVec 32) (k0_t11 : Fin (k0_t11_loop v58 v60).trips) (v3581 : BitVec 32) (v3584 : BitVec 32) (k0_t14 : Fin (k0_t14_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4061 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t14
  let v4060 : BitVec 32 := Scalar.addi v3591 arg14
  let v4062 : Index := Scalar.indexCast v4060
  let c16_1762 : Index := 16#32
  ![v4061.toNat, v4062.toNat, 16]
def k0_off137 (v58 : BitVec 32) (v60 : BitVec 32) (k0_t11 : Fin (k0_t11_loop v58 v60).trips) (v3581 : BitVec 32) (v3584 : BitVec 32) (k0_t14 : Fin (k0_t14_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4066 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t14
  let v4065 : BitVec 32 := Scalar.addi v3591 arg14
  let v4067 : Index := Scalar.indexCast v4065
  let c32_1763 : Index := 32#32
  ![v4066.toNat, v4067.toNat, 32]
def k0_off138 (v58 : BitVec 32) (v60 : BitVec 32) (k0_t11 : Fin (k0_t11_loop v58 v60).trips) (v3581 : BitVec 32) (v3584 : BitVec 32) (k0_t14 : Fin (k0_t14_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4071 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t14
  let v4070 : BitVec 32 := Scalar.addi v3591 arg14
  let v4072 : Index := Scalar.indexCast v4070
  let c48_1764 : Index := 48#32
  ![v4071.toNat, v4072.toNat, 48]
def k0_off139 (v58 : BitVec 32) (v60 : BitVec 32) (k0_t11 : Fin (k0_t11_loop v58 v60).trips) (v3581 : BitVec 32) (v3584 : BitVec 32) (k0_t14 : Fin (k0_t14_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4076 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t14
  let v4075 : BitVec 32 := Scalar.addi v3591 arg14
  let v4077 : Index := Scalar.indexCast v4075
  let c64_1765 : Index := 64#32
  ![v4076.toNat, v4077.toNat, 64]
def k0_off140 (v58 : BitVec 32) (v60 : BitVec 32) (k0_t11 : Fin (k0_t11_loop v58 v60).trips) (v3581 : BitVec 32) (v3584 : BitVec 32) (k0_t14 : Fin (k0_t14_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4081 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t14
  let v4080 : BitVec 32 := Scalar.addi v3591 arg14
  let v4082 : Index := Scalar.indexCast v4080
  let c80_1766 : Index := 80#32
  ![v4081.toNat, v4082.toNat, 80]
def k0_off141 (v58 : BitVec 32) (v60 : BitVec 32) (k0_t11 : Fin (k0_t11_loop v58 v60).trips) (v3581 : BitVec 32) (v3584 : BitVec 32) (k0_t14 : Fin (k0_t14_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4086 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t14
  let v4085 : BitVec 32 := Scalar.addi v3591 arg14
  let v4087 : Index := Scalar.indexCast v4085
  let c96_1767 : Index := 96#32
  ![v4086.toNat, v4087.toNat, 96]
def k0_off142 (v58 : BitVec 32) (v60 : BitVec 32) (k0_t11 : Fin (k0_t11_loop v58 v60).trips) (v3581 : BitVec 32) (v3584 : BitVec 32) (k0_t14 : Fin (k0_t14_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4091 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t14
  let v4090 : BitVec 32 := Scalar.addi v3591 arg14
  let v4092 : Index := Scalar.indexCast v4090
  let c112_1768 : Index := 112#32
  ![v4091.toNat, v4092.toNat, 112]
def k0_off143 (v58 : BitVec 32) (v60 : BitVec 32) (k0_t11 : Fin (k0_t11_loop v58 v60).trips) (v3581 : BitVec 32) (v3584 : BitVec 32) (k0_t14 : Fin (k0_t14_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4096 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t14
  let v4095 : BitVec 32 := Scalar.addi v3591 arg14
  let v4097 : Index := Scalar.indexCast v4095
  let c128_1769 : Index := 128#32
  ![v4096.toNat, v4097.toNat, 128]
def k0_off144 (v58 : BitVec 32) (v60 : BitVec 32) (k0_t11 : Fin (k0_t11_loop v58 v60).trips) (v3581 : BitVec 32) (v3584 : BitVec 32) (k0_t14 : Fin (k0_t14_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4101 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t14
  let v4100 : BitVec 32 := Scalar.addi v3591 arg14
  let v4102 : Index := Scalar.indexCast v4100
  let c144_1770 : Index := 144#32
  ![v4101.toNat, v4102.toNat, 144]
def k0_off145 (v58 : BitVec 32) (v60 : BitVec 32) (k0_t11 : Fin (k0_t11_loop v58 v60).trips) (v3581 : BitVec 32) (v3584 : BitVec 32) (k0_t14 : Fin (k0_t14_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4106 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t14
  let v4105 : BitVec 32 := Scalar.addi v3591 arg14
  let v4107 : Index := Scalar.indexCast v4105
  let c160_1771 : Index := 160#32
  ![v4106.toNat, v4107.toNat, 160]
def k0_off146 (v58 : BitVec 32) (v60 : BitVec 32) (k0_t11 : Fin (k0_t11_loop v58 v60).trips) (v3581 : BitVec 32) (v3584 : BitVec 32) (k0_t14 : Fin (k0_t14_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4111 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t14
  let v4110 : BitVec 32 := Scalar.addi v3591 arg14
  let v4112 : Index := Scalar.indexCast v4110
  let c176_1772 : Index := 176#32
  ![v4111.toNat, v4112.toNat, 176]
def k0_off147 (v58 : BitVec 32) (v60 : BitVec 32) (k0_t11 : Fin (k0_t11_loop v58 v60).trips) (v3581 : BitVec 32) (v3584 : BitVec 32) (k0_t14 : Fin (k0_t14_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4116 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t14
  let v4115 : BitVec 32 := Scalar.addi v3591 arg14
  let v4117 : Index := Scalar.indexCast v4115
  let c192_1773 : Index := 192#32
  ![v4116.toNat, v4117.toNat, 192]
def k0_off148 (v58 : BitVec 32) (v60 : BitVec 32) (k0_t11 : Fin (k0_t11_loop v58 v60).trips) (v3581 : BitVec 32) (v3584 : BitVec 32) (k0_t14 : Fin (k0_t14_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4121 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t14
  let v4120 : BitVec 32 := Scalar.addi v3591 arg14
  let v4122 : Index := Scalar.indexCast v4120
  let c208_1774 : Index := 208#32
  ![v4121.toNat, v4122.toNat, 208]
def k0_off149 (v58 : BitVec 32) (v60 : BitVec 32) (k0_t11 : Fin (k0_t11_loop v58 v60).trips) (v3581 : BitVec 32) (v3584 : BitVec 32) (k0_t14 : Fin (k0_t14_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4126 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t14
  let v4125 : BitVec 32 := Scalar.addi v3591 arg14
  let v4127 : Index := Scalar.indexCast v4125
  let c224_1775 : Index := 224#32
  ![v4126.toNat, v4127.toNat, 224]
def k0_off150 (v58 : BitVec 32) (v60 : BitVec 32) (k0_t11 : Fin (k0_t11_loop v58 v60).trips) (v3581 : BitVec 32) (v3584 : BitVec 32) (k0_t14 : Fin (k0_t14_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4131 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t14
  let v4130 : BitVec 32 := Scalar.addi v3591 arg14
  let v4132 : Index := Scalar.indexCast v4130
  let c240_1776 : Index := 240#32
  ![v4131.toNat, v4132.toNat, 240]
def k0_off151 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3824 : Index := Scalar.indexCast arg13
  let c256_1693 : Index := 256#32
  ![v3824.toNat, 256]
def k0_off152 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3827 : Index := Scalar.indexCast arg13
  let c272_1694 : Index := 272#32
  ![v3827.toNat, 272]
def k0_off153 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3830 : Index := Scalar.indexCast arg13
  let c288_1695 : Index := 288#32
  ![v3830.toNat, 288]
def k0_off154 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3833 : Index := Scalar.indexCast arg13
  let c304_1696 : Index := 304#32
  ![v3833.toNat, 304]
def k0_off155 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3836 : Index := Scalar.indexCast arg13
  let c320_1697 : Index := 320#32
  ![v3836.toNat, 320]
def k0_off156 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3839 : Index := Scalar.indexCast arg13
  let c336_1698 : Index := 336#32
  ![v3839.toNat, 336]
def k0_off157 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3842 : Index := Scalar.indexCast arg13
  let c352_1699 : Index := 352#32
  ![v3842.toNat, 352]
def k0_off158 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3845 : Index := Scalar.indexCast arg13
  let c368_1700 : Index := 368#32
  ![v3845.toNat, 368]
def k0_off159 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3848 : Index := Scalar.indexCast arg13
  let c384_1701 : Index := 384#32
  ![v3848.toNat, 384]
def k0_off160 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3851 : Index := Scalar.indexCast arg13
  let c400_1702 : Index := 400#32
  ![v3851.toNat, 400]
def k0_off161 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3854 : Index := Scalar.indexCast arg13
  let c416_1703 : Index := 416#32
  ![v3854.toNat, 416]
def k0_off162 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3857 : Index := Scalar.indexCast arg13
  let c432_1704 : Index := 432#32
  ![v3857.toNat, 432]
def k0_off163 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3860 : Index := Scalar.indexCast arg13
  let c448_1705 : Index := 448#32
  ![v3860.toNat, 448]
def k0_off164 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3863 : Index := Scalar.indexCast arg13
  let c464_1706 : Index := 464#32
  ![v3863.toNat, 464]
def k0_off165 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3866 : Index := Scalar.indexCast arg13
  let c480_1707 : Index := 480#32
  ![v3866.toNat, 480]
def k0_off166 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3869 : Index := Scalar.indexCast arg13
  let c496_1708 : Index := 496#32
  ![v3869.toNat, 496]
def k0_off167 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3872 : Index := Scalar.indexCast arg13
  let c768_1709 : Index := 768#32
  ![v3872.toNat, 768]
def k0_off168 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3875 : Index := Scalar.indexCast arg13
  let c784_1710 : Index := 784#32
  ![v3875.toNat, 784]
def k0_off169 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3878 : Index := Scalar.indexCast arg13
  let c800_1711 : Index := 800#32
  ![v3878.toNat, 800]
def k0_off170 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3881 : Index := Scalar.indexCast arg13
  let c816_1712 : Index := 816#32
  ![v3881.toNat, 816]
def k0_off171 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3884 : Index := Scalar.indexCast arg13
  let c832_1713 : Index := 832#32
  ![v3884.toNat, 832]
def k0_off172 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3887 : Index := Scalar.indexCast arg13
  let c848_1714 : Index := 848#32
  ![v3887.toNat, 848]
def k0_off173 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3890 : Index := Scalar.indexCast arg13
  let c864_1715 : Index := 864#32
  ![v3890.toNat, 864]
def k0_off174 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3893 : Index := Scalar.indexCast arg13
  let c880_1716 : Index := 880#32
  ![v3893.toNat, 880]
def k0_off175 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3896 : Index := Scalar.indexCast arg13
  let c896_1717 : Index := 896#32
  ![v3896.toNat, 896]
def k0_off176 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3899 : Index := Scalar.indexCast arg13
  let c912_1718 : Index := 912#32
  ![v3899.toNat, 912]
def k0_off177 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3902 : Index := Scalar.indexCast arg13
  let c928_1719 : Index := 928#32
  ![v3902.toNat, 928]
def k0_off178 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3905 : Index := Scalar.indexCast arg13
  let c944_1720 : Index := 944#32
  ![v3905.toNat, 944]
def k0_off179 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3908 : Index := Scalar.indexCast arg13
  let c960_1721 : Index := 960#32
  ![v3908.toNat, 960]
def k0_off180 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3911 : Index := Scalar.indexCast arg13
  let c976_1722 : Index := 976#32
  ![v3911.toNat, 976]
def k0_off181 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3914 : Index := Scalar.indexCast arg13
  let c992_1723 : Index := 992#32
  ![v3914.toNat, 992]
def k0_off182 (k0_t12 : Fin k0_t12_loop.trips) : Fin 2 → Nat :=
  let c0_i32_1618 : BitVec 32 := 0#32
  let c1_i32_1620 : BitVec 32 := 1#32
  let arg13 : BitVec 32 := Scf.iv c0_i32_1618 c1_i32_1620 k0_t12
  let v3917 : Index := Scalar.indexCast arg13
  let c1008_1724 : Index := 1008#32
  ![v3917.toNat, 1008]
@[reducible] def k0_t15_loop (v58 : BitVec 32) (v60 : BitVec 32) (k0_t11 : Fin (k0_t11_loop v58 v60).trips) (v3581 : BitVec 32) (v3584 : BitVec 32) : Scf.Loop 32 :=
  let c0_i32_1725 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c0_i32_1600 : BitVec 32 := 0#32
  let c1_i32_1602 : BitVec 32 := 1#32
  let arg12 : BitVec 32 := Scf.iv c0_i32_1600 c1_i32_1602 k0_t11
  let c40_i32_1605 : BitVec 32 := 40#32
  let v3563 : BitVec 32 := Scalar.muli arg12 c40_i32_1605
  let v3564 : BitVec 32 := Scalar.addi v78 v3563
  let c40_i32_1623 : BitVec 32 := 40#32
  let v3586 : BitVec 32 := Scalar.addi v3564 c40_i32_1623
  let v3587 : BitVec 32 := Scalar.minsi v3584 v3586
  let v3585 : BitVec 32 := Scalar.maxsi v3581 v3564
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1727 : BitVec 32 := 1#32
  ⟨c0_i32_1725, v3924, c1_i32_1727⟩
def k0_off183 (v58 : BitVec 32) (v60 : BitVec 32) (k0_t11 : Fin (k0_t11_loop v58 v60).trips) (v3581 : BitVec 32) (v3584 : BitVec 32) (k0_t15 : Fin (k0_t15_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4056 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t15
  let v4055 : BitVec 32 := Scalar.addi v3591 arg14
  let v4057 : Index := Scalar.indexCast v4055
  let c256_1761 : Index := 256#32
  ![v4056.toNat, v4057.toNat, 256]
def k0_off184 (v58 : BitVec 32) (v60 : BitVec 32) (k0_t11 : Fin (k0_t11_loop v58 v60).trips) (v3581 : BitVec 32) (v3584 : BitVec 32) (k0_t15 : Fin (k0_t15_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4061 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t15
  let v4060 : BitVec 32 := Scalar.addi v3591 arg14
  let v4062 : Index := Scalar.indexCast v4060
  let c272_1762 : Index := 272#32
  ![v4061.toNat, v4062.toNat, 272]
def k0_off185 (v58 : BitVec 32) (v60 : BitVec 32) (k0_t11 : Fin (k0_t11_loop v58 v60).trips) (v3581 : BitVec 32) (v3584 : BitVec 32) (k0_t15 : Fin (k0_t15_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4066 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t15
  let v4065 : BitVec 32 := Scalar.addi v3591 arg14
  let v4067 : Index := Scalar.indexCast v4065
  let c288_1763 : Index := 288#32
  ![v4066.toNat, v4067.toNat, 288]
def k0_off186 (v58 : BitVec 32) (v60 : BitVec 32) (k0_t11 : Fin (k0_t11_loop v58 v60).trips) (v3581 : BitVec 32) (v3584 : BitVec 32) (k0_t15 : Fin (k0_t15_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4071 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t15
  let v4070 : BitVec 32 := Scalar.addi v3591 arg14
  let v4072 : Index := Scalar.indexCast v4070
  let c304_1764 : Index := 304#32
  ![v4071.toNat, v4072.toNat, 304]
def k0_off187 (v58 : BitVec 32) (v60 : BitVec 32) (k0_t11 : Fin (k0_t11_loop v58 v60).trips) (v3581 : BitVec 32) (v3584 : BitVec 32) (k0_t15 : Fin (k0_t15_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4076 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t15
  let v4075 : BitVec 32 := Scalar.addi v3591 arg14
  let v4077 : Index := Scalar.indexCast v4075
  let c320_1765 : Index := 320#32
  ![v4076.toNat, v4077.toNat, 320]
def k0_off188 (v58 : BitVec 32) (v60 : BitVec 32) (k0_t11 : Fin (k0_t11_loop v58 v60).trips) (v3581 : BitVec 32) (v3584 : BitVec 32) (k0_t15 : Fin (k0_t15_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4081 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t15
  let v4080 : BitVec 32 := Scalar.addi v3591 arg14
  let v4082 : Index := Scalar.indexCast v4080
  let c336_1766 : Index := 336#32
  ![v4081.toNat, v4082.toNat, 336]
def k0_off189 (v58 : BitVec 32) (v60 : BitVec 32) (k0_t11 : Fin (k0_t11_loop v58 v60).trips) (v3581 : BitVec 32) (v3584 : BitVec 32) (k0_t15 : Fin (k0_t15_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4086 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t15
  let v4085 : BitVec 32 := Scalar.addi v3591 arg14
  let v4087 : Index := Scalar.indexCast v4085
  let c352_1767 : Index := 352#32
  ![v4086.toNat, v4087.toNat, 352]
def k0_off190 (v58 : BitVec 32) (v60 : BitVec 32) (k0_t11 : Fin (k0_t11_loop v58 v60).trips) (v3581 : BitVec 32) (v3584 : BitVec 32) (k0_t15 : Fin (k0_t15_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4091 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t15
  let v4090 : BitVec 32 := Scalar.addi v3591 arg14
  let v4092 : Index := Scalar.indexCast v4090
  let c368_1768 : Index := 368#32
  ![v4091.toNat, v4092.toNat, 368]
def k0_off191 (v58 : BitVec 32) (v60 : BitVec 32) (k0_t11 : Fin (k0_t11_loop v58 v60).trips) (v3581 : BitVec 32) (v3584 : BitVec 32) (k0_t15 : Fin (k0_t15_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4096 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t15
  let v4095 : BitVec 32 := Scalar.addi v3591 arg14
  let v4097 : Index := Scalar.indexCast v4095
  let c384_1769 : Index := 384#32
  ![v4096.toNat, v4097.toNat, 384]
def k0_off192 (v58 : BitVec 32) (v60 : BitVec 32) (k0_t11 : Fin (k0_t11_loop v58 v60).trips) (v3581 : BitVec 32) (v3584 : BitVec 32) (k0_t15 : Fin (k0_t15_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4101 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t15
  let v4100 : BitVec 32 := Scalar.addi v3591 arg14
  let v4102 : Index := Scalar.indexCast v4100
  let c400_1770 : Index := 400#32
  ![v4101.toNat, v4102.toNat, 400]
def k0_off193 (v58 : BitVec 32) (v60 : BitVec 32) (k0_t11 : Fin (k0_t11_loop v58 v60).trips) (v3581 : BitVec 32) (v3584 : BitVec 32) (k0_t15 : Fin (k0_t15_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4106 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t15
  let v4105 : BitVec 32 := Scalar.addi v3591 arg14
  let v4107 : Index := Scalar.indexCast v4105
  let c416_1771 : Index := 416#32
  ![v4106.toNat, v4107.toNat, 416]
def k0_off194 (v58 : BitVec 32) (v60 : BitVec 32) (k0_t11 : Fin (k0_t11_loop v58 v60).trips) (v3581 : BitVec 32) (v3584 : BitVec 32) (k0_t15 : Fin (k0_t15_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4111 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t15
  let v4110 : BitVec 32 := Scalar.addi v3591 arg14
  let v4112 : Index := Scalar.indexCast v4110
  let c432_1772 : Index := 432#32
  ![v4111.toNat, v4112.toNat, 432]
def k0_off195 (v58 : BitVec 32) (v60 : BitVec 32) (k0_t11 : Fin (k0_t11_loop v58 v60).trips) (v3581 : BitVec 32) (v3584 : BitVec 32) (k0_t15 : Fin (k0_t15_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4116 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t15
  let v4115 : BitVec 32 := Scalar.addi v3591 arg14
  let v4117 : Index := Scalar.indexCast v4115
  let c448_1773 : Index := 448#32
  ![v4116.toNat, v4117.toNat, 448]
def k0_off196 (v58 : BitVec 32) (v60 : BitVec 32) (k0_t11 : Fin (k0_t11_loop v58 v60).trips) (v3581 : BitVec 32) (v3584 : BitVec 32) (k0_t15 : Fin (k0_t15_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4121 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t15
  let v4120 : BitVec 32 := Scalar.addi v3591 arg14
  let v4122 : Index := Scalar.indexCast v4120
  let c464_1774 : Index := 464#32
  ![v4121.toNat, v4122.toNat, 464]
def k0_off197 (v58 : BitVec 32) (v60 : BitVec 32) (k0_t11 : Fin (k0_t11_loop v58 v60).trips) (v3581 : BitVec 32) (v3584 : BitVec 32) (k0_t15 : Fin (k0_t15_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4126 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t15
  let v4125 : BitVec 32 := Scalar.addi v3591 arg14
  let v4127 : Index := Scalar.indexCast v4125
  let c480_1775 : Index := 480#32
  ![v4126.toNat, v4127.toNat, 480]
def k0_off198 (v58 : BitVec 32) (v60 : BitVec 32) (k0_t11 : Fin (k0_t11_loop v58 v60).trips) (v3581 : BitVec 32) (v3584 : BitVec 32) (k0_t15 : Fin (k0_t15_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4131 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t15
  let v4130 : BitVec 32 := Scalar.addi v3591 arg14
  let v4132 : Index := Scalar.indexCast v4130
  let c496_1776 : Index := 496#32
  ![v4131.toNat, v4132.toNat, 496]
@[reducible] def k0_t16_loop (v58 : BitVec 32) (v60 : BitVec 32) (k0_t11 : Fin (k0_t11_loop v58 v60).trips) (v3581 : BitVec 32) (v3584 : BitVec 32) : Scf.Loop 32 :=
  let c0_i32_1725 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c0_i32_1600 : BitVec 32 := 0#32
  let c1_i32_1602 : BitVec 32 := 1#32
  let arg12 : BitVec 32 := Scf.iv c0_i32_1600 c1_i32_1602 k0_t11
  let c40_i32_1605 : BitVec 32 := 40#32
  let v3563 : BitVec 32 := Scalar.muli arg12 c40_i32_1605
  let v3564 : BitVec 32 := Scalar.addi v78 v3563
  let c40_i32_1623 : BitVec 32 := 40#32
  let v3586 : BitVec 32 := Scalar.addi v3564 c40_i32_1623
  let v3587 : BitVec 32 := Scalar.minsi v3584 v3586
  let v3585 : BitVec 32 := Scalar.maxsi v3581 v3564
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let v3921 : BitVec 32 := Scalar.addi c0_i32_1725 v3920
  let c1_i32_1728 : BitVec 32 := 1#32
  ⟨v3924, v3921, c1_i32_1728⟩
def k0_off199 (v58 : BitVec 32) (v60 : BitVec 32) (k0_t11 : Fin (k0_t11_loop v58 v60).trips) (v3581 : BitVec 32) (v3584 : BitVec 32) (k0_t16 : Fin (k0_t16_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4056 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t16
  let v4055 : BitVec 32 := Scalar.addi v3591 arg14
  let v4057 : Index := Scalar.indexCast v4055
  let c256_1761 : Index := 256#32
  ![v4056.toNat, v4057.toNat, 256]
def k0_off200 (v58 : BitVec 32) (v60 : BitVec 32) (k0_t11 : Fin (k0_t11_loop v58 v60).trips) (v3581 : BitVec 32) (v3584 : BitVec 32) (k0_t16 : Fin (k0_t16_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4061 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t16
  let v4060 : BitVec 32 := Scalar.addi v3591 arg14
  let v4062 : Index := Scalar.indexCast v4060
  let c272_1762 : Index := 272#32
  ![v4061.toNat, v4062.toNat, 272]
def k0_off201 (v58 : BitVec 32) (v60 : BitVec 32) (k0_t11 : Fin (k0_t11_loop v58 v60).trips) (v3581 : BitVec 32) (v3584 : BitVec 32) (k0_t16 : Fin (k0_t16_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4066 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t16
  let v4065 : BitVec 32 := Scalar.addi v3591 arg14
  let v4067 : Index := Scalar.indexCast v4065
  let c288_1763 : Index := 288#32
  ![v4066.toNat, v4067.toNat, 288]
def k0_off202 (v58 : BitVec 32) (v60 : BitVec 32) (k0_t11 : Fin (k0_t11_loop v58 v60).trips) (v3581 : BitVec 32) (v3584 : BitVec 32) (k0_t16 : Fin (k0_t16_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4071 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t16
  let v4070 : BitVec 32 := Scalar.addi v3591 arg14
  let v4072 : Index := Scalar.indexCast v4070
  let c304_1764 : Index := 304#32
  ![v4071.toNat, v4072.toNat, 304]
def k0_off203 (v58 : BitVec 32) (v60 : BitVec 32) (k0_t11 : Fin (k0_t11_loop v58 v60).trips) (v3581 : BitVec 32) (v3584 : BitVec 32) (k0_t16 : Fin (k0_t16_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4076 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t16
  let v4075 : BitVec 32 := Scalar.addi v3591 arg14
  let v4077 : Index := Scalar.indexCast v4075
  let c320_1765 : Index := 320#32
  ![v4076.toNat, v4077.toNat, 320]
def k0_off204 (v58 : BitVec 32) (v60 : BitVec 32) (k0_t11 : Fin (k0_t11_loop v58 v60).trips) (v3581 : BitVec 32) (v3584 : BitVec 32) (k0_t16 : Fin (k0_t16_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4081 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t16
  let v4080 : BitVec 32 := Scalar.addi v3591 arg14
  let v4082 : Index := Scalar.indexCast v4080
  let c336_1766 : Index := 336#32
  ![v4081.toNat, v4082.toNat, 336]
def k0_off205 (v58 : BitVec 32) (v60 : BitVec 32) (k0_t11 : Fin (k0_t11_loop v58 v60).trips) (v3581 : BitVec 32) (v3584 : BitVec 32) (k0_t16 : Fin (k0_t16_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4086 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t16
  let v4085 : BitVec 32 := Scalar.addi v3591 arg14
  let v4087 : Index := Scalar.indexCast v4085
  let c352_1767 : Index := 352#32
  ![v4086.toNat, v4087.toNat, 352]
def k0_off206 (v58 : BitVec 32) (v60 : BitVec 32) (k0_t11 : Fin (k0_t11_loop v58 v60).trips) (v3581 : BitVec 32) (v3584 : BitVec 32) (k0_t16 : Fin (k0_t16_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4091 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t16
  let v4090 : BitVec 32 := Scalar.addi v3591 arg14
  let v4092 : Index := Scalar.indexCast v4090
  let c368_1768 : Index := 368#32
  ![v4091.toNat, v4092.toNat, 368]
def k0_off207 (v58 : BitVec 32) (v60 : BitVec 32) (k0_t11 : Fin (k0_t11_loop v58 v60).trips) (v3581 : BitVec 32) (v3584 : BitVec 32) (k0_t16 : Fin (k0_t16_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4096 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t16
  let v4095 : BitVec 32 := Scalar.addi v3591 arg14
  let v4097 : Index := Scalar.indexCast v4095
  let c384_1769 : Index := 384#32
  ![v4096.toNat, v4097.toNat, 384]
def k0_off208 (v58 : BitVec 32) (v60 : BitVec 32) (k0_t11 : Fin (k0_t11_loop v58 v60).trips) (v3581 : BitVec 32) (v3584 : BitVec 32) (k0_t16 : Fin (k0_t16_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4101 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t16
  let v4100 : BitVec 32 := Scalar.addi v3591 arg14
  let v4102 : Index := Scalar.indexCast v4100
  let c400_1770 : Index := 400#32
  ![v4101.toNat, v4102.toNat, 400]
def k0_off209 (v58 : BitVec 32) (v60 : BitVec 32) (k0_t11 : Fin (k0_t11_loop v58 v60).trips) (v3581 : BitVec 32) (v3584 : BitVec 32) (k0_t16 : Fin (k0_t16_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4106 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t16
  let v4105 : BitVec 32 := Scalar.addi v3591 arg14
  let v4107 : Index := Scalar.indexCast v4105
  let c416_1771 : Index := 416#32
  ![v4106.toNat, v4107.toNat, 416]
def k0_off210 (v58 : BitVec 32) (v60 : BitVec 32) (k0_t11 : Fin (k0_t11_loop v58 v60).trips) (v3581 : BitVec 32) (v3584 : BitVec 32) (k0_t16 : Fin (k0_t16_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4111 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t16
  let v4110 : BitVec 32 := Scalar.addi v3591 arg14
  let v4112 : Index := Scalar.indexCast v4110
  let c432_1772 : Index := 432#32
  ![v4111.toNat, v4112.toNat, 432]
def k0_off211 (v58 : BitVec 32) (v60 : BitVec 32) (k0_t11 : Fin (k0_t11_loop v58 v60).trips) (v3581 : BitVec 32) (v3584 : BitVec 32) (k0_t16 : Fin (k0_t16_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4116 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t16
  let v4115 : BitVec 32 := Scalar.addi v3591 arg14
  let v4117 : Index := Scalar.indexCast v4115
  let c448_1773 : Index := 448#32
  ![v4116.toNat, v4117.toNat, 448]
def k0_off212 (v58 : BitVec 32) (v60 : BitVec 32) (k0_t11 : Fin (k0_t11_loop v58 v60).trips) (v3581 : BitVec 32) (v3584 : BitVec 32) (k0_t16 : Fin (k0_t16_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4121 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t16
  let v4120 : BitVec 32 := Scalar.addi v3591 arg14
  let v4122 : Index := Scalar.indexCast v4120
  let c464_1774 : Index := 464#32
  ![v4121.toNat, v4122.toNat, 464]
def k0_off213 (v58 : BitVec 32) (v60 : BitVec 32) (k0_t11 : Fin (k0_t11_loop v58 v60).trips) (v3581 : BitVec 32) (v3584 : BitVec 32) (k0_t16 : Fin (k0_t16_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4126 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t16
  let v4125 : BitVec 32 := Scalar.addi v3591 arg14
  let v4127 : Index := Scalar.indexCast v4125
  let c480_1775 : Index := 480#32
  ![v4126.toNat, v4127.toNat, 480]
def k0_off214 (v58 : BitVec 32) (v60 : BitVec 32) (k0_t11 : Fin (k0_t11_loop v58 v60).trips) (v3581 : BitVec 32) (v3584 : BitVec 32) (k0_t16 : Fin (k0_t16_loop v58 v60 k0_t11 v3581 v3584).trips) : Fin 3 → Nat :=
  let c0_i32_1600 : BitVec 32 := 0#32
  let c1_i32_1602 : BitVec 32 := 1#32
  let arg12 : BitVec 32 := Scf.iv c0_i32_1600 c1_i32_1602 k0_t11
  let c3_i32_1604 : BitVec 32 := 3#32
  let v3562 : BitVec 32 := Scalar.remsi arg12 c3_i32_1604
  let v4131 : Index := Scalar.indexCast v3562
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t16
  let v4130 : BitVec 32 := Scalar.addi v3591 arg14
  let v4132 : Index := Scalar.indexCast v4130
  let c496_1776 : Index := 496#32
  ![v4131.toNat, v4132.toNat, 496]

def k0_chk11_0 (v58 : BitVec 32) (v60 : BitVec 32) (k0_t11 : Fin (k0_t11_loop v58 v60).trips) (v3581 : BitVec 32) (v3584 : BitVec 32) : Prop :=
  (∀ (k0_h1 : k0_cond1 v58 v60 = 1#1), ∀ (k0_h5 : k0_cond5 v58 v60 k0_t11 v3581 v3584 = 1#1), (k0_t13_loop v58 v60 k0_t11 v3581 v3584).OK) ∧
  (∀ k0_t13 : Fin (k0_t13_loop v58 v60 k0_t11 v3581 v3584).trips, ∀ (k0_h1 : k0_cond1 v58 v60 = 1#1), ∀ (k0_h5 : k0_cond5 v58 v60 k0_t11 v3581 v3584 = 1#1), ∀ a, (k0_off119 v58 v60 k0_t11 v3581 v3584 k0_t13) a + S1x1x16.size a ≤ S3x40x512.size a) ∧
  (∀ k0_t13 : Fin (k0_t13_loop v58 v60 k0_t11 v3581 v3584).trips, ∀ (k0_h1 : k0_cond1 v58 v60 = 1#1), ∀ (k0_h5 : k0_cond5 v58 v60 k0_t11 v3581 v3584 = 1#1), ∀ a, (k0_off120 v58 v60 k0_t11 v3581 v3584 k0_t13) a + S1x1x16.size a ≤ S3x40x512.size a) ∧
  (∀ k0_t13 : Fin (k0_t13_loop v58 v60 k0_t11 v3581 v3584).trips, ∀ (k0_h1 : k0_cond1 v58 v60 = 1#1), ∀ (k0_h5 : k0_cond5 v58 v60 k0_t11 v3581 v3584 = 1#1), ∀ a, (k0_off121 v58 v60 k0_t11 v3581 v3584 k0_t13) a + S1x1x16.size a ≤ S3x40x512.size a) ∧
  (∀ k0_t13 : Fin (k0_t13_loop v58 v60 k0_t11 v3581 v3584).trips, ∀ (k0_h1 : k0_cond1 v58 v60 = 1#1), ∀ (k0_h5 : k0_cond5 v58 v60 k0_t11 v3581 v3584 = 1#1), ∀ a, (k0_off122 v58 v60 k0_t11 v3581 v3584 k0_t13) a + S1x1x16.size a ≤ S3x40x512.size a) ∧
  (∀ k0_t13 : Fin (k0_t13_loop v58 v60 k0_t11 v3581 v3584).trips, ∀ (k0_h1 : k0_cond1 v58 v60 = 1#1), ∀ (k0_h5 : k0_cond5 v58 v60 k0_t11 v3581 v3584 = 1#1), ∀ a, (k0_off123 v58 v60 k0_t11 v3581 v3584 k0_t13) a + S1x1x16.size a ≤ S3x40x512.size a) ∧
  (∀ k0_t13 : Fin (k0_t13_loop v58 v60 k0_t11 v3581 v3584).trips, ∀ (k0_h1 : k0_cond1 v58 v60 = 1#1), ∀ (k0_h5 : k0_cond5 v58 v60 k0_t11 v3581 v3584 = 1#1), ∀ a, (k0_off124 v58 v60 k0_t11 v3581 v3584 k0_t13) a + S1x1x16.size a ≤ S3x40x512.size a) ∧
  (∀ k0_t13 : Fin (k0_t13_loop v58 v60 k0_t11 v3581 v3584).trips, ∀ (k0_h1 : k0_cond1 v58 v60 = 1#1), ∀ (k0_h5 : k0_cond5 v58 v60 k0_t11 v3581 v3584 = 1#1), ∀ a, (k0_off125 v58 v60 k0_t11 v3581 v3584 k0_t13) a + S1x1x16.size a ≤ S3x40x512.size a) ∧
  (∀ k0_t13 : Fin (k0_t13_loop v58 v60 k0_t11 v3581 v3584).trips, ∀ (k0_h1 : k0_cond1 v58 v60 = 1#1), ∀ (k0_h5 : k0_cond5 v58 v60 k0_t11 v3581 v3584 = 1#1), ∀ a, (k0_off126 v58 v60 k0_t11 v3581 v3584 k0_t13) a + S1x1x16.size a ≤ S3x40x512.size a) ∧
  (∀ k0_t13 : Fin (k0_t13_loop v58 v60 k0_t11 v3581 v3584).trips, ∀ (k0_h1 : k0_cond1 v58 v60 = 1#1), ∀ (k0_h5 : k0_cond5 v58 v60 k0_t11 v3581 v3584 = 1#1), ∀ a, (k0_off127 v58 v60 k0_t11 v3581 v3584 k0_t13) a + S1x1x16.size a ≤ S3x40x512.size a) ∧
  (∀ k0_t13 : Fin (k0_t13_loop v58 v60 k0_t11 v3581 v3584).trips, ∀ (k0_h1 : k0_cond1 v58 v60 = 1#1), ∀ (k0_h5 : k0_cond5 v58 v60 k0_t11 v3581 v3584 = 1#1), ∀ a, (k0_off128 v58 v60 k0_t11 v3581 v3584 k0_t13) a + S1x1x16.size a ≤ S3x40x512.size a) ∧
  (∀ k0_t13 : Fin (k0_t13_loop v58 v60 k0_t11 v3581 v3584).trips, ∀ (k0_h1 : k0_cond1 v58 v60 = 1#1), ∀ (k0_h5 : k0_cond5 v58 v60 k0_t11 v3581 v3584 = 1#1), ∀ a, (k0_off129 v58 v60 k0_t11 v3581 v3584 k0_t13) a + S1x1x16.size a ≤ S3x40x512.size a) ∧
  (∀ k0_t13 : Fin (k0_t13_loop v58 v60 k0_t11 v3581 v3584).trips, ∀ (k0_h1 : k0_cond1 v58 v60 = 1#1), ∀ (k0_h5 : k0_cond5 v58 v60 k0_t11 v3581 v3584 = 1#1), ∀ a, (k0_off130 v58 v60 k0_t11 v3581 v3584 k0_t13) a + S1x1x16.size a ≤ S3x40x512.size a) ∧
  (∀ k0_t13 : Fin (k0_t13_loop v58 v60 k0_t11 v3581 v3584).trips, ∀ (k0_h1 : k0_cond1 v58 v60 = 1#1), ∀ (k0_h5 : k0_cond5 v58 v60 k0_t11 v3581 v3584 = 1#1), ∀ a, (k0_off131 v58 v60 k0_t11 v3581 v3584 k0_t13) a + S1x1x16.size a ≤ S3x40x512.size a) ∧
  (∀ k0_t13 : Fin (k0_t13_loop v58 v60 k0_t11 v3581 v3584).trips, ∀ (k0_h1 : k0_cond1 v58 v60 = 1#1), ∀ (k0_h5 : k0_cond5 v58 v60 k0_t11 v3581 v3584 = 1#1), ∀ a, (k0_off132 v58 v60 k0_t11 v3581 v3584 k0_t13) a + S1x1x16.size a ≤ S3x40x512.size a) ∧
  (∀ k0_t13 : Fin (k0_t13_loop v58 v60 k0_t11 v3581 v3584).trips, ∀ (k0_h1 : k0_cond1 v58 v60 = 1#1), ∀ (k0_h5 : k0_cond5 v58 v60 k0_t11 v3581 v3584 = 1#1), ∀ a, (k0_off133 v58 v60 k0_t11 v3581 v3584 k0_t13) a + S1x1x16.size a ≤ S3x40x512.size a) ∧
  (∀ k0_t13 : Fin (k0_t13_loop v58 v60 k0_t11 v3581 v3584).trips, ∀ (k0_h1 : k0_cond1 v58 v60 = 1#1), ∀ (k0_h5 : k0_cond5 v58 v60 k0_t11 v3581 v3584 = 1#1), ∀ a, (k0_off134 v58 v60 k0_t11 v3581 v3584 k0_t13) a + S1x1x16.size a ≤ S3x40x512.size a) ∧
  (∀ (k0_h1 : k0_cond1 v58 v60 = 1#1), ∀ (k0_h5 : k0_cond5 v58 v60 k0_t11 v3581 v3584 = 1#1), (k0_t14_loop v58 v60 k0_t11 v3581 v3584).OK) ∧
  (∀ k0_t14 : Fin (k0_t14_loop v58 v60 k0_t11 v3581 v3584).trips, ∀ (k0_h1 : k0_cond1 v58 v60 = 1#1), ∀ (k0_h5 : k0_cond5 v58 v60 k0_t11 v3581 v3584 = 1#1), ∀ a, (k0_off135 v58 v60 k0_t11 v3581 v3584 k0_t14) a + S1x1x16.size a ≤ S3x40x512.size a) ∧
  (∀ k0_t14 : Fin (k0_t14_loop v58 v60 k0_t11 v3581 v3584).trips, ∀ (k0_h1 : k0_cond1 v58 v60 = 1#1), ∀ (k0_h5 : k0_cond5 v58 v60 k0_t11 v3581 v3584 = 1#1), ∀ a, (k0_off136 v58 v60 k0_t11 v3581 v3584 k0_t14) a + S1x1x16.size a ≤ S3x40x512.size a) ∧
  (∀ k0_t14 : Fin (k0_t14_loop v58 v60 k0_t11 v3581 v3584).trips, ∀ (k0_h1 : k0_cond1 v58 v60 = 1#1), ∀ (k0_h5 : k0_cond5 v58 v60 k0_t11 v3581 v3584 = 1#1), ∀ a, (k0_off137 v58 v60 k0_t11 v3581 v3584 k0_t14) a + S1x1x16.size a ≤ S3x40x512.size a) ∧
  (∀ k0_t14 : Fin (k0_t14_loop v58 v60 k0_t11 v3581 v3584).trips, ∀ (k0_h1 : k0_cond1 v58 v60 = 1#1), ∀ (k0_h5 : k0_cond5 v58 v60 k0_t11 v3581 v3584 = 1#1), ∀ a, (k0_off138 v58 v60 k0_t11 v3581 v3584 k0_t14) a + S1x1x16.size a ≤ S3x40x512.size a) ∧
  (∀ k0_t14 : Fin (k0_t14_loop v58 v60 k0_t11 v3581 v3584).trips, ∀ (k0_h1 : k0_cond1 v58 v60 = 1#1), ∀ (k0_h5 : k0_cond5 v58 v60 k0_t11 v3581 v3584 = 1#1), ∀ a, (k0_off139 v58 v60 k0_t11 v3581 v3584 k0_t14) a + S1x1x16.size a ≤ S3x40x512.size a) ∧
  (∀ k0_t14 : Fin (k0_t14_loop v58 v60 k0_t11 v3581 v3584).trips, ∀ (k0_h1 : k0_cond1 v58 v60 = 1#1), ∀ (k0_h5 : k0_cond5 v58 v60 k0_t11 v3581 v3584 = 1#1), ∀ a, (k0_off140 v58 v60 k0_t11 v3581 v3584 k0_t14) a + S1x1x16.size a ≤ S3x40x512.size a) ∧
  (∀ k0_t14 : Fin (k0_t14_loop v58 v60 k0_t11 v3581 v3584).trips, ∀ (k0_h1 : k0_cond1 v58 v60 = 1#1), ∀ (k0_h5 : k0_cond5 v58 v60 k0_t11 v3581 v3584 = 1#1), ∀ a, (k0_off141 v58 v60 k0_t11 v3581 v3584 k0_t14) a + S1x1x16.size a ≤ S3x40x512.size a) ∧
  (∀ k0_t14 : Fin (k0_t14_loop v58 v60 k0_t11 v3581 v3584).trips, ∀ (k0_h1 : k0_cond1 v58 v60 = 1#1), ∀ (k0_h5 : k0_cond5 v58 v60 k0_t11 v3581 v3584 = 1#1), ∀ a, (k0_off142 v58 v60 k0_t11 v3581 v3584 k0_t14) a + S1x1x16.size a ≤ S3x40x512.size a) ∧
  (∀ k0_t14 : Fin (k0_t14_loop v58 v60 k0_t11 v3581 v3584).trips, ∀ (k0_h1 : k0_cond1 v58 v60 = 1#1), ∀ (k0_h5 : k0_cond5 v58 v60 k0_t11 v3581 v3584 = 1#1), ∀ a, (k0_off143 v58 v60 k0_t11 v3581 v3584 k0_t14) a + S1x1x16.size a ≤ S3x40x512.size a) ∧
  (∀ k0_t14 : Fin (k0_t14_loop v58 v60 k0_t11 v3581 v3584).trips, ∀ (k0_h1 : k0_cond1 v58 v60 = 1#1), ∀ (k0_h5 : k0_cond5 v58 v60 k0_t11 v3581 v3584 = 1#1), ∀ a, (k0_off144 v58 v60 k0_t11 v3581 v3584 k0_t14) a + S1x1x16.size a ≤ S3x40x512.size a) ∧
  (∀ k0_t14 : Fin (k0_t14_loop v58 v60 k0_t11 v3581 v3584).trips, ∀ (k0_h1 : k0_cond1 v58 v60 = 1#1), ∀ (k0_h5 : k0_cond5 v58 v60 k0_t11 v3581 v3584 = 1#1), ∀ a, (k0_off145 v58 v60 k0_t11 v3581 v3584 k0_t14) a + S1x1x16.size a ≤ S3x40x512.size a) ∧
  (∀ k0_t14 : Fin (k0_t14_loop v58 v60 k0_t11 v3581 v3584).trips, ∀ (k0_h1 : k0_cond1 v58 v60 = 1#1), ∀ (k0_h5 : k0_cond5 v58 v60 k0_t11 v3581 v3584 = 1#1), ∀ a, (k0_off146 v58 v60 k0_t11 v3581 v3584 k0_t14) a + S1x1x16.size a ≤ S3x40x512.size a) ∧
  (∀ k0_t14 : Fin (k0_t14_loop v58 v60 k0_t11 v3581 v3584).trips, ∀ (k0_h1 : k0_cond1 v58 v60 = 1#1), ∀ (k0_h5 : k0_cond5 v58 v60 k0_t11 v3581 v3584 = 1#1), ∀ a, (k0_off147 v58 v60 k0_t11 v3581 v3584 k0_t14) a + S1x1x16.size a ≤ S3x40x512.size a) ∧
  (∀ k0_t14 : Fin (k0_t14_loop v58 v60 k0_t11 v3581 v3584).trips, ∀ (k0_h1 : k0_cond1 v58 v60 = 1#1), ∀ (k0_h5 : k0_cond5 v58 v60 k0_t11 v3581 v3584 = 1#1), ∀ a, (k0_off148 v58 v60 k0_t11 v3581 v3584 k0_t14) a + S1x1x16.size a ≤ S3x40x512.size a)
def k0_chk11_1 (v58 : BitVec 32) (v60 : BitVec 32) (k0_t11 : Fin (k0_t11_loop v58 v60).trips) (v3581 : BitVec 32) (v3584 : BitVec 32) : Prop :=
  (∀ k0_t14 : Fin (k0_t14_loop v58 v60 k0_t11 v3581 v3584).trips, ∀ (k0_h1 : k0_cond1 v58 v60 = 1#1), ∀ (k0_h5 : k0_cond5 v58 v60 k0_t11 v3581 v3584 = 1#1), ∀ a, (k0_off149 v58 v60 k0_t11 v3581 v3584 k0_t14) a + S1x1x16.size a ≤ S3x40x512.size a) ∧
  (∀ k0_t14 : Fin (k0_t14_loop v58 v60 k0_t11 v3581 v3584).trips, ∀ (k0_h1 : k0_cond1 v58 v60 = 1#1), ∀ (k0_h5 : k0_cond5 v58 v60 k0_t11 v3581 v3584 = 1#1), ∀ a, (k0_off150 v58 v60 k0_t11 v3581 v3584 k0_t14) a + S1x1x16.size a ≤ S3x40x512.size a) ∧
  (∀ (k0_h1 : k0_cond1 v58 v60 = 1#1), ∀ (k0_h5 : k0_cond5 v58 v60 k0_t11 v3581 v3584 = 1#1), (k0_t15_loop v58 v60 k0_t11 v3581 v3584).OK) ∧
  (∀ k0_t15 : Fin (k0_t15_loop v58 v60 k0_t11 v3581 v3584).trips, ∀ (k0_h1 : k0_cond1 v58 v60 = 1#1), ∀ (k0_h5 : k0_cond5 v58 v60 k0_t11 v3581 v3584 = 1#1), ∀ a, (k0_off183 v58 v60 k0_t11 v3581 v3584 k0_t15) a + S1x1x16.size a ≤ S3x40x512.size a) ∧
  (∀ k0_t15 : Fin (k0_t15_loop v58 v60 k0_t11 v3581 v3584).trips, ∀ (k0_h1 : k0_cond1 v58 v60 = 1#1), ∀ (k0_h5 : k0_cond5 v58 v60 k0_t11 v3581 v3584 = 1#1), ∀ a, (k0_off184 v58 v60 k0_t11 v3581 v3584 k0_t15) a + S1x1x16.size a ≤ S3x40x512.size a) ∧
  (∀ k0_t15 : Fin (k0_t15_loop v58 v60 k0_t11 v3581 v3584).trips, ∀ (k0_h1 : k0_cond1 v58 v60 = 1#1), ∀ (k0_h5 : k0_cond5 v58 v60 k0_t11 v3581 v3584 = 1#1), ∀ a, (k0_off185 v58 v60 k0_t11 v3581 v3584 k0_t15) a + S1x1x16.size a ≤ S3x40x512.size a) ∧
  (∀ k0_t15 : Fin (k0_t15_loop v58 v60 k0_t11 v3581 v3584).trips, ∀ (k0_h1 : k0_cond1 v58 v60 = 1#1), ∀ (k0_h5 : k0_cond5 v58 v60 k0_t11 v3581 v3584 = 1#1), ∀ a, (k0_off186 v58 v60 k0_t11 v3581 v3584 k0_t15) a + S1x1x16.size a ≤ S3x40x512.size a) ∧
  (∀ k0_t15 : Fin (k0_t15_loop v58 v60 k0_t11 v3581 v3584).trips, ∀ (k0_h1 : k0_cond1 v58 v60 = 1#1), ∀ (k0_h5 : k0_cond5 v58 v60 k0_t11 v3581 v3584 = 1#1), ∀ a, (k0_off187 v58 v60 k0_t11 v3581 v3584 k0_t15) a + S1x1x16.size a ≤ S3x40x512.size a) ∧
  (∀ k0_t15 : Fin (k0_t15_loop v58 v60 k0_t11 v3581 v3584).trips, ∀ (k0_h1 : k0_cond1 v58 v60 = 1#1), ∀ (k0_h5 : k0_cond5 v58 v60 k0_t11 v3581 v3584 = 1#1), ∀ a, (k0_off188 v58 v60 k0_t11 v3581 v3584 k0_t15) a + S1x1x16.size a ≤ S3x40x512.size a) ∧
  (∀ k0_t15 : Fin (k0_t15_loop v58 v60 k0_t11 v3581 v3584).trips, ∀ (k0_h1 : k0_cond1 v58 v60 = 1#1), ∀ (k0_h5 : k0_cond5 v58 v60 k0_t11 v3581 v3584 = 1#1), ∀ a, (k0_off189 v58 v60 k0_t11 v3581 v3584 k0_t15) a + S1x1x16.size a ≤ S3x40x512.size a) ∧
  (∀ k0_t15 : Fin (k0_t15_loop v58 v60 k0_t11 v3581 v3584).trips, ∀ (k0_h1 : k0_cond1 v58 v60 = 1#1), ∀ (k0_h5 : k0_cond5 v58 v60 k0_t11 v3581 v3584 = 1#1), ∀ a, (k0_off190 v58 v60 k0_t11 v3581 v3584 k0_t15) a + S1x1x16.size a ≤ S3x40x512.size a) ∧
  (∀ k0_t15 : Fin (k0_t15_loop v58 v60 k0_t11 v3581 v3584).trips, ∀ (k0_h1 : k0_cond1 v58 v60 = 1#1), ∀ (k0_h5 : k0_cond5 v58 v60 k0_t11 v3581 v3584 = 1#1), ∀ a, (k0_off191 v58 v60 k0_t11 v3581 v3584 k0_t15) a + S1x1x16.size a ≤ S3x40x512.size a) ∧
  (∀ k0_t15 : Fin (k0_t15_loop v58 v60 k0_t11 v3581 v3584).trips, ∀ (k0_h1 : k0_cond1 v58 v60 = 1#1), ∀ (k0_h5 : k0_cond5 v58 v60 k0_t11 v3581 v3584 = 1#1), ∀ a, (k0_off192 v58 v60 k0_t11 v3581 v3584 k0_t15) a + S1x1x16.size a ≤ S3x40x512.size a) ∧
  (∀ k0_t15 : Fin (k0_t15_loop v58 v60 k0_t11 v3581 v3584).trips, ∀ (k0_h1 : k0_cond1 v58 v60 = 1#1), ∀ (k0_h5 : k0_cond5 v58 v60 k0_t11 v3581 v3584 = 1#1), ∀ a, (k0_off193 v58 v60 k0_t11 v3581 v3584 k0_t15) a + S1x1x16.size a ≤ S3x40x512.size a) ∧
  (∀ k0_t15 : Fin (k0_t15_loop v58 v60 k0_t11 v3581 v3584).trips, ∀ (k0_h1 : k0_cond1 v58 v60 = 1#1), ∀ (k0_h5 : k0_cond5 v58 v60 k0_t11 v3581 v3584 = 1#1), ∀ a, (k0_off194 v58 v60 k0_t11 v3581 v3584 k0_t15) a + S1x1x16.size a ≤ S3x40x512.size a) ∧
  (∀ k0_t15 : Fin (k0_t15_loop v58 v60 k0_t11 v3581 v3584).trips, ∀ (k0_h1 : k0_cond1 v58 v60 = 1#1), ∀ (k0_h5 : k0_cond5 v58 v60 k0_t11 v3581 v3584 = 1#1), ∀ a, (k0_off195 v58 v60 k0_t11 v3581 v3584 k0_t15) a + S1x1x16.size a ≤ S3x40x512.size a) ∧
  (∀ k0_t15 : Fin (k0_t15_loop v58 v60 k0_t11 v3581 v3584).trips, ∀ (k0_h1 : k0_cond1 v58 v60 = 1#1), ∀ (k0_h5 : k0_cond5 v58 v60 k0_t11 v3581 v3584 = 1#1), ∀ a, (k0_off196 v58 v60 k0_t11 v3581 v3584 k0_t15) a + S1x1x16.size a ≤ S3x40x512.size a) ∧
  (∀ k0_t15 : Fin (k0_t15_loop v58 v60 k0_t11 v3581 v3584).trips, ∀ (k0_h1 : k0_cond1 v58 v60 = 1#1), ∀ (k0_h5 : k0_cond5 v58 v60 k0_t11 v3581 v3584 = 1#1), ∀ a, (k0_off197 v58 v60 k0_t11 v3581 v3584 k0_t15) a + S1x1x16.size a ≤ S3x40x512.size a) ∧
  (∀ k0_t15 : Fin (k0_t15_loop v58 v60 k0_t11 v3581 v3584).trips, ∀ (k0_h1 : k0_cond1 v58 v60 = 1#1), ∀ (k0_h5 : k0_cond5 v58 v60 k0_t11 v3581 v3584 = 1#1), ∀ a, (k0_off198 v58 v60 k0_t11 v3581 v3584 k0_t15) a + S1x1x16.size a ≤ S3x40x512.size a) ∧
  (∀ (k0_h1 : k0_cond1 v58 v60 = 1#1), ∀ (k0_h5 : k0_cond5 v58 v60 k0_t11 v3581 v3584 = 1#1), (k0_t16_loop v58 v60 k0_t11 v3581 v3584).OK) ∧
  (∀ k0_t16 : Fin (k0_t16_loop v58 v60 k0_t11 v3581 v3584).trips, ∀ (k0_h1 : k0_cond1 v58 v60 = 1#1), ∀ (k0_h5 : k0_cond5 v58 v60 k0_t11 v3581 v3584 = 1#1), ∀ a, (k0_off199 v58 v60 k0_t11 v3581 v3584 k0_t16) a + S1x1x16.size a ≤ S3x40x512.size a) ∧
  (∀ k0_t16 : Fin (k0_t16_loop v58 v60 k0_t11 v3581 v3584).trips, ∀ (k0_h1 : k0_cond1 v58 v60 = 1#1), ∀ (k0_h5 : k0_cond5 v58 v60 k0_t11 v3581 v3584 = 1#1), ∀ a, (k0_off200 v58 v60 k0_t11 v3581 v3584 k0_t16) a + S1x1x16.size a ≤ S3x40x512.size a) ∧
  (∀ k0_t16 : Fin (k0_t16_loop v58 v60 k0_t11 v3581 v3584).trips, ∀ (k0_h1 : k0_cond1 v58 v60 = 1#1), ∀ (k0_h5 : k0_cond5 v58 v60 k0_t11 v3581 v3584 = 1#1), ∀ a, (k0_off201 v58 v60 k0_t11 v3581 v3584 k0_t16) a + S1x1x16.size a ≤ S3x40x512.size a) ∧
  (∀ k0_t16 : Fin (k0_t16_loop v58 v60 k0_t11 v3581 v3584).trips, ∀ (k0_h1 : k0_cond1 v58 v60 = 1#1), ∀ (k0_h5 : k0_cond5 v58 v60 k0_t11 v3581 v3584 = 1#1), ∀ a, (k0_off202 v58 v60 k0_t11 v3581 v3584 k0_t16) a + S1x1x16.size a ≤ S3x40x512.size a) ∧
  (∀ k0_t16 : Fin (k0_t16_loop v58 v60 k0_t11 v3581 v3584).trips, ∀ (k0_h1 : k0_cond1 v58 v60 = 1#1), ∀ (k0_h5 : k0_cond5 v58 v60 k0_t11 v3581 v3584 = 1#1), ∀ a, (k0_off203 v58 v60 k0_t11 v3581 v3584 k0_t16) a + S1x1x16.size a ≤ S3x40x512.size a) ∧
  (∀ k0_t16 : Fin (k0_t16_loop v58 v60 k0_t11 v3581 v3584).trips, ∀ (k0_h1 : k0_cond1 v58 v60 = 1#1), ∀ (k0_h5 : k0_cond5 v58 v60 k0_t11 v3581 v3584 = 1#1), ∀ a, (k0_off204 v58 v60 k0_t11 v3581 v3584 k0_t16) a + S1x1x16.size a ≤ S3x40x512.size a) ∧
  (∀ k0_t16 : Fin (k0_t16_loop v58 v60 k0_t11 v3581 v3584).trips, ∀ (k0_h1 : k0_cond1 v58 v60 = 1#1), ∀ (k0_h5 : k0_cond5 v58 v60 k0_t11 v3581 v3584 = 1#1), ∀ a, (k0_off205 v58 v60 k0_t11 v3581 v3584 k0_t16) a + S1x1x16.size a ≤ S3x40x512.size a) ∧
  (∀ k0_t16 : Fin (k0_t16_loop v58 v60 k0_t11 v3581 v3584).trips, ∀ (k0_h1 : k0_cond1 v58 v60 = 1#1), ∀ (k0_h5 : k0_cond5 v58 v60 k0_t11 v3581 v3584 = 1#1), ∀ a, (k0_off206 v58 v60 k0_t11 v3581 v3584 k0_t16) a + S1x1x16.size a ≤ S3x40x512.size a) ∧
  (∀ k0_t16 : Fin (k0_t16_loop v58 v60 k0_t11 v3581 v3584).trips, ∀ (k0_h1 : k0_cond1 v58 v60 = 1#1), ∀ (k0_h5 : k0_cond5 v58 v60 k0_t11 v3581 v3584 = 1#1), ∀ a, (k0_off207 v58 v60 k0_t11 v3581 v3584 k0_t16) a + S1x1x16.size a ≤ S3x40x512.size a) ∧
  (∀ k0_t16 : Fin (k0_t16_loop v58 v60 k0_t11 v3581 v3584).trips, ∀ (k0_h1 : k0_cond1 v58 v60 = 1#1), ∀ (k0_h5 : k0_cond5 v58 v60 k0_t11 v3581 v3584 = 1#1), ∀ a, (k0_off208 v58 v60 k0_t11 v3581 v3584 k0_t16) a + S1x1x16.size a ≤ S3x40x512.size a) ∧
  (∀ k0_t16 : Fin (k0_t16_loop v58 v60 k0_t11 v3581 v3584).trips, ∀ (k0_h1 : k0_cond1 v58 v60 = 1#1), ∀ (k0_h5 : k0_cond5 v58 v60 k0_t11 v3581 v3584 = 1#1), ∀ a, (k0_off209 v58 v60 k0_t11 v3581 v3584 k0_t16) a + S1x1x16.size a ≤ S3x40x512.size a) ∧
  (∀ k0_t16 : Fin (k0_t16_loop v58 v60 k0_t11 v3581 v3584).trips, ∀ (k0_h1 : k0_cond1 v58 v60 = 1#1), ∀ (k0_h5 : k0_cond5 v58 v60 k0_t11 v3581 v3584 = 1#1), ∀ a, (k0_off210 v58 v60 k0_t11 v3581 v3584 k0_t16) a + S1x1x16.size a ≤ S3x40x512.size a)
def k0_chk11_2 (v58 : BitVec 32) (v60 : BitVec 32) (k0_t11 : Fin (k0_t11_loop v58 v60).trips) (v3581 : BitVec 32) (v3584 : BitVec 32) : Prop :=
  (∀ k0_t16 : Fin (k0_t16_loop v58 v60 k0_t11 v3581 v3584).trips, ∀ (k0_h1 : k0_cond1 v58 v60 = 1#1), ∀ (k0_h5 : k0_cond5 v58 v60 k0_t11 v3581 v3584 = 1#1), ∀ a, (k0_off211 v58 v60 k0_t11 v3581 v3584 k0_t16) a + S1x1x16.size a ≤ S3x40x512.size a) ∧
  (∀ k0_t16 : Fin (k0_t16_loop v58 v60 k0_t11 v3581 v3584).trips, ∀ (k0_h1 : k0_cond1 v58 v60 = 1#1), ∀ (k0_h5 : k0_cond5 v58 v60 k0_t11 v3581 v3584 = 1#1), ∀ a, (k0_off212 v58 v60 k0_t11 v3581 v3584 k0_t16) a + S1x1x16.size a ≤ S3x40x512.size a) ∧
  (∀ k0_t16 : Fin (k0_t16_loop v58 v60 k0_t11 v3581 v3584).trips, ∀ (k0_h1 : k0_cond1 v58 v60 = 1#1), ∀ (k0_h5 : k0_cond5 v58 v60 k0_t11 v3581 v3584 = 1#1), ∀ a, (k0_off213 v58 v60 k0_t11 v3581 v3584 k0_t16) a + S1x1x16.size a ≤ S3x40x512.size a) ∧
  (∀ k0_t16 : Fin (k0_t16_loop v58 v60 k0_t11 v3581 v3584).trips, ∀ (k0_h1 : k0_cond1 v58 v60 = 1#1), ∀ (k0_h5 : k0_cond5 v58 v60 k0_t11 v3581 v3584 = 1#1), ∀ a, (k0_off214 v58 v60 k0_t11 v3581 v3584 k0_t16) a + S1x1x16.size a ≤ S3x40x512.size a)
def k0_chk11 (v58 : BitVec 32) (v60 : BitVec 32) (k0_t11 : Fin (k0_t11_loop v58 v60).trips) (v3581 : BitVec 32) (v3584 : BitVec 32) : Prop :=
  k0_chk11_0 v58 v60 k0_t11 v3581 v3584 ∧
  k0_chk11_1 v58 v60 k0_t11 v3581 v3584 ∧
  k0_chk11_2 v58 v60 k0_t11 v3581 v3584
theorem k0_t13_ok : ∀ (v58 : BitVec 32) (v60 : BitVec 32) (k0_t11 : Fin (k0_t11_loop v58 v60).trips) (v3581 : BitVec 32) (v3584 : BitVec 32) (k0_hw11 : k0_chk11 v58 v60 k0_t11 v3581 v3584), ∀ (k0_h1 : k0_cond1 v58 v60 = 1#1), ∀ (k0_h5 : k0_cond5 v58 v60 k0_t11 v3581 v3584 = 1#1), (k0_t13_loop v58 v60 k0_t11 v3581 v3584).OK := fun v58 v60 k0_t11 v3581 v3584 k0_hw11 k0_h1 k0_h5 => k0_hw11.1.1 k0_h1 k0_h5
theorem k0_off119_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t13 : Fin (k0_t13_loop v58 v60 k0_t11 v3581 v3584).trips), ∀ (k0_h1 : k0_cond1 v58 v60 = 1#1), ∀ (k0_h5 : k0_cond5 v58 v60 k0_t11 v3581 v3584 = 1#1), ∀ a, (k0_off119 v58 v60 k0_t11 v3581 v3584 k0_t13) a + S1x1x16.size a ≤ S3x40x512.size a := fun v58 v60 k0_t11 v3581 v3584 k0_hw11 k0_t13 k0_h1 k0_h5 => k0_hw11.1.2.1 k0_t13 k0_h1 k0_h5
theorem k0_off120_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t13 : Fin (k0_t13_loop v58 v60 k0_t11 v3581 v3584).trips), ∀ (k0_h1 : k0_cond1 v58 v60 = 1#1), ∀ (k0_h5 : k0_cond5 v58 v60 k0_t11 v3581 v3584 = 1#1), ∀ a, (k0_off120 v58 v60 k0_t11 v3581 v3584 k0_t13) a + S1x1x16.size a ≤ S3x40x512.size a := fun v58 v60 k0_t11 v3581 v3584 k0_hw11 k0_t13 k0_h1 k0_h5 => k0_hw11.1.2.2.1 k0_t13 k0_h1 k0_h5
theorem k0_off121_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t13 : Fin (k0_t13_loop v58 v60 k0_t11 v3581 v3584).trips), ∀ (k0_h1 : k0_cond1 v58 v60 = 1#1), ∀ (k0_h5 : k0_cond5 v58 v60 k0_t11 v3581 v3584 = 1#1), ∀ a, (k0_off121 v58 v60 k0_t11 v3581 v3584 k0_t13) a + S1x1x16.size a ≤ S3x40x512.size a := fun v58 v60 k0_t11 v3581 v3584 k0_hw11 k0_t13 k0_h1 k0_h5 => k0_hw11.1.2.2.2.1 k0_t13 k0_h1 k0_h5
theorem k0_off122_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t13 : Fin (k0_t13_loop v58 v60 k0_t11 v3581 v3584).trips), ∀ (k0_h1 : k0_cond1 v58 v60 = 1#1), ∀ (k0_h5 : k0_cond5 v58 v60 k0_t11 v3581 v3584 = 1#1), ∀ a, (k0_off122 v58 v60 k0_t11 v3581 v3584 k0_t13) a + S1x1x16.size a ≤ S3x40x512.size a := fun v58 v60 k0_t11 v3581 v3584 k0_hw11 k0_t13 k0_h1 k0_h5 => k0_hw11.1.2.2.2.2.1 k0_t13 k0_h1 k0_h5
theorem k0_off123_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t13 : Fin (k0_t13_loop v58 v60 k0_t11 v3581 v3584).trips), ∀ (k0_h1 : k0_cond1 v58 v60 = 1#1), ∀ (k0_h5 : k0_cond5 v58 v60 k0_t11 v3581 v3584 = 1#1), ∀ a, (k0_off123 v58 v60 k0_t11 v3581 v3584 k0_t13) a + S1x1x16.size a ≤ S3x40x512.size a := fun v58 v60 k0_t11 v3581 v3584 k0_hw11 k0_t13 k0_h1 k0_h5 => k0_hw11.1.2.2.2.2.2.1 k0_t13 k0_h1 k0_h5
theorem k0_off124_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t13 : Fin (k0_t13_loop v58 v60 k0_t11 v3581 v3584).trips), ∀ (k0_h1 : k0_cond1 v58 v60 = 1#1), ∀ (k0_h5 : k0_cond5 v58 v60 k0_t11 v3581 v3584 = 1#1), ∀ a, (k0_off124 v58 v60 k0_t11 v3581 v3584 k0_t13) a + S1x1x16.size a ≤ S3x40x512.size a := fun v58 v60 k0_t11 v3581 v3584 k0_hw11 k0_t13 k0_h1 k0_h5 => k0_hw11.1.2.2.2.2.2.2.1 k0_t13 k0_h1 k0_h5
theorem k0_off125_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t13 : Fin (k0_t13_loop v58 v60 k0_t11 v3581 v3584).trips), ∀ (k0_h1 : k0_cond1 v58 v60 = 1#1), ∀ (k0_h5 : k0_cond5 v58 v60 k0_t11 v3581 v3584 = 1#1), ∀ a, (k0_off125 v58 v60 k0_t11 v3581 v3584 k0_t13) a + S1x1x16.size a ≤ S3x40x512.size a := fun v58 v60 k0_t11 v3581 v3584 k0_hw11 k0_t13 k0_h1 k0_h5 => k0_hw11.1.2.2.2.2.2.2.2.1 k0_t13 k0_h1 k0_h5
theorem k0_off126_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t13 : Fin (k0_t13_loop v58 v60 k0_t11 v3581 v3584).trips), ∀ (k0_h1 : k0_cond1 v58 v60 = 1#1), ∀ (k0_h5 : k0_cond5 v58 v60 k0_t11 v3581 v3584 = 1#1), ∀ a, (k0_off126 v58 v60 k0_t11 v3581 v3584 k0_t13) a + S1x1x16.size a ≤ S3x40x512.size a := fun v58 v60 k0_t11 v3581 v3584 k0_hw11 k0_t13 k0_h1 k0_h5 => k0_hw11.1.2.2.2.2.2.2.2.2.1 k0_t13 k0_h1 k0_h5
theorem k0_off127_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t13 : Fin (k0_t13_loop v58 v60 k0_t11 v3581 v3584).trips), ∀ (k0_h1 : k0_cond1 v58 v60 = 1#1), ∀ (k0_h5 : k0_cond5 v58 v60 k0_t11 v3581 v3584 = 1#1), ∀ a, (k0_off127 v58 v60 k0_t11 v3581 v3584 k0_t13) a + S1x1x16.size a ≤ S3x40x512.size a := fun v58 v60 k0_t11 v3581 v3584 k0_hw11 k0_t13 k0_h1 k0_h5 => k0_hw11.1.2.2.2.2.2.2.2.2.2.1 k0_t13 k0_h1 k0_h5
theorem k0_off128_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t13 : Fin (k0_t13_loop v58 v60 k0_t11 v3581 v3584).trips), ∀ (k0_h1 : k0_cond1 v58 v60 = 1#1), ∀ (k0_h5 : k0_cond5 v58 v60 k0_t11 v3581 v3584 = 1#1), ∀ a, (k0_off128 v58 v60 k0_t11 v3581 v3584 k0_t13) a + S1x1x16.size a ≤ S3x40x512.size a := fun v58 v60 k0_t11 v3581 v3584 k0_hw11 k0_t13 k0_h1 k0_h5 => k0_hw11.1.2.2.2.2.2.2.2.2.2.2.1 k0_t13 k0_h1 k0_h5
theorem k0_off129_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t13 : Fin (k0_t13_loop v58 v60 k0_t11 v3581 v3584).trips), ∀ (k0_h1 : k0_cond1 v58 v60 = 1#1), ∀ (k0_h5 : k0_cond5 v58 v60 k0_t11 v3581 v3584 = 1#1), ∀ a, (k0_off129 v58 v60 k0_t11 v3581 v3584 k0_t13) a + S1x1x16.size a ≤ S3x40x512.size a := fun v58 v60 k0_t11 v3581 v3584 k0_hw11 k0_t13 k0_h1 k0_h5 => k0_hw11.1.2.2.2.2.2.2.2.2.2.2.2.1 k0_t13 k0_h1 k0_h5
theorem k0_off130_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t13 : Fin (k0_t13_loop v58 v60 k0_t11 v3581 v3584).trips), ∀ (k0_h1 : k0_cond1 v58 v60 = 1#1), ∀ (k0_h5 : k0_cond5 v58 v60 k0_t11 v3581 v3584 = 1#1), ∀ a, (k0_off130 v58 v60 k0_t11 v3581 v3584 k0_t13) a + S1x1x16.size a ≤ S3x40x512.size a := fun v58 v60 k0_t11 v3581 v3584 k0_hw11 k0_t13 k0_h1 k0_h5 => k0_hw11.1.2.2.2.2.2.2.2.2.2.2.2.2.1 k0_t13 k0_h1 k0_h5
theorem k0_off131_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t13 : Fin (k0_t13_loop v58 v60 k0_t11 v3581 v3584).trips), ∀ (k0_h1 : k0_cond1 v58 v60 = 1#1), ∀ (k0_h5 : k0_cond5 v58 v60 k0_t11 v3581 v3584 = 1#1), ∀ a, (k0_off131 v58 v60 k0_t11 v3581 v3584 k0_t13) a + S1x1x16.size a ≤ S3x40x512.size a := fun v58 v60 k0_t11 v3581 v3584 k0_hw11 k0_t13 k0_h1 k0_h5 => k0_hw11.1.2.2.2.2.2.2.2.2.2.2.2.2.2.1 k0_t13 k0_h1 k0_h5
theorem k0_off132_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t13 : Fin (k0_t13_loop v58 v60 k0_t11 v3581 v3584).trips), ∀ (k0_h1 : k0_cond1 v58 v60 = 1#1), ∀ (k0_h5 : k0_cond5 v58 v60 k0_t11 v3581 v3584 = 1#1), ∀ a, (k0_off132 v58 v60 k0_t11 v3581 v3584 k0_t13) a + S1x1x16.size a ≤ S3x40x512.size a := fun v58 v60 k0_t11 v3581 v3584 k0_hw11 k0_t13 k0_h1 k0_h5 => k0_hw11.1.2.2.2.2.2.2.2.2.2.2.2.2.2.2.1 k0_t13 k0_h1 k0_h5
theorem k0_off133_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t13 : Fin (k0_t13_loop v58 v60 k0_t11 v3581 v3584).trips), ∀ (k0_h1 : k0_cond1 v58 v60 = 1#1), ∀ (k0_h5 : k0_cond5 v58 v60 k0_t11 v3581 v3584 = 1#1), ∀ a, (k0_off133 v58 v60 k0_t11 v3581 v3584 k0_t13) a + S1x1x16.size a ≤ S3x40x512.size a := fun v58 v60 k0_t11 v3581 v3584 k0_hw11 k0_t13 k0_h1 k0_h5 => k0_hw11.1.2.2.2.2.2.2.2.2.2.2.2.2.2.2.2.1 k0_t13 k0_h1 k0_h5
theorem k0_off134_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t13 : Fin (k0_t13_loop v58 v60 k0_t11 v3581 v3584).trips), ∀ (k0_h1 : k0_cond1 v58 v60 = 1#1), ∀ (k0_h5 : k0_cond5 v58 v60 k0_t11 v3581 v3584 = 1#1), ∀ a, (k0_off134 v58 v60 k0_t11 v3581 v3584 k0_t13) a + S1x1x16.size a ≤ S3x40x512.size a := fun v58 v60 k0_t11 v3581 v3584 k0_hw11 k0_t13 k0_h1 k0_h5 => k0_hw11.1.2.2.2.2.2.2.2.2.2.2.2.2.2.2.2.2.1 k0_t13 k0_h1 k0_h5
theorem k0_t14_ok : ∀ (v58 : BitVec 32) (v60 : BitVec 32) (k0_t11 : Fin (k0_t11_loop v58 v60).trips) (v3581 : BitVec 32) (v3584 : BitVec 32) (k0_hw11 : k0_chk11 v58 v60 k0_t11 v3581 v3584), ∀ (k0_h1 : k0_cond1 v58 v60 = 1#1), ∀ (k0_h5 : k0_cond5 v58 v60 k0_t11 v3581 v3584 = 1#1), (k0_t14_loop v58 v60 k0_t11 v3581 v3584).OK := fun v58 v60 k0_t11 v3581 v3584 k0_hw11 k0_h1 k0_h5 => k0_hw11.1.2.2.2.2.2.2.2.2.2.2.2.2.2.2.2.2.2.1 k0_h1 k0_h5
theorem k0_off135_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t14 : Fin (k0_t14_loop v58 v60 k0_t11 v3581 v3584).trips), ∀ (k0_h1 : k0_cond1 v58 v60 = 1#1), ∀ (k0_h5 : k0_cond5 v58 v60 k0_t11 v3581 v3584 = 1#1), ∀ a, (k0_off135 v58 v60 k0_t11 v3581 v3584 k0_t14) a + S1x1x16.size a ≤ S3x40x512.size a := fun v58 v60 k0_t11 v3581 v3584 k0_hw11 k0_t14 k0_h1 k0_h5 => k0_hw11.1.2.2.2.2.2.2.2.2.2.2.2.2.2.2.2.2.2.2.1 k0_t14 k0_h1 k0_h5
theorem k0_off136_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t14 : Fin (k0_t14_loop v58 v60 k0_t11 v3581 v3584).trips), ∀ (k0_h1 : k0_cond1 v58 v60 = 1#1), ∀ (k0_h5 : k0_cond5 v58 v60 k0_t11 v3581 v3584 = 1#1), ∀ a, (k0_off136 v58 v60 k0_t11 v3581 v3584 k0_t14) a + S1x1x16.size a ≤ S3x40x512.size a := fun v58 v60 k0_t11 v3581 v3584 k0_hw11 k0_t14 k0_h1 k0_h5 => k0_hw11.1.2.2.2.2.2.2.2.2.2.2.2.2.2.2.2.2.2.2.2.1 k0_t14 k0_h1 k0_h5
theorem k0_off137_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t14 : Fin (k0_t14_loop v58 v60 k0_t11 v3581 v3584).trips), ∀ (k0_h1 : k0_cond1 v58 v60 = 1#1), ∀ (k0_h5 : k0_cond5 v58 v60 k0_t11 v3581 v3584 = 1#1), ∀ a, (k0_off137 v58 v60 k0_t11 v3581 v3584 k0_t14) a + S1x1x16.size a ≤ S3x40x512.size a := fun v58 v60 k0_t11 v3581 v3584 k0_hw11 k0_t14 k0_h1 k0_h5 => k0_hw11.1.2.2.2.2.2.2.2.2.2.2.2.2.2.2.2.2.2.2.2.2.1 k0_t14 k0_h1 k0_h5
theorem k0_off138_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t14 : Fin (k0_t14_loop v58 v60 k0_t11 v3581 v3584).trips), ∀ (k0_h1 : k0_cond1 v58 v60 = 1#1), ∀ (k0_h5 : k0_cond5 v58 v60 k0_t11 v3581 v3584 = 1#1), ∀ a, (k0_off138 v58 v60 k0_t11 v3581 v3584 k0_t14) a + S1x1x16.size a ≤ S3x40x512.size a := fun v58 v60 k0_t11 v3581 v3584 k0_hw11 k0_t14 k0_h1 k0_h5 => k0_hw11.1.2.2.2.2.2.2.2.2.2.2.2.2.2.2.2.2.2.2.2.2.2.1 k0_t14 k0_h1 k0_h5
theorem k0_off139_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t14 : Fin (k0_t14_loop v58 v60 k0_t11 v3581 v3584).trips), ∀ (k0_h1 : k0_cond1 v58 v60 = 1#1), ∀ (k0_h5 : k0_cond5 v58 v60 k0_t11 v3581 v3584 = 1#1), ∀ a, (k0_off139 v58 v60 k0_t11 v3581 v3584 k0_t14) a + S1x1x16.size a ≤ S3x40x512.size a := fun v58 v60 k0_t11 v3581 v3584 k0_hw11 k0_t14 k0_h1 k0_h5 => k0_hw11.1.2.2.2.2.2.2.2.2.2.2.2.2.2.2.2.2.2.2.2.2.2.2.1 k0_t14 k0_h1 k0_h5
theorem k0_off140_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t14 : Fin (k0_t14_loop v58 v60 k0_t11 v3581 v3584).trips), ∀ (k0_h1 : k0_cond1 v58 v60 = 1#1), ∀ (k0_h5 : k0_cond5 v58 v60 k0_t11 v3581 v3584 = 1#1), ∀ a, (k0_off140 v58 v60 k0_t11 v3581 v3584 k0_t14) a + S1x1x16.size a ≤ S3x40x512.size a := fun v58 v60 k0_t11 v3581 v3584 k0_hw11 k0_t14 k0_h1 k0_h5 => k0_hw11.1.2.2.2.2.2.2.2.2.2.2.2.2.2.2.2.2.2.2.2.2.2.2.2.1 k0_t14 k0_h1 k0_h5
theorem k0_off141_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t14 : Fin (k0_t14_loop v58 v60 k0_t11 v3581 v3584).trips), ∀ (k0_h1 : k0_cond1 v58 v60 = 1#1), ∀ (k0_h5 : k0_cond5 v58 v60 k0_t11 v3581 v3584 = 1#1), ∀ a, (k0_off141 v58 v60 k0_t11 v3581 v3584 k0_t14) a + S1x1x16.size a ≤ S3x40x512.size a := fun v58 v60 k0_t11 v3581 v3584 k0_hw11 k0_t14 k0_h1 k0_h5 => k0_hw11.1.2.2.2.2.2.2.2.2.2.2.2.2.2.2.2.2.2.2.2.2.2.2.2.2.1 k0_t14 k0_h1 k0_h5
theorem k0_off142_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t14 : Fin (k0_t14_loop v58 v60 k0_t11 v3581 v3584).trips), ∀ (k0_h1 : k0_cond1 v58 v60 = 1#1), ∀ (k0_h5 : k0_cond5 v58 v60 k0_t11 v3581 v3584 = 1#1), ∀ a, (k0_off142 v58 v60 k0_t11 v3581 v3584 k0_t14) a + S1x1x16.size a ≤ S3x40x512.size a := fun v58 v60 k0_t11 v3581 v3584 k0_hw11 k0_t14 k0_h1 k0_h5 => k0_hw11.1.2.2.2.2.2.2.2.2.2.2.2.2.2.2.2.2.2.2.2.2.2.2.2.2.2.1 k0_t14 k0_h1 k0_h5
theorem k0_off143_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t14 : Fin (k0_t14_loop v58 v60 k0_t11 v3581 v3584).trips), ∀ (k0_h1 : k0_cond1 v58 v60 = 1#1), ∀ (k0_h5 : k0_cond5 v58 v60 k0_t11 v3581 v3584 = 1#1), ∀ a, (k0_off143 v58 v60 k0_t11 v3581 v3584 k0_t14) a + S1x1x16.size a ≤ S3x40x512.size a := fun v58 v60 k0_t11 v3581 v3584 k0_hw11 k0_t14 k0_h1 k0_h5 => k0_hw11.1.2.2.2.2.2.2.2.2.2.2.2.2.2.2.2.2.2.2.2.2.2.2.2.2.2.2.1 k0_t14 k0_h1 k0_h5
theorem k0_off144_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t14 : Fin (k0_t14_loop v58 v60 k0_t11 v3581 v3584).trips), ∀ (k0_h1 : k0_cond1 v58 v60 = 1#1), ∀ (k0_h5 : k0_cond5 v58 v60 k0_t11 v3581 v3584 = 1#1), ∀ a, (k0_off144 v58 v60 k0_t11 v3581 v3584 k0_t14) a + S1x1x16.size a ≤ S3x40x512.size a := fun v58 v60 k0_t11 v3581 v3584 k0_hw11 k0_t14 k0_h1 k0_h5 => k0_hw11.1.2.2.2.2.2.2.2.2.2.2.2.2.2.2.2.2.2.2.2.2.2.2.2.2.2.2.2.1 k0_t14 k0_h1 k0_h5
theorem k0_off145_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t14 : Fin (k0_t14_loop v58 v60 k0_t11 v3581 v3584).trips), ∀ (k0_h1 : k0_cond1 v58 v60 = 1#1), ∀ (k0_h5 : k0_cond5 v58 v60 k0_t11 v3581 v3584 = 1#1), ∀ a, (k0_off145 v58 v60 k0_t11 v3581 v3584 k0_t14) a + S1x1x16.size a ≤ S3x40x512.size a := fun v58 v60 k0_t11 v3581 v3584 k0_hw11 k0_t14 k0_h1 k0_h5 => k0_hw11.1.2.2.2.2.2.2.2.2.2.2.2.2.2.2.2.2.2.2.2.2.2.2.2.2.2.2.2.2.1 k0_t14 k0_h1 k0_h5
theorem k0_off146_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t14 : Fin (k0_t14_loop v58 v60 k0_t11 v3581 v3584).trips), ∀ (k0_h1 : k0_cond1 v58 v60 = 1#1), ∀ (k0_h5 : k0_cond5 v58 v60 k0_t11 v3581 v3584 = 1#1), ∀ a, (k0_off146 v58 v60 k0_t11 v3581 v3584 k0_t14) a + S1x1x16.size a ≤ S3x40x512.size a := fun v58 v60 k0_t11 v3581 v3584 k0_hw11 k0_t14 k0_h1 k0_h5 => k0_hw11.1.2.2.2.2.2.2.2.2.2.2.2.2.2.2.2.2.2.2.2.2.2.2.2.2.2.2.2.2.2.1 k0_t14 k0_h1 k0_h5
theorem k0_off147_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t14 : Fin (k0_t14_loop v58 v60 k0_t11 v3581 v3584).trips), ∀ (k0_h1 : k0_cond1 v58 v60 = 1#1), ∀ (k0_h5 : k0_cond5 v58 v60 k0_t11 v3581 v3584 = 1#1), ∀ a, (k0_off147 v58 v60 k0_t11 v3581 v3584 k0_t14) a + S1x1x16.size a ≤ S3x40x512.size a := fun v58 v60 k0_t11 v3581 v3584 k0_hw11 k0_t14 k0_h1 k0_h5 => k0_hw11.1.2.2.2.2.2.2.2.2.2.2.2.2.2.2.2.2.2.2.2.2.2.2.2.2.2.2.2.2.2.2.1 k0_t14 k0_h1 k0_h5
theorem k0_off148_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t14 : Fin (k0_t14_loop v58 v60 k0_t11 v3581 v3584).trips), ∀ (k0_h1 : k0_cond1 v58 v60 = 1#1), ∀ (k0_h5 : k0_cond5 v58 v60 k0_t11 v3581 v3584 = 1#1), ∀ a, (k0_off148 v58 v60 k0_t11 v3581 v3584 k0_t14) a + S1x1x16.size a ≤ S3x40x512.size a := fun v58 v60 k0_t11 v3581 v3584 k0_hw11 k0_t14 k0_h1 k0_h5 => k0_hw11.1.2.2.2.2.2.2.2.2.2.2.2.2.2.2.2.2.2.2.2.2.2.2.2.2.2.2.2.2.2.2.2 k0_t14 k0_h1 k0_h5
theorem k0_off149_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t14 : Fin (k0_t14_loop v58 v60 k0_t11 v3581 v3584).trips), ∀ (k0_h1 : k0_cond1 v58 v60 = 1#1), ∀ (k0_h5 : k0_cond5 v58 v60 k0_t11 v3581 v3584 = 1#1), ∀ a, (k0_off149 v58 v60 k0_t11 v3581 v3584 k0_t14) a + S1x1x16.size a ≤ S3x40x512.size a := fun v58 v60 k0_t11 v3581 v3584 k0_hw11 k0_t14 k0_h1 k0_h5 => k0_hw11.2.1.1 k0_t14 k0_h1 k0_h5
theorem k0_off150_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t14 : Fin (k0_t14_loop v58 v60 k0_t11 v3581 v3584).trips), ∀ (k0_h1 : k0_cond1 v58 v60 = 1#1), ∀ (k0_h5 : k0_cond5 v58 v60 k0_t11 v3581 v3584 = 1#1), ∀ a, (k0_off150 v58 v60 k0_t11 v3581 v3584 k0_t14) a + S1x1x16.size a ≤ S3x40x512.size a := fun v58 v60 k0_t11 v3581 v3584 k0_hw11 k0_t14 k0_h1 k0_h5 => k0_hw11.2.1.2.1 k0_t14 k0_h1 k0_h5
theorem k0_t15_ok : ∀ (v58 : BitVec 32) (v60 : BitVec 32) (k0_t11 : Fin (k0_t11_loop v58 v60).trips) (v3581 : BitVec 32) (v3584 : BitVec 32) (k0_hw11 : k0_chk11 v58 v60 k0_t11 v3581 v3584), ∀ (k0_h1 : k0_cond1 v58 v60 = 1#1), ∀ (k0_h5 : k0_cond5 v58 v60 k0_t11 v3581 v3584 = 1#1), (k0_t15_loop v58 v60 k0_t11 v3581 v3584).OK := fun v58 v60 k0_t11 v3581 v3584 k0_hw11 k0_h1 k0_h5 => k0_hw11.2.1.2.2.1 k0_h1 k0_h5
theorem k0_off183_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t15 : Fin (k0_t15_loop v58 v60 k0_t11 v3581 v3584).trips), ∀ (k0_h1 : k0_cond1 v58 v60 = 1#1), ∀ (k0_h5 : k0_cond5 v58 v60 k0_t11 v3581 v3584 = 1#1), ∀ a, (k0_off183 v58 v60 k0_t11 v3581 v3584 k0_t15) a + S1x1x16.size a ≤ S3x40x512.size a := fun v58 v60 k0_t11 v3581 v3584 k0_hw11 k0_t15 k0_h1 k0_h5 => k0_hw11.2.1.2.2.2.1 k0_t15 k0_h1 k0_h5
theorem k0_off184_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t15 : Fin (k0_t15_loop v58 v60 k0_t11 v3581 v3584).trips), ∀ (k0_h1 : k0_cond1 v58 v60 = 1#1), ∀ (k0_h5 : k0_cond5 v58 v60 k0_t11 v3581 v3584 = 1#1), ∀ a, (k0_off184 v58 v60 k0_t11 v3581 v3584 k0_t15) a + S1x1x16.size a ≤ S3x40x512.size a := fun v58 v60 k0_t11 v3581 v3584 k0_hw11 k0_t15 k0_h1 k0_h5 => k0_hw11.2.1.2.2.2.2.1 k0_t15 k0_h1 k0_h5
theorem k0_off185_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t15 : Fin (k0_t15_loop v58 v60 k0_t11 v3581 v3584).trips), ∀ (k0_h1 : k0_cond1 v58 v60 = 1#1), ∀ (k0_h5 : k0_cond5 v58 v60 k0_t11 v3581 v3584 = 1#1), ∀ a, (k0_off185 v58 v60 k0_t11 v3581 v3584 k0_t15) a + S1x1x16.size a ≤ S3x40x512.size a := fun v58 v60 k0_t11 v3581 v3584 k0_hw11 k0_t15 k0_h1 k0_h5 => k0_hw11.2.1.2.2.2.2.2.1 k0_t15 k0_h1 k0_h5
theorem k0_off186_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t15 : Fin (k0_t15_loop v58 v60 k0_t11 v3581 v3584).trips), ∀ (k0_h1 : k0_cond1 v58 v60 = 1#1), ∀ (k0_h5 : k0_cond5 v58 v60 k0_t11 v3581 v3584 = 1#1), ∀ a, (k0_off186 v58 v60 k0_t11 v3581 v3584 k0_t15) a + S1x1x16.size a ≤ S3x40x512.size a := fun v58 v60 k0_t11 v3581 v3584 k0_hw11 k0_t15 k0_h1 k0_h5 => k0_hw11.2.1.2.2.2.2.2.2.1 k0_t15 k0_h1 k0_h5
theorem k0_off187_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t15 : Fin (k0_t15_loop v58 v60 k0_t11 v3581 v3584).trips), ∀ (k0_h1 : k0_cond1 v58 v60 = 1#1), ∀ (k0_h5 : k0_cond5 v58 v60 k0_t11 v3581 v3584 = 1#1), ∀ a, (k0_off187 v58 v60 k0_t11 v3581 v3584 k0_t15) a + S1x1x16.size a ≤ S3x40x512.size a := fun v58 v60 k0_t11 v3581 v3584 k0_hw11 k0_t15 k0_h1 k0_h5 => k0_hw11.2.1.2.2.2.2.2.2.2.1 k0_t15 k0_h1 k0_h5
theorem k0_off188_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t15 : Fin (k0_t15_loop v58 v60 k0_t11 v3581 v3584).trips), ∀ (k0_h1 : k0_cond1 v58 v60 = 1#1), ∀ (k0_h5 : k0_cond5 v58 v60 k0_t11 v3581 v3584 = 1#1), ∀ a, (k0_off188 v58 v60 k0_t11 v3581 v3584 k0_t15) a + S1x1x16.size a ≤ S3x40x512.size a := fun v58 v60 k0_t11 v3581 v3584 k0_hw11 k0_t15 k0_h1 k0_h5 => k0_hw11.2.1.2.2.2.2.2.2.2.2.1 k0_t15 k0_h1 k0_h5
theorem k0_off189_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t15 : Fin (k0_t15_loop v58 v60 k0_t11 v3581 v3584).trips), ∀ (k0_h1 : k0_cond1 v58 v60 = 1#1), ∀ (k0_h5 : k0_cond5 v58 v60 k0_t11 v3581 v3584 = 1#1), ∀ a, (k0_off189 v58 v60 k0_t11 v3581 v3584 k0_t15) a + S1x1x16.size a ≤ S3x40x512.size a := fun v58 v60 k0_t11 v3581 v3584 k0_hw11 k0_t15 k0_h1 k0_h5 => k0_hw11.2.1.2.2.2.2.2.2.2.2.2.1 k0_t15 k0_h1 k0_h5
theorem k0_off190_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t15 : Fin (k0_t15_loop v58 v60 k0_t11 v3581 v3584).trips), ∀ (k0_h1 : k0_cond1 v58 v60 = 1#1), ∀ (k0_h5 : k0_cond5 v58 v60 k0_t11 v3581 v3584 = 1#1), ∀ a, (k0_off190 v58 v60 k0_t11 v3581 v3584 k0_t15) a + S1x1x16.size a ≤ S3x40x512.size a := fun v58 v60 k0_t11 v3581 v3584 k0_hw11 k0_t15 k0_h1 k0_h5 => k0_hw11.2.1.2.2.2.2.2.2.2.2.2.2.1 k0_t15 k0_h1 k0_h5
theorem k0_off191_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t15 : Fin (k0_t15_loop v58 v60 k0_t11 v3581 v3584).trips), ∀ (k0_h1 : k0_cond1 v58 v60 = 1#1), ∀ (k0_h5 : k0_cond5 v58 v60 k0_t11 v3581 v3584 = 1#1), ∀ a, (k0_off191 v58 v60 k0_t11 v3581 v3584 k0_t15) a + S1x1x16.size a ≤ S3x40x512.size a := fun v58 v60 k0_t11 v3581 v3584 k0_hw11 k0_t15 k0_h1 k0_h5 => k0_hw11.2.1.2.2.2.2.2.2.2.2.2.2.2.1 k0_t15 k0_h1 k0_h5
theorem k0_off192_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t15 : Fin (k0_t15_loop v58 v60 k0_t11 v3581 v3584).trips), ∀ (k0_h1 : k0_cond1 v58 v60 = 1#1), ∀ (k0_h5 : k0_cond5 v58 v60 k0_t11 v3581 v3584 = 1#1), ∀ a, (k0_off192 v58 v60 k0_t11 v3581 v3584 k0_t15) a + S1x1x16.size a ≤ S3x40x512.size a := fun v58 v60 k0_t11 v3581 v3584 k0_hw11 k0_t15 k0_h1 k0_h5 => k0_hw11.2.1.2.2.2.2.2.2.2.2.2.2.2.2.1 k0_t15 k0_h1 k0_h5
theorem k0_off193_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t15 : Fin (k0_t15_loop v58 v60 k0_t11 v3581 v3584).trips), ∀ (k0_h1 : k0_cond1 v58 v60 = 1#1), ∀ (k0_h5 : k0_cond5 v58 v60 k0_t11 v3581 v3584 = 1#1), ∀ a, (k0_off193 v58 v60 k0_t11 v3581 v3584 k0_t15) a + S1x1x16.size a ≤ S3x40x512.size a := fun v58 v60 k0_t11 v3581 v3584 k0_hw11 k0_t15 k0_h1 k0_h5 => k0_hw11.2.1.2.2.2.2.2.2.2.2.2.2.2.2.2.1 k0_t15 k0_h1 k0_h5
theorem k0_off194_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t15 : Fin (k0_t15_loop v58 v60 k0_t11 v3581 v3584).trips), ∀ (k0_h1 : k0_cond1 v58 v60 = 1#1), ∀ (k0_h5 : k0_cond5 v58 v60 k0_t11 v3581 v3584 = 1#1), ∀ a, (k0_off194 v58 v60 k0_t11 v3581 v3584 k0_t15) a + S1x1x16.size a ≤ S3x40x512.size a := fun v58 v60 k0_t11 v3581 v3584 k0_hw11 k0_t15 k0_h1 k0_h5 => k0_hw11.2.1.2.2.2.2.2.2.2.2.2.2.2.2.2.2.1 k0_t15 k0_h1 k0_h5
theorem k0_off195_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t15 : Fin (k0_t15_loop v58 v60 k0_t11 v3581 v3584).trips), ∀ (k0_h1 : k0_cond1 v58 v60 = 1#1), ∀ (k0_h5 : k0_cond5 v58 v60 k0_t11 v3581 v3584 = 1#1), ∀ a, (k0_off195 v58 v60 k0_t11 v3581 v3584 k0_t15) a + S1x1x16.size a ≤ S3x40x512.size a := fun v58 v60 k0_t11 v3581 v3584 k0_hw11 k0_t15 k0_h1 k0_h5 => k0_hw11.2.1.2.2.2.2.2.2.2.2.2.2.2.2.2.2.2.1 k0_t15 k0_h1 k0_h5
theorem k0_off196_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t15 : Fin (k0_t15_loop v58 v60 k0_t11 v3581 v3584).trips), ∀ (k0_h1 : k0_cond1 v58 v60 = 1#1), ∀ (k0_h5 : k0_cond5 v58 v60 k0_t11 v3581 v3584 = 1#1), ∀ a, (k0_off196 v58 v60 k0_t11 v3581 v3584 k0_t15) a + S1x1x16.size a ≤ S3x40x512.size a := fun v58 v60 k0_t11 v3581 v3584 k0_hw11 k0_t15 k0_h1 k0_h5 => k0_hw11.2.1.2.2.2.2.2.2.2.2.2.2.2.2.2.2.2.2.1 k0_t15 k0_h1 k0_h5
theorem k0_off197_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t15 : Fin (k0_t15_loop v58 v60 k0_t11 v3581 v3584).trips), ∀ (k0_h1 : k0_cond1 v58 v60 = 1#1), ∀ (k0_h5 : k0_cond5 v58 v60 k0_t11 v3581 v3584 = 1#1), ∀ a, (k0_off197 v58 v60 k0_t11 v3581 v3584 k0_t15) a + S1x1x16.size a ≤ S3x40x512.size a := fun v58 v60 k0_t11 v3581 v3584 k0_hw11 k0_t15 k0_h1 k0_h5 => k0_hw11.2.1.2.2.2.2.2.2.2.2.2.2.2.2.2.2.2.2.2.1 k0_t15 k0_h1 k0_h5
theorem k0_off198_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t15 : Fin (k0_t15_loop v58 v60 k0_t11 v3581 v3584).trips), ∀ (k0_h1 : k0_cond1 v58 v60 = 1#1), ∀ (k0_h5 : k0_cond5 v58 v60 k0_t11 v3581 v3584 = 1#1), ∀ a, (k0_off198 v58 v60 k0_t11 v3581 v3584 k0_t15) a + S1x1x16.size a ≤ S3x40x512.size a := fun v58 v60 k0_t11 v3581 v3584 k0_hw11 k0_t15 k0_h1 k0_h5 => k0_hw11.2.1.2.2.2.2.2.2.2.2.2.2.2.2.2.2.2.2.2.2.1 k0_t15 k0_h1 k0_h5
theorem k0_t16_ok : ∀ (v58 : BitVec 32) (v60 : BitVec 32) (k0_t11 : Fin (k0_t11_loop v58 v60).trips) (v3581 : BitVec 32) (v3584 : BitVec 32) (k0_hw11 : k0_chk11 v58 v60 k0_t11 v3581 v3584), ∀ (k0_h1 : k0_cond1 v58 v60 = 1#1), ∀ (k0_h5 : k0_cond5 v58 v60 k0_t11 v3581 v3584 = 1#1), (k0_t16_loop v58 v60 k0_t11 v3581 v3584).OK := fun v58 v60 k0_t11 v3581 v3584 k0_hw11 k0_h1 k0_h5 => k0_hw11.2.1.2.2.2.2.2.2.2.2.2.2.2.2.2.2.2.2.2.2.2.1 k0_h1 k0_h5
theorem k0_off199_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t16 : Fin (k0_t16_loop v58 v60 k0_t11 v3581 v3584).trips), ∀ (k0_h1 : k0_cond1 v58 v60 = 1#1), ∀ (k0_h5 : k0_cond5 v58 v60 k0_t11 v3581 v3584 = 1#1), ∀ a, (k0_off199 v58 v60 k0_t11 v3581 v3584 k0_t16) a + S1x1x16.size a ≤ S3x40x512.size a := fun v58 v60 k0_t11 v3581 v3584 k0_hw11 k0_t16 k0_h1 k0_h5 => k0_hw11.2.1.2.2.2.2.2.2.2.2.2.2.2.2.2.2.2.2.2.2.2.2.1 k0_t16 k0_h1 k0_h5
theorem k0_off200_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t16 : Fin (k0_t16_loop v58 v60 k0_t11 v3581 v3584).trips), ∀ (k0_h1 : k0_cond1 v58 v60 = 1#1), ∀ (k0_h5 : k0_cond5 v58 v60 k0_t11 v3581 v3584 = 1#1), ∀ a, (k0_off200 v58 v60 k0_t11 v3581 v3584 k0_t16) a + S1x1x16.size a ≤ S3x40x512.size a := fun v58 v60 k0_t11 v3581 v3584 k0_hw11 k0_t16 k0_h1 k0_h5 => k0_hw11.2.1.2.2.2.2.2.2.2.2.2.2.2.2.2.2.2.2.2.2.2.2.2.1 k0_t16 k0_h1 k0_h5
theorem k0_off201_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t16 : Fin (k0_t16_loop v58 v60 k0_t11 v3581 v3584).trips), ∀ (k0_h1 : k0_cond1 v58 v60 = 1#1), ∀ (k0_h5 : k0_cond5 v58 v60 k0_t11 v3581 v3584 = 1#1), ∀ a, (k0_off201 v58 v60 k0_t11 v3581 v3584 k0_t16) a + S1x1x16.size a ≤ S3x40x512.size a := fun v58 v60 k0_t11 v3581 v3584 k0_hw11 k0_t16 k0_h1 k0_h5 => k0_hw11.2.1.2.2.2.2.2.2.2.2.2.2.2.2.2.2.2.2.2.2.2.2.2.2.1 k0_t16 k0_h1 k0_h5
theorem k0_off202_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t16 : Fin (k0_t16_loop v58 v60 k0_t11 v3581 v3584).trips), ∀ (k0_h1 : k0_cond1 v58 v60 = 1#1), ∀ (k0_h5 : k0_cond5 v58 v60 k0_t11 v3581 v3584 = 1#1), ∀ a, (k0_off202 v58 v60 k0_t11 v3581 v3584 k0_t16) a + S1x1x16.size a ≤ S3x40x512.size a := fun v58 v60 k0_t11 v3581 v3584 k0_hw11 k0_t16 k0_h1 k0_h5 => k0_hw11.2.1.2.2.2.2.2.2.2.2.2.2.2.2.2.2.2.2.2.2.2.2.2.2.2.1 k0_t16 k0_h1 k0_h5
theorem k0_off203_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t16 : Fin (k0_t16_loop v58 v60 k0_t11 v3581 v3584).trips), ∀ (k0_h1 : k0_cond1 v58 v60 = 1#1), ∀ (k0_h5 : k0_cond5 v58 v60 k0_t11 v3581 v3584 = 1#1), ∀ a, (k0_off203 v58 v60 k0_t11 v3581 v3584 k0_t16) a + S1x1x16.size a ≤ S3x40x512.size a := fun v58 v60 k0_t11 v3581 v3584 k0_hw11 k0_t16 k0_h1 k0_h5 => k0_hw11.2.1.2.2.2.2.2.2.2.2.2.2.2.2.2.2.2.2.2.2.2.2.2.2.2.2.1 k0_t16 k0_h1 k0_h5
theorem k0_off204_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t16 : Fin (k0_t16_loop v58 v60 k0_t11 v3581 v3584).trips), ∀ (k0_h1 : k0_cond1 v58 v60 = 1#1), ∀ (k0_h5 : k0_cond5 v58 v60 k0_t11 v3581 v3584 = 1#1), ∀ a, (k0_off204 v58 v60 k0_t11 v3581 v3584 k0_t16) a + S1x1x16.size a ≤ S3x40x512.size a := fun v58 v60 k0_t11 v3581 v3584 k0_hw11 k0_t16 k0_h1 k0_h5 => k0_hw11.2.1.2.2.2.2.2.2.2.2.2.2.2.2.2.2.2.2.2.2.2.2.2.2.2.2.2.1 k0_t16 k0_h1 k0_h5
theorem k0_off205_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t16 : Fin (k0_t16_loop v58 v60 k0_t11 v3581 v3584).trips), ∀ (k0_h1 : k0_cond1 v58 v60 = 1#1), ∀ (k0_h5 : k0_cond5 v58 v60 k0_t11 v3581 v3584 = 1#1), ∀ a, (k0_off205 v58 v60 k0_t11 v3581 v3584 k0_t16) a + S1x1x16.size a ≤ S3x40x512.size a := fun v58 v60 k0_t11 v3581 v3584 k0_hw11 k0_t16 k0_h1 k0_h5 => k0_hw11.2.1.2.2.2.2.2.2.2.2.2.2.2.2.2.2.2.2.2.2.2.2.2.2.2.2.2.2.1 k0_t16 k0_h1 k0_h5
theorem k0_off206_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t16 : Fin (k0_t16_loop v58 v60 k0_t11 v3581 v3584).trips), ∀ (k0_h1 : k0_cond1 v58 v60 = 1#1), ∀ (k0_h5 : k0_cond5 v58 v60 k0_t11 v3581 v3584 = 1#1), ∀ a, (k0_off206 v58 v60 k0_t11 v3581 v3584 k0_t16) a + S1x1x16.size a ≤ S3x40x512.size a := fun v58 v60 k0_t11 v3581 v3584 k0_hw11 k0_t16 k0_h1 k0_h5 => k0_hw11.2.1.2.2.2.2.2.2.2.2.2.2.2.2.2.2.2.2.2.2.2.2.2.2.2.2.2.2.2.1 k0_t16 k0_h1 k0_h5
theorem k0_off207_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t16 : Fin (k0_t16_loop v58 v60 k0_t11 v3581 v3584).trips), ∀ (k0_h1 : k0_cond1 v58 v60 = 1#1), ∀ (k0_h5 : k0_cond5 v58 v60 k0_t11 v3581 v3584 = 1#1), ∀ a, (k0_off207 v58 v60 k0_t11 v3581 v3584 k0_t16) a + S1x1x16.size a ≤ S3x40x512.size a := fun v58 v60 k0_t11 v3581 v3584 k0_hw11 k0_t16 k0_h1 k0_h5 => k0_hw11.2.1.2.2.2.2.2.2.2.2.2.2.2.2.2.2.2.2.2.2.2.2.2.2.2.2.2.2.2.2.1 k0_t16 k0_h1 k0_h5
theorem k0_off208_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t16 : Fin (k0_t16_loop v58 v60 k0_t11 v3581 v3584).trips), ∀ (k0_h1 : k0_cond1 v58 v60 = 1#1), ∀ (k0_h5 : k0_cond5 v58 v60 k0_t11 v3581 v3584 = 1#1), ∀ a, (k0_off208 v58 v60 k0_t11 v3581 v3584 k0_t16) a + S1x1x16.size a ≤ S3x40x512.size a := fun v58 v60 k0_t11 v3581 v3584 k0_hw11 k0_t16 k0_h1 k0_h5 => k0_hw11.2.1.2.2.2.2.2.2.2.2.2.2.2.2.2.2.2.2.2.2.2.2.2.2.2.2.2.2.2.2.2.1 k0_t16 k0_h1 k0_h5
theorem k0_off209_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t16 : Fin (k0_t16_loop v58 v60 k0_t11 v3581 v3584).trips), ∀ (k0_h1 : k0_cond1 v58 v60 = 1#1), ∀ (k0_h5 : k0_cond5 v58 v60 k0_t11 v3581 v3584 = 1#1), ∀ a, (k0_off209 v58 v60 k0_t11 v3581 v3584 k0_t16) a + S1x1x16.size a ≤ S3x40x512.size a := fun v58 v60 k0_t11 v3581 v3584 k0_hw11 k0_t16 k0_h1 k0_h5 => k0_hw11.2.1.2.2.2.2.2.2.2.2.2.2.2.2.2.2.2.2.2.2.2.2.2.2.2.2.2.2.2.2.2.2.1 k0_t16 k0_h1 k0_h5
theorem k0_off210_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t16 : Fin (k0_t16_loop v58 v60 k0_t11 v3581 v3584).trips), ∀ (k0_h1 : k0_cond1 v58 v60 = 1#1), ∀ (k0_h5 : k0_cond5 v58 v60 k0_t11 v3581 v3584 = 1#1), ∀ a, (k0_off210 v58 v60 k0_t11 v3581 v3584 k0_t16) a + S1x1x16.size a ≤ S3x40x512.size a := fun v58 v60 k0_t11 v3581 v3584 k0_hw11 k0_t16 k0_h1 k0_h5 => k0_hw11.2.1.2.2.2.2.2.2.2.2.2.2.2.2.2.2.2.2.2.2.2.2.2.2.2.2.2.2.2.2.2.2.2 k0_t16 k0_h1 k0_h5
theorem k0_off211_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t16 : Fin (k0_t16_loop v58 v60 k0_t11 v3581 v3584).trips), ∀ (k0_h1 : k0_cond1 v58 v60 = 1#1), ∀ (k0_h5 : k0_cond5 v58 v60 k0_t11 v3581 v3584 = 1#1), ∀ a, (k0_off211 v58 v60 k0_t11 v3581 v3584 k0_t16) a + S1x1x16.size a ≤ S3x40x512.size a := fun v58 v60 k0_t11 v3581 v3584 k0_hw11 k0_t16 k0_h1 k0_h5 => k0_hw11.2.2.1 k0_t16 k0_h1 k0_h5
theorem k0_off212_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t16 : Fin (k0_t16_loop v58 v60 k0_t11 v3581 v3584).trips), ∀ (k0_h1 : k0_cond1 v58 v60 = 1#1), ∀ (k0_h5 : k0_cond5 v58 v60 k0_t11 v3581 v3584 = 1#1), ∀ a, (k0_off212 v58 v60 k0_t11 v3581 v3584 k0_t16) a + S1x1x16.size a ≤ S3x40x512.size a := fun v58 v60 k0_t11 v3581 v3584 k0_hw11 k0_t16 k0_h1 k0_h5 => k0_hw11.2.2.2.1 k0_t16 k0_h1 k0_h5
theorem k0_off213_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t16 : Fin (k0_t16_loop v58 v60 k0_t11 v3581 v3584).trips), ∀ (k0_h1 : k0_cond1 v58 v60 = 1#1), ∀ (k0_h5 : k0_cond5 v58 v60 k0_t11 v3581 v3584 = 1#1), ∀ a, (k0_off213 v58 v60 k0_t11 v3581 v3584 k0_t16) a + S1x1x16.size a ≤ S3x40x512.size a := fun v58 v60 k0_t11 v3581 v3584 k0_hw11 k0_t16 k0_h1 k0_h5 => k0_hw11.2.2.2.2.1 k0_t16 k0_h1 k0_h5
theorem k0_off214_inb : ∀ (v58 : BitVec 32) (v60 : BitVec 32) (k0_t11 : Fin (k0_t11_loop v58 v60).trips) (v3581 : BitVec 32) (v3584 : BitVec 32) (k0_hw11 : k0_chk11 v58 v60 k0_t11 v3581 v3584) (k0_t16 : Fin (k0_t16_loop v58 v60 k0_t11 v3581 v3584).trips), ∀ (k0_h1 : k0_cond1 v58 v60 = 1#1), ∀ (k0_h5 : k0_cond5 v58 v60 k0_t11 v3581 v3584 = 1#1), ∀ a, (k0_off214 v58 v60 k0_t11 v3581 v3584 k0_t16) a + S1x1x16.size a ≤ S3x40x512.size a := fun v58 v60 k0_t11 v3581 v3584 k0_hw11 k0_t16 k0_h1 k0_h5 => k0_hw11.2.2.2.2.2 k0_t16 k0_h1 k0_h5

@[reducible] def k0_t17_loop (v58 : BitVec 32) (v60 : BitVec 32) : Scf.Loop 32 :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let v3558 : BitVec 32 := Scalar.addi c0_i32_1600 v3557
  let c1_i32_1603 : BitVec 32 := 1#32
  ⟨v3561, v3558, c1_i32_1603⟩
def k0_off215 (v58 : BitVec 32) (v60 : BitVec 32) (k0_t17 : Fin (k0_t17_loop v58 v60).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let c0_i32_1606 : BitVec 32 := 0#32
  let c0_i32_1607 : BitVec 32 := 0#32
  ![v3562.toNat, 0, 0]
def k0_off216 (v58 : BitVec 32) (v60 : BitVec 32) (k0_t17 : Fin (k0_t17_loop v58 v60).trips) : Fin 1 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  ![v3562.toNat]
def k0_mult4 (v58 : BitVec 32) (v60 : BitVec 32) (k0_t17 : Fin (k0_t17_loop v58 v60).trips) : BitVec 32 :=
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c0_i32_1600 : BitVec 32 := 0#32
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1622 : BitVec 32 := 3#32
  let v3580 : BitVec 32 := Scalar.addi arg12 c3_i32_1622
  let c1_i32_1623 : BitVec 32 := 1#32
  let v3581 : BitVec 32 := Scalar.subi v3580 c1_i32_1623
  let c40_i32_1624 : BitVec 32 := 40#32
  let v3582 : BitVec 32 := Scalar.muli v3581 c40_i32_1624
  let v3583 : BitVec 32 := Scalar.addi v78 v3582
  let c49960_i32_1625 : BitVec 32 := 49960#32
  let v3584 : BitVec 32 := Scalar.minsi v3583 c49960_i32_1625
  v3584
def k0_cond6 (v58 : BitVec 32) (v60 : BitVec 32) (k0_t17 : Fin (k0_t17_loop v58 v60).trips) : BitVec 1 :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1614 : BitVec 32 := 3#32
  let v3574 : BitVec 32 := Scalar.addi arg12 c3_i32_1614
  let c1_i32_1615 : BitVec 32 := 1#32
  let v3575 : BitVec 32 := Scalar.subi v3574 c1_i32_1615
  let v3576 : BitVec 1 := Scalar.cmpi .slt v3575 v98
  let v3577 : BitVec 32 := Scalar.extui v3576
  let c0_i32_1616 : BitVec 32 := 0#32
  let v3578 : BitVec 1 := Scalar.cmpi .ne v3577 c0_i32_1616
  v3578

def k0_off217 (v58 : BitVec 32) (v60 : BitVec 32) (k0_t17 : Fin (k0_t17_loop v58 v60).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1622 : BitVec 32 := 3#32
  let v3580 : BitVec 32 := Scalar.addi arg12 c3_i32_1622
  let c1_i32_1623 : BitVec 32 := 1#32
  let v3581 : BitVec 32 := Scalar.subi v3580 c1_i32_1623
  let c3_i32_1626 : BitVec 32 := 3#32
  let v3586 : BitVec 32 := Scalar.remsi v3581 c3_i32_1626
  let c0_i32_1627 : BitVec 32 := 0#32
  let c0_i32_1628 : BitVec 32 := 0#32
  ![v3586.toNat, 0, 0]
def k0_off218 (v58 : BitVec 32) (v60 : BitVec 32) (k0_t17 : Fin (k0_t17_loop v58 v60).trips) : Fin 2 → Nat :=
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c0_i32_1600 : BitVec 32 := 0#32
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1622 : BitVec 32 := 3#32
  let v3580 : BitVec 32 := Scalar.addi arg12 c3_i32_1622
  let c1_i32_1623 : BitVec 32 := 1#32
  let v3581 : BitVec 32 := Scalar.subi v3580 c1_i32_1623
  let c40_i32_1624 : BitVec 32 := 40#32
  let v3582 : BitVec 32 := Scalar.muli v3581 c40_i32_1624
  let v3583 : BitVec 32 := Scalar.addi v78 v3582
  let c49960_i32_1625 : BitVec 32 := 49960#32
  let v3584 : BitVec 32 := Scalar.minsi v3583 c49960_i32_1625
  let v3585 : BitVec 32 := v3584
  let c0_i32_1629 : BitVec 32 := 0#32
  ![v3585.toNat, 0]
def k0_off219 (v58 : BitVec 32) (v60 : BitVec 32) (k0_t17 : Fin (k0_t17_loop v58 v60).trips) : Fin 1 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1622 : BitVec 32 := 3#32
  let v3580 : BitVec 32 := Scalar.addi arg12 c3_i32_1622
  let c1_i32_1623 : BitVec 32 := 1#32
  let v3581 : BitVec 32 := Scalar.subi v3580 c1_i32_1623
  let c3_i32_1626 : BitVec 32 := 3#32
  let v3586 : BitVec 32 := Scalar.remsi v3581 c3_i32_1626
  ![v3586.toNat]

def k0_chk10 (v58 : BitVec 32) (v60 : BitVec 32) : Prop :=
  (∀ (k0_h1 : k0_cond1 v58 v60 = 1#1), ∀ (k0_h2 : k0_cond2 v58 v60 = 1#1), 8 ∣ (k0_mult1 v58).toNat) ∧
  (∀ (k0_h1 : k0_cond1 v58 v60 = 1#1), ∀ (k0_h2 : k0_cond2 v58 v60 = 1#1), ∀ a, (k0_off75 v58) a + S40x512.size a ≤ S50000x512.size a) ∧
  (∀ (k0_h1 : k0_cond1 v58 v60 = 1#1), ∀ (k0_h3 : k0_cond3 v58 v60 = 1#1), 8 ∣ (k0_mult2 v58).toNat) ∧
  (∀ (k0_h1 : k0_cond1 v58 v60 = 1#1), ∀ (k0_h3 : k0_cond3 v58 v60 = 1#1), ∀ a, (k0_off78 v58) a + S40x512.size a ≤ S50000x512.size a) ∧
  (∀ (k0_h1 : k0_cond1 v58 v60 = 1#1), (k0_t11_loop v58 v60).OK) ∧
  (∀ k0_t11 : Fin (k0_t11_loop v58 v60).trips, ∀ (k0_h1 : k0_cond1 v58 v60 = 1#1), ∀ a, (k0_off80 v58 v60 k0_t11) a + S1x40x512.size a ≤ S3x40x512.size a) ∧
  (∀ k0_t11 : Fin (k0_t11_loop v58 v60).trips, ∀ (k0_h1 : k0_cond1 v58 v60 = 1#1), ∀ a, (k0_off81 v58 v60 k0_t11) a + S1.size a ≤ S3.size a) ∧
  (∀ k0_t11 : Fin (k0_t11_loop v58 v60).trips, ∀ (k0_h1 : k0_cond1 v58 v60 = 1#1), ∀ (k0_h4 : k0_cond4 v58 v60 k0_t11 = 1#1), 8 ∣ (k0_mult3 v58 v60 k0_t11).toNat) ∧
  (∀ k0_t11 : Fin (k0_t11_loop v58 v60).trips, ∀ (k0_h1 : k0_cond1 v58 v60 = 1#1), ∀ (k0_h4 : k0_cond4 v58 v60 k0_t11 = 1#1), ∀ a, (k0_off82 v58 v60 k0_t11) a + S1x40x512.size a ≤ S3x40x512.size a) ∧
  (∀ k0_t11 : Fin (k0_t11_loop v58 v60).trips, ∀ (k0_h1 : k0_cond1 v58 v60 = 1#1), ∀ (k0_h4 : k0_cond4 v58 v60 k0_t11 = 1#1), ∀ a, (k0_off83 v58 v60 k0_t11) a + S40x512.size a ≤ S50000x512.size a) ∧
  (∀ k0_t11 : Fin (k0_t11_loop v58 v60).trips, ∀ (k0_h1 : k0_cond1 v58 v60 = 1#1), ∀ (k0_h4 : k0_cond4 v58 v60 k0_t11 = 1#1), ∀ a, (k0_off84 v58 v60 k0_t11) a + S1.size a ≤ S3.size a) ∧
  (∀ (k0_h1 : k0_cond1 v58 v60 = 1#1), (k0_t17_loop v58 v60).OK) ∧
  (∀ k0_t17 : Fin (k0_t17_loop v58 v60).trips, ∀ (k0_h1 : k0_cond1 v58 v60 = 1#1), ∀ a, (k0_off215 v58 v60 k0_t17) a + S1x40x512.size a ≤ S3x40x512.size a) ∧
  (∀ k0_t17 : Fin (k0_t17_loop v58 v60).trips, ∀ (k0_h1 : k0_cond1 v58 v60 = 1#1), ∀ a, (k0_off216 v58 v60 k0_t17) a + S1.size a ≤ S3.size a) ∧
  (∀ k0_t17 : Fin (k0_t17_loop v58 v60).trips, ∀ (k0_h1 : k0_cond1 v58 v60 = 1#1), ∀ (k0_h6 : k0_cond6 v58 v60 k0_t17 = 1#1), 8 ∣ (k0_mult4 v58 v60 k0_t17).toNat) ∧
  (∀ k0_t17 : Fin (k0_t17_loop v58 v60).trips, ∀ (k0_h1 : k0_cond1 v58 v60 = 1#1), ∀ (k0_h6 : k0_cond6 v58 v60 k0_t17 = 1#1), ∀ a, (k0_off217 v58 v60 k0_t17) a + S1x40x512.size a ≤ S3x40x512.size a) ∧
  (∀ k0_t17 : Fin (k0_t17_loop v58 v60).trips, ∀ (k0_h1 : k0_cond1 v58 v60 = 1#1), ∀ (k0_h6 : k0_cond6 v58 v60 k0_t17 = 1#1), ∀ a, (k0_off218 v58 v60 k0_t17) a + S40x512.size a ≤ S50000x512.size a) ∧
  (∀ k0_t17 : Fin (k0_t17_loop v58 v60).trips, ∀ (k0_h1 : k0_cond1 v58 v60 = 1#1), ∀ (k0_h6 : k0_cond6 v58 v60 k0_t17 = 1#1), ∀ a, (k0_off219 v58 v60 k0_t17) a + S1.size a ≤ S3.size a)
theorem k0_mult1_dvd : ∀ (v58 : BitVec 32) (v60 : BitVec 32) (k0_hw10 : k0_chk10 v58 v60), ∀ (k0_h1 : k0_cond1 v58 v60 = 1#1), ∀ (k0_h2 : k0_cond2 v58 v60 = 1#1), 8 ∣ (k0_mult1 v58).toNat := fun v58 v60 k0_hw10 k0_h1 k0_h2 => k0_hw10.1 k0_h1 k0_h2
theorem k0_off75_inb : ∀ (v58 : BitVec 32) (v60 : BitVec 32) (k0_hw10 : k0_chk10 v58 v60), ∀ (k0_h1 : k0_cond1 v58 v60 = 1#1), ∀ (k0_h2 : k0_cond2 v58 v60 = 1#1), ∀ a, (k0_off75 v58) a + S40x512.size a ≤ S50000x512.size a := fun v58 v60 k0_hw10 k0_h1 k0_h2 => k0_hw10.2.1 k0_h1 k0_h2
theorem k0_mult2_dvd : ∀ (v58 : BitVec 32) (v60 : BitVec 32) (k0_hw10 : k0_chk10 v58 v60), ∀ (k0_h1 : k0_cond1 v58 v60 = 1#1), ∀ (k0_h3 : k0_cond3 v58 v60 = 1#1), 8 ∣ (k0_mult2 v58).toNat := fun v58 v60 k0_hw10 k0_h1 k0_h3 => k0_hw10.2.2.1 k0_h1 k0_h3
theorem k0_off78_inb : ∀ (v58 : BitVec 32) (v60 : BitVec 32) (k0_hw10 : k0_chk10 v58 v60), ∀ (k0_h1 : k0_cond1 v58 v60 = 1#1), ∀ (k0_h3 : k0_cond3 v58 v60 = 1#1), ∀ a, (k0_off78 v58) a + S40x512.size a ≤ S50000x512.size a := fun v58 v60 k0_hw10 k0_h1 k0_h3 => k0_hw10.2.2.2.1 k0_h1 k0_h3
theorem k0_t11_ok : ∀ (v58 : BitVec 32) (v60 : BitVec 32) (k0_hw10 : k0_chk10 v58 v60), ∀ (k0_h1 : k0_cond1 v58 v60 = 1#1), (k0_t11_loop v58 v60).OK := fun v58 v60 k0_hw10 k0_h1 => k0_hw10.2.2.2.2.1 k0_h1
theorem k0_off80_inb : ∀ (v58 : BitVec 32) (v60 : BitVec 32) (k0_hw10 : k0_chk10 v58 v60) (k0_t11 : Fin (k0_t11_loop v58 v60).trips), ∀ (k0_h1 : k0_cond1 v58 v60 = 1#1), ∀ a, (k0_off80 v58 v60 k0_t11) a + S1x40x512.size a ≤ S3x40x512.size a := fun v58 v60 k0_hw10 k0_t11 k0_h1 => k0_hw10.2.2.2.2.2.1 k0_t11 k0_h1
theorem k0_off81_inb : ∀ (v58 : BitVec 32) (v60 : BitVec 32) (k0_hw10 : k0_chk10 v58 v60) (k0_t11 : Fin (k0_t11_loop v58 v60).trips), ∀ (k0_h1 : k0_cond1 v58 v60 = 1#1), ∀ a, (k0_off81 v58 v60 k0_t11) a + S1.size a ≤ S3.size a := fun v58 v60 k0_hw10 k0_t11 k0_h1 => k0_hw10.2.2.2.2.2.2.1 k0_t11 k0_h1
theorem k0_mult3_dvd : ∀ (v58 : BitVec 32) (v60 : BitVec 32) (k0_hw10 : k0_chk10 v58 v60) (k0_t11 : Fin (k0_t11_loop v58 v60).trips), ∀ (k0_h1 : k0_cond1 v58 v60 = 1#1), ∀ (k0_h4 : k0_cond4 v58 v60 k0_t11 = 1#1), 8 ∣ (k0_mult3 v58 v60 k0_t11).toNat := fun v58 v60 k0_hw10 k0_t11 k0_h1 k0_h4 => k0_hw10.2.2.2.2.2.2.2.1 k0_t11 k0_h1 k0_h4
theorem k0_off82_inb : ∀ (v58 : BitVec 32) (v60 : BitVec 32) (k0_hw10 : k0_chk10 v58 v60) (k0_t11 : Fin (k0_t11_loop v58 v60).trips), ∀ (k0_h1 : k0_cond1 v58 v60 = 1#1), ∀ (k0_h4 : k0_cond4 v58 v60 k0_t11 = 1#1), ∀ a, (k0_off82 v58 v60 k0_t11) a + S1x40x512.size a ≤ S3x40x512.size a := fun v58 v60 k0_hw10 k0_t11 k0_h1 k0_h4 => k0_hw10.2.2.2.2.2.2.2.2.1 k0_t11 k0_h1 k0_h4
theorem k0_off83_inb : ∀ (v58 : BitVec 32) (v60 : BitVec 32) (k0_hw10 : k0_chk10 v58 v60) (k0_t11 : Fin (k0_t11_loop v58 v60).trips), ∀ (k0_h1 : k0_cond1 v58 v60 = 1#1), ∀ (k0_h4 : k0_cond4 v58 v60 k0_t11 = 1#1), ∀ a, (k0_off83 v58 v60 k0_t11) a + S40x512.size a ≤ S50000x512.size a := fun v58 v60 k0_hw10 k0_t11 k0_h1 k0_h4 => k0_hw10.2.2.2.2.2.2.2.2.2.1 k0_t11 k0_h1 k0_h4
theorem k0_off84_inb : ∀ (v58 : BitVec 32) (v60 : BitVec 32) (k0_hw10 : k0_chk10 v58 v60) (k0_t11 : Fin (k0_t11_loop v58 v60).trips), ∀ (k0_h1 : k0_cond1 v58 v60 = 1#1), ∀ (k0_h4 : k0_cond4 v58 v60 k0_t11 = 1#1), ∀ a, (k0_off84 v58 v60 k0_t11) a + S1.size a ≤ S3.size a := fun v58 v60 k0_hw10 k0_t11 k0_h1 k0_h4 => k0_hw10.2.2.2.2.2.2.2.2.2.2.1 k0_t11 k0_h1 k0_h4
theorem k0_t17_ok : ∀ (v58 : BitVec 32) (v60 : BitVec 32) (k0_hw10 : k0_chk10 v58 v60), ∀ (k0_h1 : k0_cond1 v58 v60 = 1#1), (k0_t17_loop v58 v60).OK := fun v58 v60 k0_hw10 k0_h1 => k0_hw10.2.2.2.2.2.2.2.2.2.2.2.1 k0_h1
theorem k0_off215_inb : ∀ (v58 : BitVec 32) (v60 : BitVec 32) (k0_hw10 : k0_chk10 v58 v60) (k0_t17 : Fin (k0_t17_loop v58 v60).trips), ∀ (k0_h1 : k0_cond1 v58 v60 = 1#1), ∀ a, (k0_off215 v58 v60 k0_t17) a + S1x40x512.size a ≤ S3x40x512.size a := fun v58 v60 k0_hw10 k0_t17 k0_h1 => k0_hw10.2.2.2.2.2.2.2.2.2.2.2.2.1 k0_t17 k0_h1
theorem k0_off216_inb : ∀ (v58 : BitVec 32) (v60 : BitVec 32) (k0_hw10 : k0_chk10 v58 v60) (k0_t17 : Fin (k0_t17_loop v58 v60).trips), ∀ (k0_h1 : k0_cond1 v58 v60 = 1#1), ∀ a, (k0_off216 v58 v60 k0_t17) a + S1.size a ≤ S3.size a := fun v58 v60 k0_hw10 k0_t17 k0_h1 => k0_hw10.2.2.2.2.2.2.2.2.2.2.2.2.2.1 k0_t17 k0_h1
theorem k0_mult4_dvd : ∀ (v58 : BitVec 32) (v60 : BitVec 32) (k0_hw10 : k0_chk10 v58 v60) (k0_t17 : Fin (k0_t17_loop v58 v60).trips), ∀ (k0_h1 : k0_cond1 v58 v60 = 1#1), ∀ (k0_h6 : k0_cond6 v58 v60 k0_t17 = 1#1), 8 ∣ (k0_mult4 v58 v60 k0_t17).toNat := fun v58 v60 k0_hw10 k0_t17 k0_h1 k0_h6 => k0_hw10.2.2.2.2.2.2.2.2.2.2.2.2.2.2.1 k0_t17 k0_h1 k0_h6
theorem k0_off217_inb : ∀ (v58 : BitVec 32) (v60 : BitVec 32) (k0_hw10 : k0_chk10 v58 v60) (k0_t17 : Fin (k0_t17_loop v58 v60).trips), ∀ (k0_h1 : k0_cond1 v58 v60 = 1#1), ∀ (k0_h6 : k0_cond6 v58 v60 k0_t17 = 1#1), ∀ a, (k0_off217 v58 v60 k0_t17) a + S1x40x512.size a ≤ S3x40x512.size a := fun v58 v60 k0_hw10 k0_t17 k0_h1 k0_h6 => k0_hw10.2.2.2.2.2.2.2.2.2.2.2.2.2.2.2.1 k0_t17 k0_h1 k0_h6
theorem k0_off218_inb : ∀ (v58 : BitVec 32) (v60 : BitVec 32) (k0_hw10 : k0_chk10 v58 v60) (k0_t17 : Fin (k0_t17_loop v58 v60).trips), ∀ (k0_h1 : k0_cond1 v58 v60 = 1#1), ∀ (k0_h6 : k0_cond6 v58 v60 k0_t17 = 1#1), ∀ a, (k0_off218 v58 v60 k0_t17) a + S40x512.size a ≤ S50000x512.size a := fun v58 v60 k0_hw10 k0_t17 k0_h1 k0_h6 => k0_hw10.2.2.2.2.2.2.2.2.2.2.2.2.2.2.2.2.1 k0_t17 k0_h1 k0_h6
theorem k0_off219_inb : ∀ (v58 : BitVec 32) (v60 : BitVec 32) (k0_hw10 : k0_chk10 v58 v60) (k0_t17 : Fin (k0_t17_loop v58 v60).trips), ∀ (k0_h1 : k0_cond1 v58 v60 = 1#1), ∀ (k0_h6 : k0_cond6 v58 v60 k0_t17 = 1#1), ∀ a, (k0_off219 v58 v60 k0_t17) a + S1.size a ≤ S3.size a := fun v58 v60 k0_hw10 k0_t17 k0_h1 k0_h6 => k0_hw10.2.2.2.2.2.2.2.2.2.2.2.2.2.2.2.2.2 k0_t17 k0_h1 k0_h6

@[reducible] def k0_t18_loop : Scf.Loop 32 :=
  let c0_i32_1618 : BitVec 32 := 0#32
  let c8_i32_1619 : BitVec 32 := 8#32
  let v3579 : BitVec 32 := Scalar.addi c0_i32_1618 c8_i32_1619
  let c1_i32_1620 : BitVec 32 := 1#32
  ⟨c0_i32_1618, v3579, c1_i32_1620⟩
def k0_off220 (k0_t18 : Fin k0_t18_loop.trips) : Fin 1 → Nat :=
  let c0_i32_1618 : BitVec 32 := 0#32
  let c1_i32_1620 : BitVec 32 := 1#32
  let arg13 : BitVec 32 := Scf.iv c0_i32_1618 c1_i32_1620 k0_t18
  let v3580 : Index := Scalar.indexCast arg13
  ![v3580.toNat]
def k0_off221 (k0_t18 : Fin k0_t18_loop.trips) : Fin 1 → Nat :=
  let c0_i32_1618 : BitVec 32 := 0#32
  let c1_i32_1620 : BitVec 32 := 1#32
  let arg13 : BitVec 32 := Scf.iv c0_i32_1618 c1_i32_1620 k0_t18
  let c1_i32_1622 : BitVec 32 := 1#32
  let v3582 : BitVec 32 := Scalar.addi arg13 c1_i32_1622
  let v3583 : Index := Scalar.indexCast v3582
  ![v3583.toNat]
def k0_off222 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3593 : Index := Scalar.indexCast arg13
  let c0_1625 : Index := 0#32
  ![v3593.toNat, 0]
def k0_off223 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3596 : Index := Scalar.indexCast arg13
  let c16_1626 : Index := 16#32
  ![v3596.toNat, 16]
def k0_off224 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3599 : Index := Scalar.indexCast arg13
  let c32_1627 : Index := 32#32
  ![v3599.toNat, 32]
def k0_off225 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3602 : Index := Scalar.indexCast arg13
  let c48_1628 : Index := 48#32
  ![v3602.toNat, 48]
def k0_off226 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3605 : Index := Scalar.indexCast arg13
  let c64_1629 : Index := 64#32
  ![v3605.toNat, 64]
def k0_off227 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3608 : Index := Scalar.indexCast arg13
  let c80_1630 : Index := 80#32
  ![v3608.toNat, 80]
def k0_off228 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3611 : Index := Scalar.indexCast arg13
  let c96_1631 : Index := 96#32
  ![v3611.toNat, 96]
def k0_off229 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3614 : Index := Scalar.indexCast arg13
  let c112_1632 : Index := 112#32
  ![v3614.toNat, 112]
def k0_off230 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3617 : Index := Scalar.indexCast arg13
  let c128_1633 : Index := 128#32
  ![v3617.toNat, 128]
def k0_off231 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3620 : Index := Scalar.indexCast arg13
  let c144_1634 : Index := 144#32
  ![v3620.toNat, 144]
def k0_off232 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3623 : Index := Scalar.indexCast arg13
  let c160_1635 : Index := 160#32
  ![v3623.toNat, 160]
def k0_off233 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3626 : Index := Scalar.indexCast arg13
  let c176_1636 : Index := 176#32
  ![v3626.toNat, 176]
def k0_off234 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3629 : Index := Scalar.indexCast arg13
  let c192_1637 : Index := 192#32
  ![v3629.toNat, 192]
def k0_off235 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3632 : Index := Scalar.indexCast arg13
  let c208_1638 : Index := 208#32
  ![v3632.toNat, 208]
def k0_off236 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3635 : Index := Scalar.indexCast arg13
  let c224_1639 : Index := 224#32
  ![v3635.toNat, 224]
def k0_off237 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3638 : Index := Scalar.indexCast arg13
  let c240_1640 : Index := 240#32
  ![v3638.toNat, 240]
def k0_off238 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3641 : Index := Scalar.indexCast arg13
  let c512_1641 : Index := 512#32
  ![v3641.toNat, 512]
def k0_off239 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3644 : Index := Scalar.indexCast arg13
  let c528_1642 : Index := 528#32
  ![v3644.toNat, 528]
def k0_off240 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3647 : Index := Scalar.indexCast arg13
  let c544_1643 : Index := 544#32
  ![v3647.toNat, 544]
def k0_off241 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3650 : Index := Scalar.indexCast arg13
  let c560_1644 : Index := 560#32
  ![v3650.toNat, 560]
def k0_off242 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3653 : Index := Scalar.indexCast arg13
  let c576_1645 : Index := 576#32
  ![v3653.toNat, 576]
def k0_off243 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3656 : Index := Scalar.indexCast arg13
  let c592_1646 : Index := 592#32
  ![v3656.toNat, 592]
def k0_off244 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3659 : Index := Scalar.indexCast arg13
  let c608_1647 : Index := 608#32
  ![v3659.toNat, 608]
def k0_off245 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3662 : Index := Scalar.indexCast arg13
  let c624_1648 : Index := 624#32
  ![v3662.toNat, 624]
def k0_off246 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3665 : Index := Scalar.indexCast arg13
  let c640_1649 : Index := 640#32
  ![v3665.toNat, 640]
def k0_off247 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3668 : Index := Scalar.indexCast arg13
  let c656_1650 : Index := 656#32
  ![v3668.toNat, 656]
def k0_off248 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3671 : Index := Scalar.indexCast arg13
  let c672_1651 : Index := 672#32
  ![v3671.toNat, 672]
def k0_off249 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3674 : Index := Scalar.indexCast arg13
  let c688_1652 : Index := 688#32
  ![v3674.toNat, 688]
def k0_off250 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3677 : Index := Scalar.indexCast arg13
  let c704_1653 : Index := 704#32
  ![v3677.toNat, 704]
def k0_off251 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3680 : Index := Scalar.indexCast arg13
  let c720_1654 : Index := 720#32
  ![v3680.toNat, 720]
def k0_off252 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3683 : Index := Scalar.indexCast arg13
  let c736_1655 : Index := 736#32
  ![v3683.toNat, 736]
def k0_off253 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3686 : Index := Scalar.indexCast arg13
  let c752_1656 : Index := 752#32
  ![v3686.toNat, 752]
@[reducible] def k0_t19_loop (v58 : BitVec 32) (v60 : BitVec 32) (k0_t17 : Fin (k0_t17_loop v58 v60).trips) (v3581 : BitVec 32) (v3584 : BitVec 32) : Scf.Loop 32 :=
  let c0_i32_1657 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c0_i32_1600 : BitVec 32 := 0#32
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c40_i32_1605 : BitVec 32 := 40#32
  let v3563 : BitVec 32 := Scalar.muli arg12 c40_i32_1605
  let v3564 : BitVec 32 := Scalar.addi v78 v3563
  let c40_i32_1623 : BitVec 32 := 40#32
  let v3586 : BitVec 32 := Scalar.addi v3564 c40_i32_1623
  let v3587 : BitVec 32 := Scalar.minsi v3584 v3586
  let v3585 : BitVec 32 := Scalar.maxsi v3581 v3564
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1659 : BitVec 32 := 1#32
  ⟨c0_i32_1657, v3693, c1_i32_1659⟩
def k0_cond7 (v58 : BitVec 32) (v60 : BitVec 32) (k0_t17 : Fin (k0_t17_loop v58 v60).trips) (v3581 : BitVec 32) (v3584 : BitVec 32) : BitVec 1 :=
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c0_i32_1600 : BitVec 32 := 0#32
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c40_i32_1605 : BitVec 32 := 40#32
  let v3563 : BitVec 32 := Scalar.muli arg12 c40_i32_1605
  let v3564 : BitVec 32 := Scalar.addi v78 v3563
  let c40_i32_1623 : BitVec 32 := 40#32
  let v3586 : BitVec 32 := Scalar.addi v3564 c40_i32_1623
  let v3587 : BitVec 32 := Scalar.minsi v3584 v3586
  let v3585 : BitVec 32 := Scalar.maxsi v3581 v3564
  let v3588 : BitVec 1 := Scalar.cmpi .sgt v3587 v3585
  let v3589 : BitVec 32 := Scalar.extui v3588
  let c0_i32_1624 : BitVec 32 := 0#32
  let v3590 : BitVec 1 := Scalar.cmpi .ne v3589 c0_i32_1624
  v3590

def k0_off254 (v58 : BitVec 32) (v60 : BitVec 32) (k0_t17 : Fin (k0_t17_loop v58 v60).trips) (v3581 : BitVec 32) (v3584 : BitVec 32) (k0_t19 : Fin (k0_t19_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4056 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t19
  let v4055 : BitVec 32 := Scalar.addi v3591 arg14
  let v4057 : Index := Scalar.indexCast v4055
  let c0_1761 : Index := 0#32
  ![v4056.toNat, v4057.toNat, 0]
def k0_off255 (v58 : BitVec 32) (v60 : BitVec 32) (k0_t17 : Fin (k0_t17_loop v58 v60).trips) (v3581 : BitVec 32) (v3584 : BitVec 32) (k0_t19 : Fin (k0_t19_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4061 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t19
  let v4060 : BitVec 32 := Scalar.addi v3591 arg14
  let v4062 : Index := Scalar.indexCast v4060
  let c16_1762 : Index := 16#32
  ![v4061.toNat, v4062.toNat, 16]
def k0_off256 (v58 : BitVec 32) (v60 : BitVec 32) (k0_t17 : Fin (k0_t17_loop v58 v60).trips) (v3581 : BitVec 32) (v3584 : BitVec 32) (k0_t19 : Fin (k0_t19_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4066 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t19
  let v4065 : BitVec 32 := Scalar.addi v3591 arg14
  let v4067 : Index := Scalar.indexCast v4065
  let c32_1763 : Index := 32#32
  ![v4066.toNat, v4067.toNat, 32]
def k0_off257 (v58 : BitVec 32) (v60 : BitVec 32) (k0_t17 : Fin (k0_t17_loop v58 v60).trips) (v3581 : BitVec 32) (v3584 : BitVec 32) (k0_t19 : Fin (k0_t19_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4071 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t19
  let v4070 : BitVec 32 := Scalar.addi v3591 arg14
  let v4072 : Index := Scalar.indexCast v4070
  let c48_1764 : Index := 48#32
  ![v4071.toNat, v4072.toNat, 48]
def k0_off258 (v58 : BitVec 32) (v60 : BitVec 32) (k0_t17 : Fin (k0_t17_loop v58 v60).trips) (v3581 : BitVec 32) (v3584 : BitVec 32) (k0_t19 : Fin (k0_t19_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4076 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t19
  let v4075 : BitVec 32 := Scalar.addi v3591 arg14
  let v4077 : Index := Scalar.indexCast v4075
  let c64_1765 : Index := 64#32
  ![v4076.toNat, v4077.toNat, 64]
def k0_off259 (v58 : BitVec 32) (v60 : BitVec 32) (k0_t17 : Fin (k0_t17_loop v58 v60).trips) (v3581 : BitVec 32) (v3584 : BitVec 32) (k0_t19 : Fin (k0_t19_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4081 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t19
  let v4080 : BitVec 32 := Scalar.addi v3591 arg14
  let v4082 : Index := Scalar.indexCast v4080
  let c80_1766 : Index := 80#32
  ![v4081.toNat, v4082.toNat, 80]
def k0_off260 (v58 : BitVec 32) (v60 : BitVec 32) (k0_t17 : Fin (k0_t17_loop v58 v60).trips) (v3581 : BitVec 32) (v3584 : BitVec 32) (k0_t19 : Fin (k0_t19_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4086 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t19
  let v4085 : BitVec 32 := Scalar.addi v3591 arg14
  let v4087 : Index := Scalar.indexCast v4085
  let c96_1767 : Index := 96#32
  ![v4086.toNat, v4087.toNat, 96]
def k0_off261 (v58 : BitVec 32) (v60 : BitVec 32) (k0_t17 : Fin (k0_t17_loop v58 v60).trips) (v3581 : BitVec 32) (v3584 : BitVec 32) (k0_t19 : Fin (k0_t19_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4091 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t19
  let v4090 : BitVec 32 := Scalar.addi v3591 arg14
  let v4092 : Index := Scalar.indexCast v4090
  let c112_1768 : Index := 112#32
  ![v4091.toNat, v4092.toNat, 112]
def k0_off262 (v58 : BitVec 32) (v60 : BitVec 32) (k0_t17 : Fin (k0_t17_loop v58 v60).trips) (v3581 : BitVec 32) (v3584 : BitVec 32) (k0_t19 : Fin (k0_t19_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4096 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t19
  let v4095 : BitVec 32 := Scalar.addi v3591 arg14
  let v4097 : Index := Scalar.indexCast v4095
  let c128_1769 : Index := 128#32
  ![v4096.toNat, v4097.toNat, 128]
def k0_off263 (v58 : BitVec 32) (v60 : BitVec 32) (k0_t17 : Fin (k0_t17_loop v58 v60).trips) (v3581 : BitVec 32) (v3584 : BitVec 32) (k0_t19 : Fin (k0_t19_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4101 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t19
  let v4100 : BitVec 32 := Scalar.addi v3591 arg14
  let v4102 : Index := Scalar.indexCast v4100
  let c144_1770 : Index := 144#32
  ![v4101.toNat, v4102.toNat, 144]
def k0_off264 (v58 : BitVec 32) (v60 : BitVec 32) (k0_t17 : Fin (k0_t17_loop v58 v60).trips) (v3581 : BitVec 32) (v3584 : BitVec 32) (k0_t19 : Fin (k0_t19_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4106 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t19
  let v4105 : BitVec 32 := Scalar.addi v3591 arg14
  let v4107 : Index := Scalar.indexCast v4105
  let c160_1771 : Index := 160#32
  ![v4106.toNat, v4107.toNat, 160]
def k0_off265 (v58 : BitVec 32) (v60 : BitVec 32) (k0_t17 : Fin (k0_t17_loop v58 v60).trips) (v3581 : BitVec 32) (v3584 : BitVec 32) (k0_t19 : Fin (k0_t19_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4111 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t19
  let v4110 : BitVec 32 := Scalar.addi v3591 arg14
  let v4112 : Index := Scalar.indexCast v4110
  let c176_1772 : Index := 176#32
  ![v4111.toNat, v4112.toNat, 176]
def k0_off266 (v58 : BitVec 32) (v60 : BitVec 32) (k0_t17 : Fin (k0_t17_loop v58 v60).trips) (v3581 : BitVec 32) (v3584 : BitVec 32) (k0_t19 : Fin (k0_t19_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4116 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t19
  let v4115 : BitVec 32 := Scalar.addi v3591 arg14
  let v4117 : Index := Scalar.indexCast v4115
  let c192_1773 : Index := 192#32
  ![v4116.toNat, v4117.toNat, 192]
def k0_off267 (v58 : BitVec 32) (v60 : BitVec 32) (k0_t17 : Fin (k0_t17_loop v58 v60).trips) (v3581 : BitVec 32) (v3584 : BitVec 32) (k0_t19 : Fin (k0_t19_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4121 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t19
  let v4120 : BitVec 32 := Scalar.addi v3591 arg14
  let v4122 : Index := Scalar.indexCast v4120
  let c208_1774 : Index := 208#32
  ![v4121.toNat, v4122.toNat, 208]
def k0_off268 (v58 : BitVec 32) (v60 : BitVec 32) (k0_t17 : Fin (k0_t17_loop v58 v60).trips) (v3581 : BitVec 32) (v3584 : BitVec 32) (k0_t19 : Fin (k0_t19_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4126 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t19
  let v4125 : BitVec 32 := Scalar.addi v3591 arg14
  let v4127 : Index := Scalar.indexCast v4125
  let c224_1775 : Index := 224#32
  ![v4126.toNat, v4127.toNat, 224]
def k0_off269 (v58 : BitVec 32) (v60 : BitVec 32) (k0_t17 : Fin (k0_t17_loop v58 v60).trips) (v3581 : BitVec 32) (v3584 : BitVec 32) (k0_t19 : Fin (k0_t19_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4131 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c1_i32_1659 : BitVec 32 := 1#32
  let arg14 : BitVec 32 := Scf.iv c0_i32_1657 c1_i32_1659 k0_t19
  let v4130 : BitVec 32 := Scalar.addi v3591 arg14
  let v4132 : Index := Scalar.indexCast v4130
  let c240_1776 : Index := 240#32
  ![v4131.toNat, v4132.toNat, 240]
@[reducible] def k0_t20_loop (v58 : BitVec 32) (v60 : BitVec 32) (k0_t17 : Fin (k0_t17_loop v58 v60).trips) (v3581 : BitVec 32) (v3584 : BitVec 32) : Scf.Loop 32 :=
  let c0_i32_1657 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c0_i32_1600 : BitVec 32 := 0#32
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c40_i32_1605 : BitVec 32 := 40#32
  let v3563 : BitVec 32 := Scalar.muli arg12 c40_i32_1605
  let v3564 : BitVec 32 := Scalar.addi v78 v3563
  let c40_i32_1623 : BitVec 32 := 40#32
  let v3586 : BitVec 32 := Scalar.addi v3564 c40_i32_1623
  let v3587 : BitVec 32 := Scalar.minsi v3584 v3586
  let v3585 : BitVec 32 := Scalar.maxsi v3581 v3564
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let v3690 : BitVec 32 := Scalar.addi c0_i32_1657 v3689
  let c1_i32_1660 : BitVec 32 := 1#32
  ⟨v3693, v3690, c1_i32_1660⟩
def k0_off270 (v58 : BitVec 32) (v60 : BitVec 32) (k0_t17 : Fin (k0_t17_loop v58 v60).trips) (v3581 : BitVec 32) (v3584 : BitVec 32) (k0_t20 : Fin (k0_t20_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4056 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t20
  let v4055 : BitVec 32 := Scalar.addi v3591 arg14
  let v4057 : Index := Scalar.indexCast v4055
  let c0_1761 : Index := 0#32
  ![v4056.toNat, v4057.toNat, 0]
def k0_off271 (v58 : BitVec 32) (v60 : BitVec 32) (k0_t17 : Fin (k0_t17_loop v58 v60).trips) (v3581 : BitVec 32) (v3584 : BitVec 32) (k0_t20 : Fin (k0_t20_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4061 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t20
  let v4060 : BitVec 32 := Scalar.addi v3591 arg14
  let v4062 : Index := Scalar.indexCast v4060
  let c16_1762 : Index := 16#32
  ![v4061.toNat, v4062.toNat, 16]
def k0_off272 (v58 : BitVec 32) (v60 : BitVec 32) (k0_t17 : Fin (k0_t17_loop v58 v60).trips) (v3581 : BitVec 32) (v3584 : BitVec 32) (k0_t20 : Fin (k0_t20_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4066 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t20
  let v4065 : BitVec 32 := Scalar.addi v3591 arg14
  let v4067 : Index := Scalar.indexCast v4065
  let c32_1763 : Index := 32#32
  ![v4066.toNat, v4067.toNat, 32]
def k0_off273 (v58 : BitVec 32) (v60 : BitVec 32) (k0_t17 : Fin (k0_t17_loop v58 v60).trips) (v3581 : BitVec 32) (v3584 : BitVec 32) (k0_t20 : Fin (k0_t20_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4071 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t20
  let v4070 : BitVec 32 := Scalar.addi v3591 arg14
  let v4072 : Index := Scalar.indexCast v4070
  let c48_1764 : Index := 48#32
  ![v4071.toNat, v4072.toNat, 48]
def k0_off274 (v58 : BitVec 32) (v60 : BitVec 32) (k0_t17 : Fin (k0_t17_loop v58 v60).trips) (v3581 : BitVec 32) (v3584 : BitVec 32) (k0_t20 : Fin (k0_t20_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4076 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t20
  let v4075 : BitVec 32 := Scalar.addi v3591 arg14
  let v4077 : Index := Scalar.indexCast v4075
  let c64_1765 : Index := 64#32
  ![v4076.toNat, v4077.toNat, 64]
def k0_off275 (v58 : BitVec 32) (v60 : BitVec 32) (k0_t17 : Fin (k0_t17_loop v58 v60).trips) (v3581 : BitVec 32) (v3584 : BitVec 32) (k0_t20 : Fin (k0_t20_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4081 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t20
  let v4080 : BitVec 32 := Scalar.addi v3591 arg14
  let v4082 : Index := Scalar.indexCast v4080
  let c80_1766 : Index := 80#32
  ![v4081.toNat, v4082.toNat, 80]
def k0_off276 (v58 : BitVec 32) (v60 : BitVec 32) (k0_t17 : Fin (k0_t17_loop v58 v60).trips) (v3581 : BitVec 32) (v3584 : BitVec 32) (k0_t20 : Fin (k0_t20_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4086 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t20
  let v4085 : BitVec 32 := Scalar.addi v3591 arg14
  let v4087 : Index := Scalar.indexCast v4085
  let c96_1767 : Index := 96#32
  ![v4086.toNat, v4087.toNat, 96]
def k0_off277 (v58 : BitVec 32) (v60 : BitVec 32) (k0_t17 : Fin (k0_t17_loop v58 v60).trips) (v3581 : BitVec 32) (v3584 : BitVec 32) (k0_t20 : Fin (k0_t20_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4091 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t20
  let v4090 : BitVec 32 := Scalar.addi v3591 arg14
  let v4092 : Index := Scalar.indexCast v4090
  let c112_1768 : Index := 112#32
  ![v4091.toNat, v4092.toNat, 112]
def k0_off278 (v58 : BitVec 32) (v60 : BitVec 32) (k0_t17 : Fin (k0_t17_loop v58 v60).trips) (v3581 : BitVec 32) (v3584 : BitVec 32) (k0_t20 : Fin (k0_t20_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4096 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t20
  let v4095 : BitVec 32 := Scalar.addi v3591 arg14
  let v4097 : Index := Scalar.indexCast v4095
  let c128_1769 : Index := 128#32
  ![v4096.toNat, v4097.toNat, 128]
def k0_off279 (v58 : BitVec 32) (v60 : BitVec 32) (k0_t17 : Fin (k0_t17_loop v58 v60).trips) (v3581 : BitVec 32) (v3584 : BitVec 32) (k0_t20 : Fin (k0_t20_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4101 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t20
  let v4100 : BitVec 32 := Scalar.addi v3591 arg14
  let v4102 : Index := Scalar.indexCast v4100
  let c144_1770 : Index := 144#32
  ![v4101.toNat, v4102.toNat, 144]
def k0_off280 (v58 : BitVec 32) (v60 : BitVec 32) (k0_t17 : Fin (k0_t17_loop v58 v60).trips) (v3581 : BitVec 32) (v3584 : BitVec 32) (k0_t20 : Fin (k0_t20_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4106 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t20
  let v4105 : BitVec 32 := Scalar.addi v3591 arg14
  let v4107 : Index := Scalar.indexCast v4105
  let c160_1771 : Index := 160#32
  ![v4106.toNat, v4107.toNat, 160]
def k0_off281 (v58 : BitVec 32) (v60 : BitVec 32) (k0_t17 : Fin (k0_t17_loop v58 v60).trips) (v3581 : BitVec 32) (v3584 : BitVec 32) (k0_t20 : Fin (k0_t20_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4111 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t20
  let v4110 : BitVec 32 := Scalar.addi v3591 arg14
  let v4112 : Index := Scalar.indexCast v4110
  let c176_1772 : Index := 176#32
  ![v4111.toNat, v4112.toNat, 176]
def k0_off282 (v58 : BitVec 32) (v60 : BitVec 32) (k0_t17 : Fin (k0_t17_loop v58 v60).trips) (v3581 : BitVec 32) (v3584 : BitVec 32) (k0_t20 : Fin (k0_t20_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4116 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t20
  let v4115 : BitVec 32 := Scalar.addi v3591 arg14
  let v4117 : Index := Scalar.indexCast v4115
  let c192_1773 : Index := 192#32
  ![v4116.toNat, v4117.toNat, 192]
def k0_off283 (v58 : BitVec 32) (v60 : BitVec 32) (k0_t17 : Fin (k0_t17_loop v58 v60).trips) (v3581 : BitVec 32) (v3584 : BitVec 32) (k0_t20 : Fin (k0_t20_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4121 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t20
  let v4120 : BitVec 32 := Scalar.addi v3591 arg14
  let v4122 : Index := Scalar.indexCast v4120
  let c208_1774 : Index := 208#32
  ![v4121.toNat, v4122.toNat, 208]
def k0_off284 (v58 : BitVec 32) (v60 : BitVec 32) (k0_t17 : Fin (k0_t17_loop v58 v60).trips) (v3581 : BitVec 32) (v3584 : BitVec 32) (k0_t20 : Fin (k0_t20_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4126 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t20
  let v4125 : BitVec 32 := Scalar.addi v3591 arg14
  let v4127 : Index := Scalar.indexCast v4125
  let c224_1775 : Index := 224#32
  ![v4126.toNat, v4127.toNat, 224]
def k0_off285 (v58 : BitVec 32) (v60 : BitVec 32) (k0_t17 : Fin (k0_t17_loop v58 v60).trips) (v3581 : BitVec 32) (v3584 : BitVec 32) (k0_t20 : Fin (k0_t20_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4131 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1657 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3689 : BitVec 32 := Scalar.subi v3592 c0_i32_1657
  let c1_i32_1658 : BitVec 32 := 1#32
  let v3691 : BitVec 32 := Scalar.divsi v3689 c1_i32_1658
  let v3692 : BitVec 32 := Scalar.muli v3691 c1_i32_1658
  let v3693 : BitVec 32 := Scalar.addi c0_i32_1657 v3692
  let c1_i32_1660 : BitVec 32 := 1#32
  let arg14 : BitVec 32 := Scf.iv v3693 c1_i32_1660 k0_t20
  let v4130 : BitVec 32 := Scalar.addi v3591 arg14
  let v4132 : Index := Scalar.indexCast v4130
  let c240_1776 : Index := 240#32
  ![v4131.toNat, v4132.toNat, 240]
def k0_off286 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3824 : Index := Scalar.indexCast arg13
  let c256_1693 : Index := 256#32
  ![v3824.toNat, 256]
def k0_off287 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3827 : Index := Scalar.indexCast arg13
  let c272_1694 : Index := 272#32
  ![v3827.toNat, 272]
def k0_off288 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3830 : Index := Scalar.indexCast arg13
  let c288_1695 : Index := 288#32
  ![v3830.toNat, 288]
def k0_off289 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3833 : Index := Scalar.indexCast arg13
  let c304_1696 : Index := 304#32
  ![v3833.toNat, 304]
def k0_off290 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3836 : Index := Scalar.indexCast arg13
  let c320_1697 : Index := 320#32
  ![v3836.toNat, 320]
def k0_off291 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3839 : Index := Scalar.indexCast arg13
  let c336_1698 : Index := 336#32
  ![v3839.toNat, 336]
def k0_off292 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3842 : Index := Scalar.indexCast arg13
  let c352_1699 : Index := 352#32
  ![v3842.toNat, 352]
def k0_off293 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3845 : Index := Scalar.indexCast arg13
  let c368_1700 : Index := 368#32
  ![v3845.toNat, 368]
def k0_off294 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3848 : Index := Scalar.indexCast arg13
  let c384_1701 : Index := 384#32
  ![v3848.toNat, 384]
def k0_off295 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3851 : Index := Scalar.indexCast arg13
  let c400_1702 : Index := 400#32
  ![v3851.toNat, 400]
def k0_off296 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3854 : Index := Scalar.indexCast arg13
  let c416_1703 : Index := 416#32
  ![v3854.toNat, 416]
def k0_off297 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3857 : Index := Scalar.indexCast arg13
  let c432_1704 : Index := 432#32
  ![v3857.toNat, 432]
def k0_off298 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3860 : Index := Scalar.indexCast arg13
  let c448_1705 : Index := 448#32
  ![v3860.toNat, 448]
def k0_off299 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3863 : Index := Scalar.indexCast arg13
  let c464_1706 : Index := 464#32
  ![v3863.toNat, 464]
def k0_off300 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3866 : Index := Scalar.indexCast arg13
  let c480_1707 : Index := 480#32
  ![v3866.toNat, 480]
def k0_off301 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3869 : Index := Scalar.indexCast arg13
  let c496_1708 : Index := 496#32
  ![v3869.toNat, 496]
def k0_off302 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3872 : Index := Scalar.indexCast arg13
  let c768_1709 : Index := 768#32
  ![v3872.toNat, 768]
def k0_off303 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3875 : Index := Scalar.indexCast arg13
  let c784_1710 : Index := 784#32
  ![v3875.toNat, 784]
def k0_off304 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3878 : Index := Scalar.indexCast arg13
  let c800_1711 : Index := 800#32
  ![v3878.toNat, 800]
def k0_off305 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3881 : Index := Scalar.indexCast arg13
  let c816_1712 : Index := 816#32
  ![v3881.toNat, 816]
def k0_off306 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3884 : Index := Scalar.indexCast arg13
  let c832_1713 : Index := 832#32
  ![v3884.toNat, 832]
def k0_off307 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3887 : Index := Scalar.indexCast arg13
  let c848_1714 : Index := 848#32
  ![v3887.toNat, 848]
def k0_off308 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3890 : Index := Scalar.indexCast arg13
  let c864_1715 : Index := 864#32
  ![v3890.toNat, 864]
def k0_off309 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3893 : Index := Scalar.indexCast arg13
  let c880_1716 : Index := 880#32
  ![v3893.toNat, 880]
def k0_off310 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3896 : Index := Scalar.indexCast arg13
  let c896_1717 : Index := 896#32
  ![v3896.toNat, 896]
def k0_off311 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3899 : Index := Scalar.indexCast arg13
  let c912_1718 : Index := 912#32
  ![v3899.toNat, 912]
def k0_off312 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3902 : Index := Scalar.indexCast arg13
  let c928_1719 : Index := 928#32
  ![v3902.toNat, 928]
def k0_off313 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3905 : Index := Scalar.indexCast arg13
  let c944_1720 : Index := 944#32
  ![v3905.toNat, 944]
def k0_off314 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3908 : Index := Scalar.indexCast arg13
  let c960_1721 : Index := 960#32
  ![v3908.toNat, 960]
def k0_off315 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3911 : Index := Scalar.indexCast arg13
  let c976_1722 : Index := 976#32
  ![v3911.toNat, 976]
def k0_off316 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3914 : Index := Scalar.indexCast arg13
  let c992_1723 : Index := 992#32
  ![v3914.toNat, 992]
def k0_off317 (k0_t18 : Fin k0_t18_loop.trips) : Fin 2 → Nat :=
  let c0_i32_1618 : BitVec 32 := 0#32
  let c1_i32_1620 : BitVec 32 := 1#32
  let arg13 : BitVec 32 := Scf.iv c0_i32_1618 c1_i32_1620 k0_t18
  let v3917 : Index := Scalar.indexCast arg13
  let c1008_1724 : Index := 1008#32
  ![v3917.toNat, 1008]
@[reducible] def k0_t21_loop (v58 : BitVec 32) (v60 : BitVec 32) (k0_t17 : Fin (k0_t17_loop v58 v60).trips) (v3581 : BitVec 32) (v3584 : BitVec 32) : Scf.Loop 32 :=
  let c0_i32_1725 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c0_i32_1600 : BitVec 32 := 0#32
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c40_i32_1605 : BitVec 32 := 40#32
  let v3563 : BitVec 32 := Scalar.muli arg12 c40_i32_1605
  let v3564 : BitVec 32 := Scalar.addi v78 v3563
  let c40_i32_1623 : BitVec 32 := 40#32
  let v3586 : BitVec 32 := Scalar.addi v3564 c40_i32_1623
  let v3587 : BitVec 32 := Scalar.minsi v3584 v3586
  let v3585 : BitVec 32 := Scalar.maxsi v3581 v3564
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1727 : BitVec 32 := 1#32
  ⟨c0_i32_1725, v3924, c1_i32_1727⟩
def k0_off318 (v58 : BitVec 32) (v60 : BitVec 32) (k0_t17 : Fin (k0_t17_loop v58 v60).trips) (v3581 : BitVec 32) (v3584 : BitVec 32) (k0_t21 : Fin (k0_t21_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4056 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t21
  let v4055 : BitVec 32 := Scalar.addi v3591 arg14
  let v4057 : Index := Scalar.indexCast v4055
  let c256_1761 : Index := 256#32
  ![v4056.toNat, v4057.toNat, 256]
def k0_off319 (v58 : BitVec 32) (v60 : BitVec 32) (k0_t17 : Fin (k0_t17_loop v58 v60).trips) (v3581 : BitVec 32) (v3584 : BitVec 32) (k0_t21 : Fin (k0_t21_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4061 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t21
  let v4060 : BitVec 32 := Scalar.addi v3591 arg14
  let v4062 : Index := Scalar.indexCast v4060
  let c272_1762 : Index := 272#32
  ![v4061.toNat, v4062.toNat, 272]
def k0_off320 (v58 : BitVec 32) (v60 : BitVec 32) (k0_t17 : Fin (k0_t17_loop v58 v60).trips) (v3581 : BitVec 32) (v3584 : BitVec 32) (k0_t21 : Fin (k0_t21_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4066 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t21
  let v4065 : BitVec 32 := Scalar.addi v3591 arg14
  let v4067 : Index := Scalar.indexCast v4065
  let c288_1763 : Index := 288#32
  ![v4066.toNat, v4067.toNat, 288]
def k0_off321 (v58 : BitVec 32) (v60 : BitVec 32) (k0_t17 : Fin (k0_t17_loop v58 v60).trips) (v3581 : BitVec 32) (v3584 : BitVec 32) (k0_t21 : Fin (k0_t21_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4071 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t21
  let v4070 : BitVec 32 := Scalar.addi v3591 arg14
  let v4072 : Index := Scalar.indexCast v4070
  let c304_1764 : Index := 304#32
  ![v4071.toNat, v4072.toNat, 304]
def k0_off322 (v58 : BitVec 32) (v60 : BitVec 32) (k0_t17 : Fin (k0_t17_loop v58 v60).trips) (v3581 : BitVec 32) (v3584 : BitVec 32) (k0_t21 : Fin (k0_t21_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4076 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t21
  let v4075 : BitVec 32 := Scalar.addi v3591 arg14
  let v4077 : Index := Scalar.indexCast v4075
  let c320_1765 : Index := 320#32
  ![v4076.toNat, v4077.toNat, 320]
def k0_off323 (v58 : BitVec 32) (v60 : BitVec 32) (k0_t17 : Fin (k0_t17_loop v58 v60).trips) (v3581 : BitVec 32) (v3584 : BitVec 32) (k0_t21 : Fin (k0_t21_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4081 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t21
  let v4080 : BitVec 32 := Scalar.addi v3591 arg14
  let v4082 : Index := Scalar.indexCast v4080
  let c336_1766 : Index := 336#32
  ![v4081.toNat, v4082.toNat, 336]
def k0_off324 (v58 : BitVec 32) (v60 : BitVec 32) (k0_t17 : Fin (k0_t17_loop v58 v60).trips) (v3581 : BitVec 32) (v3584 : BitVec 32) (k0_t21 : Fin (k0_t21_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4086 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t21
  let v4085 : BitVec 32 := Scalar.addi v3591 arg14
  let v4087 : Index := Scalar.indexCast v4085
  let c352_1767 : Index := 352#32
  ![v4086.toNat, v4087.toNat, 352]
def k0_off325 (v58 : BitVec 32) (v60 : BitVec 32) (k0_t17 : Fin (k0_t17_loop v58 v60).trips) (v3581 : BitVec 32) (v3584 : BitVec 32) (k0_t21 : Fin (k0_t21_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4091 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t21
  let v4090 : BitVec 32 := Scalar.addi v3591 arg14
  let v4092 : Index := Scalar.indexCast v4090
  let c368_1768 : Index := 368#32
  ![v4091.toNat, v4092.toNat, 368]
def k0_off326 (v58 : BitVec 32) (v60 : BitVec 32) (k0_t17 : Fin (k0_t17_loop v58 v60).trips) (v3581 : BitVec 32) (v3584 : BitVec 32) (k0_t21 : Fin (k0_t21_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4096 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t21
  let v4095 : BitVec 32 := Scalar.addi v3591 arg14
  let v4097 : Index := Scalar.indexCast v4095
  let c384_1769 : Index := 384#32
  ![v4096.toNat, v4097.toNat, 384]
def k0_off327 (v58 : BitVec 32) (v60 : BitVec 32) (k0_t17 : Fin (k0_t17_loop v58 v60).trips) (v3581 : BitVec 32) (v3584 : BitVec 32) (k0_t21 : Fin (k0_t21_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4101 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t21
  let v4100 : BitVec 32 := Scalar.addi v3591 arg14
  let v4102 : Index := Scalar.indexCast v4100
  let c400_1770 : Index := 400#32
  ![v4101.toNat, v4102.toNat, 400]
def k0_off328 (v58 : BitVec 32) (v60 : BitVec 32) (k0_t17 : Fin (k0_t17_loop v58 v60).trips) (v3581 : BitVec 32) (v3584 : BitVec 32) (k0_t21 : Fin (k0_t21_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4106 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t21
  let v4105 : BitVec 32 := Scalar.addi v3591 arg14
  let v4107 : Index := Scalar.indexCast v4105
  let c416_1771 : Index := 416#32
  ![v4106.toNat, v4107.toNat, 416]
def k0_off329 (v58 : BitVec 32) (v60 : BitVec 32) (k0_t17 : Fin (k0_t17_loop v58 v60).trips) (v3581 : BitVec 32) (v3584 : BitVec 32) (k0_t21 : Fin (k0_t21_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4111 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t21
  let v4110 : BitVec 32 := Scalar.addi v3591 arg14
  let v4112 : Index := Scalar.indexCast v4110
  let c432_1772 : Index := 432#32
  ![v4111.toNat, v4112.toNat, 432]
def k0_off330 (v58 : BitVec 32) (v60 : BitVec 32) (k0_t17 : Fin (k0_t17_loop v58 v60).trips) (v3581 : BitVec 32) (v3584 : BitVec 32) (k0_t21 : Fin (k0_t21_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4116 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t21
  let v4115 : BitVec 32 := Scalar.addi v3591 arg14
  let v4117 : Index := Scalar.indexCast v4115
  let c448_1773 : Index := 448#32
  ![v4116.toNat, v4117.toNat, 448]
def k0_off331 (v58 : BitVec 32) (v60 : BitVec 32) (k0_t17 : Fin (k0_t17_loop v58 v60).trips) (v3581 : BitVec 32) (v3584 : BitVec 32) (k0_t21 : Fin (k0_t21_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4121 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t21
  let v4120 : BitVec 32 := Scalar.addi v3591 arg14
  let v4122 : Index := Scalar.indexCast v4120
  let c464_1774 : Index := 464#32
  ![v4121.toNat, v4122.toNat, 464]
def k0_off332 (v58 : BitVec 32) (v60 : BitVec 32) (k0_t17 : Fin (k0_t17_loop v58 v60).trips) (v3581 : BitVec 32) (v3584 : BitVec 32) (k0_t21 : Fin (k0_t21_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4126 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t21
  let v4125 : BitVec 32 := Scalar.addi v3591 arg14
  let v4127 : Index := Scalar.indexCast v4125
  let c480_1775 : Index := 480#32
  ![v4126.toNat, v4127.toNat, 480]
def k0_off333 (v58 : BitVec 32) (v60 : BitVec 32) (k0_t17 : Fin (k0_t17_loop v58 v60).trips) (v3581 : BitVec 32) (v3584 : BitVec 32) (k0_t21 : Fin (k0_t21_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4131 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c1_i32_1727 : BitVec 32 := 1#32
  let arg14 : BitVec 32 := Scf.iv c0_i32_1725 c1_i32_1727 k0_t21
  let v4130 : BitVec 32 := Scalar.addi v3591 arg14
  let v4132 : Index := Scalar.indexCast v4130
  let c496_1776 : Index := 496#32
  ![v4131.toNat, v4132.toNat, 496]
@[reducible] def k0_t22_loop (v58 : BitVec 32) (v60 : BitVec 32) (k0_t17 : Fin (k0_t17_loop v58 v60).trips) (v3581 : BitVec 32) (v3584 : BitVec 32) : Scf.Loop 32 :=
  let c0_i32_1725 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let c0_i32_1600 : BitVec 32 := 0#32
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c40_i32_1605 : BitVec 32 := 40#32
  let v3563 : BitVec 32 := Scalar.muli arg12 c40_i32_1605
  let v3564 : BitVec 32 := Scalar.addi v78 v3563
  let c40_i32_1623 : BitVec 32 := 40#32
  let v3586 : BitVec 32 := Scalar.addi v3564 c40_i32_1623
  let v3587 : BitVec 32 := Scalar.minsi v3584 v3586
  let v3585 : BitVec 32 := Scalar.maxsi v3581 v3564
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let v3921 : BitVec 32 := Scalar.addi c0_i32_1725 v3920
  let c1_i32_1728 : BitVec 32 := 1#32
  ⟨v3924, v3921, c1_i32_1728⟩
def k0_off334 (v58 : BitVec 32) (v60 : BitVec 32) (k0_t17 : Fin (k0_t17_loop v58 v60).trips) (v3581 : BitVec 32) (v3584 : BitVec 32) (k0_t22 : Fin (k0_t22_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4056 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t22
  let v4055 : BitVec 32 := Scalar.addi v3591 arg14
  let v4057 : Index := Scalar.indexCast v4055
  let c256_1761 : Index := 256#32
  ![v4056.toNat, v4057.toNat, 256]
def k0_off335 (v58 : BitVec 32) (v60 : BitVec 32) (k0_t17 : Fin (k0_t17_loop v58 v60).trips) (v3581 : BitVec 32) (v3584 : BitVec 32) (k0_t22 : Fin (k0_t22_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4061 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t22
  let v4060 : BitVec 32 := Scalar.addi v3591 arg14
  let v4062 : Index := Scalar.indexCast v4060
  let c272_1762 : Index := 272#32
  ![v4061.toNat, v4062.toNat, 272]
def k0_off336 (v58 : BitVec 32) (v60 : BitVec 32) (k0_t17 : Fin (k0_t17_loop v58 v60).trips) (v3581 : BitVec 32) (v3584 : BitVec 32) (k0_t22 : Fin (k0_t22_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4066 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t22
  let v4065 : BitVec 32 := Scalar.addi v3591 arg14
  let v4067 : Index := Scalar.indexCast v4065
  let c288_1763 : Index := 288#32
  ![v4066.toNat, v4067.toNat, 288]
def k0_off337 (v58 : BitVec 32) (v60 : BitVec 32) (k0_t17 : Fin (k0_t17_loop v58 v60).trips) (v3581 : BitVec 32) (v3584 : BitVec 32) (k0_t22 : Fin (k0_t22_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4071 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t22
  let v4070 : BitVec 32 := Scalar.addi v3591 arg14
  let v4072 : Index := Scalar.indexCast v4070
  let c304_1764 : Index := 304#32
  ![v4071.toNat, v4072.toNat, 304]
def k0_off338 (v58 : BitVec 32) (v60 : BitVec 32) (k0_t17 : Fin (k0_t17_loop v58 v60).trips) (v3581 : BitVec 32) (v3584 : BitVec 32) (k0_t22 : Fin (k0_t22_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4076 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t22
  let v4075 : BitVec 32 := Scalar.addi v3591 arg14
  let v4077 : Index := Scalar.indexCast v4075
  let c320_1765 : Index := 320#32
  ![v4076.toNat, v4077.toNat, 320]
def k0_off339 (v58 : BitVec 32) (v60 : BitVec 32) (k0_t17 : Fin (k0_t17_loop v58 v60).trips) (v3581 : BitVec 32) (v3584 : BitVec 32) (k0_t22 : Fin (k0_t22_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4081 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t22
  let v4080 : BitVec 32 := Scalar.addi v3591 arg14
  let v4082 : Index := Scalar.indexCast v4080
  let c336_1766 : Index := 336#32
  ![v4081.toNat, v4082.toNat, 336]
def k0_off340 (v58 : BitVec 32) (v60 : BitVec 32) (k0_t17 : Fin (k0_t17_loop v58 v60).trips) (v3581 : BitVec 32) (v3584 : BitVec 32) (k0_t22 : Fin (k0_t22_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4086 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t22
  let v4085 : BitVec 32 := Scalar.addi v3591 arg14
  let v4087 : Index := Scalar.indexCast v4085
  let c352_1767 : Index := 352#32
  ![v4086.toNat, v4087.toNat, 352]
def k0_off341 (v58 : BitVec 32) (v60 : BitVec 32) (k0_t17 : Fin (k0_t17_loop v58 v60).trips) (v3581 : BitVec 32) (v3584 : BitVec 32) (k0_t22 : Fin (k0_t22_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4091 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t22
  let v4090 : BitVec 32 := Scalar.addi v3591 arg14
  let v4092 : Index := Scalar.indexCast v4090
  let c368_1768 : Index := 368#32
  ![v4091.toNat, v4092.toNat, 368]
def k0_off342 (v58 : BitVec 32) (v60 : BitVec 32) (k0_t17 : Fin (k0_t17_loop v58 v60).trips) (v3581 : BitVec 32) (v3584 : BitVec 32) (k0_t22 : Fin (k0_t22_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4096 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t22
  let v4095 : BitVec 32 := Scalar.addi v3591 arg14
  let v4097 : Index := Scalar.indexCast v4095
  let c384_1769 : Index := 384#32
  ![v4096.toNat, v4097.toNat, 384]
def k0_off343 (v58 : BitVec 32) (v60 : BitVec 32) (k0_t17 : Fin (k0_t17_loop v58 v60).trips) (v3581 : BitVec 32) (v3584 : BitVec 32) (k0_t22 : Fin (k0_t22_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4101 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t22
  let v4100 : BitVec 32 := Scalar.addi v3591 arg14
  let v4102 : Index := Scalar.indexCast v4100
  let c400_1770 : Index := 400#32
  ![v4101.toNat, v4102.toNat, 400]
def k0_off344 (v58 : BitVec 32) (v60 : BitVec 32) (k0_t17 : Fin (k0_t17_loop v58 v60).trips) (v3581 : BitVec 32) (v3584 : BitVec 32) (k0_t22 : Fin (k0_t22_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4106 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t22
  let v4105 : BitVec 32 := Scalar.addi v3591 arg14
  let v4107 : Index := Scalar.indexCast v4105
  let c416_1771 : Index := 416#32
  ![v4106.toNat, v4107.toNat, 416]
def k0_off345 (v58 : BitVec 32) (v60 : BitVec 32) (k0_t17 : Fin (k0_t17_loop v58 v60).trips) (v3581 : BitVec 32) (v3584 : BitVec 32) (k0_t22 : Fin (k0_t22_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4111 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t22
  let v4110 : BitVec 32 := Scalar.addi v3591 arg14
  let v4112 : Index := Scalar.indexCast v4110
  let c432_1772 : Index := 432#32
  ![v4111.toNat, v4112.toNat, 432]
def k0_off346 (v58 : BitVec 32) (v60 : BitVec 32) (k0_t17 : Fin (k0_t17_loop v58 v60).trips) (v3581 : BitVec 32) (v3584 : BitVec 32) (k0_t22 : Fin (k0_t22_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4116 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t22
  let v4115 : BitVec 32 := Scalar.addi v3591 arg14
  let v4117 : Index := Scalar.indexCast v4115
  let c448_1773 : Index := 448#32
  ![v4116.toNat, v4117.toNat, 448]
def k0_off347 (v58 : BitVec 32) (v60 : BitVec 32) (k0_t17 : Fin (k0_t17_loop v58 v60).trips) (v3581 : BitVec 32) (v3584 : BitVec 32) (k0_t22 : Fin (k0_t22_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4121 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t22
  let v4120 : BitVec 32 := Scalar.addi v3591 arg14
  let v4122 : Index := Scalar.indexCast v4120
  let c464_1774 : Index := 464#32
  ![v4121.toNat, v4122.toNat, 464]
def k0_off348 (v58 : BitVec 32) (v60 : BitVec 32) (k0_t17 : Fin (k0_t17_loop v58 v60).trips) (v3581 : BitVec 32) (v3584 : BitVec 32) (k0_t22 : Fin (k0_t22_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4126 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t22
  let v4125 : BitVec 32 := Scalar.addi v3591 arg14
  let v4127 : Index := Scalar.indexCast v4125
  let c480_1775 : Index := 480#32
  ![v4126.toNat, v4127.toNat, 480]
def k0_off349 (v58 : BitVec 32) (v60 : BitVec 32) (k0_t17 : Fin (k0_t17_loop v58 v60).trips) (v3581 : BitVec 32) (v3584 : BitVec 32) (k0_t22 : Fin (k0_t22_loop v58 v60 k0_t17 v3581 v3584).trips) : Fin 3 → Nat :=
  let c0_i32_1600 : BitVec 32 := 0#32
  let c0_i32_72 : BitVec 32 := 0#32
  let v62 : BitVec 1 := Scalar.cmpi .sgt v58 c0_i32_72
  let v63 : BitVec 32 := Scalar.extui v62
  let c0_i32_73 : BitVec 32 := 0#32
  let v64 : BitVec 1 := Scalar.cmpi .slt v58 c0_i32_73
  let v65 : BitVec 32 := Scalar.extui v64
  let v66 : BitVec 32 := Scalar.subi v63 v65
  let c8_i32_71 : BitVec 32 := 8#32
  let c0_i32_74 : BitVec 32 := 0#32
  let v67 : BitVec 1 := Scalar.cmpi .sgt c8_i32_71 c0_i32_74
  let v68 : BitVec 32 := Scalar.extui v67
  let c0_i32_75 : BitVec 32 := 0#32
  let v69 : BitVec 1 := Scalar.cmpi .slt c8_i32_71 c0_i32_75
  let v70 : BitVec 32 := Scalar.extui v69
  let v71 : BitVec 32 := Scalar.subi v68 v70
  let v72 : BitVec 1 := Scalar.cmpi .ne v66 v71
  let v73 : BitVec 32 := Scalar.remsi v58 c8_i32_71
  let c0_i32_76 : BitVec 32 := 0#32
  let v74 : BitVec 1 := Scalar.cmpi .ne v73 c0_i32_76
  let v75 : BitVec 1 := Scalar.andi v72 v74
  let v61 : BitVec 32 := Scalar.divsi v58 c8_i32_71
  let c1_i32_77 : BitVec 32 := 1#32
  let v76 : BitVec 32 := Scalar.subi v61 c1_i32_77
  let v77 : BitVec 32 := Scalar.select v75 v76 v61
  let c8_i32_78 : BitVec 32 := 8#32
  let v78 : BitVec 32 := Scalar.muli v77 c8_i32_78
  let v79 : BitVec 32 := Scalar.subi v60 v78
  let c40_i32 : BitVec 32 := 40#32
  let v80 : BitVec 32 := Scalar.addi v79 c40_i32
  let c1_i32_79 : BitVec 32 := 1#32
  let v81 : BitVec 32 := Scalar.subi v80 c1_i32_79
  let c0_i32_81 : BitVec 32 := 0#32
  let v83 : BitVec 1 := Scalar.cmpi .sgt v81 c0_i32_81
  let v84 : BitVec 32 := Scalar.extui v83
  let c0_i32_82 : BitVec 32 := 0#32
  let v85 : BitVec 1 := Scalar.cmpi .slt v81 c0_i32_82
  let v86 : BitVec 32 := Scalar.extui v85
  let v87 : BitVec 32 := Scalar.subi v84 v86
  let c40_i32_80 : BitVec 32 := 40#32
  let c0_i32_83 : BitVec 32 := 0#32
  let v88 : BitVec 1 := Scalar.cmpi .sgt c40_i32_80 c0_i32_83
  let v89 : BitVec 32 := Scalar.extui v88
  let c0_i32_84 : BitVec 32 := 0#32
  let v90 : BitVec 1 := Scalar.cmpi .slt c40_i32_80 c0_i32_84
  let v91 : BitVec 32 := Scalar.extui v90
  let v92 : BitVec 32 := Scalar.subi v89 v91
  let v93 : BitVec 1 := Scalar.cmpi .ne v87 v92
  let v94 : BitVec 32 := Scalar.remsi v81 c40_i32_80
  let c0_i32_85 : BitVec 32 := 0#32
  let v95 : BitVec 1 := Scalar.cmpi .ne v94 c0_i32_85
  let v96 : BitVec 1 := Scalar.andi v93 v95
  let v82 : BitVec 32 := Scalar.divsi v81 c40_i32_80
  let c1_i32_86 : BitVec 32 := 1#32
  let v97 : BitVec 32 := Scalar.subi v82 c1_i32_86
  let v98 : BitVec 32 := Scalar.select v96 v97 v82
  let v3557 : BitVec 32 := Scalar.subi v98 c0_i32_1600
  let c1_i32_1601 : BitVec 32 := 1#32
  let v3559 : BitVec 32 := Scalar.divsi v3557 c1_i32_1601
  let v3560 : BitVec 32 := Scalar.muli v3559 c1_i32_1601
  let v3561 : BitVec 32 := Scalar.addi c0_i32_1600 v3560
  let c1_i32_1603 : BitVec 32 := 1#32
  let arg12 : BitVec 32 := Scf.iv v3561 c1_i32_1603 k0_t17
  let c3_i32_1604 : BitVec 32 := 3#32
  let v3562 : BitVec 32 := Scalar.remsi arg12 c3_i32_1604
  let v4131 : Index := Scalar.indexCast v3562
  let c40_i32_1605 : BitVec 32 := 40#32
  let v3563 : BitVec 32 := Scalar.muli arg12 c40_i32_1605
  let v3564 : BitVec 32 := Scalar.addi v78 v3563
  let v3585 : BitVec 32 := Scalar.maxsi v3581 v3564
  let c49960_i32 : BitVec 32 := 49960#32
  let v3565 : BitVec 32 := Scalar.minsi v3564 c49960_i32
  let v3591 : BitVec 32 := Scalar.subi v3585 v3565
  let c0_i32_1725 : BitVec 32 := 0#32
  let c40_i32_1623 : BitVec 32 := 40#32
  let v3586 : BitVec 32 := Scalar.addi v3564 c40_i32_1623
  let v3587 : BitVec 32 := Scalar.minsi v3584 v3586
  let v3592 : BitVec 32 := Scalar.subi v3587 v3585
  let v3920 : BitVec 32 := Scalar.subi v3592 c0_i32_1725
  let c1_i32_1726 : BitVec 32 := 1#32
  let v3922 : BitVec 32 := Scalar.divsi v3920 c1_i32_1726
  let v3923 : BitVec 32 := Scalar.muli v3922 c1_i32_1726
  let v3924 : BitVec 32 := Scalar.addi c0_i32_1725 v3923
  let c1_i32_1728 : BitVec 32 := 1#32
  let arg14 : BitVec 32 := Scf.iv v3924 c1_i32_1728 k0_t22
  let v4130 : BitVec 32 := Scalar.addi v3591 arg14
  let v4132 : Index := Scalar.indexCast v4130
  let c496_1776 : Index := 496#32
  ![v4131.toNat, v4132.toNat, 496]

def k0_chk12_0 (v58 : BitVec 32) (v60 : BitVec 32) (k0_t17 : Fin (k0_t17_loop v58 v60).trips) (v3581 : BitVec 32) (v3584 : BitVec 32) : Prop :=
  (∀ (k0_h1 : k0_cond1 v58 v60 = 1#1), ∀ (k0_h7 : k0_cond7 v58 v60 k0_t17 v3581 v3584 = 1#1), (k0_t19_loop v58 v60 k0_t17 v3581 v3584).OK) ∧
  (∀ k0_t19 : Fin (k0_t19_loop v58 v60 k0_t17 v3581 v3584).trips, ∀ (k0_h1 : k0_cond1 v58 v60 = 1#1), ∀ (k0_h7 : k0_cond7 v58 v60 k0_t17 v3581 v3584 = 1#1), ∀ a, (k0_off254 v58 v60 k0_t17 v3581 v3584 k0_t19) a + S1x1x16.size a ≤ S3x40x512.size a) ∧
  (∀ k0_t19 : Fin (k0_t19_loop v58 v60 k0_t17 v3581 v3584).trips, ∀ (k0_h1 : k0_cond1 v58 v60 = 1#1), ∀ (k0_h7 : k0_cond7 v58 v60 k0_t17 v3581 v3584 = 1#1), ∀ a, (k0_off255 v58 v60 k0_t17 v3581 v3584 k0_t19) a + S1x1x16.size a ≤ S3x40x512.size a) ∧
  (∀ k0_t19 : Fin (k0_t19_loop v58 v60 k0_t17 v3581 v3584).trips, ∀ (k0_h1 : k0_cond1 v58 v60 = 1#1), ∀ (k0_h7 : k0_cond7 v58 v60 k0_t17 v3581 v3584 = 1#1), ∀ a, (k0_off256 v58 v60 k0_t17 v3581 v3584 k0_t19) a + S1x1x16.size a ≤ S3x40x512.size a) ∧
  (∀ k0_t19 : Fin (k0_t19_loop v58 v60 k0_t17 v3581 v3584).trips, ∀ (k0_h1 : k0_cond1 v58 v60 = 1#1), ∀ (k0_h7 : k0_cond7 v58 v60 k0_t17 v3581 v3584 = 1#1), ∀ a, (k0_off257 v58 v60 k0_t17 v3581 v3584 k0_t19) a + S1x1x16.size a ≤ S3x40x512.size a) ∧
  (∀ k0_t19 : Fin (k0_t19_loop v58 v60 k0_t17 v3581 v3584).trips, ∀ (k0_h1 : k0_cond1 v58 v60 = 1#1), ∀ (k0_h7 : k0_cond7 v58 v60 k0_t17 v3581 v3584 = 1#1), ∀ a, (k0_off258 v58 v60 k0_t17 v3581 v3584 k0_t19) a + S1x1x16.size a ≤ S3x40x512.size a) ∧
  (∀ k0_t19 : Fin (k0_t19_loop v58 v60 k0_t17 v3581 v3584).trips, ∀ (k0_h1 : k0_cond1 v58 v60 = 1#1), ∀ (k0_h7 : k0_cond7 v58 v60 k0_t17 v3581 v3584 = 1#1), ∀ a, (k0_off259 v58 v60 k0_t17 v3581 v3584 k0_t19) a + S1x1x16.size a ≤ S3x40x512.size a) ∧
  (∀ k0_t19 : Fin (k0_t19_loop v58 v60 k0_t17 v3581 v3584).trips, ∀ (k0_h1 : k0_cond1 v58 v60 = 1#1), ∀ (k0_h7 : k0_cond7 v58 v60 k0_t17 v3581 v3584 = 1#1), ∀ a, (k0_off260 v58 v60 k0_t17 v3581 v3584 k0_t19) a + S1x1x16.size a ≤ S3x40x512.size a) ∧
  (∀ k0_t19 : Fin (k0_t19_loop v58 v60 k0_t17 v3581 v3584).trips, ∀ (k0_h1 : k0_cond1 v58 v60 = 1#1), ∀ (k0_h7 : k0_cond7 v58 v60 k0_t17 v3581 v3584 = 1#1), ∀ a, (k0_off261 v58 v60 k0_t17 v3581 v3584 k0_t19) a + S1x1x16.size a ≤ S3x40x512.size a) ∧
  (∀ k0_t19 : Fin (k0_t19_loop v58 v60 k0_t17 v3581 v3584).trips, ∀ (k0_h1 : k0_cond1 v58 v60 = 1#1), ∀ (k0_h7 : k0_cond7 v58 v60 k0_t17 v3581 v3584 = 1#1), ∀ a, (k0_off262 v58 v60 k0_t17 v3581 v3584 k0_t19) a + S1x1x16.size a ≤ S3x40x512.size a) ∧
  (∀ k0_t19 : Fin (k0_t19_loop v58 v60 k0_t17 v3581 v3584).trips, ∀ (k0_h1 : k0_cond1 v58 v60 = 1#1), ∀ (k0_h7 : k0_cond7 v58 v60 k0_t17 v3581 v3584 = 1#1), ∀ a, (k0_off263 v58 v60 k0_t17 v3581 v3584 k0_t19) a + S1x1x16.size a ≤ S3x40x512.size a) ∧
  (∀ k0_t19 : Fin (k0_t19_loop v58 v60 k0_t17 v3581 v3584).trips, ∀ (k0_h1 : k0_cond1 v58 v60 = 1#1), ∀ (k0_h7 : k0_cond7 v58 v60 k0_t17 v3581 v3584 = 1#1), ∀ a, (k0_off264 v58 v60 k0_t17 v3581 v3584 k0_t19) a + S1x1x16.size a ≤ S3x40x512.size a) ∧
  (∀ k0_t19 : Fin (k0_t19_loop v58 v60 k0_t17 v3581 v3584).trips, ∀ (k0_h1 : k0_cond1 v58 v60 = 1#1), ∀ (k0_h7 : k0_cond7 v58 v60 k0_t17 v3581 v3584 = 1#1), ∀ a, (k0_off265 v58 v60 k0_t17 v3581 v3584 k0_t19) a + S1x1x16.size a ≤ S3x40x512.size a) ∧
  (∀ k0_t19 : Fin (k0_t19_loop v58 v60 k0_t17 v3581 v3584).trips, ∀ (k0_h1 : k0_cond1 v58 v60 = 1#1), ∀ (k0_h7 : k0_cond7 v58 v60 k0_t17 v3581 v3584 = 1#1), ∀ a, (k0_off266 v58 v60 k0_t17 v3581 v3584 k0_t19) a + S1x1x16.size a ≤ S3x40x512.size a) ∧
  (∀ k0_t19 : Fin (k0_t19_loop v58 v60 k0_t17 v3581 v3584).trips, ∀ (k0_h1 : k0_cond1 v58 v60 = 1#1), ∀ (k0_h7 : k0_cond7 v58 v60 k0_t17 v3581 v3584 = 1#1), ∀ a, (k0_off267 v58 v60 k0_t17 v3581 v3584 k0_t19) a + S1x1x16.size a ≤ S3x40x512.size a) ∧
  (∀ k0_t19 : Fin (k0_t19_loop v58 v60 k0_t17 v3581 v3584).trips, ∀ (k0_h1 : k0_cond1 v58 v60 = 1#1), ∀ (k0_h7 : k0_cond7 v58 v60 k0_t17 v3581 v3584 = 1#1), ∀ a, (k0_off268 v58 v60 k0_t17 v3581 v3584 k0_t19) a + S1x1x16.size a ≤ S3x40x512.size a) ∧
  (∀ k0_t19 : Fin (k0_t19_loop v58 v60 k0_t17 v3581 v3584).trips, ∀ (k0_h1 : k0_cond1 v58 v60 = 1#1), ∀ (k0_h7 : k0_cond7 v58 v60 k0_t17 v3581 v3584 = 1#1), ∀ a, (k0_off269 v58 v60 k0_t17 v3581 v3584 k0_t19) a + S1x1x16.size a ≤ S3x40x512.size a) ∧
  (∀ (k0_h1 : k0_cond1 v58 v60 = 1#1), ∀ (k0_h7 : k0_cond7 v58 v60 k0_t17 v3581 v3584 = 1#1), (k0_t20_loop v58 v60 k0_t17 v3581 v3584).OK) ∧
  (∀ k0_t20 : Fin (k0_t20_loop v58 v60 k0_t17 v3581 v3584).trips, ∀ (k0_h1 : k0_cond1 v58 v60 = 1#1), ∀ (k0_h7 : k0_cond7 v58 v60 k0_t17 v3581 v3584 = 1#1), ∀ a, (k0_off270 v58 v60 k0_t17 v3581 v3584 k0_t20) a + S1x1x16.size a ≤ S3x40x512.size a) ∧
  (∀ k0_t20 : Fin (k0_t20_loop v58 v60 k0_t17 v3581 v3584).trips, ∀ (k0_h1 : k0_cond1 v58 v60 = 1#1), ∀ (k0_h7 : k0_cond7 v58 v60 k0_t17 v3581 v3584 = 1#1), ∀ a, (k0_off271 v58 v60 k0_t17 v3581 v3584 k0_t20) a + S1x1x16.size a ≤ S3x40x512.size a) ∧
  (∀ k0_t20 : Fin (k0_t20_loop v58 v60 k0_t17 v3581 v3584).trips, ∀ (k0_h1 : k0_cond1 v58 v60 = 1#1), ∀ (k0_h7 : k0_cond7 v58 v60 k0_t17 v3581 v3584 = 1#1), ∀ a, (k0_off272 v58 v60 k0_t17 v3581 v3584 k0_t20) a + S1x1x16.size a ≤ S3x40x512.size a) ∧
  (∀ k0_t20 : Fin (k0_t20_loop v58 v60 k0_t17 v3581 v3584).trips, ∀ (k0_h1 : k0_cond1 v58 v60 = 1#1), ∀ (k0_h7 : k0_cond7 v58 v60 k0_t17 v3581 v3584 = 1#1), ∀ a, (k0_off273 v58 v60 k0_t17 v3581 v3584 k0_t20) a + S1x1x16.size a ≤ S3x40x512.size a) ∧
  (∀ k0_t20 : Fin (k0_t20_loop v58 v60 k0_t17 v3581 v3584).trips, ∀ (k0_h1 : k0_cond1 v58 v60 = 1#1), ∀ (k0_h7 : k0_cond7 v58 v60 k0_t17 v3581 v3584 = 1#1), ∀ a, (k0_off274 v58 v60 k0_t17 v3581 v3584 k0_t20) a + S1x1x16.size a ≤ S3x40x512.size a) ∧
  (∀ k0_t20 : Fin (k0_t20_loop v58 v60 k0_t17 v3581 v3584).trips, ∀ (k0_h1 : k0_cond1 v58 v60 = 1#1), ∀ (k0_h7 : k0_cond7 v58 v60 k0_t17 v3581 v3584 = 1#1), ∀ a, (k0_off275 v58 v60 k0_t17 v3581 v3584 k0_t20) a + S1x1x16.size a ≤ S3x40x512.size a) ∧
  (∀ k0_t20 : Fin (k0_t20_loop v58 v60 k0_t17 v3581 v3584).trips, ∀ (k0_h1 : k0_cond1 v58 v60 = 1#1), ∀ (k0_h7 : k0_cond7 v58 v60 k0_t17 v3581 v3584 = 1#1), ∀ a, (k0_off276 v58 v60 k0_t17 v3581 v3584 k0_t20) a + S1x1x16.size a ≤ S3x40x512.size a) ∧
  (∀ k0_t20 : Fin (k0_t20_loop v58 v60 k0_t17 v3581 v3584).trips, ∀ (k0_h1 : k0_cond1 v58 v60 = 1#1), ∀ (k0_h7 : k0_cond7 v58 v60 k0_t17 v3581 v3584 = 1#1), ∀ a, (k0_off277 v58 v60 k0_t17 v3581 v3584 k0_t20) a + S1x1x16.size a ≤ S3x40x512.size a) ∧
  (∀ k0_t20 : Fin (k0_t20_loop v58 v60 k0_t17 v3581 v3584).trips, ∀ (k0_h1 : k0_cond1 v58 v60 = 1#1), ∀ (k0_h7 : k0_cond7 v58 v60 k0_t17 v3581 v3584 = 1#1), ∀ a, (k0_off278 v58 v60 k0_t17 v3581 v3584 k0_t20) a + S1x1x16.size a ≤ S3x40x512.size a) ∧
  (∀ k0_t20 : Fin (k0_t20_loop v58 v60 k0_t17 v3581 v3584).trips, ∀ (k0_h1 : k0_cond1 v58 v60 = 1#1), ∀ (k0_h7 : k0_cond7 v58 v60 k0_t17 v3581 v3584 = 1#1), ∀ a, (k0_off279 v58 v60 k0_t17 v3581 v3584 k0_t20) a + S1x1x16.size a ≤ S3x40x512.size a) ∧
  (∀ k0_t20 : Fin (k0_t20_loop v58 v60 k0_t17 v3581 v3584).trips, ∀ (k0_h1 : k0_cond1 v58 v60 = 1#1), ∀ (k0_h7 : k0_cond7 v58 v60 k0_t17 v3581 v3584 = 1#1), ∀ a, (k0_off280 v58 v60 k0_t17 v3581 v3584 k0_t20) a + S1x1x16.size a ≤ S3x40x512.size a) ∧
  (∀ k0_t20 : Fin (k0_t20_loop v58 v60 k0_t17 v3581 v3584).trips, ∀ (k0_h1 : k0_cond1 v58 v60 = 1#1), ∀ (k0_h7 : k0_cond7 v58 v60 k0_t17 v3581 v3584 = 1#1), ∀ a, (k0_off281 v58 v60 k0_t17 v3581 v3584 k0_t20) a + S1x1x16.size a ≤ S3x40x512.size a) ∧
  (∀ k0_t20 : Fin (k0_t20_loop v58 v60 k0_t17 v3581 v3584).trips, ∀ (k0_h1 : k0_cond1 v58 v60 = 1#1), ∀ (k0_h7 : k0_cond7 v58 v60 k0_t17 v3581 v3584 = 1#1), ∀ a, (k0_off282 v58 v60 k0_t17 v3581 v3584 k0_t20) a + S1x1x16.size a ≤ S3x40x512.size a) ∧
  (∀ k0_t20 : Fin (k0_t20_loop v58 v60 k0_t17 v3581 v3584).trips, ∀ (k0_h1 : k0_cond1 v58 v60 = 1#1), ∀ (k0_h7 : k0_cond7 v58 v60 k0_t17 v3581 v3584 = 1#1), ∀ a, (k0_off283 v58 v60 k0_t17 v3581 v3584 k0_t20) a + S1x1x16.size a ≤ S3x40x512.size a)
def k0_chk12_1 (v58 : BitVec 32) (v60 : BitVec 32) (k0_t17 : Fin (k0_t17_loop v58 v60).trips) (v3581 : BitVec 32) (v3584 : BitVec 32) : Prop :=
  (∀ k0_t20 : Fin (k0_t20_loop v58 v60 k0_t17 v3581 v3584).trips, ∀ (k0_h1 : k0_cond1 v58 v60 = 1#1), ∀ (k0_h7 : k0_cond7 v58 v60 k0_t17 v3581 v3584 = 1#1), ∀ a, (k0_off284 v58 v60 k0_t17 v3581 v3584 k0_t20) a + S1x1x16.size a ≤ S3x40x512.size a) ∧
  (∀ k0_t20 : Fin (k0_t20_loop v58 v60 k0_t17 v3581 v3584).trips, ∀ (k0_h1 : k0_cond1 v58 v60 = 1#1), ∀ (k0_h7 : k0_cond7 v58 v60 k0_t17 v3581 v3584 = 1#1), ∀ a, (k0_off285 v58 v60 k0_t17 v3581 v3584 k0_t20) a + S1x1x16.size a ≤ S3x40x512.size a) ∧
  (∀ (k0_h1 : k0_cond1 v58 v60 = 1#1), ∀ (k0_h7 : k0_cond7 v58 v60 k0_t17 v3581 v3584 = 1#1), (k0_t21_loop v58 v60 k0_t17 v3581 v3584).OK) ∧
  (∀ k0_t21 : Fin (k0_t21_loop v58 v60 k0_t17 v3581 v3584).trips, ∀ (k0_h1 : k0_cond1 v58 v60 = 1#1), ∀ (k0_h7 : k0_cond7 v58 v60 k0_t17 v3581 v3584 = 1#1), ∀ a, (k0_off318 v58 v60 k0_t17 v3581 v3584 k0_t21) a + S1x1x16.size a ≤ S3x40x512.size a) ∧
  (∀ k0_t21 : Fin (k0_t21_loop v58 v60 k0_t17 v3581 v3584).trips, ∀ (k0_h1 : k0_cond1 v58 v60 = 1#1), ∀ (k0_h7 : k0_cond7 v58 v60 k0_t17 v3581 v3584 = 1#1), ∀ a, (k0_off319 v58 v60 k0_t17 v3581 v3584 k0_t21) a + S1x1x16.size a ≤ S3x40x512.size a) ∧
  (∀ k0_t21 : Fin (k0_t21_loop v58 v60 k0_t17 v3581 v3584).trips, ∀ (k0_h1 : k0_cond1 v58 v60 = 1#1), ∀ (k0_h7 : k0_cond7 v58 v60 k0_t17 v3581 v3584 = 1#1), ∀ a, (k0_off320 v58 v60 k0_t17 v3581 v3584 k0_t21) a + S1x1x16.size a ≤ S3x40x512.size a) ∧
  (∀ k0_t21 : Fin (k0_t21_loop v58 v60 k0_t17 v3581 v3584).trips, ∀ (k0_h1 : k0_cond1 v58 v60 = 1#1), ∀ (k0_h7 : k0_cond7 v58 v60 k0_t17 v3581 v3584 = 1#1), ∀ a, (k0_off321 v58 v60 k0_t17 v3581 v3584 k0_t21) a + S1x1x16.size a ≤ S3x40x512.size a) ∧
  (∀ k0_t21 : Fin (k0_t21_loop v58 v60 k0_t17 v3581 v3584).trips, ∀ (k0_h1 : k0_cond1 v58 v60 = 1#1), ∀ (k0_h7 : k0_cond7 v58 v60 k0_t17 v3581 v3584 = 1#1), ∀ a, (k0_off322 v58 v60 k0_t17 v3581 v3584 k0_t21) a + S1x1x16.size a ≤ S3x40x512.size a) ∧
  (∀ k0_t21 : Fin (k0_t21_loop v58 v60 k0_t17 v3581 v3584).trips, ∀ (k0_h1 : k0_cond1 v58 v60 = 1#1), ∀ (k0_h7 : k0_cond7 v58 v60 k0_t17 v3581 v3584 = 1#1), ∀ a, (k0_off323 v58 v60 k0_t17 v3581 v3584 k0_t21) a + S1x1x16.size a ≤ S3x40x512.size a) ∧
  (∀ k0_t21 : Fin (k0_t21_loop v58 v60 k0_t17 v3581 v3584).trips, ∀ (k0_h1 : k0_cond1 v58 v60 = 1#1), ∀ (k0_h7 : k0_cond7 v58 v60 k0_t17 v3581 v3584 = 1#1), ∀ a, (k0_off324 v58 v60 k0_t17 v3581 v3584 k0_t21) a + S1x1x16.size a ≤ S3x40x512.size a) ∧
  (∀ k0_t21 : Fin (k0_t21_loop v58 v60 k0_t17 v3581 v3584).trips, ∀ (k0_h1 : k0_cond1 v58 v60 = 1#1), ∀ (k0_h7 : k0_cond7 v58 v60 k0_t17 v3581 v3584 = 1#1), ∀ a, (k0_off325 v58 v60 k0_t17 v3581 v3584 k0_t21) a + S1x1x16.size a ≤ S3x40x512.size a) ∧
  (∀ k0_t21 : Fin (k0_t21_loop v58 v60 k0_t17 v3581 v3584).trips, ∀ (k0_h1 : k0_cond1 v58 v60 = 1#1), ∀ (k0_h7 : k0_cond7 v58 v60 k0_t17 v3581 v3584 = 1#1), ∀ a, (k0_off326 v58 v60 k0_t17 v3581 v3584 k0_t21) a + S1x1x16.size a ≤ S3x40x512.size a) ∧
  (∀ k0_t21 : Fin (k0_t21_loop v58 v60 k0_t17 v3581 v3584).trips, ∀ (k0_h1 : k0_cond1 v58 v60 = 1#1), ∀ (k0_h7 : k0_cond7 v58 v60 k0_t17 v3581 v3584 = 1#1), ∀ a, (k0_off327 v58 v60 k0_t17 v3581 v3584 k0_t21) a + S1x1x16.size a ≤ S3x40x512.size a) ∧
  (∀ k0_t21 : Fin (k0_t21_loop v58 v60 k0_t17 v3581 v3584).trips, ∀ (k0_h1 : k0_cond1 v58 v60 = 1#1), ∀ (k0_h7 : k0_cond7 v58 v60 k0_t17 v3581 v3584 = 1#1), ∀ a, (k0_off328 v58 v60 k0_t17 v3581 v3584 k0_t21) a + S1x1x16.size a ≤ S3x40x512.size a) ∧
  (∀ k0_t21 : Fin (k0_t21_loop v58 v60 k0_t17 v3581 v3584).trips, ∀ (k0_h1 : k0_cond1 v58 v60 = 1#1), ∀ (k0_h7 : k0_cond7 v58 v60 k0_t17 v3581 v3584 = 1#1), ∀ a, (k0_off329 v58 v60 k0_t17 v3581 v3584 k0_t21) a + S1x1x16.size a ≤ S3x40x512.size a) ∧
  (∀ k0_t21 : Fin (k0_t21_loop v58 v60 k0_t17 v3581 v3584).trips, ∀ (k0_h1 : k0_cond1 v58 v60 = 1#1), ∀ (k0_h7 : k0_cond7 v58 v60 k0_t17 v3581 v3584 = 1#1), ∀ a, (k0_off330 v58 v60 k0_t17 v3581 v3584 k0_t21) a + S1x1x16.size a ≤ S3x40x512.size a) ∧
  (∀ k0_t21 : Fin (k0_t21_loop v58 v60 k0_t17 v3581 v3584).trips, ∀ (k0_h1 : k0_cond1 v58 v60 = 1#1), ∀ (k0_h7 : k0_cond7 v58 v60 k0_t17 v3581 v3584 = 1#1), ∀ a, (k0_off331 v58 v60 k0_t17 v3581 v3584 k0_t21) a + S1x1x16.size a ≤ S3x40x512.size a) ∧
  (∀ k0_t21 : Fin (k0_t21_loop v58 v60 k0_t17 v3581 v3584).trips, ∀ (k0_h1 : k0_cond1 v58 v60 = 1#1), ∀ (k0_h7 : k0_cond7 v58 v60 k0_t17 v3581 v3584 = 1#1), ∀ a, (k0_off332 v58 v60 k0_t17 v3581 v3584 k0_t21) a + S1x1x16.size a ≤ S3x40x512.size a) ∧
  (∀ k0_t21 : Fin (k0_t21_loop v58 v60 k0_t17 v3581 v3584).trips, ∀ (k0_h1 : k0_cond1 v58 v60 = 1#1), ∀ (k0_h7 : k0_cond7 v58 v60 k0_t17 v3581 v3584 = 1#1), ∀ a, (k0_off333 v58 v60 k0_t17 v3581 v3584 k0_t21) a + S1x1x16.size a ≤ S3x40x512.size a) ∧
  (∀ (k0_h1 : k0_cond1 v58 v60 = 1#1), ∀ (k0_h7 : k0_cond7 v58 v60 k0_t17 v3581 v3584 = 1#1), (k0_t22_loop v58 v60 k0_t17 v3581 v3584).OK) ∧
  (∀ k0_t22 : Fin (k0_t22_loop v58 v60 k0_t17 v3581 v3584).trips, ∀ (k0_h1 : k0_cond1 v58 v60 = 1#1), ∀ (k0_h7 : k0_cond7 v58 v60 k0_t17 v3581 v3584 = 1#1), ∀ a, (k0_off334 v58 v60 k0_t17 v3581 v3584 k0_t22) a + S1x1x16.size a ≤ S3x40x512.size a) ∧
  (∀ k0_t22 : Fin (k0_t22_loop v58 v60 k0_t17 v3581 v3584).trips, ∀ (k0_h1 : k0_cond1 v58 v60 = 1#1), ∀ (k0_h7 : k0_cond7 v58 v60 k0_t17 v3581 v3584 = 1#1), ∀ a, (k0_off335 v58 v60 k0_t17 v3581 v3584 k0_t22) a + S1x1x16.size a ≤ S3x40x512.size a) ∧
  (∀ k0_t22 : Fin (k0_t22_loop v58 v60 k0_t17 v3581 v3584).trips, ∀ (k0_h1 : k0_cond1 v58 v60 = 1#1), ∀ (k0_h7 : k0_cond7 v58 v60 k0_t17 v3581 v3584 = 1#1), ∀ a, (k0_off336 v58 v60 k0_t17 v3581 v3584 k0_t22) a + S1x1x16.size a ≤ S3x40x512.size a) ∧
  (∀ k0_t22 : Fin (k0_t22_loop v58 v60 k0_t17 v3581 v3584).trips, ∀ (k0_h1 : k0_cond1 v58 v60 = 1#1), ∀ (k0_h7 : k0_cond7 v58 v60 k0_t17 v3581 v3584 = 1#1), ∀ a, (k0_off337 v58 v60 k0_t17 v3581 v3584 k0_t22) a + S1x1x16.size a ≤ S3x40x512.size a) ∧
  (∀ k0_t22 : Fin (k0_t22_loop v58 v60 k0_t17 v3581 v3584).trips, ∀ (k0_h1 : k0_cond1 v58 v60 = 1#1), ∀ (k0_h7 : k0_cond7 v58 v60 k0_t17 v3581 v3584 = 1#1), ∀ a, (k0_off338 v58 v60 k0_t17 v3581 v3584 k0_t22) a + S1x1x16.size a ≤ S3x40x512.size a) ∧
  (∀ k0_t22 : Fin (k0_t22_loop v58 v60 k0_t17 v3581 v3584).trips, ∀ (k0_h1 : k0_cond1 v58 v60 = 1#1), ∀ (k0_h7 : k0_cond7 v58 v60 k0_t17 v3581 v3584 = 1#1), ∀ a, (k0_off339 v58 v60 k0_t17 v3581 v3584 k0_t22) a + S1x1x16.size a ≤ S3x40x512.size a) ∧
  (∀ k0_t22 : Fin (k0_t22_loop v58 v60 k0_t17 v3581 v3584).trips, ∀ (k0_h1 : k0_cond1 v58 v60 = 1#1), ∀ (k0_h7 : k0_cond7 v58 v60 k0_t17 v3581 v3584 = 1#1), ∀ a, (k0_off340 v58 v60 k0_t17 v3581 v3584 k0_t22) a + S1x1x16.size a ≤ S3x40x512.size a) ∧
  (∀ k0_t22 : Fin (k0_t22_loop v58 v60 k0_t17 v3581 v3584).trips, ∀ (k0_h1 : k0_cond1 v58 v60 = 1#1), ∀ (k0_h7 : k0_cond7 v58 v60 k0_t17 v3581 v3584 = 1#1), ∀ a, (k0_off341 v58 v60 k0_t17 v3581 v3584 k0_t22) a + S1x1x16.size a ≤ S3x40x512.size a) ∧
  (∀ k0_t22 : Fin (k0_t22_loop v58 v60 k0_t17 v3581 v3584).trips, ∀ (k0_h1 : k0_cond1 v58 v60 = 1#1), ∀ (k0_h7 : k0_cond7 v58 v60 k0_t17 v3581 v3584 = 1#1), ∀ a, (k0_off342 v58 v60 k0_t17 v3581 v3584 k0_t22) a + S1x1x16.size a ≤ S3x40x512.size a) ∧
  (∀ k0_t22 : Fin (k0_t22_loop v58 v60 k0_t17 v3581 v3584).trips, ∀ (k0_h1 : k0_cond1 v58 v60 = 1#1), ∀ (k0_h7 : k0_cond7 v58 v60 k0_t17 v3581 v3584 = 1#1), ∀ a, (k0_off343 v58 v60 k0_t17 v3581 v3584 k0_t22) a + S1x1x16.size a ≤ S3x40x512.size a) ∧
  (∀ k0_t22 : Fin (k0_t22_loop v58 v60 k0_t17 v3581 v3584).trips, ∀ (k0_h1 : k0_cond1 v58 v60 = 1#1), ∀ (k0_h7 : k0_cond7 v58 v60 k0_t17 v3581 v3584 = 1#1), ∀ a, (k0_off344 v58 v60 k0_t17 v3581 v3584 k0_t22) a + S1x1x16.size a ≤ S3x40x512.size a) ∧
  (∀ k0_t22 : Fin (k0_t22_loop v58 v60 k0_t17 v3581 v3584).trips, ∀ (k0_h1 : k0_cond1 v58 v60 = 1#1), ∀ (k0_h7 : k0_cond7 v58 v60 k0_t17 v3581 v3584 = 1#1), ∀ a, (k0_off345 v58 v60 k0_t17 v3581 v3584 k0_t22) a + S1x1x16.size a ≤ S3x40x512.size a)
def k0_chk12_2 (v58 : BitVec 32) (v60 : BitVec 32) (k0_t17 : Fin (k0_t17_loop v58 v60).trips) (v3581 : BitVec 32) (v3584 : BitVec 32) : Prop :=
  (∀ k0_t22 : Fin (k0_t22_loop v58 v60 k0_t17 v3581 v3584).trips, ∀ (k0_h1 : k0_cond1 v58 v60 = 1#1), ∀ (k0_h7 : k0_cond7 v58 v60 k0_t17 v3581 v3584 = 1#1), ∀ a, (k0_off346 v58 v60 k0_t17 v3581 v3584 k0_t22) a + S1x1x16.size a ≤ S3x40x512.size a) ∧
  (∀ k0_t22 : Fin (k0_t22_loop v58 v60 k0_t17 v3581 v3584).trips, ∀ (k0_h1 : k0_cond1 v58 v60 = 1#1), ∀ (k0_h7 : k0_cond7 v58 v60 k0_t17 v3581 v3584 = 1#1), ∀ a, (k0_off347 v58 v60 k0_t17 v3581 v3584 k0_t22) a + S1x1x16.size a ≤ S3x40x512.size a) ∧
  (∀ k0_t22 : Fin (k0_t22_loop v58 v60 k0_t17 v3581 v3584).trips, ∀ (k0_h1 : k0_cond1 v58 v60 = 1#1), ∀ (k0_h7 : k0_cond7 v58 v60 k0_t17 v3581 v3584 = 1#1), ∀ a, (k0_off348 v58 v60 k0_t17 v3581 v3584 k0_t22) a + S1x1x16.size a ≤ S3x40x512.size a) ∧
  (∀ k0_t22 : Fin (k0_t22_loop v58 v60 k0_t17 v3581 v3584).trips, ∀ (k0_h1 : k0_cond1 v58 v60 = 1#1), ∀ (k0_h7 : k0_cond7 v58 v60 k0_t17 v3581 v3584 = 1#1), ∀ a, (k0_off349 v58 v60 k0_t17 v3581 v3584 k0_t22) a + S1x1x16.size a ≤ S3x40x512.size a)
def k0_chk12 (v58 : BitVec 32) (v60 : BitVec 32) (k0_t17 : Fin (k0_t17_loop v58 v60).trips) (v3581 : BitVec 32) (v3584 : BitVec 32) : Prop :=
  k0_chk12_0 v58 v60 k0_t17 v3581 v3584 ∧
  k0_chk12_1 v58 v60 k0_t17 v3581 v3584 ∧
  k0_chk12_2 v58 v60 k0_t17 v3581 v3584
theorem k0_t19_ok : ∀ (v58 : BitVec 32) (v60 : BitVec 32) (k0_t17 : Fin (k0_t17_loop v58 v60).trips) (v3581 : BitVec 32) (v3584 : BitVec 32) (k0_hw12 : k0_chk12 v58 v60 k0_t17 v3581 v3584), ∀ (k0_h1 : k0_cond1 v58 v60 = 1#1), ∀ (k0_h7 : k0_cond7 v58 v60 k0_t17 v3581 v3584 = 1#1), (k0_t19_loop v58 v60 k0_t17 v3581 v3584).OK := fun v58 v60 k0_t17 v3581 v3584 k0_hw12 k0_h1 k0_h7 => k0_hw12.1.1 k0_h1 k0_h7
theorem k0_off254_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t19 : Fin (k0_t19_loop v58 v60 k0_t17 v3581 v3584).trips), ∀ (k0_h1 : k0_cond1 v58 v60 = 1#1), ∀ (k0_h7 : k0_cond7 v58 v60 k0_t17 v3581 v3584 = 1#1), ∀ a, (k0_off254 v58 v60 k0_t17 v3581 v3584 k0_t19) a + S1x1x16.size a ≤ S3x40x512.size a := fun v58 v60 k0_t17 v3581 v3584 k0_hw12 k0_t19 k0_h1 k0_h7 => k0_hw12.1.2.1 k0_t19 k0_h1 k0_h7
theorem k0_off255_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t19 : Fin (k0_t19_loop v58 v60 k0_t17 v3581 v3584).trips), ∀ (k0_h1 : k0_cond1 v58 v60 = 1#1), ∀ (k0_h7 : k0_cond7 v58 v60 k0_t17 v3581 v3584 = 1#1), ∀ a, (k0_off255 v58 v60 k0_t17 v3581 v3584 k0_t19) a + S1x1x16.size a ≤ S3x40x512.size a := fun v58 v60 k0_t17 v3581 v3584 k0_hw12 k0_t19 k0_h1 k0_h7 => k0_hw12.1.2.2.1 k0_t19 k0_h1 k0_h7
theorem k0_off256_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t19 : Fin (k0_t19_loop v58 v60 k0_t17 v3581 v3584).trips), ∀ (k0_h1 : k0_cond1 v58 v60 = 1#1), ∀ (k0_h7 : k0_cond7 v58 v60 k0_t17 v3581 v3584 = 1#1), ∀ a, (k0_off256 v58 v60 k0_t17 v3581 v3584 k0_t19) a + S1x1x16.size a ≤ S3x40x512.size a := fun v58 v60 k0_t17 v3581 v3584 k0_hw12 k0_t19 k0_h1 k0_h7 => k0_hw12.1.2.2.2.1 k0_t19 k0_h1 k0_h7
theorem k0_off257_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t19 : Fin (k0_t19_loop v58 v60 k0_t17 v3581 v3584).trips), ∀ (k0_h1 : k0_cond1 v58 v60 = 1#1), ∀ (k0_h7 : k0_cond7 v58 v60 k0_t17 v3581 v3584 = 1#1), ∀ a, (k0_off257 v58 v60 k0_t17 v3581 v3584 k0_t19) a + S1x1x16.size a ≤ S3x40x512.size a := fun v58 v60 k0_t17 v3581 v3584 k0_hw12 k0_t19 k0_h1 k0_h7 => k0_hw12.1.2.2.2.2.1 k0_t19 k0_h1 k0_h7
theorem k0_off258_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t19 : Fin (k0_t19_loop v58 v60 k0_t17 v3581 v3584).trips), ∀ (k0_h1 : k0_cond1 v58 v60 = 1#1), ∀ (k0_h7 : k0_cond7 v58 v60 k0_t17 v3581 v3584 = 1#1), ∀ a, (k0_off258 v58 v60 k0_t17 v3581 v3584 k0_t19) a + S1x1x16.size a ≤ S3x40x512.size a := fun v58 v60 k0_t17 v3581 v3584 k0_hw12 k0_t19 k0_h1 k0_h7 => k0_hw12.1.2.2.2.2.2.1 k0_t19 k0_h1 k0_h7
theorem k0_off259_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t19 : Fin (k0_t19_loop v58 v60 k0_t17 v3581 v3584).trips), ∀ (k0_h1 : k0_cond1 v58 v60 = 1#1), ∀ (k0_h7 : k0_cond7 v58 v60 k0_t17 v3581 v3584 = 1#1), ∀ a, (k0_off259 v58 v60 k0_t17 v3581 v3584 k0_t19) a + S1x1x16.size a ≤ S3x40x512.size a := fun v58 v60 k0_t17 v3581 v3584 k0_hw12 k0_t19 k0_h1 k0_h7 => k0_hw12.1.2.2.2.2.2.2.1 k0_t19 k0_h1 k0_h7
theorem k0_off260_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t19 : Fin (k0_t19_loop v58 v60 k0_t17 v3581 v3584).trips), ∀ (k0_h1 : k0_cond1 v58 v60 = 1#1), ∀ (k0_h7 : k0_cond7 v58 v60 k0_t17 v3581 v3584 = 1#1), ∀ a, (k0_off260 v58 v60 k0_t17 v3581 v3584 k0_t19) a + S1x1x16.size a ≤ S3x40x512.size a := fun v58 v60 k0_t17 v3581 v3584 k0_hw12 k0_t19 k0_h1 k0_h7 => k0_hw12.1.2.2.2.2.2.2.2.1 k0_t19 k0_h1 k0_h7
theorem k0_off261_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t19 : Fin (k0_t19_loop v58 v60 k0_t17 v3581 v3584).trips), ∀ (k0_h1 : k0_cond1 v58 v60 = 1#1), ∀ (k0_h7 : k0_cond7 v58 v60 k0_t17 v3581 v3584 = 1#1), ∀ a, (k0_off261 v58 v60 k0_t17 v3581 v3584 k0_t19) a + S1x1x16.size a ≤ S3x40x512.size a := fun v58 v60 k0_t17 v3581 v3584 k0_hw12 k0_t19 k0_h1 k0_h7 => k0_hw12.1.2.2.2.2.2.2.2.2.1 k0_t19 k0_h1 k0_h7
theorem k0_off262_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t19 : Fin (k0_t19_loop v58 v60 k0_t17 v3581 v3584).trips), ∀ (k0_h1 : k0_cond1 v58 v60 = 1#1), ∀ (k0_h7 : k0_cond7 v58 v60 k0_t17 v3581 v3584 = 1#1), ∀ a, (k0_off262 v58 v60 k0_t17 v3581 v3584 k0_t19) a + S1x1x16.size a ≤ S3x40x512.size a := fun v58 v60 k0_t17 v3581 v3584 k0_hw12 k0_t19 k0_h1 k0_h7 => k0_hw12.1.2.2.2.2.2.2.2.2.2.1 k0_t19 k0_h1 k0_h7
theorem k0_off263_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t19 : Fin (k0_t19_loop v58 v60 k0_t17 v3581 v3584).trips), ∀ (k0_h1 : k0_cond1 v58 v60 = 1#1), ∀ (k0_h7 : k0_cond7 v58 v60 k0_t17 v3581 v3584 = 1#1), ∀ a, (k0_off263 v58 v60 k0_t17 v3581 v3584 k0_t19) a + S1x1x16.size a ≤ S3x40x512.size a := fun v58 v60 k0_t17 v3581 v3584 k0_hw12 k0_t19 k0_h1 k0_h7 => k0_hw12.1.2.2.2.2.2.2.2.2.2.2.1 k0_t19 k0_h1 k0_h7
theorem k0_off264_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t19 : Fin (k0_t19_loop v58 v60 k0_t17 v3581 v3584).trips), ∀ (k0_h1 : k0_cond1 v58 v60 = 1#1), ∀ (k0_h7 : k0_cond7 v58 v60 k0_t17 v3581 v3584 = 1#1), ∀ a, (k0_off264 v58 v60 k0_t17 v3581 v3584 k0_t19) a + S1x1x16.size a ≤ S3x40x512.size a := fun v58 v60 k0_t17 v3581 v3584 k0_hw12 k0_t19 k0_h1 k0_h7 => k0_hw12.1.2.2.2.2.2.2.2.2.2.2.2.1 k0_t19 k0_h1 k0_h7
theorem k0_off265_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t19 : Fin (k0_t19_loop v58 v60 k0_t17 v3581 v3584).trips), ∀ (k0_h1 : k0_cond1 v58 v60 = 1#1), ∀ (k0_h7 : k0_cond7 v58 v60 k0_t17 v3581 v3584 = 1#1), ∀ a, (k0_off265 v58 v60 k0_t17 v3581 v3584 k0_t19) a + S1x1x16.size a ≤ S3x40x512.size a := fun v58 v60 k0_t17 v3581 v3584 k0_hw12 k0_t19 k0_h1 k0_h7 => k0_hw12.1.2.2.2.2.2.2.2.2.2.2.2.2.1 k0_t19 k0_h1 k0_h7
theorem k0_off266_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t19 : Fin (k0_t19_loop v58 v60 k0_t17 v3581 v3584).trips), ∀ (k0_h1 : k0_cond1 v58 v60 = 1#1), ∀ (k0_h7 : k0_cond7 v58 v60 k0_t17 v3581 v3584 = 1#1), ∀ a, (k0_off266 v58 v60 k0_t17 v3581 v3584 k0_t19) a + S1x1x16.size a ≤ S3x40x512.size a := fun v58 v60 k0_t17 v3581 v3584 k0_hw12 k0_t19 k0_h1 k0_h7 => k0_hw12.1.2.2.2.2.2.2.2.2.2.2.2.2.2.1 k0_t19 k0_h1 k0_h7
theorem k0_off267_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t19 : Fin (k0_t19_loop v58 v60 k0_t17 v3581 v3584).trips), ∀ (k0_h1 : k0_cond1 v58 v60 = 1#1), ∀ (k0_h7 : k0_cond7 v58 v60 k0_t17 v3581 v3584 = 1#1), ∀ a, (k0_off267 v58 v60 k0_t17 v3581 v3584 k0_t19) a + S1x1x16.size a ≤ S3x40x512.size a := fun v58 v60 k0_t17 v3581 v3584 k0_hw12 k0_t19 k0_h1 k0_h7 => k0_hw12.1.2.2.2.2.2.2.2.2.2.2.2.2.2.2.1 k0_t19 k0_h1 k0_h7
theorem k0_off268_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t19 : Fin (k0_t19_loop v58 v60 k0_t17 v3581 v3584).trips), ∀ (k0_h1 : k0_cond1 v58 v60 = 1#1), ∀ (k0_h7 : k0_cond7 v58 v60 k0_t17 v3581 v3584 = 1#1), ∀ a, (k0_off268 v58 v60 k0_t17 v3581 v3584 k0_t19) a + S1x1x16.size a ≤ S3x40x512.size a := fun v58 v60 k0_t17 v3581 v3584 k0_hw12 k0_t19 k0_h1 k0_h7 => k0_hw12.1.2.2.2.2.2.2.2.2.2.2.2.2.2.2.2.1 k0_t19 k0_h1 k0_h7
theorem k0_off269_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t19 : Fin (k0_t19_loop v58 v60 k0_t17 v3581 v3584).trips), ∀ (k0_h1 : k0_cond1 v58 v60 = 1#1), ∀ (k0_h7 : k0_cond7 v58 v60 k0_t17 v3581 v3584 = 1#1), ∀ a, (k0_off269 v58 v60 k0_t17 v3581 v3584 k0_t19) a + S1x1x16.size a ≤ S3x40x512.size a := fun v58 v60 k0_t17 v3581 v3584 k0_hw12 k0_t19 k0_h1 k0_h7 => k0_hw12.1.2.2.2.2.2.2.2.2.2.2.2.2.2.2.2.2.1 k0_t19 k0_h1 k0_h7
theorem k0_t20_ok : ∀ (v58 : BitVec 32) (v60 : BitVec 32) (k0_t17 : Fin (k0_t17_loop v58 v60).trips) (v3581 : BitVec 32) (v3584 : BitVec 32) (k0_hw12 : k0_chk12 v58 v60 k0_t17 v3581 v3584), ∀ (k0_h1 : k0_cond1 v58 v60 = 1#1), ∀ (k0_h7 : k0_cond7 v58 v60 k0_t17 v3581 v3584 = 1#1), (k0_t20_loop v58 v60 k0_t17 v3581 v3584).OK := fun v58 v60 k0_t17 v3581 v3584 k0_hw12 k0_h1 k0_h7 => k0_hw12.1.2.2.2.2.2.2.2.2.2.2.2.2.2.2.2.2.2.1 k0_h1 k0_h7
theorem k0_off270_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t20 : Fin (k0_t20_loop v58 v60 k0_t17 v3581 v3584).trips), ∀ (k0_h1 : k0_cond1 v58 v60 = 1#1), ∀ (k0_h7 : k0_cond7 v58 v60 k0_t17 v3581 v3584 = 1#1), ∀ a, (k0_off270 v58 v60 k0_t17 v3581 v3584 k0_t20) a + S1x1x16.size a ≤ S3x40x512.size a := fun v58 v60 k0_t17 v3581 v3584 k0_hw12 k0_t20 k0_h1 k0_h7 => k0_hw12.1.2.2.2.2.2.2.2.2.2.2.2.2.2.2.2.2.2.2.1 k0_t20 k0_h1 k0_h7
theorem k0_off271_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t20 : Fin (k0_t20_loop v58 v60 k0_t17 v3581 v3584).trips), ∀ (k0_h1 : k0_cond1 v58 v60 = 1#1), ∀ (k0_h7 : k0_cond7 v58 v60 k0_t17 v3581 v3584 = 1#1), ∀ a, (k0_off271 v58 v60 k0_t17 v3581 v3584 k0_t20) a + S1x1x16.size a ≤ S3x40x512.size a := fun v58 v60 k0_t17 v3581 v3584 k0_hw12 k0_t20 k0_h1 k0_h7 => k0_hw12.1.2.2.2.2.2.2.2.2.2.2.2.2.2.2.2.2.2.2.2.1 k0_t20 k0_h1 k0_h7
theorem k0_off272_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t20 : Fin (k0_t20_loop v58 v60 k0_t17 v3581 v3584).trips), ∀ (k0_h1 : k0_cond1 v58 v60 = 1#1), ∀ (k0_h7 : k0_cond7 v58 v60 k0_t17 v3581 v3584 = 1#1), ∀ a, (k0_off272 v58 v60 k0_t17 v3581 v3584 k0_t20) a + S1x1x16.size a ≤ S3x40x512.size a := fun v58 v60 k0_t17 v3581 v3584 k0_hw12 k0_t20 k0_h1 k0_h7 => k0_hw12.1.2.2.2.2.2.2.2.2.2.2.2.2.2.2.2.2.2.2.2.2.1 k0_t20 k0_h1 k0_h7
theorem k0_off273_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t20 : Fin (k0_t20_loop v58 v60 k0_t17 v3581 v3584).trips), ∀ (k0_h1 : k0_cond1 v58 v60 = 1#1), ∀ (k0_h7 : k0_cond7 v58 v60 k0_t17 v3581 v3584 = 1#1), ∀ a, (k0_off273 v58 v60 k0_t17 v3581 v3584 k0_t20) a + S1x1x16.size a ≤ S3x40x512.size a := fun v58 v60 k0_t17 v3581 v3584 k0_hw12 k0_t20 k0_h1 k0_h7 => k0_hw12.1.2.2.2.2.2.2.2.2.2.2.2.2.2.2.2.2.2.2.2.2.2.1 k0_t20 k0_h1 k0_h7
theorem k0_off274_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t20 : Fin (k0_t20_loop v58 v60 k0_t17 v3581 v3584).trips), ∀ (k0_h1 : k0_cond1 v58 v60 = 1#1), ∀ (k0_h7 : k0_cond7 v58 v60 k0_t17 v3581 v3584 = 1#1), ∀ a, (k0_off274 v58 v60 k0_t17 v3581 v3584 k0_t20) a + S1x1x16.size a ≤ S3x40x512.size a := fun v58 v60 k0_t17 v3581 v3584 k0_hw12 k0_t20 k0_h1 k0_h7 => k0_hw12.1.2.2.2.2.2.2.2.2.2.2.2.2.2.2.2.2.2.2.2.2.2.2.1 k0_t20 k0_h1 k0_h7
theorem k0_off275_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t20 : Fin (k0_t20_loop v58 v60 k0_t17 v3581 v3584).trips), ∀ (k0_h1 : k0_cond1 v58 v60 = 1#1), ∀ (k0_h7 : k0_cond7 v58 v60 k0_t17 v3581 v3584 = 1#1), ∀ a, (k0_off275 v58 v60 k0_t17 v3581 v3584 k0_t20) a + S1x1x16.size a ≤ S3x40x512.size a := fun v58 v60 k0_t17 v3581 v3584 k0_hw12 k0_t20 k0_h1 k0_h7 => k0_hw12.1.2.2.2.2.2.2.2.2.2.2.2.2.2.2.2.2.2.2.2.2.2.2.2.1 k0_t20 k0_h1 k0_h7
theorem k0_off276_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t20 : Fin (k0_t20_loop v58 v60 k0_t17 v3581 v3584).trips), ∀ (k0_h1 : k0_cond1 v58 v60 = 1#1), ∀ (k0_h7 : k0_cond7 v58 v60 k0_t17 v3581 v3584 = 1#1), ∀ a, (k0_off276 v58 v60 k0_t17 v3581 v3584 k0_t20) a + S1x1x16.size a ≤ S3x40x512.size a := fun v58 v60 k0_t17 v3581 v3584 k0_hw12 k0_t20 k0_h1 k0_h7 => k0_hw12.1.2.2.2.2.2.2.2.2.2.2.2.2.2.2.2.2.2.2.2.2.2.2.2.2.1 k0_t20 k0_h1 k0_h7
theorem k0_off277_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t20 : Fin (k0_t20_loop v58 v60 k0_t17 v3581 v3584).trips), ∀ (k0_h1 : k0_cond1 v58 v60 = 1#1), ∀ (k0_h7 : k0_cond7 v58 v60 k0_t17 v3581 v3584 = 1#1), ∀ a, (k0_off277 v58 v60 k0_t17 v3581 v3584 k0_t20) a + S1x1x16.size a ≤ S3x40x512.size a := fun v58 v60 k0_t17 v3581 v3584 k0_hw12 k0_t20 k0_h1 k0_h7 => k0_hw12.1.2.2.2.2.2.2.2.2.2.2.2.2.2.2.2.2.2.2.2.2.2.2.2.2.2.1 k0_t20 k0_h1 k0_h7
theorem k0_off278_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t20 : Fin (k0_t20_loop v58 v60 k0_t17 v3581 v3584).trips), ∀ (k0_h1 : k0_cond1 v58 v60 = 1#1), ∀ (k0_h7 : k0_cond7 v58 v60 k0_t17 v3581 v3584 = 1#1), ∀ a, (k0_off278 v58 v60 k0_t17 v3581 v3584 k0_t20) a + S1x1x16.size a ≤ S3x40x512.size a := fun v58 v60 k0_t17 v3581 v3584 k0_hw12 k0_t20 k0_h1 k0_h7 => k0_hw12.1.2.2.2.2.2.2.2.2.2.2.2.2.2.2.2.2.2.2.2.2.2.2.2.2.2.2.1 k0_t20 k0_h1 k0_h7
theorem k0_off279_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t20 : Fin (k0_t20_loop v58 v60 k0_t17 v3581 v3584).trips), ∀ (k0_h1 : k0_cond1 v58 v60 = 1#1), ∀ (k0_h7 : k0_cond7 v58 v60 k0_t17 v3581 v3584 = 1#1), ∀ a, (k0_off279 v58 v60 k0_t17 v3581 v3584 k0_t20) a + S1x1x16.size a ≤ S3x40x512.size a := fun v58 v60 k0_t17 v3581 v3584 k0_hw12 k0_t20 k0_h1 k0_h7 => k0_hw12.1.2.2.2.2.2.2.2.2.2.2.2.2.2.2.2.2.2.2.2.2.2.2.2.2.2.2.2.1 k0_t20 k0_h1 k0_h7
theorem k0_off280_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t20 : Fin (k0_t20_loop v58 v60 k0_t17 v3581 v3584).trips), ∀ (k0_h1 : k0_cond1 v58 v60 = 1#1), ∀ (k0_h7 : k0_cond7 v58 v60 k0_t17 v3581 v3584 = 1#1), ∀ a, (k0_off280 v58 v60 k0_t17 v3581 v3584 k0_t20) a + S1x1x16.size a ≤ S3x40x512.size a := fun v58 v60 k0_t17 v3581 v3584 k0_hw12 k0_t20 k0_h1 k0_h7 => k0_hw12.1.2.2.2.2.2.2.2.2.2.2.2.2.2.2.2.2.2.2.2.2.2.2.2.2.2.2.2.2.1 k0_t20 k0_h1 k0_h7
theorem k0_off281_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t20 : Fin (k0_t20_loop v58 v60 k0_t17 v3581 v3584).trips), ∀ (k0_h1 : k0_cond1 v58 v60 = 1#1), ∀ (k0_h7 : k0_cond7 v58 v60 k0_t17 v3581 v3584 = 1#1), ∀ a, (k0_off281 v58 v60 k0_t17 v3581 v3584 k0_t20) a + S1x1x16.size a ≤ S3x40x512.size a := fun v58 v60 k0_t17 v3581 v3584 k0_hw12 k0_t20 k0_h1 k0_h7 => k0_hw12.1.2.2.2.2.2.2.2.2.2.2.2.2.2.2.2.2.2.2.2.2.2.2.2.2.2.2.2.2.2.1 k0_t20 k0_h1 k0_h7
theorem k0_off282_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t20 : Fin (k0_t20_loop v58 v60 k0_t17 v3581 v3584).trips), ∀ (k0_h1 : k0_cond1 v58 v60 = 1#1), ∀ (k0_h7 : k0_cond7 v58 v60 k0_t17 v3581 v3584 = 1#1), ∀ a, (k0_off282 v58 v60 k0_t17 v3581 v3584 k0_t20) a + S1x1x16.size a ≤ S3x40x512.size a := fun v58 v60 k0_t17 v3581 v3584 k0_hw12 k0_t20 k0_h1 k0_h7 => k0_hw12.1.2.2.2.2.2.2.2.2.2.2.2.2.2.2.2.2.2.2.2.2.2.2.2.2.2.2.2.2.2.2.1 k0_t20 k0_h1 k0_h7
theorem k0_off283_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t20 : Fin (k0_t20_loop v58 v60 k0_t17 v3581 v3584).trips), ∀ (k0_h1 : k0_cond1 v58 v60 = 1#1), ∀ (k0_h7 : k0_cond7 v58 v60 k0_t17 v3581 v3584 = 1#1), ∀ a, (k0_off283 v58 v60 k0_t17 v3581 v3584 k0_t20) a + S1x1x16.size a ≤ S3x40x512.size a := fun v58 v60 k0_t17 v3581 v3584 k0_hw12 k0_t20 k0_h1 k0_h7 => k0_hw12.1.2.2.2.2.2.2.2.2.2.2.2.2.2.2.2.2.2.2.2.2.2.2.2.2.2.2.2.2.2.2.2 k0_t20 k0_h1 k0_h7
theorem k0_off284_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t20 : Fin (k0_t20_loop v58 v60 k0_t17 v3581 v3584).trips), ∀ (k0_h1 : k0_cond1 v58 v60 = 1#1), ∀ (k0_h7 : k0_cond7 v58 v60 k0_t17 v3581 v3584 = 1#1), ∀ a, (k0_off284 v58 v60 k0_t17 v3581 v3584 k0_t20) a + S1x1x16.size a ≤ S3x40x512.size a := fun v58 v60 k0_t17 v3581 v3584 k0_hw12 k0_t20 k0_h1 k0_h7 => k0_hw12.2.1.1 k0_t20 k0_h1 k0_h7
theorem k0_off285_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t20 : Fin (k0_t20_loop v58 v60 k0_t17 v3581 v3584).trips), ∀ (k0_h1 : k0_cond1 v58 v60 = 1#1), ∀ (k0_h7 : k0_cond7 v58 v60 k0_t17 v3581 v3584 = 1#1), ∀ a, (k0_off285 v58 v60 k0_t17 v3581 v3584 k0_t20) a + S1x1x16.size a ≤ S3x40x512.size a := fun v58 v60 k0_t17 v3581 v3584 k0_hw12 k0_t20 k0_h1 k0_h7 => k0_hw12.2.1.2.1 k0_t20 k0_h1 k0_h7
theorem k0_t21_ok : ∀ (v58 : BitVec 32) (v60 : BitVec 32) (k0_t17 : Fin (k0_t17_loop v58 v60).trips) (v3581 : BitVec 32) (v3584 : BitVec 32) (k0_hw12 : k0_chk12 v58 v60 k0_t17 v3581 v3584), ∀ (k0_h1 : k0_cond1 v58 v60 = 1#1), ∀ (k0_h7 : k0_cond7 v58 v60 k0_t17 v3581 v3584 = 1#1), (k0_t21_loop v58 v60 k0_t17 v3581 v3584).OK := fun v58 v60 k0_t17 v3581 v3584 k0_hw12 k0_h1 k0_h7 => k0_hw12.2.1.2.2.1 k0_h1 k0_h7
theorem k0_off318_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t21 : Fin (k0_t21_loop v58 v60 k0_t17 v3581 v3584).trips), ∀ (k0_h1 : k0_cond1 v58 v60 = 1#1), ∀ (k0_h7 : k0_cond7 v58 v60 k0_t17 v3581 v3584 = 1#1), ∀ a, (k0_off318 v58 v60 k0_t17 v3581 v3584 k0_t21) a + S1x1x16.size a ≤ S3x40x512.size a := fun v58 v60 k0_t17 v3581 v3584 k0_hw12 k0_t21 k0_h1 k0_h7 => k0_hw12.2.1.2.2.2.1 k0_t21 k0_h1 k0_h7
theorem k0_off319_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t21 : Fin (k0_t21_loop v58 v60 k0_t17 v3581 v3584).trips), ∀ (k0_h1 : k0_cond1 v58 v60 = 1#1), ∀ (k0_h7 : k0_cond7 v58 v60 k0_t17 v3581 v3584 = 1#1), ∀ a, (k0_off319 v58 v60 k0_t17 v3581 v3584 k0_t21) a + S1x1x16.size a ≤ S3x40x512.size a := fun v58 v60 k0_t17 v3581 v3584 k0_hw12 k0_t21 k0_h1 k0_h7 => k0_hw12.2.1.2.2.2.2.1 k0_t21 k0_h1 k0_h7
theorem k0_off320_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t21 : Fin (k0_t21_loop v58 v60 k0_t17 v3581 v3584).trips), ∀ (k0_h1 : k0_cond1 v58 v60 = 1#1), ∀ (k0_h7 : k0_cond7 v58 v60 k0_t17 v3581 v3584 = 1#1), ∀ a, (k0_off320 v58 v60 k0_t17 v3581 v3584 k0_t21) a + S1x1x16.size a ≤ S3x40x512.size a := fun v58 v60 k0_t17 v3581 v3584 k0_hw12 k0_t21 k0_h1 k0_h7 => k0_hw12.2.1.2.2.2.2.2.1 k0_t21 k0_h1 k0_h7
theorem k0_off321_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t21 : Fin (k0_t21_loop v58 v60 k0_t17 v3581 v3584).trips), ∀ (k0_h1 : k0_cond1 v58 v60 = 1#1), ∀ (k0_h7 : k0_cond7 v58 v60 k0_t17 v3581 v3584 = 1#1), ∀ a, (k0_off321 v58 v60 k0_t17 v3581 v3584 k0_t21) a + S1x1x16.size a ≤ S3x40x512.size a := fun v58 v60 k0_t17 v3581 v3584 k0_hw12 k0_t21 k0_h1 k0_h7 => k0_hw12.2.1.2.2.2.2.2.2.1 k0_t21 k0_h1 k0_h7
theorem k0_off322_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t21 : Fin (k0_t21_loop v58 v60 k0_t17 v3581 v3584).trips), ∀ (k0_h1 : k0_cond1 v58 v60 = 1#1), ∀ (k0_h7 : k0_cond7 v58 v60 k0_t17 v3581 v3584 = 1#1), ∀ a, (k0_off322 v58 v60 k0_t17 v3581 v3584 k0_t21) a + S1x1x16.size a ≤ S3x40x512.size a := fun v58 v60 k0_t17 v3581 v3584 k0_hw12 k0_t21 k0_h1 k0_h7 => k0_hw12.2.1.2.2.2.2.2.2.2.1 k0_t21 k0_h1 k0_h7
theorem k0_off323_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t21 : Fin (k0_t21_loop v58 v60 k0_t17 v3581 v3584).trips), ∀ (k0_h1 : k0_cond1 v58 v60 = 1#1), ∀ (k0_h7 : k0_cond7 v58 v60 k0_t17 v3581 v3584 = 1#1), ∀ a, (k0_off323 v58 v60 k0_t17 v3581 v3584 k0_t21) a + S1x1x16.size a ≤ S3x40x512.size a := fun v58 v60 k0_t17 v3581 v3584 k0_hw12 k0_t21 k0_h1 k0_h7 => k0_hw12.2.1.2.2.2.2.2.2.2.2.1 k0_t21 k0_h1 k0_h7
theorem k0_off324_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t21 : Fin (k0_t21_loop v58 v60 k0_t17 v3581 v3584).trips), ∀ (k0_h1 : k0_cond1 v58 v60 = 1#1), ∀ (k0_h7 : k0_cond7 v58 v60 k0_t17 v3581 v3584 = 1#1), ∀ a, (k0_off324 v58 v60 k0_t17 v3581 v3584 k0_t21) a + S1x1x16.size a ≤ S3x40x512.size a := fun v58 v60 k0_t17 v3581 v3584 k0_hw12 k0_t21 k0_h1 k0_h7 => k0_hw12.2.1.2.2.2.2.2.2.2.2.2.1 k0_t21 k0_h1 k0_h7
theorem k0_off325_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t21 : Fin (k0_t21_loop v58 v60 k0_t17 v3581 v3584).trips), ∀ (k0_h1 : k0_cond1 v58 v60 = 1#1), ∀ (k0_h7 : k0_cond7 v58 v60 k0_t17 v3581 v3584 = 1#1), ∀ a, (k0_off325 v58 v60 k0_t17 v3581 v3584 k0_t21) a + S1x1x16.size a ≤ S3x40x512.size a := fun v58 v60 k0_t17 v3581 v3584 k0_hw12 k0_t21 k0_h1 k0_h7 => k0_hw12.2.1.2.2.2.2.2.2.2.2.2.2.1 k0_t21 k0_h1 k0_h7
theorem k0_off326_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t21 : Fin (k0_t21_loop v58 v60 k0_t17 v3581 v3584).trips), ∀ (k0_h1 : k0_cond1 v58 v60 = 1#1), ∀ (k0_h7 : k0_cond7 v58 v60 k0_t17 v3581 v3584 = 1#1), ∀ a, (k0_off326 v58 v60 k0_t17 v3581 v3584 k0_t21) a + S1x1x16.size a ≤ S3x40x512.size a := fun v58 v60 k0_t17 v3581 v3584 k0_hw12 k0_t21 k0_h1 k0_h7 => k0_hw12.2.1.2.2.2.2.2.2.2.2.2.2.2.1 k0_t21 k0_h1 k0_h7
theorem k0_off327_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t21 : Fin (k0_t21_loop v58 v60 k0_t17 v3581 v3584).trips), ∀ (k0_h1 : k0_cond1 v58 v60 = 1#1), ∀ (k0_h7 : k0_cond7 v58 v60 k0_t17 v3581 v3584 = 1#1), ∀ a, (k0_off327 v58 v60 k0_t17 v3581 v3584 k0_t21) a + S1x1x16.size a ≤ S3x40x512.size a := fun v58 v60 k0_t17 v3581 v3584 k0_hw12 k0_t21 k0_h1 k0_h7 => k0_hw12.2.1.2.2.2.2.2.2.2.2.2.2.2.2.1 k0_t21 k0_h1 k0_h7
theorem k0_off328_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t21 : Fin (k0_t21_loop v58 v60 k0_t17 v3581 v3584).trips), ∀ (k0_h1 : k0_cond1 v58 v60 = 1#1), ∀ (k0_h7 : k0_cond7 v58 v60 k0_t17 v3581 v3584 = 1#1), ∀ a, (k0_off328 v58 v60 k0_t17 v3581 v3584 k0_t21) a + S1x1x16.size a ≤ S3x40x512.size a := fun v58 v60 k0_t17 v3581 v3584 k0_hw12 k0_t21 k0_h1 k0_h7 => k0_hw12.2.1.2.2.2.2.2.2.2.2.2.2.2.2.2.1 k0_t21 k0_h1 k0_h7
theorem k0_off329_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t21 : Fin (k0_t21_loop v58 v60 k0_t17 v3581 v3584).trips), ∀ (k0_h1 : k0_cond1 v58 v60 = 1#1), ∀ (k0_h7 : k0_cond7 v58 v60 k0_t17 v3581 v3584 = 1#1), ∀ a, (k0_off329 v58 v60 k0_t17 v3581 v3584 k0_t21) a + S1x1x16.size a ≤ S3x40x512.size a := fun v58 v60 k0_t17 v3581 v3584 k0_hw12 k0_t21 k0_h1 k0_h7 => k0_hw12.2.1.2.2.2.2.2.2.2.2.2.2.2.2.2.2.1 k0_t21 k0_h1 k0_h7
theorem k0_off330_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t21 : Fin (k0_t21_loop v58 v60 k0_t17 v3581 v3584).trips), ∀ (k0_h1 : k0_cond1 v58 v60 = 1#1), ∀ (k0_h7 : k0_cond7 v58 v60 k0_t17 v3581 v3584 = 1#1), ∀ a, (k0_off330 v58 v60 k0_t17 v3581 v3584 k0_t21) a + S1x1x16.size a ≤ S3x40x512.size a := fun v58 v60 k0_t17 v3581 v3584 k0_hw12 k0_t21 k0_h1 k0_h7 => k0_hw12.2.1.2.2.2.2.2.2.2.2.2.2.2.2.2.2.2.1 k0_t21 k0_h1 k0_h7
theorem k0_off331_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t21 : Fin (k0_t21_loop v58 v60 k0_t17 v3581 v3584).trips), ∀ (k0_h1 : k0_cond1 v58 v60 = 1#1), ∀ (k0_h7 : k0_cond7 v58 v60 k0_t17 v3581 v3584 = 1#1), ∀ a, (k0_off331 v58 v60 k0_t17 v3581 v3584 k0_t21) a + S1x1x16.size a ≤ S3x40x512.size a := fun v58 v60 k0_t17 v3581 v3584 k0_hw12 k0_t21 k0_h1 k0_h7 => k0_hw12.2.1.2.2.2.2.2.2.2.2.2.2.2.2.2.2.2.2.1 k0_t21 k0_h1 k0_h7
theorem k0_off332_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t21 : Fin (k0_t21_loop v58 v60 k0_t17 v3581 v3584).trips), ∀ (k0_h1 : k0_cond1 v58 v60 = 1#1), ∀ (k0_h7 : k0_cond7 v58 v60 k0_t17 v3581 v3584 = 1#1), ∀ a, (k0_off332 v58 v60 k0_t17 v3581 v3584 k0_t21) a + S1x1x16.size a ≤ S3x40x512.size a := fun v58 v60 k0_t17 v3581 v3584 k0_hw12 k0_t21 k0_h1 k0_h7 => k0_hw12.2.1.2.2.2.2.2.2.2.2.2.2.2.2.2.2.2.2.2.1 k0_t21 k0_h1 k0_h7
theorem k0_off333_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t21 : Fin (k0_t21_loop v58 v60 k0_t17 v3581 v3584).trips), ∀ (k0_h1 : k0_cond1 v58 v60 = 1#1), ∀ (k0_h7 : k0_cond7 v58 v60 k0_t17 v3581 v3584 = 1#1), ∀ a, (k0_off333 v58 v60 k0_t17 v3581 v3584 k0_t21) a + S1x1x16.size a ≤ S3x40x512.size a := fun v58 v60 k0_t17 v3581 v3584 k0_hw12 k0_t21 k0_h1 k0_h7 => k0_hw12.2.1.2.2.2.2.2.2.2.2.2.2.2.2.2.2.2.2.2.2.1 k0_t21 k0_h1 k0_h7
theorem k0_t22_ok : ∀ (v58 : BitVec 32) (v60 : BitVec 32) (k0_t17 : Fin (k0_t17_loop v58 v60).trips) (v3581 : BitVec 32) (v3584 : BitVec 32) (k0_hw12 : k0_chk12 v58 v60 k0_t17 v3581 v3584), ∀ (k0_h1 : k0_cond1 v58 v60 = 1#1), ∀ (k0_h7 : k0_cond7 v58 v60 k0_t17 v3581 v3584 = 1#1), (k0_t22_loop v58 v60 k0_t17 v3581 v3584).OK := fun v58 v60 k0_t17 v3581 v3584 k0_hw12 k0_h1 k0_h7 => k0_hw12.2.1.2.2.2.2.2.2.2.2.2.2.2.2.2.2.2.2.2.2.2.1 k0_h1 k0_h7
theorem k0_off334_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t22 : Fin (k0_t22_loop v58 v60 k0_t17 v3581 v3584).trips), ∀ (k0_h1 : k0_cond1 v58 v60 = 1#1), ∀ (k0_h7 : k0_cond7 v58 v60 k0_t17 v3581 v3584 = 1#1), ∀ a, (k0_off334 v58 v60 k0_t17 v3581 v3584 k0_t22) a + S1x1x16.size a ≤ S3x40x512.size a := fun v58 v60 k0_t17 v3581 v3584 k0_hw12 k0_t22 k0_h1 k0_h7 => k0_hw12.2.1.2.2.2.2.2.2.2.2.2.2.2.2.2.2.2.2.2.2.2.2.1 k0_t22 k0_h1 k0_h7
theorem k0_off335_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t22 : Fin (k0_t22_loop v58 v60 k0_t17 v3581 v3584).trips), ∀ (k0_h1 : k0_cond1 v58 v60 = 1#1), ∀ (k0_h7 : k0_cond7 v58 v60 k0_t17 v3581 v3584 = 1#1), ∀ a, (k0_off335 v58 v60 k0_t17 v3581 v3584 k0_t22) a + S1x1x16.size a ≤ S3x40x512.size a := fun v58 v60 k0_t17 v3581 v3584 k0_hw12 k0_t22 k0_h1 k0_h7 => k0_hw12.2.1.2.2.2.2.2.2.2.2.2.2.2.2.2.2.2.2.2.2.2.2.2.1 k0_t22 k0_h1 k0_h7
theorem k0_off336_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t22 : Fin (k0_t22_loop v58 v60 k0_t17 v3581 v3584).trips), ∀ (k0_h1 : k0_cond1 v58 v60 = 1#1), ∀ (k0_h7 : k0_cond7 v58 v60 k0_t17 v3581 v3584 = 1#1), ∀ a, (k0_off336 v58 v60 k0_t17 v3581 v3584 k0_t22) a + S1x1x16.size a ≤ S3x40x512.size a := fun v58 v60 k0_t17 v3581 v3584 k0_hw12 k0_t22 k0_h1 k0_h7 => k0_hw12.2.1.2.2.2.2.2.2.2.2.2.2.2.2.2.2.2.2.2.2.2.2.2.2.1 k0_t22 k0_h1 k0_h7
theorem k0_off337_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t22 : Fin (k0_t22_loop v58 v60 k0_t17 v3581 v3584).trips), ∀ (k0_h1 : k0_cond1 v58 v60 = 1#1), ∀ (k0_h7 : k0_cond7 v58 v60 k0_t17 v3581 v3584 = 1#1), ∀ a, (k0_off337 v58 v60 k0_t17 v3581 v3584 k0_t22) a + S1x1x16.size a ≤ S3x40x512.size a := fun v58 v60 k0_t17 v3581 v3584 k0_hw12 k0_t22 k0_h1 k0_h7 => k0_hw12.2.1.2.2.2.2.2.2.2.2.2.2.2.2.2.2.2.2.2.2.2.2.2.2.2.1 k0_t22 k0_h1 k0_h7
theorem k0_off338_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t22 : Fin (k0_t22_loop v58 v60 k0_t17 v3581 v3584).trips), ∀ (k0_h1 : k0_cond1 v58 v60 = 1#1), ∀ (k0_h7 : k0_cond7 v58 v60 k0_t17 v3581 v3584 = 1#1), ∀ a, (k0_off338 v58 v60 k0_t17 v3581 v3584 k0_t22) a + S1x1x16.size a ≤ S3x40x512.size a := fun v58 v60 k0_t17 v3581 v3584 k0_hw12 k0_t22 k0_h1 k0_h7 => k0_hw12.2.1.2.2.2.2.2.2.2.2.2.2.2.2.2.2.2.2.2.2.2.2.2.2.2.2.1 k0_t22 k0_h1 k0_h7
theorem k0_off339_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t22 : Fin (k0_t22_loop v58 v60 k0_t17 v3581 v3584).trips), ∀ (k0_h1 : k0_cond1 v58 v60 = 1#1), ∀ (k0_h7 : k0_cond7 v58 v60 k0_t17 v3581 v3584 = 1#1), ∀ a, (k0_off339 v58 v60 k0_t17 v3581 v3584 k0_t22) a + S1x1x16.size a ≤ S3x40x512.size a := fun v58 v60 k0_t17 v3581 v3584 k0_hw12 k0_t22 k0_h1 k0_h7 => k0_hw12.2.1.2.2.2.2.2.2.2.2.2.2.2.2.2.2.2.2.2.2.2.2.2.2.2.2.2.1 k0_t22 k0_h1 k0_h7
theorem k0_off340_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t22 : Fin (k0_t22_loop v58 v60 k0_t17 v3581 v3584).trips), ∀ (k0_h1 : k0_cond1 v58 v60 = 1#1), ∀ (k0_h7 : k0_cond7 v58 v60 k0_t17 v3581 v3584 = 1#1), ∀ a, (k0_off340 v58 v60 k0_t17 v3581 v3584 k0_t22) a + S1x1x16.size a ≤ S3x40x512.size a := fun v58 v60 k0_t17 v3581 v3584 k0_hw12 k0_t22 k0_h1 k0_h7 => k0_hw12.2.1.2.2.2.2.2.2.2.2.2.2.2.2.2.2.2.2.2.2.2.2.2.2.2.2.2.2.1 k0_t22 k0_h1 k0_h7
theorem k0_off341_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t22 : Fin (k0_t22_loop v58 v60 k0_t17 v3581 v3584).trips), ∀ (k0_h1 : k0_cond1 v58 v60 = 1#1), ∀ (k0_h7 : k0_cond7 v58 v60 k0_t17 v3581 v3584 = 1#1), ∀ a, (k0_off341 v58 v60 k0_t17 v3581 v3584 k0_t22) a + S1x1x16.size a ≤ S3x40x512.size a := fun v58 v60 k0_t17 v3581 v3584 k0_hw12 k0_t22 k0_h1 k0_h7 => k0_hw12.2.1.2.2.2.2.2.2.2.2.2.2.2.2.2.2.2.2.2.2.2.2.2.2.2.2.2.2.2.1 k0_t22 k0_h1 k0_h7
theorem k0_off342_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t22 : Fin (k0_t22_loop v58 v60 k0_t17 v3581 v3584).trips), ∀ (k0_h1 : k0_cond1 v58 v60 = 1#1), ∀ (k0_h7 : k0_cond7 v58 v60 k0_t17 v3581 v3584 = 1#1), ∀ a, (k0_off342 v58 v60 k0_t17 v3581 v3584 k0_t22) a + S1x1x16.size a ≤ S3x40x512.size a := fun v58 v60 k0_t17 v3581 v3584 k0_hw12 k0_t22 k0_h1 k0_h7 => k0_hw12.2.1.2.2.2.2.2.2.2.2.2.2.2.2.2.2.2.2.2.2.2.2.2.2.2.2.2.2.2.2.1 k0_t22 k0_h1 k0_h7
theorem k0_off343_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t22 : Fin (k0_t22_loop v58 v60 k0_t17 v3581 v3584).trips), ∀ (k0_h1 : k0_cond1 v58 v60 = 1#1), ∀ (k0_h7 : k0_cond7 v58 v60 k0_t17 v3581 v3584 = 1#1), ∀ a, (k0_off343 v58 v60 k0_t17 v3581 v3584 k0_t22) a + S1x1x16.size a ≤ S3x40x512.size a := fun v58 v60 k0_t17 v3581 v3584 k0_hw12 k0_t22 k0_h1 k0_h7 => k0_hw12.2.1.2.2.2.2.2.2.2.2.2.2.2.2.2.2.2.2.2.2.2.2.2.2.2.2.2.2.2.2.2.1 k0_t22 k0_h1 k0_h7
theorem k0_off344_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t22 : Fin (k0_t22_loop v58 v60 k0_t17 v3581 v3584).trips), ∀ (k0_h1 : k0_cond1 v58 v60 = 1#1), ∀ (k0_h7 : k0_cond7 v58 v60 k0_t17 v3581 v3584 = 1#1), ∀ a, (k0_off344 v58 v60 k0_t17 v3581 v3584 k0_t22) a + S1x1x16.size a ≤ S3x40x512.size a := fun v58 v60 k0_t17 v3581 v3584 k0_hw12 k0_t22 k0_h1 k0_h7 => k0_hw12.2.1.2.2.2.2.2.2.2.2.2.2.2.2.2.2.2.2.2.2.2.2.2.2.2.2.2.2.2.2.2.2.1 k0_t22 k0_h1 k0_h7
theorem k0_off345_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t22 : Fin (k0_t22_loop v58 v60 k0_t17 v3581 v3584).trips), ∀ (k0_h1 : k0_cond1 v58 v60 = 1#1), ∀ (k0_h7 : k0_cond7 v58 v60 k0_t17 v3581 v3584 = 1#1), ∀ a, (k0_off345 v58 v60 k0_t17 v3581 v3584 k0_t22) a + S1x1x16.size a ≤ S3x40x512.size a := fun v58 v60 k0_t17 v3581 v3584 k0_hw12 k0_t22 k0_h1 k0_h7 => k0_hw12.2.1.2.2.2.2.2.2.2.2.2.2.2.2.2.2.2.2.2.2.2.2.2.2.2.2.2.2.2.2.2.2.2 k0_t22 k0_h1 k0_h7
theorem k0_off346_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t22 : Fin (k0_t22_loop v58 v60 k0_t17 v3581 v3584).trips), ∀ (k0_h1 : k0_cond1 v58 v60 = 1#1), ∀ (k0_h7 : k0_cond7 v58 v60 k0_t17 v3581 v3584 = 1#1), ∀ a, (k0_off346 v58 v60 k0_t17 v3581 v3584 k0_t22) a + S1x1x16.size a ≤ S3x40x512.size a := fun v58 v60 k0_t17 v3581 v3584 k0_hw12 k0_t22 k0_h1 k0_h7 => k0_hw12.2.2.1 k0_t22 k0_h1 k0_h7
theorem k0_off347_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t22 : Fin (k0_t22_loop v58 v60 k0_t17 v3581 v3584).trips), ∀ (k0_h1 : k0_cond1 v58 v60 = 1#1), ∀ (k0_h7 : k0_cond7 v58 v60 k0_t17 v3581 v3584 = 1#1), ∀ a, (k0_off347 v58 v60 k0_t17 v3581 v3584 k0_t22) a + S1x1x16.size a ≤ S3x40x512.size a := fun v58 v60 k0_t17 v3581 v3584 k0_hw12 k0_t22 k0_h1 k0_h7 => k0_hw12.2.2.2.1 k0_t22 k0_h1 k0_h7
theorem k0_off348_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t22 : Fin (k0_t22_loop v58 v60 k0_t17 v3581 v3584).trips), ∀ (k0_h1 : k0_cond1 v58 v60 = 1#1), ∀ (k0_h7 : k0_cond7 v58 v60 k0_t17 v3581 v3584 = 1#1), ∀ a, (k0_off348 v58 v60 k0_t17 v3581 v3584 k0_t22) a + S1x1x16.size a ≤ S3x40x512.size a := fun v58 v60 k0_t17 v3581 v3584 k0_hw12 k0_t22 k0_h1 k0_h7 => k0_hw12.2.2.2.2.1 k0_t22 k0_h1 k0_h7
theorem k0_off349_inb : ∀ (v58 : BitVec 32) (v60 : BitVec 32) (k0_t17 : Fin (k0_t17_loop v58 v60).trips) (v3581 : BitVec 32) (v3584 : BitVec 32) (k0_hw12 : k0_chk12 v58 v60 k0_t17 v3581 v3584) (k0_t22 : Fin (k0_t22_loop v58 v60 k0_t17 v3581 v3584).trips), ∀ (k0_h1 : k0_cond1 v58 v60 = 1#1), ∀ (k0_h7 : k0_cond7 v58 v60 k0_t17 v3581 v3584 = 1#1), ∀ a, (k0_off349 v58 v60 k0_t17 v3581 v3584 k0_t22) a + S1x1x16.size a ≤ S3x40x512.size a := fun v58 v60 k0_t17 v3581 v3584 k0_hw12 k0_t22 k0_h1 k0_h7 => k0_hw12.2.2.2.2.2 k0_t22 k0_h1 k0_h7

def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off350 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v3550 : BitVec 32 := v2
  let c0_i32_1597_r2 : BitVec 32 := 0#32
  ![v3550.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "ninf" => some ⊥
  | _ => none
-- ==== ReferenceIdeal.lean ====
abbrev S50000x512 : Shape := ⟨2, ![50000, 512]⟩
abbrev S50000 : Shape := ⟨1, ![50000]⟩
abbrev S3 : Shape := ⟨1, ![3]⟩
abbrev S_ : Shape := ⟨0, ![]⟩
abbrev S256x512 : Shape := ⟨2, ![256, 512]⟩
abbrev S50000x1 : Shape := ⟨2, ![50000, 1]⟩
abbrev S256x1 : Shape := ⟨2, ![256, 1]⟩
abbrev S1x50000x1 : Shape := ⟨3, ![1, 50000, 1]⟩
abbrev S256 : Shape := ⟨1, ![256]⟩
abbrev S256x1x1 : Shape := ⟨3, ![256, 1, 1]⟩
abbrev S256x50000x1 : Shape := ⟨3, ![256, 50000, 1]⟩
abbrev S1x50000x512 : Shape := ⟨3, ![1, 50000, 512]⟩
abbrev S256x50000x512 : Shape := ⟨3, ![256, 50000, 512]⟩
abbrev S1 : Shape := ⟨1, ![1]⟩

abbrev nBuf : Space → Nat
  | .hbm => 55
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S3, .f32⟩
  | .hbm, ⟨3, _⟩ => ⟨S_, .f32⟩
  | .hbm, ⟨4, _⟩ => ⟨S256x512, .f32⟩
  | .hbm, ⟨5, _⟩ => ⟨S50000x1, .i32⟩
  | .hbm, ⟨6, _⟩ => ⟨S256x512, .f32⟩
  | .hbm, ⟨7, _⟩ => ⟨S_, .f32⟩
  | .hbm, ⟨8, _⟩ => ⟨S50000x1, .f32⟩
  | .hbm, ⟨9, _⟩ => ⟨S_, .f32⟩
  | .hbm, ⟨10, _⟩ => ⟨S256x1, .f32⟩
  | .hbm, ⟨11, _⟩ => ⟨S50000x1, .i32⟩
  | .hbm, ⟨12, _⟩ => ⟨S256x1, .f32⟩
  | .hbm, ⟨13, _⟩ => ⟨S_, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x512, .f32⟩
  | .hbm, ⟨18, _⟩ => ⟨S256x512, .f32⟩
  | .hbm, ⟨19, _⟩ => ⟨S1x50000x1, .i32⟩
  | .hbm, ⟨20, _⟩ => ⟨S256, .i32⟩
  | .hbm, ⟨21, _⟩ => ⟨S256x1x1, .i32⟩
  | .hbm, ⟨22, _⟩ => ⟨S256x50000x1, .i32⟩
  | .hbm, ⟨23, _⟩ => ⟨S256x50000x1, .i32⟩
  | .hbm, ⟨24, _⟩ => ⟨S256x50000x1, .i1⟩
  | .hbm, ⟨25, _⟩ => ⟨S1x50000x512, .f32⟩
  | .hbm, ⟨26, _⟩ => ⟨S_, .f32⟩
  | .hbm, ⟨27, _⟩ => ⟨S_, .f32⟩
  | .hbm, ⟨28, _⟩ => ⟨S256x50000x512, .i1⟩
  | .hbm, ⟨29, _⟩ => ⟨S256x50000x512, .f32⟩
  | .hbm, ⟨30, _⟩ => ⟨S256x50000x512, .f32⟩
  | .hbm, ⟨31, _⟩ => ⟨S256x50000x512, .f32⟩
  | .hbm, ⟨32, _⟩ => ⟨S_, .f32⟩
  | .hbm, ⟨33, _⟩ => ⟨S256x512, .f32⟩
  | .hbm, ⟨34, _⟩ => ⟨S_, .f32⟩
  | .hbm, ⟨35, _⟩ => ⟨S256x1, .f32⟩
  | .hbm, ⟨36, _⟩ => ⟨S256x1, .i1⟩
  | .hbm, ⟨37, _⟩ => ⟨S_, .f32⟩
  | .hbm, ⟨38, _⟩ => ⟨S256x512, .f32⟩
  | .hbm, ⟨39, _⟩ => ⟨S256x512, .i1⟩
  | .hbm, ⟨40, _⟩ => ⟨S256x512, .f32⟩
  | .hbm, ⟨41, _⟩ => ⟨S1, .f32⟩
  | .hbm, ⟨42, _⟩ => ⟨S_, .f32⟩
  | .hbm, ⟨43, _⟩ => ⟨S256x512, .f32⟩
  | .hbm, ⟨44, _⟩ => ⟨S256x512, .f32⟩
  | .hbm, ⟨45, _⟩ => ⟨S1, .f32⟩
  | .hbm, ⟨46, _⟩ => ⟨S_, .f32⟩
  | .hbm, ⟨47, _⟩ => ⟨S256x512, .f32⟩
  | .hbm, ⟨48, _⟩ => ⟨S256x512, .f32⟩
  | .hbm, ⟨49, _⟩ => ⟨S1, .f32⟩
  | .hbm, ⟨50, _⟩ => ⟨S_, .f32⟩
  | .hbm, ⟨51, _⟩ => ⟨S256x512, .f32⟩
  | .hbm, ⟨52, _⟩ => ⟨S256x512, .f32⟩
  | .hbm, ⟨53, _⟩ => ⟨S256x512, .f32⟩
  | .hbm, ⟨54, _⟩ => ⟨S256x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_call2_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== Proof.Setup.lean ====
/-
  The launch as the proof sees it: the launch record `K`, the ghost state the handshakes and the
  transfers use, the names of the buffers a tile works on, and the program logic's judgement `WP`
  for a tile's program.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The launch -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds and the transfers' counters. -/
abbrev UH : Type := URounds (GSem nD τ sig) ℕ
abbrev UU : Type := UH × Counters

abbrev MM (F : FTy → Type) : Type := MT nD τ sig (HIx 1) (Elt F) ℕ UU ℕ

/-! ## The buffers -/

abbrev xM : Memref sig .scVector .hbm S50000x512 .f32 := Memref.whole main_arg0_scv
abbrev bM : Memref sig .scVector .hbm S50000 .i32 := Memref.whole main_arg1_scv
abbrev wM : Memref sig .scVector .hbm S48 .f32 := Memref.whole main_v1_scv
abbrev oM : Memref sig .scVector .hbm S256x512 .f32 := Memref.whole main_v2_scv
abbrev idM : Memref sig .scVector .vmem S50016 .i32 := Memref.whole cc0_scratch0
abbrev chM : Memref sig .scVector .vmem S3x40x512 .f32 := Memref.whole cc0_scratch1
abbrev acM : Memref sig .scVector .vmem S8x1024 .f32 := Memref.whole cc0_scratch2
abbrev wtM : Memref sig .scVector .vmem S48 .f32 := Memref.whole cc0_scratch3
abbrev sbM : Memref sig .scVector .smem S9 .i32 := Memref.whole cc0_scratch4

abbrev cV (L : grid0.Coords) : Fin τ.nSC := (L 0).castLE hcore0
abbrev jV (L : grid0.Coords) : Fin τ.nSub := (L 1).castLE hsub0
/-- The vector subcore that runs tile `L` of device `d`. -/
abbrev thr (d : Dev nD) (L : grid0.Coords) : Thread nD τ := V d (cV L) (jV L)

/-- A tile's program as the logic judges it. -/
abbrev WP (d : Dev nD) (L : grid0.Coords) {α : Type}
    (p : Prog (TpuEff nD τ sig (Elt F) Λ₀ (.scVector (cV L) (jV L))) α) (Q : α → sProp (MM F)) : sProp (MM F) :=
  wp frame (wpE (defs₀ (F := F)) 𝒱₀ (thr d L) none) Set.univ p Q

end Cert.Proof.Sc

end
-- ==== Proof.Ops.lean ====
/-
  The rules the tile's run is written with, one per kind of access.
-/
module

public import proofs.«01_k».proof.Proof.Setup
public import Idealize.ShloMosaic.Lib.Scf

@[expose] public section

noncomputable section

namespace Cert.Proof.Sc

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable {d : Dev nD} {L : grid0.Coords}

/-- A returned value meets the postcondition there. -/
theorem wp_done {α : Type} {a : α} {Q : α → sProp (MM F)} {X : sProp (MM F)} (h : X ⊢ Q a) :
    X ⊢ WP d L (pure a) Q := by
  unfold WP; rw [wp_pure]; exact h.trans (by iintro H; imodintro; iexact H)

/-- An assumption at the head of a program, once proved. -/
theorem wp_asm {α : Type} {P : Prop} {dP : Decidable P} {k : PLift P → Prog (TpuEff nD τ sig (Elt F) Λ₀ (.scVector (cV L) (jV L))) α}
    {X : sProp (MM F)} {Q : α → sProp (MM F)} (h : P) (hk : X ⊢ WP d L (k ⟨h⟩) Q) :
    X ⊢ WP d L (Prog.lift (.assume P dP) >>= k) Q :=
  hk.trans (wp_assume (defs := defs₀ (F := F)) (Λ := Λ₀) 𝒱₀ (thr d L) none Set.univ (Q := Q) (k := k) h)

/-- One program after another. -/
theorem wp_seq {α β : Type} {p : Prog (TpuEff nD τ sig (Elt F) Λ₀ (.scVector (cV L) (jV L))) α}
    {k : α → Prog (TpuEff nD τ sig (Elt F) Λ₀ (.scVector (cV L) (jV L))) β}
    {X : sProp (MM F)} (Y : α → sProp (MM F)) {Q : β → sProp (MM F)} (h : X ⊢ WP d L p Y) (hk : ∀ a, Y a ⊢ WP d L (k a) Q) :
    X ⊢ WP d L (p >>= k) Q := by
  unfold WP at *
  rw [wp_bind]
  exact h.trans (wp_mono _ _ _ hk)

/-- A program beside what it does not touch. -/
theorem wp_beside {α : Type} {p : Prog (TpuEff nD τ sig (Elt F) Λ₀ (.scVector (cV L) (jV L))) α}
    {X R : sProp (MM F)} {Y : α → sProp (MM F)} (h : X ⊢ WP d L p Y) : iprop(X ∗ R) ⊢ WP d L p (fun a => iprop(Y a ∗ R)) := by
  iintro ⟨HX, HR⟩
  unfold WP
  iapply (wp_frame_r _ _ _)
  isplitl [HX]
  · iapply h; iexact HX
  · iexact HR

/-- One program after another, beside what the first does not touch. -/
theorem wp_seqR {α β : Type} {p : Prog (TpuEff nD τ sig (Elt F) Λ₀ (.scVector (cV L) (jV L))) α}
    {k : α → Prog (TpuEff nD τ sig (Elt F) Λ₀ (.scVector (cV L) (jV L))) β}
    {X R : sProp (MM F)} (Y : α → sProp (MM F)) {Q : β → sProp (MM F)} (h : X ⊢ WP d L p Y) (hk : ∀ a, iprop(Y a ∗ R) ⊢ WP d L (k a) Q) :
    iprop(X ∗ R) ⊢ WP d L (p >>= k) Q :=
  wp_seq _ (wp_beside h) hk

/-- A counted loop, by an invariant. -/
theorem wp_loop {σ : Type} {l : Scf.Loop 32} {hok : l.OK} {init : σ}
    {body : Fin l.trips → σ → Prog (TpuEff nD τ sig (Elt F) Λ₀ (.scVector (cV L) (jV L))) σ}
    (I : ℕ → σ → sProp (MM F)) (hbody : ∀ (k : Fin l.trips) (acc : σ), I k acc ⊢ WP d L (body k acc) (I (k.val + 1))) {Q : σ → sProp (MM F)}
    (hQ : ∀ acc, I l.trips acc ⊢ Q acc) :
    I 0 init ⊢ WP d L (Scf.Loop.for l hok init body) Q := by
  iintro H
  unfold WP Scf.Loop.for
  iapply (Scf.wp_for _ _ _ l.lb l.ub l.st hok init body I hbody)
  isplitl [H]
  · iexact H
  · iintro %acc HI
    iapply (hQ acc); iexact HI

/-- A resource beside nothing. -/
theorem alone {P : sProp (MM F)} : P ⊢ iprop(P ∗ emp) := (Laws.sep_emp).2

/-- A fact held beside a resource is a hypothesis. -/
theorem pureL {φ : Prop} {P Q : sProp (MM F)} (h : φ → P ⊢ Q) : iprop(⌜φ⌝ ∗ P) ⊢ Q := by
  iintro ⟨%hp, H⟩
  iapply (h hp)
  iexact H

/-- A load through a rectangle, of a buffer held whole or in part. -/
theorem wp_ld {cs : CoreSpace} {s : Shape} {e : EltTy} {m : Memref sig .scVector cs s e} {r : Rect s}
    {hl : m.view.LoadsAt r.toLoadRect} {α : Type}
    {k : (r.shape.Idx → Elt F e) → Prog (TpuEff nD τ sig (Elt F) Λ₀ (.scVector (cV L) (jV L))) α}
    {Sx : Finset (Idx (m.view.loc (thr d L)))} {q : PosShare TreeShare} {f : Buf (Elt F) (m.view.loc (thr d L))}
    {R : sProp (MM F)} {Q : α → sProp (MM F)} (hS : (m.access r).set ⊆ Sx)
    (h : iprop((m.view.loc (thr d L) ↦[Sx]{q} f) ∗ R) ⊢ WP d L (k ((m.access r).read (Elt F) f)) Q) :
    iprop((m.view.loc (thr d L) ↦[Sx]{q} f) ∗ R) ⊢ WP d L (Prog.lift (.load m r.toLoadRect hl) >>= k) Q := by
  iintro ⟨H, HR⟩
  iapply (wp_load_rect (defs := defs₀ (F := F)) (Λ := Λ₀) 𝒱₀ (thr d L) none Set.univ (Q := Q) (m := m) (r := r) (hl := hl) (k := k)
    (q := q) (f := f) (S := Sx) hS) $$ H
  iintro H
  iapply h
  isplitl [H] <;> iassumption

end Cert.Proof.Sc

end
-- ==== Proof.Search.lean ====
/-
  The binary search of the kernel on natural numbers: sixteen halvings of the range [0, 50000].
  Whatever the table, the bounds stay within the range; the place it ends at grows with the target;
  and where the table is non-decreasing it counts the entries below the target.
-/
module

public import Mathlib.Tactic.Ring
public import Mathlib.Order.Monotone.Basic

@[expose] public section

namespace Cert.Proof.Search

/-- One halving: `lt m` tells whether the entry at `m` is below the target. -/
def step (lt : ℕ → Bool) (p : ℕ × ℕ) : ℕ × ℕ :=
  if p.1 < p.2 then
    if lt ((p.1 + p.2) / 2) then ((p.1 + p.2) / 2 + 1, p.2) else (p.1, (p.1 + p.2) / 2)
  else p

/-- The range after `n` halvings. -/
def run (lt : ℕ → Bool) : ℕ → ℕ × ℕ
  | 0 => (0, 50000)
  | n + 1 => step lt (run lt n)

/-- Where the search ends. -/
def lb (lt : ℕ → Bool) : ℕ := (run lt 16).1

/-- The two ends of the search stay in order and within the rows. -/
theorem run_bound (lt : ℕ → Bool) (n : ℕ) : (run lt n).1 ≤ (run lt n).2 ∧ (run lt n).2 ≤ 50000 := by
  induction n with
  | zero => exact ⟨by simp [run], le_refl _⟩
  | succ n ih =>
    simp only [run, step]
    split
    · split <;> dsimp only <;> omega
    · exact ih

/-- What the search finds is within the rows. -/
theorem lb_le (lt : ℕ → Bool) : lb lt ≤ 50000 := (run_bound lt 16).1.trans (run_bound lt 16).2

/-- With a weaker target the search ends no later: the two ranges are the same, or the first lies
    before the second. -/
theorem lb_mono {lt lt' : ℕ → Bool} (h : ∀ m, lt m = true → lt' m = true) : lb lt ≤ lb lt' := by
  have key : ∀ n, run lt n = run lt' n ∨ (run lt n).2 ≤ (run lt' n).1 := by
    intro n
    induction n with
    | zero => exact .inl rfl
    | succ n ih =>
      have b := run_bound lt n
      have b' := run_bound lt' n
      rcases ih with ih | ih
      · simp only [run, ← ih, step]
        split
        · by_cases h1 : lt (((run lt n).1 + (run lt n).2) / 2) = true
          · rw [if_pos h1, if_pos (h _ h1)]; exact .inl rfl
          · rw [if_neg h1]
            by_cases h2 : lt' (((run lt n).1 + (run lt n).2) / 2) = true
            · rw [if_pos h2]; right; dsimp only; omega
            · rw [if_neg h2]; exact .inl rfl
        · exact .inl rfl
      · right
        simp only [run, step]
        split <;> (try split) <;> (try split) <;> (try split) <;> (try dsimp only) <;> omega
  rcases key 16 with e | e
  · unfold lb; rw [e]
  · exact (run_bound lt 16).1.trans e

/-- On a table whose entries below the target come first, the search ends at their number: every
    entry before the end is below the target, none from it on is. -/
theorem lb_spec {lt : ℕ → Bool} (hs : ∀ m n, m ≤ n → n < 50000 → lt n = true → lt m = true) {m : ℕ} (hm : m < 50000) :
    lt m = true ↔ m < lb lt := by
  have width : ∀ n, n ≤ 16 → (run lt n).2 - (run lt n).1 ≤ 50000 / 2 ^ n := by
    intro n hn
    induction n with
    | zero => simp [run]
    | succ n ih =>
      have ih := ih (by omega)
      have b := run_bound lt n
      have hdiv : 50000 / 2 ^ (n + 1) = 50000 / 2 ^ n / 2 := by rw [pow_succ, Nat.div_div_eq_div_mul]
      rw [hdiv]
      simp only [run, step]
      split
      · split <;> dsimp only <;> omega
      · omega
  have inv : ∀ n, (∀ k, k < (run lt n).1 → lt k = true) ∧ (∀ k, (run lt n).2 ≤ k → k < 50000 → lt k = false) := by
    intro n
    induction n with
    | zero => exact ⟨fun k hk => absurd hk (by simp [run]), fun k hk h => absurd hk (by simp [run]; omega)⟩
    | succ n ih =>
      have b := run_bound lt n
      simp only [run, step]
      split
      · split
        · rename_i h1 h2
          refine ⟨fun k hk => ?_, ih.2⟩
          exact hs k _ (by dsimp only at hk; omega) (by omega) h2
        · rename_i h1 h2
          refine ⟨ih.1, fun k hk hk' => ?_⟩
          by_contra hc
          exact h2 (hs _ k hk hk' (by simpa using hc))
      · exact ih
  have e : (run lt 16).1 = (run lt 16).2 := by
    have := width 16 (le_refl _)
    have := run_bound lt 16
    norm_num at *
    omega
  constructor
  · intro h
    by_contra hc
    have := (inv 16).2 m (by rw [← e]; exact not_lt.mp hc) hm
    rw [h] at this; exact absurd this (by decide)
  · exact (inv 16).1 m

end Cert.Proof.Search

end
-- ==== Proof.Words.lean ====
/-
  Index arithmetic on 32-bit words that stand for natural numbers: each scalar operation of the
  kernel on such words is the operation on the naturals, in the range the kernel uses.
-/
module

public import Idealize.ShloMosaic.Lib.WordArith
public import Idealize.ShloMosaic.Lib.WordCmp
public import Idealize.ShloMosaic.Lib.Scf

@[expose] public section

namespace Cert.Proof.Words

open Idealize.ShloMosaic

/-- The word of a natural number. -/
abbrev w (n : ℕ) : BitVec 32 := BitVec.ofNat 32 n

/-- A small number's word, read as a signed integer. -/
theorem toInt_w {a : ℕ} (h : a < 2 ^ 31) : (w a).toInt = a := WordCmp.toInt_ofNat_of_lt h

/-- A small number's word, read as a natural number. -/
theorem toNat_w {a : ℕ} (h : a < 2 ^ 31) : (w a).toNat = a := by
  rw [BitVec.toNat_ofNat, Nat.mod_eq_of_lt (by omega)]

/-- Addition of words is that of numbers. -/
theorem addi_w (a b : ℕ) : Scalar.addi (w a) (w b) = w (a + b) := WordCmp.addi_ofNat a b

/-- Multiplication of words is that of numbers. -/
theorem muli_w (a b : ℕ) : Scalar.muli (w a) (w b) = w (a * b) := WordCmp.muli_ofNat a b

/-- Subtraction of words is that of numbers where it does not go below zero. -/
theorem subi_w {a b : ℕ} (h : b ≤ a) : Scalar.subi (w a) (w b) = w (a - b) := by
  show w a - w b = w (a - b)
  obtain ⟨c, rfl⟩ := Nat.exists_eq_add_of_le h
  rw [Nat.add_sub_cancel_left, show w (b + c) = w b + w c from BitVec.ofNat_add _ _]
  rw [BitVec.add_comm, BitVec.add_sub_cancel]

/-- Division of small numbers has no exceptional case. -/
theorem not_corner {a b : ℕ} (ha : a < 2 ^ 31) (hb : 0 < b) (hb' : b < 2 ^ 31) : ¬ IntOp.SDivCorner (w a) (w b) := by
  unfold IntOp.SDivCorner
  rintro (h | ⟨h, -⟩)
  · have := congrArg BitVec.toNat h
    rw [toNat_w hb'] at this; exact absurd (this.trans (by simp)) hb.ne'
  · have := congrArg BitVec.toInt h
    rw [toInt_w ha] at this
    simp [BitVec.toInt_intMin] at this

/-- Division of words is that of small numbers. -/
theorem divsi_w {a b : ℕ} (ha : a < 2 ^ 31) (hb : 0 < b) (hb' : b < 2 ^ 31) : Scalar.divsi (w a) (w b) = w (a / b) := by
  show IntOp.divsi .scalar (w a) (w b) = _
  unfold IntOp.divsi
  rw [if_neg (not_corner ha hb hb')]
  have hab : a / b < 2 ^ 31 := lt_of_le_of_lt (Nat.div_le_self a b) ha
  apply BitVec.eq_of_toNat_eq
  rw [BitVec.sdiv_eq, BitVec.msb_eq_false_iff_two_mul_lt.mpr (by rw [toNat_w ha]; omega),
    BitVec.msb_eq_false_iff_two_mul_lt.mpr (by rw [toNat_w hb']; omega)]
  show ((w a) / (w b)).toNat = _
  rw [BitVec.toNat_udiv, toNat_w ha, toNat_w hb', toNat_w hab]

/-- The remainder of words is that of small numbers. -/
theorem remsi_w {a b : ℕ} (ha : a < 2 ^ 31) (hb : 0 < b) (hb' : b < 2 ^ 31) : Scalar.remsi (w a) (w b) = w (a % b) := by
  show IntOp.remsi .scalar (w a) (w b) = _
  unfold IntOp.remsi
  rw [if_neg (not_corner ha hb hb')]
  have hab : a % b < 2 ^ 31 := lt_of_le_of_lt (Nat.mod_le a b) ha
  apply BitVec.eq_of_toNat_eq
  rw [BitVec.srem_eq, BitVec.msb_eq_false_iff_two_mul_lt.mpr (by rw [toNat_w ha]; omega),
    BitVec.msb_eq_false_iff_two_mul_lt.mpr (by rw [toNat_w hb']; omega)]
  show ((w a) % (w b)).toNat = _
  rw [BitVec.toNat_umod, toNat_w ha, toNat_w hb', toNat_w hab]

/-- Comparison of words is that of small numbers. -/
theorem slt_w {a b : ℕ} (ha : a < 2 ^ 31) (hb : b < 2 ^ 31) : (w a).slt (w b) = decide (a < b) := by
  rw [BitVec.slt_eq_decide, toInt_w ha, toInt_w hb]
  simp

/-- The minimum of words is that of small numbers. -/
theorem minsi_w {a b : ℕ} (ha : a < 2 ^ 31) (hb : b < 2 ^ 31) : Scalar.minsi (w a) (w b) = w (min a b) := by
  show (if (w a).slt (w b) then w a else w b) = _
  rw [slt_w ha hb]
  by_cases h : a < b
  · rw [if_pos (by simpa using h), Nat.min_eq_left h.le]
  · rw [if_neg (by simpa using h), Nat.min_eq_right (by omega)]

/-- The maximum of words is that of small numbers. -/
theorem maxsi_w {a b : ℕ} (ha : a < 2 ^ 31) (hb : b < 2 ^ 31) : Scalar.maxsi (w a) (w b) = w (max a b) := by
  show (if (w b).slt (w a) then w a else w b) = _
  rw [slt_w hb ha]
  by_cases h : b < a
  · rw [if_pos (by simpa using h), Nat.max_eq_left h.le]
  · rw [if_neg (by simpa using h), Nat.max_eq_right (by omega)]

/-- The one-bit word of a truth value. -/
abbrev bit (b : Bool) : BitVec 1 := BitVec.ofBool b

/-- The bit for less-than. -/
theorem cmpi_slt_w {a b : ℕ} (ha : a < 2 ^ 31) (hb : b < 2 ^ 31) : Scalar.cmpi .slt (w a) (w b) = bit (decide (a < b)) := by
  show BitVec.ofBool ((w a).slt (w b)) = _
  rw [slt_w ha hb]

/-- The bit for greater-than. -/
theorem cmpi_sgt_w {a b : ℕ} (ha : a < 2 ^ 31) (hb : b < 2 ^ 31) : Scalar.cmpi .sgt (w a) (w b) = bit (decide (b < a)) := by
  show BitVec.ofBool ((w b).slt (w a)) = _
  rw [slt_w hb ha]

/-- The conjunction of two bits. -/
theorem andi_bit (p q : Bool) : Scalar.andi (bit p) (bit q) = bit (p && q) := by cases p <;> cases q <;> decide

/-- The negation of a bit. -/
theorem xori_bit (p : Bool) : Scalar.xori (bit p) 1#1 = bit (!p) := by cases p <;> decide

/-- A choice by a bit is a choice by its truth value. -/
theorem select_bit {α : Type} (p : Bool) (x y : α) : Scalar.select (bit p) x y = if p then x else y := by
  cases p <;> rfl

/-- The test a branch makes of a bit widened to a word. -/
theorem test_bit (p : Bool) : Scalar.cmpi .ne (Scalar.extui (bit p)) 0#32 = bit p := by cases p <;> decide

/-- A bit is one exactly if its truth value is true. -/
theorem bit_eq_one (p : Bool) : (bit p = 1#1) ↔ p = true := by cases p <;> decide

/-- Division rounding down, as the kernel spells it: the quotient towards zero, corrected where the
    signs differ and the division leaves a remainder. On naturals it is their quotient. -/
theorem floordiv_w {a b : ℕ} (ha : a < 2 ^ 31) (hb : 0 < b) (hb' : b < 2 ^ 31) :
    Scalar.select
      (Scalar.andi
        (Scalar.cmpi .ne
          (Scalar.subi (Scalar.extui (Scalar.cmpi .sgt (w a) 0#32)) (Scalar.extui (Scalar.cmpi .slt (w a) 0#32)))
          (Scalar.subi (Scalar.extui (Scalar.cmpi .sgt (w b) 0#32)) (Scalar.extui (Scalar.cmpi .slt (w b) 0#32))))
        (Scalar.cmpi .ne (Scalar.remsi (w a) (w b)) 0#32))
      (Scalar.subi (Scalar.divsi (w a) (w b)) 1#32) (Scalar.divsi (w a) (w b)) = w (a / b) := by
  rw [cmpi_sgt_w ha (by decide), cmpi_slt_w ha (by decide), cmpi_sgt_w hb' (by decide), cmpi_slt_w hb' (by decide),
    remsi_w ha hb hb', divsi_w ha hb hb']
  simp only [Nat.not_lt_zero, decide_false, hb, decide_true]
  by_cases h0 : 0 < a
  · simp only [h0, decide_true]
    rw [show Scalar.cmpi .ne (Scalar.subi (Scalar.extui (bit true)) (Scalar.extui (bit false)))
      (Scalar.subi (Scalar.extui (bit true)) (Scalar.extui (bit false))) = 0#1 by decide]
    rw [show Scalar.andi 0#1 (Scalar.cmpi .ne (w (a % b)) 0#32) = 0#1 from BitVec.zero_and]
    rfl
  · have : a = 0 := by omega
    subst this
    rw [Nat.zero_mod, show Scalar.cmpi .ne (w 0) 0#32 = 0#1 by decide]
    rw [show ∀ x, Scalar.andi x 0#1 = 0#1 from fun x => BitVec.and_zero]
    rfl

/-- The counter of a loop from zero in turn `k`. -/
theorem iv_w (k : ℕ) : Scf.iv 0#32 1#32 k = w k := by
  show 0#32 + BitVec.ofNat 32 k * 1#32 = _
  rw [BitVec.zero_add, BitVec.mul_one]

/-- A loop from zero to `n` makes `n` turns. -/
theorem trips_w {n : ℕ} (h : n < 2 ^ 31) : Scf.trips 0#32 (w n) 1#32 = n := by
  unfold Scf.trips
  rw [toInt_w h]; simp

end Cert.Proof.Words

end
-- ==== Proof.Spec.lean ====
/-
  What the kernel computes, over any float values: per graph the place its rows begin (a binary
  search of the sorted segment numbers), the sum and the maximum of its rows in ascending order,
  sixteen columns at a time, and the weighted readout of the two.
-/
module

public import proofs.«01_k».proof.KernelIdeal
public import proofs.«01_k».proof.Proof.Search
public import proofs.«01_k».proof.Proof.Words
public import Idealize.ShloMosaic.Lib.ValueIdx

@[expose] public section

noncomputable section

namespace Cert.Proof.Sc

open Cert.KernelIdeal
open Idealize.ShloMosaic Idealize.ShloMosaic.ValueIdx
open Cert.Proof.Words (w)

variable {F : FTy → Type} [FloatOps F] [Named F]

/-- Sixteen floats: a vector register. -/
abbrev V16 (F : FTy → Type) : Type := FVec F S16 .f32

/-! ## Indices: coordinates taken within the array's extents -/

abbrev bIx (m : ℕ) : S50000.Idx := ix1 ⟨m % 50000, Nat.mod_lt _ (by decide)⟩
abbrev xIx (r c : ℕ) : S50000x512.Idx := ix2 ⟨r % 50000, Nat.mod_lt _ (by decide)⟩ ⟨c % 512, Nat.mod_lt _ (by decide)⟩
abbrev wIx (c : ℕ) : S48.Idx := ix1 ⟨c % 48, Nat.mod_lt _ (by decide)⟩
abbrev lane (l : ℕ) : S16.Idx := ix1 ⟨l % 16, Nat.mod_lt _ (by decide)⟩

/-! ## Where the rows of a graph begin -/

/-- Whether entry `m` of the segment numbers is below graph `G`. -/
def below (b : S50000.Idx → BitVec 32) (G : ℕ) (m : ℕ) : Bool := (b (bIx m)).slt (w G)

/-- The first row of graph `G`. -/
def first (b : S50000.Idx → BitVec 32) (G : ℕ) : ℕ := Search.lb (below b G)

/-- A graph's first row is within the rows. -/
theorem first_le (b : S50000.Idx → BitVec 32) (G : ℕ) : first b G ≤ 50000 := Search.lb_le _

/-- Later graphs begin no earlier. -/
theorem first_mono (b : S50000.Idx → BitVec 32) {G H : ℕ} (h : G ≤ H) (hH : H < 2 ^ 31) : first b G ≤ first b H := by
  refine Search.lb_mono fun m hm => ?_
  unfold below at *
  rw [BitVec.slt_eq_decide, decide_eq_true_eq] at *
  rw [Words.toInt_w (by omega)] at *
  omega

/-! ## Folds over consecutive rows -/

/-- `z` combined with `v lo`, then `v (lo + 1)`, … : `n` of them. -/
def foldV {V : Type} (op : V → V → V) (z : V) (v : ℕ → V) (lo : ℕ) : ℕ → V
  | 0 => z
  | n + 1 => op (foldV op z v lo n) (v (lo + n))

/-- Columns `16 k … 16 k + 15` of row `r`. -/
def rowV (x : S50000x512.Idx → F .f32) (k r : ℕ) : V16 F := fun i => x (xIx r (16 * k + (i 0).val))

def zeroV : V16 F := broadcast S16 (Scalar.ofBits .f32 0x00000000#32)
def ninfV : V16 F := broadcast S16 (Named.named κ "ninf" 0xFF7FFFFF#32)

def sumV (x : S50000x512.Idx → F .f32) (k lo n : ℕ) : V16 F := foldV addf zeroV (rowV x k) lo n
def maxV (x : S50000x512.Idx → F .f32) (k lo n : ℕ) : V16 F := foldV maximumf ninfV (rowV x k) lo n

/-! ## The readout -/

/-- Weight `j` of the three, as the kernel holds it: a register of equal lanes. -/
def wtV (wr : S48.Idx → F .f32) (j : ℕ) : V16 F := fun i => wr (wIx (16 * j + (i 0).val))

/-- The readout of sixteen columns from the number of rows, their sum and their maximum. -/
def readV (w0 w1 w2 : V16 F) (c : BitVec 32) (s m : V16 F) : V16 F :=
  addf
    (mulf (addf (divf w0 (maximumf (broadcast S16 (Scalar.sitofp .f32 c)) (broadcast S16 (Scalar.ofBits .f32 0x3F800000#32)))) w2) s)
    (mulf (mulf w1 (broadcast S16 (Scalar.sitofp .f32 (Scalar.minsi c 1#32)))) m)

/-- The kernel's result. -/
def outF (x : S50000x512.Idx → F .f32) (b : S50000.Idx → BitVec 32) (wr : S48.Idx → F .f32) : S256x512.Idx → F .f32 := fun y =>
  let G := (y 0).val
  let k := (y 1).val / 16
  readV (wtV wr 0) (wtV wr 1) (wtV wr 2) (w (first b (G + 1) - first b G))
    (sumV x k (first b G) (first b (G + 1) - first b G)) (maxV x k (first b G) (first b (G + 1) - first b G))
    (lane (y 1).val)

end Cert.Proof.Sc

end
-- ==== Proof.Acc.lean ====
/-
  The accumulator: eight rows of sixty-four registers, held as a table of registers; the load and the
  store of one of them.
-/
module

public import proofs.«01_k».proof.Proof.Ops
public import proofs.«01_k».proof.Proof.Spec
public import Idealize.ShloMosaic.Lib.ValueLayout
public import Idealize.ShloMosaic.Lib.Pointwise

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable {d : Dev nD} {L : grid0.Coords}

/-- A table of registers as the accumulator's contents. -/
def accC (A : ℕ → ℕ → V16 F) : S8x1024.Idx → F .f32 := fun y => A (y 0).val ((y 1).val / 16) (lane (y 1).val)

/-- The table with one register replaced. -/
def upd (A : ℕ → ℕ → V16 F) (g k : ℕ) (v : V16 F) : ℕ → ℕ → V16 F := fun g' k' => if g' = g ∧ k' = k then v else A g' k'

/-- A register as a row of sixteen. -/
abbrev up (v : V16 F) : S1x16.Idx → F .f32 := shapeCast S1x16 v shapeCasts_S16_S1x16

/-- A register as a row of one: its lanes are read along the second axis. -/
theorem up_apply (v : V16 F) (x : S1x16.Idx) : up v x = v (lane (x 1).val) := by
  obtain ⟨a, rfl⟩ : ∃ a : Fin 16, x = ix2 (0 : Fin 1) a := ⟨x 1, by rw [eq_ix2 x]; congr 1; exact Subsingleton.elim (α := Fin 1) _ _⟩
  unfold up
  refine (shapeCast_a_1a_apply v shapeCasts_S16_S1x16 _ _).trans (congrArg v ?_)
  refine congrArg ix1 (Fin.ext ?_)
  exact (Nat.mod_eq_of_lt a.isLt).symm

/-- Widening a register to a row of one and back gives the register. -/
theorem down_up (v : V16 F) : shapeCast S16 (up v) shapeCasts_S1x16_S16 = v := by
  unfold up
  rw [shapeCast_comp, shapeCast_id]

/-- The accumulator, holding a table. -/
abbrev accP (d : Dev nD) (L : grid0.Coords) (A : ℕ → ℕ → V16 F) : sProp (MM F) :=
  acM.view.loc (thr d L) ↦{fullShare} (accC A : Buf (Elt F) (acM.view.loc (thr d L)))

/-- The rectangle of one register. -/
abbrev accR (off : Fin 2 → ℕ) (inb : ∀ a, off a + S1x16.size a ≤ S8x1024.size a) : Rect S8x1024 :=
  Rect.unit (s := S8x1024) off S1x16.size inb

/-- Reading sixteen lanes of the accumulator at a register's place gives that register. -/
theorem read_acc (A : ℕ → ℕ → V16 F) {off : Fin 2 → ℕ} {inb} {g k : ℕ} (h : off = ![g, 16 * k]) :
    (acM.access (accR off inb)).read (Elt F) (accC A) = up (A g k) := by
  subst h
  funext x
  rw [up_apply, View.read_apply]
  have hx0 : (x 0).val = 0 := by have := (x 0).isLt; simp [S1x16] at this; omega
  have hx1 : (x 1).val < 16 := (x 1).isLt
  show A (g + 1 * (x 0).val) ((16 * k + 1 * (x 1).val) / 16) (lane (16 * k + 1 * (x 1).val)) = _
  rw [hx0, show (16 * k + 1 * (x 1).val) / 16 = k by omega]
  simp only [lane, Nat.mul_zero, Nat.add_zero]
  congr 2
  apply Fin.ext
  show (16 * k + 1 * (x 1).val) % 16 = (x 1).val % 16
  omega

/-- Writing a register at its place changes that entry of the table and no other. -/
theorem write_acc (A : ℕ → ℕ → V16 F) (v : V16 F) {off : Fin 2 → ℕ} {inb} {g k : ℕ} (h : off = ![g, 16 * k]) :
    (acM.access (accR off inb)).write (Elt F) (accC A) (up v) Finset.univ = accC (upd A g k v) := by
  subst h
  funext y
  by_cases hy : (y 0).val = g ∧ (y 1).val / 16 = k
  · have e : y = (acM.access (accR ![g, 16 * k] inb)).emb (ix2 (0 : Fin 1) (⟨(y 1).val % 16, Nat.mod_lt _ (by decide)⟩ : Fin 16) : S1x16.Idx) := by
      refine (eq_ix2 y).trans ?_
      funext a
      match a with
      | ⟨0, _⟩ => exact Fin.ext (by show (y 0).val = g + 1 * 0; omega)
      | ⟨1, _⟩ => exact Fin.ext (by show (y 1).val = 16 * k + 1 * ((y 1).val % 16); omega)
    conv_lhs => rw [e]
    rw [View.write_emb_of_mem _ _ (Finset.mem_univ _)]
    show up v _ = _
    rw [up_apply]
    unfold accC upd
    rw [if_pos hy]
    refine congrArg v (congrArg ix1 (Fin.ext ?_))
    show (y 1).val % 16 % 16 = (y 1).val % 16
    omega
  · rw [View.write_of_not_mem]
    · unfold accC upd
      rw [if_neg hy]
    · intro hm
      obtain ⟨x, _, e⟩ := Finset.mem_map.1 hm
      apply hy
      have h0 := congrArg (fun z : S8x1024.Idx => (z 0).val) e
      have h1 := congrArg (fun z : S8x1024.Idx => (z 1).val) e
      have hx0 : (x 0).val = 0 := by have := (x 0).isLt; simp [S1x16] at this; omega
      have hx1 : (x 1).val < 16 := (x 1).isLt
      change g + 1 * (x 0).val = (y 0).val at h0
      change 16 * k + 1 * (x 1).val = (y 1).val at h1
      omega

/-- The load of one register. -/
theorem ld_acc {A : ℕ → ℕ → V16 F} (g k : ℕ) {off : Fin 2 → ℕ} {inb} {hl : acM.view.LoadsAt (accR off inb).toLoadRect} {α : Type}
    {kk : (S1x16.Idx → F .f32) → Prog (TpuEff nD τ sig (Elt F) Λ₀ (.scVector (cV L) (jV L))) α}
    {R : sProp (MM F)} {Q : α → sProp (MM F)} (h : off = ![g, 16 * k])
    (hk : iprop(accP d L A ∗ R) ⊢ WP d L (kk (up (A g k))) Q) :
    iprop(accP d L A ∗ R) ⊢ WP d L (Prog.lift (.load acM (accR off inb).toLoadRect hl) >>= kk) Q :=
  wp_ld (Finset.subset_univ _) (by rw [read_acc A h]; exact hk)

/-- The store of one register. -/
theorem st_acc {A : ℕ → ℕ → V16 F} (g k : ℕ) (v : V16 F) {off : Fin 2 → ℕ} {inb} {pay : S1x16.Idx → F .f32}
    {hx : (acM.access (accR off inb)).Stores Finset.univ} {hm : Finset.univ = Finset.univ ∨ ∀ a, (accR off inb).stride a = 1} {α : Type}
    {kk : PUnit → Prog (TpuEff nD τ sig (Elt F) Λ₀ (.scVector (cV L) (jV L))) α}
    {R : sProp (MM F)} {Q : α → sProp (MM F)} (h : off = ![g, 16 * k]) (hp : pay = up v)
    (hk : iprop(accP d L (upd A g k v) ∗ R) ⊢ WP d L (kk ⟨⟩) Q) :
    iprop(accP d L A ∗ R) ⊢ WP d L (Prog.lift (.store acM (accR off inb) pay Finset.univ hx hm) >>= kk) Q := by
  subst hp
  iintro ⟨H, HR⟩
  iapply (wp_store (defs := defs₀ (F := F)) (Λ := Λ₀) 𝒱₀ (thr d L) none Set.univ (Q := Q) (m := acM) (r := accR off inb) (w := up v)
    (hx := hx) (hm := hm) (k := kk) (f := accC A) (S := Finset.univ) (Finset.subset_univ _)) $$ H
  iintro H
  iapply hk
  isplitl [H]
  · iapply (Entails.of_eq (congrArg (fun f => (acM.view.loc (thr d L) ↦{fullShare} f : sProp (MM F))) (write_acc A v (inb := inb) h))); iexact H
  · iexact HR

/-! ## A run of stores: the first `n` of the positions `ord` hold their final registers -/

/-- The table once `n` positions have been written. -/
def fr (A fin : ℕ → ℕ → V16 F) (ord : ℕ → ℕ × ℕ) (n : ℕ) : ℕ → ℕ → V16 F := fun g k =>
  if ∃ m < n, ord m = (g, k) then fin g k else A g k

/-- Before any store the table is as it was. -/
theorem fr_zero (A fin : ℕ → ℕ → V16 F) (ord : ℕ → ℕ × ℕ) : fr A fin ord 0 = A := by
  funext g k
  unfold fr
  rw [if_neg (by simp)]

/-- One more store in the order extends the part that is final by one position. -/
theorem fr_succ (A fin : ℕ → ℕ → V16 F) (ord : ℕ → ℕ × ℕ) (n : ℕ) :
    upd (fr A fin ord n) (ord n).1 (ord n).2 (fin (ord n).1 (ord n).2) = fr A fin ord (n + 1) := by
  funext g k
  unfold upd fr
  by_cases h : g = (ord n).1 ∧ k = (ord n).2
  · rw [if_pos h, if_pos ⟨n, by omega, by rw [h.1, h.2]⟩, h.1, h.2]
  · rw [if_neg h]
    refine if_congr ⟨?_, ?_⟩ rfl rfl
    · rintro ⟨m, hm, e⟩; exact ⟨m, by omega, e⟩
    · rintro ⟨m, hm, e⟩
      refine ⟨m, ?_, e⟩
      rcases Nat.lt_succ_iff_lt_or_eq.1 hm with h' | h'
      · exact h'
      · subst h'; rw [e] at h; exact absurd ⟨rfl, rfl⟩ h

/-- The next store of a run. -/
theorem put {A fin : ℕ → ℕ → V16 F} {ord : ℕ → ℕ × ℕ} {n : ℕ} {off : Fin 2 → ℕ} [c : ClosedOff off] {inb} {pay : S1x16.Idx → F .f32}
    {hx : (acM.access (accR off inb)).Stores Finset.univ} {hm : Finset.univ = Finset.univ ∨ ∀ a, (accR off inb).stride a = 1} {α : Type}
    {kk : PUnit → Prog (TpuEff nD τ sig (Elt F) Λ₀ (.scVector (cV L) (jV L))) α}
    {R : sProp (MM F)} {Q : α → sProp (MM F)} (h : c.form = ![(ord n).1, 16 * (ord n).2]) (hp : pay = up (fin (ord n).1 (ord n).2))
    (hk : iprop(accP d L (fr A fin ord (n + 1)) ∗ R) ⊢ WP d L (kk ⟨⟩) Q) :
    iprop(accP d L (fr A fin ord n) ∗ R) ⊢ WP d L (Prog.lift (.store acM (accR off inb) pay Finset.univ hx hm) >>= kk) Q := by
  refine st_acc (ord n).1 (ord n).2 (fin (ord n).1 (ord n).2) (c.eq.trans h) hp ?_
  rw [fr_succ]
  exact hk

/-- A load whose value is not used. -/
theorem skip {A : ℕ → ℕ → V16 F} {off : Fin 2 → ℕ} {inb} {hl : acM.view.LoadsAt (accR off inb).toLoadRect} {α : Type}
    {p : Prog (TpuEff nD τ sig (Elt F) Λ₀ (.scVector (cV L) (jV L))) α} {R : sProp (MM F)} {Q : α → sProp (MM F)}
    (hk : iprop(accP d L A ∗ R) ⊢ WP d L p Q) :
    iprop(accP d L A ∗ R) ⊢ WP d L (Prog.lift (.load acM (accR off inb).toLoadRect hl) >>= fun _ => p) Q :=
  wp_ld (Finset.subset_univ _) hk

end Cert.Proof.Sc

end
-- ==== Proof.SearchRun.lean ====
/-
  The kernel's binary searches: each ends at the first row of its graph, held as a word.
-/
module

public import proofs.«01_k».proof.Proof.Ops
public import proofs.«01_k».proof.Proof.Spec
public import Idealize.ShloMosaic.Lib.Pointwise
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

/-- A program of the kernel on the buffers a tile works on. -/
abbrev onBufs {β : Type*}
    (f : ∀ (arg2 : Memref sig .scVector .hbm S50000x512 .f32) (_ : arg2.IsWhole) (arg3 : Memref sig .scVector .hbm S50000 .i32) (_ : arg3.IsWhole)
      (arg4 : Memref sig .scVector .hbm S48 .f32) (_ : arg4.IsWhole) (arg5 : Memref sig .scVector .hbm S256x512 .f32) (_ : arg5.IsWhole)
      (arg6 : Memref sig .scVector .vmem S50016 .i32) (_ : arg6.IsWhole) (arg7 : Memref sig .scVector .vmem S3x40x512 .f32) (_ : arg7.IsWhole)
      (arg8 : Memref sig .scVector .vmem S8x1024 .f32) (_ : arg8.IsWhole) (arg9 : Memref sig .scVector .vmem S48 .f32) (_ : arg9.IsWhole)
      (arg10 : Memref sig .scVector .smem S9 .i32) (_ : arg10.IsWhole) (_ : DmaSems sig S3) (_ _ _ : DmaSems sig S_), β) : β :=
  f xM (Memref.isWhole_whole _) bM (Memref.isWhole_whole _) wM (Memref.isWhole_whole _) oM (Memref.isWhole_whole _)
    idM (Memref.isWhole_whole _) chM (Memref.isWhole_whole _) acM (Memref.isWhole_whole _) wtM (Memref.isWhole_whole _)
    sbM (Memref.isWhole_whole _) cc0_scratch5 cc0_scoped0 cc0_scoped1 cc0_scoped2

/-- The segment numbers in the tile's memory: those of the array, then sixteen words of no account. -/
def IdsOK (b : S50000.Idx → BitVec 32) (B : S50016.Idx → BitVec 32) : Prop :=
  ∀ m (h : m < 50000), B (ix1 ⟨m, by omega⟩) = b (bIx m)

abbrev idP (d : Dev nD) (L : grid0.Coords) (B : S50016.Idx → BitVec 32) : sProp (MM F) :=
  idM.view.loc (thr d L) ↦{fullShare} (B : Buf (Elt F) (idM.view.loc (thr d L)))

/-- The middle of the range, as the kernel computes it. -/
theorem mid_w {p q : ℕ} (h : p ≤ q) (hq : q ≤ 50000) : k0_off1 (w p) (w q) = ![min ((p + q) / 2) 49999] := by
  have e := Words.floordiv_w (a := p + q) (b := 2) (by omega) (by decide) (by decide)
  have m := Words.minsi_w (a := (p + q) / 2) (b := 49999) (by omega) (by decide)
  unfold k0_off1
  dsimp only
  rw [Words.addi_w]
  erw [e, m]
  show ![(w (min ((p + q) / 2) 49999)).toNat] = _
  rw [Words.toNat_w (by omega)]

/-- One halving, on words: `v` the entry at the middle `mid`. -/
theorem step_w {p q G : ℕ} (h : p ≤ q) (hq : q ≤ 50000) (lt : ℕ → Bool) {v mid : BitVec 32} (hm : mid = w (min ((p + q) / 2) 49999))
    (hv : p < q → v.slt (w G) = lt ((p + q) / 2)) :
    (Scalar.select (Scalar.andi (Scalar.cmpi .slt v (w G)) (Scalar.cmpi .slt (w p) (w q))) (Scalar.addi mid 1#32) (w p),
      Scalar.select (Scalar.andi (Scalar.cmpi .slt (w p) (w q))
        (Scalar.xori (Scalar.andi (Scalar.cmpi .slt v (w G)) (Scalar.cmpi .slt (w p) (w q))) 1#1)) mid (w q))
      = (w (Search.step lt (p, q)).1, w (Search.step lt (p, q)).2) := by
  rw [Words.cmpi_slt_w (by omega) (by omega), show Scalar.cmpi .slt v (w G) = Words.bit (v.slt (w G)) from rfl, Words.andi_bit,
    Words.xori_bit, Words.andi_bit, Words.select_bit, Words.select_bit, hm, show (1#32 : BitVec 32) = w 1 from rfl, Words.addi_w]
  unfold Search.step
  dsimp only
  by_cases hpq : p < q
  · rw [hv hpq, show min ((p + q) / 2) 49999 = (p + q) / 2 by omega, if_pos hpq]
    cases lt ((p + q) / 2) <;> simp [hpq]
  · rw [if_neg hpq]
    simp [hpq]

/-- The first lane of sixteen words. -/
theorem lane0 (v : IVec S16 32) : extractAt ![0] (k0_pay702 (F := F) v) inpos_S1_p0 = v (lane 0) := by
  unfold k0_pay702
  rw [shapeCast_id]
  refine congrArg v ?_
  funext a
  match a with
  | ⟨0, _⟩ => rfl

/-- One trip of a search, on the range it stands at. -/
theorem search_body (b : S50000.Idx → BitVec 32) {B : S50016.Idx → BitVec 32} (hB : IdsOK b B) (G n : ℕ) (k : Fin k0_t1_loop.trips) :
    idP d L B ⊢ WP d L (onBufs (k0_t1_body (F := F) L) (w G) k (w (Search.run (below b G) n).1, w (Search.run (below b G) n).2))
      (fun acc => iprop(⌜acc = (w (Search.run (below b G) (n + 1)).1, w (Search.run (below b G) (n + 1)).2)⌝ ∗ idP d L B)) := by
  have hb := Search.run_bound (below b G) n
  have hs : Search.run (below b G) (n + 1) = Search.step (below b G) (Search.run (below b G) n) := rfl
  rw [hs]
  generalize Search.run (below b G) n = pq at hb ⊢
  obtain ⟨p, q⟩ := pq
  dsimp only at hb
  have hoff := mid_w hb.1 hb.2
  have hchk : k0_chk1 (w p) (w q) := by
    unfold k0_chk1
    rw [hoff]
    intro a
    match a with
    | ⟨0, _⟩ => show min ((p + q) / 2) 49999 + 16 ≤ 50016; omega
  unfold k0_t1_body
  dsimp only
  refine wp_asm hchk ?_
  refine alone.trans ?_
  refine wp_ld (Finset.subset_univ _) ?_
  refine wp_done ?_
  iintro ⟨H, -⟩
  isplitr [H]
  · ipureintro
    refine step_w hb.1 hb.2 _ ?_ ?_
    · rw [Words.addi_w]
      erw [Words.floordiv_w (a := p + q) (b := 2) (by omega) (by decide) (by decide),
        Words.minsi_w (a := (p + q) / 2) (b := 49999) (by omega) (by decide)]
    · intro hpq
      rw [lane0]
      unfold below
      rw [← hB ((p + q) / 2) (by omega)]
      refine congrArg (fun u => BitVec.slt (B u) (w G)) ?_
      funext a
      match a with
      | ⟨0, _⟩ =>
        refine Fin.ext ?_
        show k0_off1 (w p) (w q) 0 + 1 * 0 = (p + q) / 2
        rw [hoff]
        show min ((p + q) / 2) 49999 + 1 * 0 = (p + q) / 2
        omega
  · iexact H

/-- A search: the first of its results is the first row of the graph. -/
theorem search_run (b : S50000.Idx → BitVec 32) {B : S50016.Idx → BitVec 32} (hB : IdsOK b B) (G : ℕ) :
    idP d L B ⊢ WP d L (Scf.Loop.for k0_t1_loop k0_t1_ok (0#32, 50000#32) (onBufs (k0_t1_body (F := F) L) (w G)))
      (fun acc => iprop(⌜acc.1 = w (first b G)⌝ ∗ idP d L B)) := by
  refine BIBase.Entails.trans ?_ (wp_loop (fun n acc => iprop(⌜acc = (w (Search.run (below b G) n).1, w (Search.run (below b G) n).2)⌝ ∗ idP d L B)) ?_ ?_)
  · iintro H
    isplitr [H]
    · ipureintro; rfl
    · iexact H
  · intro k acc
    iintro ⟨%h, H⟩
    subst h
    iapply (search_body b hB G k.val k)
    iexact H
  · intro acc
    iintro ⟨%h, H⟩
    isplitr [H]
    · ipureintro
      rw [h]
      rfl
    · iexact H

/-! ## The table of first rows -/

/-- A table of words as the contents of the scalar memory. -/
def sbC (T : ℕ → BitVec 32) : S9.Idx → BitVec 32 := fun y => T (y 0).val

abbrev sbP (d : Dev nD) (L : grid0.Coords) (T : ℕ → BitVec 32) : sProp (MM F) :=
  sbM.view.loc (thr d L) ↦{fullShare} (sbC T : Buf (Elt F) (sbM.view.loc (thr d L)))

/-- The rectangle of one word. -/
abbrev sbR (off : Fin 1 → ℕ) (inb : ∀ a, off a + S1.size a ≤ S9.size a) : Rect S9 := Rect.unit (s := S9) off S1.size inb

/-- Reading word `j` of the table of bounds. -/
theorem read_sb (T : ℕ → BitVec 32) {off : Fin 1 → ℕ} {inb} {j : ℕ} (h : off = ![j]) (x : S1.Idx) :
    (sbM.access (sbR off inb)).read (Elt F) (sbC T) x = T j := by
  subst h
  rw [View.read_apply]
  have hx0 : (x 0).val = 0 := by have := (x 0).isLt; simp [S1] at this; omega
  show T (j + 1 * (x 0).val) = _
  rw [hx0, Nat.mul_zero, Nat.add_zero]

/-- Writing word `j` of the table of bounds. -/
theorem write_sb (T : ℕ → BitVec 32) (v : BitVec 32) {off : Fin 1 → ℕ} {inb} {j : ℕ} (h : off = ![j]) :
    (sbM.access (sbR off inb)).write (Elt F) (sbC T) (fun _ => v) Finset.univ = sbC (Function.update T j v) := by
  subst h
  funext y
  by_cases hy : (y 0).val = j
  · have e : y = (sbM.access (sbR ![j] inb)).emb (ix1 (0 : Fin 1) : S1.Idx) := by
      refine (eq_ix1 y).trans ?_
      funext a
      match a with
      | ⟨0, _⟩ => exact Fin.ext (by show (y 0).val = j + 1 * 0; omega)
    conv_lhs => rw [e]
    rw [View.write_emb_of_mem _ _ (Finset.mem_univ _)]
    unfold sbC
    rw [hy, Function.update_self]
    rfl
  · rw [View.write_of_not_mem]
    · unfold sbC
      rw [Function.update_of_ne hy]
    · intro hm
      obtain ⟨x, _, e⟩ := Finset.mem_map.1 hm
      apply hy
      have h0 := congrArg (fun z : S9.Idx => (z 0).val) e
      have hx0 : (x 0).val = 0 := by have := (x 0).isLt; simp [S1] at this; omega
      change j + 1 * (x 0).val = (y 0).val at h0
      omega

/-- The load of one word. -/
theorem ld_sb {T : ℕ → BitVec 32} (j : ℕ) {off : Fin 1 → ℕ} {inb} {h1 : (sbR off inb).shape.numel = 1} {hp : EltTy.packing .i32 = 1} {α : Type}
    {kk : Elt F .i32 → Prog (TpuEff nD τ sig (Elt F) Λ₀ (.scVector (cV L) (jV L))) α}
    {R : sProp (MM F)} {Q : α → sProp (MM F)} (h : off = ![j]) (hk : iprop(sbP d L T ∗ R) ⊢ WP d L (kk (T j)) Q) :
    iprop(sbP d L T ∗ R) ⊢ WP d L (smemLoad sbM (sbR off inb) h1 hp >>= kk) Q := by
  refine wp_ld (m := sbM) (r := sbR off inb) (hl := View.loadsAt_rect (View.loads_smem_one hp h1))
    (k := fun f => kk (f (Shape.Idx.first (h1.symm ▸ Nat.one_pos)))) (Finset.subset_univ _) ?_
  rw [read_sb T h]
  exact hk

/-- The store of one word. -/
theorem st_sb {T : ℕ → BitVec 32} (j : ℕ) (v : BitVec 32) {off : Fin 1 → ℕ} {inb}
    {hx : (sbM.access (sbR off inb)).Stores Finset.univ} {hm : Finset.univ = Finset.univ ∨ ∀ a, (sbR off inb).stride a = 1} {α : Type}
    {kk : PUnit → Prog (TpuEff nD τ sig (Elt F) Λ₀ (.scVector (cV L) (jV L))) α}
    {R : sProp (MM F)} {Q : α → sProp (MM F)} (h : off = ![j])
    (hk : iprop(sbP d L (Function.update T j v) ∗ R) ⊢ WP d L (kk ⟨⟩) Q) :
    iprop(sbP d L T ∗ R) ⊢ WP d L (Prog.lift (.store sbM (sbR off inb) (fun _ => v) Finset.univ hx hm) >>= kk) Q := by
  iintro ⟨H, HR⟩
  iapply (wp_store (defs := defs₀ (F := F)) (Λ := Λ₀) 𝒱₀ (thr d L) none Set.univ (Q := Q) (m := sbM) (r := sbR off inb) (w := fun _ => v)
    (hx := hx) (hm := hm) (k := kk) (f := sbC T) (S := Finset.univ) (Finset.subset_univ _)) $$ H
  iintro H
  iapply hk
  isplitl [H]
  · iapply (Entails.of_eq (congrArg (fun f => (sbM.view.loc (thr d L) ↦{fullShare} f : sProp (MM F))) (write_sb (F := F) T v (inb := inb) h))); iexact H
  · iexact HR

/-- A search and the store of its result. -/
theorem search_store (b : S50000.Idx → BitVec 32) {B : S50016.Idx → BitVec 32} (hB : IdsOK b B) (G j : ℕ) {tgt : BitVec 32} (ht : tgt = w G)
    {T : ℕ → BitVec 32} {off off' : Fin 1 → ℕ} {inb inb'} {h1 : (sbR off inb).shape.numel = 1} {hp : EltTy.packing .i32 = 1}
    {hx : (sbM.access (sbR off' inb')).Stores Finset.univ} {hm : Finset.univ = Finset.univ ∨ ∀ a, (sbR off' inb').stride a = 1} {α : Type}
    {kk : BitVec 32 × BitVec 32 → Elt F .i32 → PUnit → Prog (TpuEff nD τ sig (Elt F) Λ₀ (.scVector (cV L) (jV L))) α}
    {R : sProp (MM F)} {Q : α → sProp (MM F)} (h : off = ![j]) (h' : off' = ![j])
    (hk : ∀ a v, iprop(idP d L B ∗ sbP d L (Function.update T j (w (first b G))) ∗ R) ⊢ WP d L (kk a v ⟨⟩) Q) :
    iprop(idP d L B ∗ sbP d L T ∗ R) ⊢ WP d L
      (Scf.Loop.for k0_t1_loop k0_t1_ok (0#32, 50000#32) (onBufs (k0_t1_body (F := F) L) tgt) >>= fun acc =>
        smemLoad sbM (sbR off inb) h1 hp >>= fun v =>
          Prog.lift (.store sbM (sbR off' inb') (fun _ => acc.1) Finset.univ hx hm) >>= kk acc v) Q := by
  subst ht
  refine wp_seqR _ (search_run b hB G) fun acc => ?_
  refine (show _ ⊢ iprop(⌜acc.1 = w (first b G)⌝ ∗ (sbP d L T ∗ (idP d L B ∗ R))) from by iintro ⟨⟨%ha, HI⟩, HT, HR⟩; iframe; ipureintro; exact ha).trans ?_
  refine pureL fun ha => ?_
  refine ld_sb j h ?_
  refine st_sb j acc.1 h' ?_
  rw [ha]
  refine BIBase.Entails.trans ?_ (hk acc (T j))
  iintro ⟨HT, HI, HR⟩
  iframe

end Cert.Proof.Sc

end
-- ==== Proof.InitRun.lean ====
/-
  The accumulator's initialization: every register of a row of sums is zero, every register of a row
  of maxima is the identity of the maximum.
-/
module

public import proofs.«01_k».proof.Proof.Acc
public import proofs.«01_k».proof.Proof.SearchRun
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

/-- What a register starts at. -/
def ini (_ k : ℕ) : V16 F := if k < 32 then zeroV else ninfV

/-- The order of the stores of row `t`: sums and maxima alternate. -/
def iniOrd (t n : ℕ) : ℕ × ℕ := (t, n / 2 + 32 * (n % 2))

/-- A pure fact put beside the accumulator. -/
theorem ini_end {A : ℕ → ℕ → V16 F} {p : Prop} (h : p) : iprop(accP d L A ∗ emp) ⊢ iprop(⌜p⌝ ∗ accP d L A) := by
  iintro ⟨H, -⟩
  isplitr [H]
  · ipureintro; exact h
  · iexact H

/-- Stretch 1 of a graph's start values: each store takes the accumulator one position on. -/
theorem part1_run (A : ℕ → ℕ → V16 F) (t : Fin k0_t10_loop.trips) (c e : BitVec 32) :
    iprop(accP d L (fr A ini (iniOrd t.val) 0) ∗ emp) ⊢ WP d L (onBufs (k0_part1 (F := F) L) k0_pay711 k0_pay712 c e t)
      (fun r => iprop(⌜r.2 = up ninfV⌝ ∗ accP d L (fr A ini (iniOrd t.val) 9))) := by
  rw [k0_part1_eq_skeleton]
  unfold k0_part1_skel onBufs
  dsimp only
  iterate 9 refine skip (put rfl rfl ?_)
  exact skip (wp_done (ini_end rfl))

/-- Stretch 2 of a graph's start values: each store takes the accumulator one position on. -/
theorem part2_run (A : ℕ → ℕ → V16 F) (t : Fin k0_t10_loop.trips) (c : BitVec 32) :
    iprop(accP d L (fr A ini (iniOrd t.val) 9) ∗ emp) ⊢ WP d L (onBufs (k0_part2 (F := F) L) k0_pay711 k0_pay712 t c (up ninfV))
      (fun r => iprop(⌜r = up ninfV⌝ ∗ accP d L (fr A ini (iniOrd t.val) 19))) := by
  rw [k0_part2_eq_skeleton]
  unfold k0_part2_skel onBufs
  dsimp only
  refine put rfl rfl ?_
  iterate 9 refine skip (put rfl rfl ?_)
  exact skip (wp_done (ini_end rfl))

/-- Stretch 3 of a graph's start values: each store takes the accumulator one position on. -/
theorem part3_run (A : ℕ → ℕ → V16 F) (t : Fin k0_t10_loop.trips) (c : BitVec 32) :
    iprop(accP d L (fr A ini (iniOrd t.val) 19) ∗ emp) ⊢ WP d L (onBufs (k0_part3 (F := F) L) k0_pay711 k0_pay712 t c (up ninfV))
      (fun r => iprop(⌜r = up ninfV⌝ ∗ accP d L (fr A ini (iniOrd t.val) 29))) := by
  rw [k0_part3_eq_skeleton]
  unfold k0_part3_skel onBufs
  dsimp only
  refine put rfl rfl ?_
  iterate 9 refine skip (put rfl rfl ?_)
  exact skip (wp_done (ini_end rfl))

/-- Stretch 4 of a graph's start values: each store takes the accumulator one position on. -/
theorem part4_run (A : ℕ → ℕ → V16 F) (t : Fin k0_t10_loop.trips) (c : BitVec 32) :
    iprop(accP d L (fr A ini (iniOrd t.val) 29) ∗ emp) ⊢ WP d L (onBufs (k0_part4 (F := F) L) k0_pay711 k0_pay712 t c (up ninfV))
      (fun r => iprop(⌜r = up ninfV⌝ ∗ accP d L (fr A ini (iniOrd t.val) 39))) := by
  rw [k0_part4_eq_skeleton]
  unfold k0_part4_skel onBufs
  dsimp only
  refine put rfl rfl ?_
  iterate 9 refine skip (put rfl rfl ?_)
  exact skip (wp_done (ini_end rfl))

/-- Stretch 5 of a graph's start values: each store takes the accumulator one position on. -/
theorem part5_run (A : ℕ → ℕ → V16 F) (t : Fin k0_t10_loop.trips) (c : BitVec 32) :
    iprop(accP d L (fr A ini (iniOrd t.val) 39) ∗ emp) ⊢ WP d L (onBufs (k0_part5 (F := F) L) k0_pay711 k0_pay712 t c (up ninfV))
      (fun r => iprop(⌜r = up ninfV⌝ ∗ accP d L (fr A ini (iniOrd t.val) 49))) := by
  rw [k0_part5_eq_skeleton]
  unfold k0_part5_skel onBufs
  dsimp only
  refine put rfl rfl ?_
  iterate 9 refine skip (put rfl rfl ?_)
  exact skip (wp_done (ini_end rfl))

/-- Stretch 6 of a graph's start values: each store takes the accumulator one position on. -/
theorem part6_run (A : ℕ → ℕ → V16 F) (t : Fin k0_t10_loop.trips) (c : BitVec 32) :
    iprop(accP d L (fr A ini (iniOrd t.val) 49) ∗ emp) ⊢ WP d L (onBufs (k0_part6 (F := F) L) k0_pay711 k0_pay712 t c (up ninfV))
      (fun r => iprop(⌜r = up ninfV⌝ ∗ accP d L (fr A ini (iniOrd t.val) 59))) := by
  rw [k0_part6_eq_skeleton]
  unfold k0_part6_skel onBufs
  dsimp only
  refine put rfl rfl ?_
  iterate 9 refine skip (put rfl rfl ?_)
  exact skip (wp_done (ini_end rfl))

/-- One row of the accumulator. -/
theorem t10_body_run (A : ℕ → ℕ → V16 F) (v2 v39 c41 c42 c43 c45 : BitVec 32) (t : Fin k0_t10_loop.trips) :
    accP d L A ⊢ WP d L (onBufs (k0_t10_body (F := F) L) v2 v39 c41 c42 c43 c45 t ⟨⟩)
      (fun _ => accP d L (fun g k => if g = t.val ∧ k < 64 then ini g k else A g k)) := by
  rw [← fr_zero A ini (iniOrd t.val)]
  unfold k0_t10_body onBufs
  dsimp only
  refine wp_seq _ (alone.trans (part1_run A t _ _)) fun r => pureL fun h => ?_
  obtain ⟨c, v⟩ := r
  dsimp only at h ⊢
  subst h
  refine wp_seq _ (alone.trans (part2_run A t c)) fun r => pureL fun h => ?_
  subst h
  refine wp_seq _ (alone.trans (part3_run A t c)) fun r => pureL fun h => ?_
  subst h
  refine wp_seq _ (alone.trans (part4_run A t c)) fun r => pureL fun h => ?_
  subst h
  refine wp_seq _ (alone.trans (part5_run A t c)) fun r => pureL fun h => ?_
  subst h
  refine wp_seq _ (alone.trans (part6_run A t c)) fun r => pureL fun h => ?_
  subst h
  refine alone.trans (put rfl rfl ?_)
  iterate 4 refine skip (put rfl rfl ?_)
  refine wp_done ?_
  have e : fr A ini (iniOrd t.val) 64 = fun g k => if g = t.val ∧ k < 64 then (ini g k : V16 F) else fr A ini (iniOrd t.val) 0 g k := by
    rw [fr_zero]
    funext g k
    unfold fr
    refine if_congr ⟨?_, ?_⟩ rfl rfl
    · rintro ⟨m, hm, e⟩
      unfold iniOrd at e
      rw [Prod.mk.injEq] at e
      omega
    · rintro ⟨h1, h2⟩
      refine ⟨if k < 32 then 2 * k else 2 * (k - 32) + 1, ?_, ?_⟩
      · split <;> omega
      · unfold iniOrd
        rw [Prod.mk.injEq]
        refine ⟨h1.symm, ?_⟩
        split <;> omega
  rw [← e]
  iintro ⟨H, -⟩
  iexact H

/-- The accumulator, initialized: rows `g < 8`. -/
theorem t10_run (A : ℕ → ℕ → V16 F) (v2 v39 c41 c42 c43 c45 : BitVec 32) :
    accP d L A ⊢ WP d L (Scf.Loop.for k0_t10_loop k0_t10_ok ⟨⟩ (onBufs (k0_t10_body (F := F) L) v2 v39 c41 c42 c43 c45))
      (fun _ => accP d L (fun g k => if g < 8 ∧ k < 64 then ini g k else A g k)) := by
  refine BIBase.Entails.trans ?_ (wp_loop (fun n _ => accP d L (fun g k => if g < n ∧ k < 64 then ini g k else A g k)) ?_ ?_)
  · refine Entails.of_eq ?_
    simp
  · intro t acc
    refine (t10_body_run _ v2 v39 c41 c42 c43 c45 t).trans (wp_mono _ _ _ fun _ => Entails.of_eq ?_)
    congr 2
    funext g k
    by_cases h1 : g = t.val ∧ k < 64
    · rw [if_pos h1, if_pos ⟨by omega, h1.2⟩]
    · rw [if_neg h1]
      refine if_congr ?_ rfl rfl
      omega
  · intro acc
    exact .rfl

end Cert.Proof.Sc

end
-- ==== Proof.Geo.lean ====
/-
  The words the chunk loop computes with, in closed form: where the chunks begin and how many there
  are, the rows of a chunk that belong to a graph, and the place of each in the chunk's buffer. From
  these the side conditions the kernel assumes hold.
-/
module

public import proofs.«01_k».proof.Proof.Setup
public import proofs.«01_k».proof.Proof.Words
public import Idealize.ShloMosaic.Lib.ValueIdx

@[expose] public section

noncomputable section

namespace Cert.Proof.Sc

open Cert.KernelIdeal Cert.KernelIdeal.Gen
open Idealize.ShloMosaic
open Cert.Proof.Words (w)

/-! ## On naturals -/

/-- The row the first chunk begins at. -/
def a0 (p : ℕ) : ℕ := p / 8 * 8
/-- The number of chunks. -/
def nch (p q : ℕ) : ℕ := (q - a0 p + 39) / 40
/-- Where chunk `t` begins. -/
def c0 (p t : ℕ) : ℕ := a0 p + 40 * t
/-- The row its copy begins at. -/
def r0 (p t : ℕ) : ℕ := min (c0 p t) 49960
/-- The rows of graph `[s, e)` in chunk `t`: the first, and how many. -/
def lo (p t s : ℕ) : ℕ := max s (c0 p t)
def cntIn (p t s e : ℕ) : ℕ := min e (c0 p t + 40) - lo p t s

/-- The first chunk begins no later than the first row. -/
theorem a0_le (p : ℕ) : a0 p ≤ p := by unfold a0; omega

/-! ## The words -/

def a0W (v : BitVec 32) : BitVec 32 :=
  Scalar.muli
    (Scalar.select
      (Scalar.andi
        (Scalar.cmpi .ne (Scalar.subi (Scalar.extui (Scalar.cmpi .sgt v 0#32)) (Scalar.extui (Scalar.cmpi .slt v 0#32)))
          (Scalar.subi (Scalar.extui (Scalar.cmpi .sgt (w 8) 0#32)) (Scalar.extui (Scalar.cmpi .slt (w 8) 0#32))))
        (Scalar.cmpi .ne (Scalar.remsi v (w 8)) 0#32))
      (Scalar.subi (Scalar.divsi v (w 8)) 1#32) (Scalar.divsi v (w 8))) (w 8)

def nW (v u : BitVec 32) : BitVec 32 :=
  let x := Scalar.subi (Scalar.addi (Scalar.subi u (a0W v)) (w 40)) (w 1)
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt (w 40) 0#32)) (Scalar.extui (Scalar.cmpi .slt (w 40) 0#32))))
      (Scalar.cmpi .ne (Scalar.remsi x (w 40)) 0#32))
    (Scalar.subi (Scalar.divsi x (w 40)) 1#32) (Scalar.divsi x (w 40))

def cW (v : BitVec 32) (t : ℕ) : BitVec 32 := Scalar.addi (a0W v) (Scalar.muli (Scf.iv 0#32 1#32 t) (w 40))

/-- The computed word for the first chunk's row is that row. -/
theorem a0W_w {p : ℕ} (h : p ≤ 50000) : a0W (w p) = w (a0 p) := by
  unfold a0W
  rw [Words.floordiv_w (by omega) (by decide) (by decide), Words.muli_w]
  rfl

/-- The computed word for the number of chunks is that number. -/
theorem nW_w {p q : ℕ} (h : p ≤ q) (hq : q ≤ 50000) : nW (w p) (w q) = w (nch p q) := by
  have := a0_le p
  have e : Scalar.subi (Scalar.addi (Scalar.subi (w q) (a0W (w p))) (w 40)) (w 1) = w (q - a0 p + 39) := by
    rw [a0W_w (by omega), Words.subi_w (by omega), Words.addi_w, Words.subi_w (by omega)]
    rfl
  unfold nW
  dsimp only
  rw [e]
  exact Words.floordiv_w (by omega) (by decide) (by decide)

/-- The computed word for the row where chunk `t` nominally begins is that row. -/
theorem cW_w {p : ℕ} (h : p ≤ 50000) (t : ℕ) : cW (w p) t = w (c0 p t) := by
  unfold cW c0
  rw [a0W_w h, Words.iv_w, Words.muli_w, Words.addi_w, Nat.mul_comm t 40]

/-- A loop's bounds once cut into whole steps of one. -/
theorem unr_w {n : ℕ} (h : n < 2 ^ 31) : Scalar.addi 0#32 (Scalar.muli (Scalar.divsi (Scalar.subi (w n) 0#32) 1#32) 1#32) = w n := by
  rw [show (0#32 : BitVec 32) = w 0 from rfl, show (1#32 : BitVec 32) = w 1 from rfl, Words.subi_w (by omega),
    Words.divsi_w (by omega) (by decide) (by decide), Words.muli_w, Words.addi_w]
  congr 1
  omega

/-- Nothing taken off and nothing added. -/
theorem rest_w {n : ℕ} : Scalar.addi 0#32 (Scalar.subi (w n) 0#32) = w n := by
  rw [show (0#32 : BitVec 32) = w 0 from rfl, Words.subi_w (by omega), Words.addi_w]
  congr 1
  omega

/-- A loop from zero to a small bound is in order. -/
theorem loop_ok {n : ℕ} (h : n < 2 ^ 31) : Scf.Loop.OK ⟨0#32, w n, 1#32⟩ := by
  refine ⟨(by decide : 0 < (1#32 : BitVec 32).toInt), ?_⟩
  dsimp only
  rw [Words.trips_w h]
  rw [show (0#32 : BitVec 32).toInt = 0 from rfl, show (1#32 : BitVec 32).toInt = 1 from rfl]
  omega

/-- A loop from a bound to itself makes no turn. -/
theorem none_trips {n : ℕ} : Scf.Loop.trips ⟨w n, w n, 1#32⟩ = 0 := by
  show ((( w n).toInt - (w n).toInt + (1#32 : BitVec 32).toInt - 1) / (1#32 : BitVec 32).toInt).toNat = 0
  rw [show (1#32 : BitVec 32).toInt = 1 from rfl]
  omega

/-- A loop from a bound to itself is in order. -/
theorem none_ok {n : ℕ} (h : n < 2 ^ 31) : Scf.Loop.OK ⟨w n, w n, 1#32⟩ := by
  refine ⟨(by decide : 0 < (1#32 : BitVec 32).toInt), ?_⟩
  show (w n).toInt + ((Scf.Loop.trips ⟨w n, w n, 1#32⟩ : ℕ) : ℤ) * (1#32 : BitVec 32).toInt < 2 ^ 31
  rw [none_trips, Words.toInt_w h]
  omega

section Chunks

variable {p q : ℕ}

/-- The loop over chunks runs from zero to their number. -/
theorem t11_eq (h : p ≤ q) (hq : q ≤ 50000) : k0_t11_loop (w p) (w q) = ⟨0#32, w (nch p q), 1#32⟩ := by
  show Scf.Loop.mk 0#32 (Scalar.addi 0#32 (Scalar.muli (Scalar.divsi (Scalar.subi (nW (w p) (w q)) 0#32) 1#32) 1#32)) 1#32 = _
  rw [nW_w h hq, unr_w (by unfold nch; omega)]

/-- What is left of the loop over chunks runs from their number to itself. -/
theorem t17_eq (h : p ≤ q) (hq : q ≤ 50000) : k0_t17_loop (w p) (w q) = ⟨w (nch p q), w (nch p q), 1#32⟩ := by
  show Scf.Loop.mk (Scalar.addi 0#32 (Scalar.muli (Scalar.divsi (Scalar.subi (nW (w p) (w q)) 0#32) 1#32) 1#32))
    (Scalar.addi 0#32 (Scalar.subi (nW (w p) (w q)) 0#32)) 1#32 = _
  rw [nW_w h hq, unr_w (by unfold nch; omega), rest_w]

/-- There are fewer than 2000 chunks. -/
theorem nch_lt (hq : q ≤ 50000) : nch p q < 2000 := by unfold nch; omega

/-- The loop over chunks makes one turn for each. -/
theorem t11_trips (h : p ≤ q) (hq : q ≤ 50000) : (k0_t11_loop (w p) (w q)).trips = nch p q := by
  rw [t11_eq h hq]
  exact Words.trips_w (by have := nch_lt (p := p) hq; omega)

/-- What is left of the loop over chunks makes no turn. -/
theorem t17_trips (h : p ≤ q) (hq : q ≤ 50000) : (k0_t17_loop (w p) (w q)).trips = 0 := by
  rw [t17_eq h hq]
  exact none_trips

/-- The tile has work exactly if its rows begin before they end. -/
theorem cond1_iff (hp : p ≤ 50000) (hq : q ≤ 50000) : k0_cond1 (w p) (w q) = 1#1 ↔ p < q := by
  show Scalar.cmpi .ne (Scalar.extui (Scalar.cmpi .sgt (w q) (w p))) 0#32 = 1#1 ↔ _
  rw [Words.cmpi_sgt_w (by omega) (by omega), Words.test_bit, Words.bit_eq_one, decide_eq_true_eq]

/-- The first copy is started exactly if there is a chunk. -/
theorem cond2_iff (h : p ≤ q) (hq : q ≤ 50000) : k0_cond2 (w p) (w q) = 1#1 ↔ 0 < nch p q := by
  have := nch_lt (p := p) hq
  show Scalar.cmpi .ne (Scalar.extui (Scalar.cmpi .sgt (nW (w p) (w q)) (w 0))) 0#32 = 1#1 ↔ _
  rw [nW_w h hq, Words.cmpi_sgt_w (by omega) (by omega), Words.test_bit, Words.bit_eq_one, decide_eq_true_eq]

/-- The second copy is started exactly if there are two chunks. -/
theorem cond3_iff (h : p ≤ q) (hq : q ≤ 50000) : k0_cond3 (w p) (w q) = 1#1 ↔ 1 < nch p q := by
  have := nch_lt (p := p) hq
  show Scalar.cmpi .ne (Scalar.extui (Scalar.cmpi .sgt (nW (w p) (w q)) (w 1))) 0#32 = 1#1 ↔ _
  rw [nW_w h hq, Words.cmpi_sgt_w (by omega) (by omega), Words.test_bit, Words.bit_eq_one, decide_eq_true_eq]

/-- Two chunks ahead, as the kernel counts it: three on, one back. -/
theorem ahead_w {t : ℕ} : Scalar.subi (Scalar.addi (Scf.iv 0#32 1#32 t) 3#32) 1#32 = w (t + 2) := by
  rw [Words.iv_w, show (3#32 : BitVec 32) = w 3 from rfl, show (1#32 : BitVec 32) = w 1 from rfl, Words.addi_w, Words.subi_w (by omega)]
  rfl

/-- In turn `t` a copy is started exactly if chunk `t + 2` exists. -/
theorem cond4_iff (h : p ≤ q) (hq : q ≤ 50000) (t : Fin (k0_t11_loop (w p) (w q)).trips) :
    k0_cond4 (w p) (w q) t = 1#1 ↔ t.val + 2 < nch p q := by
  have := nch_lt (p := p) hq
  have ht : t.val < nch p q := by exact Nat.lt_of_lt_of_eq t.isLt (t11_trips h hq)
  show Scalar.cmpi .ne (Scalar.extui (Scalar.cmpi .slt (Scalar.subi (Scalar.addi (Scf.iv 0#32 1#32 t.val) 3#32) 1#32) (nW (w p) (w q)))) 0#32 = 1#1 ↔ _
  rw [nW_w h hq, ahead_w, Words.cmpi_slt_w (by omega) (by omega), Words.test_bit, Words.bit_eq_one, decide_eq_true_eq]

/-! ### The copies -/

/-- The computed word for the row where chunk `t` truly begins is that row. -/
theorem start_w (hp : p ≤ 50000) {t : ℕ} (ht : t < 2000) : Scalar.minsi (Scalar.addi (a0W (w p)) (Scalar.muli (w t) (w 40))) 49960#32 = w (r0 p t) := by
  have := a0_le p
  rw [a0W_w hp, Words.muli_w, Words.addi_w, show (49960#32 : BitVec 32) = w 49960 from rfl, Words.minsi_w (by omega) (by decide), Nat.mul_comm t 40]
  rfl

/-- The first copy takes the rows of chunk 0. -/
theorem off75_eq (hp : p ≤ 50000) : k0_off75 (w p) = ![r0 p 0, 0] := by
  show ![(Scalar.minsi (Scalar.addi (a0W (w p)) (Scalar.muli (w 0) (w 40))) 49960#32).toNat, 0] = _
  rw [start_w hp (by decide), Words.toNat_w (by unfold r0; omega)]

/-- The second copy takes the rows of chunk 1. -/
theorem off78_eq (hp : p ≤ 50000) : k0_off78 (w p) = ![r0 p 1, 0] := by
  show ![(Scalar.minsi (Scalar.addi (a0W (w p)) (Scalar.muli (w 1) (w 40))) 49960#32).toNat, 0] = _
  rw [start_w hp (by decide), Words.toNat_w (by unfold r0; omega)]

/-- The copy started in turn `t` takes the rows of chunk `t + 2`. -/
theorem off83_eq (hp : p ≤ 50000) (hq : q ≤ 50000) (t : Fin (k0_t11_loop (w p) (w q)).trips) (ht : t.val < 1998) :
    k0_off83 (w p) (w q) t = ![r0 p (t.val + 2), 0] := by
  show ![(Scalar.minsi (Scalar.addi (a0W (w p)) (Scalar.muli (Scalar.subi (Scalar.addi (Scf.iv 0#32 1#32 t.val) 3#32) 1#32) (w 40))) 49960#32).toNat, 0] = _
  rw [ahead_w, start_w hp (by omega), Words.toNat_w (by unfold r0; omega)]

/-- The computed slot of chunk `t` is `t` modulo three. -/
theorem slot_w {t : ℕ} (ht : t < 2000) : (Scalar.remsi (w t) 3#32).toNat = t % 3 := by
  rw [show (3#32 : BitVec 32) = w 3 from rfl, Words.remsi_w (by omega) (by decide) (by decide), Words.toNat_w (by omega)]

/-- Turn `t` waits for the slot of chunk `t`. -/
theorem off80_eq (t : Fin (k0_t11_loop (w p) (w q)).trips) (ht : t.val < 1998) : k0_off80 (w p) (w q) t = ![t.val % 3, 0, 0] := by
  show ![(Scalar.remsi (Scf.iv 0#32 1#32 t.val) 3#32).toNat, 0, 0] = _
  rw [Words.iv_w, slot_w (by omega)]

/-- Turn `t` waits on the semaphore of chunk `t`. -/
theorem off81_eq (t : Fin (k0_t11_loop (w p) (w q)).trips) (ht : t.val < 1998) : k0_off81 (w p) (w q) t = ![t.val % 3] := by
  show ![(Scalar.remsi (Scf.iv 0#32 1#32 t.val) 3#32).toNat] = _
  rw [Words.iv_w, slot_w (by omega)]

/-- The copy started in turn `t` goes to the slot of chunk `t + 2`. -/
theorem off82_eq (t : Fin (k0_t11_loop (w p) (w q)).trips) (ht : t.val < 1998) : k0_off82 (w p) (w q) t = ![(t.val + 2) % 3, 0, 0] := by
  show ![(Scalar.remsi (Scalar.subi (Scalar.addi (Scf.iv 0#32 1#32 t.val) 3#32) 1#32) 3#32).toNat, 0, 0] = _
  rw [ahead_w, slot_w (by omega)]

/-- The copy started in turn `t` signals the semaphore of chunk `t + 2`. -/
theorem off84_eq (t : Fin (k0_t11_loop (w p) (w q)).trips) (ht : t.val < 1998) : k0_off84 (w p) (w q) t = ![(t.val + 2) % 3] := by
  show ![(Scalar.remsi (Scalar.subi (Scalar.addi (Scf.iv 0#32 1#32 t.val) 3#32) 1#32) 3#32).toNat] = _
  rw [ahead_w, slot_w (by omega)]

/-- Chunks begin at multiples of eight. -/
theorem r0_dvd (p t : ℕ) : 8 ∣ r0 p t := by unfold r0 c0 a0; omega

/-- The computed beginning of a chunk is a multiple of eight. -/
theorem dvd_start (hp : p ≤ 50000) {t : ℕ} (ht : t < 2000) :
    8 ∣ (Scalar.minsi (Scalar.addi (a0W (w p)) (Scalar.muli (w t) (w 40))) 49960#32).toNat := by
  rw [start_w hp ht, Words.toNat_w (by unfold r0; omega)]
  exact r0_dvd p t

/-- Forty rows from such a beginning lie in the array. -/
theorem rows_inb {r : ℕ} (h : r ≤ 49960) : ∀ a, (![r, 0] : Fin 2 → ℕ) a + S40x512.size a ≤ S50000x512.size a := fun a =>
  match a with
  | ⟨0, _⟩ => by show r + 40 ≤ 50000; omega
  | ⟨1, _⟩ => by show 0 + 512 ≤ 512; omega

/-- A slot lies in the ring. -/
theorem slot_inb {r : ℕ} (h : r < 3) : ∀ a, (![r, 0, 0] : Fin 3 → ℕ) a + S1x40x512.size a ≤ S3x40x512.size a := fun a =>
  match a with
  | ⟨0, _⟩ => by show r + 1 ≤ 3; omega
  | ⟨1, _⟩ => by show 0 + 40 ≤ 40; omega
  | ⟨2, _⟩ => by show 0 + 512 ≤ 512; omega

/-- A slot's semaphore is one of the three. -/
theorem sem_inb {r : ℕ} (h : r < 3) : ∀ a, (![r] : Fin 1 → ℕ) a + S1.size a ≤ S3.size a := fun a =>
  match a with
  | ⟨0, _⟩ => by show r + 1 ≤ 3; omega

/-- The side condition of the chunk loop. -/
theorem chk10 (h : p ≤ q) (hq : q ≤ 50000) : k0_chk10 (w p) (w q) := by
  have hp : p ≤ 50000 := h.trans hq
  have hn := nch_lt (p := p) hq
  have ht : ∀ t : Fin (k0_t11_loop (w p) (w q)).trips, t.val < nch p q := fun t => by
    exact Nat.lt_of_lt_of_eq t.isLt (t11_trips h hq)
  have hno : ∀ {P : Prop}, Fin (k0_t17_loop (w p) (w q)).trips → P := fun t => by
    exact absurd (Nat.lt_of_lt_of_eq t.isLt (t17_trips h hq)) (Nat.not_lt_zero _)
  have hr : ∀ t, r0 p t ≤ 49960 := fun t => by unfold r0; omega
  have htt : ∀ t, k0_cond4 (w p) (w q) t = 1#1 → t.val < 1998 := fun t h4 => by
    have := (cond4_iff h hq t).1 h4; omega
  have hup : nch p q < 1998 := by unfold nch; omega
  refine ⟨fun _ _ => dvd_start hp (t := 0) (by decide), fun _ _ => by rw [off75_eq hp]; exact rows_inb (hr 0),
    fun _ _ => dvd_start hp (t := 1) (by decide), fun _ _ => by rw [off78_eq hp]; exact rows_inb (hr 1),
    fun _ => by rw [t11_eq h hq]; exact loop_ok (n := nch p q) (by omega),
    fun t _ => by rw [off80_eq t (by have := ht t; omega)]; exact slot_inb (Nat.mod_lt _ (by decide)),
    fun t _ => by rw [off81_eq t (by have := ht t; omega)]; exact sem_inb (Nat.mod_lt _ (by decide)),
    fun t _ h4 => ?_,
    fun t _ h4 => by rw [off82_eq t (htt t h4)]; exact slot_inb (Nat.mod_lt _ (by decide)),
    fun t _ h4 => by rw [off83_eq hp hq t (htt t h4)]; exact rows_inb (hr _),
    fun t _ h4 => by rw [off84_eq t (htt t h4)]; exact sem_inb (Nat.mod_lt _ (by decide)),
    fun _ => by rw [t17_eq h hq]; exact none_ok (n := nch p q) (by omega),
    fun t => hno t, fun t => hno t, fun t => hno t, fun t => hno t, fun t => hno t, fun t => hno t⟩
  show 8 ∣ (Scalar.minsi (Scalar.addi (a0W (w p)) (Scalar.muli (Scalar.subi (Scalar.addi (Scf.iv 0#32 1#32 t.val) 3#32) 1#32) (w 40))) 49960#32).toNat
  rw [ahead_w]
  exact dvd_start hp (by have := htt t h4; omega)

end Chunks

end Cert.Proof.Sc

end
-- ==== Proof.Rows.lean ====
/-
  The rows of one graph in one chunk, as the words count them: how many, and where each lies in the
  chunk's buffer. The side condition of the walk over the graphs follows.
-/
module

public import proofs.«01_k».proof.Proof.Geo

@[expose] public section

noncomputable section

namespace Cert.Proof.Sc

open Cert.KernelIdeal Cert.KernelIdeal.Gen
open Idealize.ShloMosaic
open Cert.Proof.Words (w)

/-- Where a row's columns from `c` on lie in the buffer, as the words compute it. -/
def rowOff (v : BitVec 32) (t : ℕ) (s : BitVec 32) (k c : ℕ) : Fin 3 → ℕ :=
  ![(Scalar.remsi (Scf.iv 0#32 1#32 t) 3#32).toNat,
    (Scalar.addi (Scalar.subi (Scalar.maxsi s (cW v t)) (Scalar.minsi (cW v t) 49960#32)) (Scf.iv 0#32 1#32 k)).toNat, c]

/-- The number of rows, as the words compute it. -/
def cntW (v : BitVec 32) (t : ℕ) (s e : BitVec 32) : BitVec 32 :=
  Scalar.subi (Scalar.minsi e (Scalar.addi (cW v t) 40#32)) (Scalar.maxsi s (cW v t))

/-- Sixteen lanes of a row of a slot lie in the ring. -/
theorem row3_inb {a r c : ℕ} (ha : a < 3) (hr : r < 40) (hc : c ≤ 496) :
    ∀ i, (![a, r, c] : Fin 3 → ℕ) i + S1x1x16.size i ≤ S3x40x512.size i := fun i =>
  match i with
  | ⟨0, _⟩ => by show a + 1 ≤ 3; omega
  | ⟨1, _⟩ => by show r + 1 ≤ 40; omega
  | ⟨2, _⟩ => by show c + 16 ≤ 512; omega

section Rows

variable {p q s e t : ℕ}

/-- The row of the buffer the `k`th row of the graph lies at. -/
def bufRow (p t s k : ℕ) : ℕ := lo p t s - r0 p t + k

/-- A graph's rows in a chunk are found among the slot's forty. -/
theorem bufRow_lt (hs : p ≤ s) (hb : s ≤ e) (he : e ≤ 50000) {k : ℕ} (hk : k < cntIn p t s e) : bufRow p t s k < 40 := by
  have := a0_le p
  unfold cntIn at hk
  unfold bufRow r0
  unfold lo c0 at *
  omega

/-- The row of `x` it holds. -/
theorem bufRow_x (k : ℕ) : r0 p t + bufRow p t s k = lo p t s + k := by
  unfold bufRow r0
  unfold lo
  omega

/-- The computed place of a row's lanes in the ring. -/
theorem rowOff_w (hs : p ≤ s) (hb : s ≤ e) (he : e ≤ 50000) (ht : t < 2000) {k : ℕ} (hk : k < cntIn p t s e) (c : ℕ) :
    rowOff (w p) t (w s) k c = ![t % 3, bufRow p t s k, c] := by
  have h40 := bufRow_lt hs hb he hk
  have := a0_le p
  have e1 : Scalar.maxsi (w s) (cW (w p) t) = w (lo p t s) := by
    rw [cW_w (by omega), Words.maxsi_w (by omega) (by unfold c0; omega)]
    rfl
  have e2 : Scalar.minsi (cW (w p) t) 49960#32 = w (r0 p t) := by
    rw [cW_w (by omega), show (49960#32 : BitVec 32) = w 49960 from rfl, Words.minsi_w (by unfold c0; omega) (by decide)]
    rfl
  unfold rowOff
  rw [e1, e2, Words.subi_w (by unfold r0 lo; omega), Words.iv_w, Words.iv_w, Words.addi_w, slot_w ht]
  rw [show lo p t s - r0 p t + k = bufRow p t s k from rfl, Words.toNat_w (by omega)]

/-- The computed end and beginning of a graph's rows in a chunk. -/
theorem cntW_w (hs : p ≤ s) (he : e ≤ 50000) (hse : s ≤ e) (ht : t < 2000) :
    Scalar.minsi (w e) (Scalar.addi (cW (w p) t) 40#32) = w (min e (c0 p t + 40)) ∧ Scalar.maxsi (w s) (cW (w p) t) = w (lo p t s) := by
  have := a0_le p
  rw [cW_w (by omega), show (40#32 : BitVec 32) = w 40 from rfl, Words.addi_w, Words.minsi_w (by omega) (by unfold c0; omega),
    Words.maxsi_w (by omega) (by unfold c0; omega)]
  exact ⟨rfl, rfl⟩

/-- The chunks' numbers stay below 2000. -/
theorem lt_of_fin (hs : p ≤ q) (hq : q ≤ 50000) (t : Fin (k0_t11_loop (w p) (w q)).trips) : t.val < 2000 :=
  (Nat.lt_of_lt_of_eq t.isLt (t11_trips hs hq)).trans (nch_lt hq)

/-- A graph is folded in exactly if the chunk holds a row of it. -/
theorem cond5_iff (hpq : p ≤ q) (hq : q ≤ 50000) (hs : p ≤ s) (hse : s ≤ e) (he : e ≤ 50000) (t : Fin (k0_t11_loop (w p) (w q)).trips) :
    k0_cond5 (w p) (w q) t (w s) (w e) = 1#1 ↔ 0 < cntIn p t.val s e := by
  have ht := lt_of_fin hpq hq t
  have := a0_le p
  show Scalar.cmpi .ne (Scalar.extui (Scalar.cmpi .sgt (Scalar.minsi (w e) (Scalar.addi (cW (w p) t.val) 40#32)) (Scalar.maxsi (w s) (cW (w p) t.val)))) 0#32 = 1#1 ↔ _
  rw [(cntW_w hs he hse ht).1, (cntW_w hs he hse ht).2, Words.cmpi_sgt_w (by omega) (by unfold lo c0; omega), Words.test_bit, Words.bit_eq_one,
    decide_eq_true_eq]
  unfold cntIn
  omega

/-- The computed number of a graph's rows in a chunk is that number. -/
theorem cnt_w (hs : p ≤ s) (hse : s ≤ e) (he : e ≤ 50000) (ht : t < 2000) (h : 0 < cntIn p t s e) :
    cntW (w p) t (w s) (w e) = w (cntIn p t s e) := by
  unfold cntW
  rw [(cntW_w hs he hse ht).1, (cntW_w hs he hse ht).2, Words.subi_w (by unfold cntIn at h; omega)]
  rfl

/-- A chunk holds at most forty rows of a graph. -/
theorem cntIn_le : cntIn p t s e ≤ 40 := by unfold cntIn lo; omega

/-- The loop over the rows, for each half of the columns, and what is left of it after. -/
theorem t13_eq (hpq : p ≤ q) (hq : q ≤ 50000) (hs : p ≤ s) (hse : s ≤ e) (he : e ≤ 50000) (t : Fin (k0_t11_loop (w p) (w q)).trips)
    (h : 0 < cntIn p t.val s e) : k0_t13_loop (w p) (w q) t (w s) (w e) = ⟨0#32, w (cntIn p t.val s e), 1#32⟩ := by
  show Scf.Loop.mk 0#32 (Scalar.addi 0#32 (Scalar.muli (Scalar.divsi (Scalar.subi (cntW (w p) t.val (w s) (w e)) 0#32) 1#32) 1#32)) 1#32 = _
  rw [cnt_w hs hse he (lt_of_fin hpq hq t) h, unr_w (by have := cntIn_le (p := p) (t := t.val) (s := s) (e := e); omega)]

/-- The second half's loop over rows runs from zero to their number. -/
theorem t15_eq (hpq : p ≤ q) (hq : q ≤ 50000) (hs : p ≤ s) (hse : s ≤ e) (he : e ≤ 50000) (t : Fin (k0_t11_loop (w p) (w q)).trips)
    (h : 0 < cntIn p t.val s e) : k0_t15_loop (w p) (w q) t (w s) (w e) = ⟨0#32, w (cntIn p t.val s e), 1#32⟩ :=
  t13_eq hpq hq hs hse he t h

/-- What is left of the first half's loop over rows runs from their number to itself. -/
theorem t14_eq (hpq : p ≤ q) (hq : q ≤ 50000) (hs : p ≤ s) (hse : s ≤ e) (he : e ≤ 50000) (t : Fin (k0_t11_loop (w p) (w q)).trips)
    (h : 0 < cntIn p t.val s e) : k0_t14_loop (w p) (w q) t (w s) (w e) = ⟨w (cntIn p t.val s e), w (cntIn p t.val s e), 1#32⟩ := by
  show Scf.Loop.mk (Scalar.addi 0#32 (Scalar.muli (Scalar.divsi (Scalar.subi (cntW (w p) t.val (w s) (w e)) 0#32) 1#32) 1#32))
    (Scalar.addi 0#32 (Scalar.subi (cntW (w p) t.val (w s) (w e)) 0#32)) 1#32 = _
  rw [cnt_w hs hse he (lt_of_fin hpq hq t) h, unr_w (by have := cntIn_le (p := p) (t := t.val) (s := s) (e := e); omega), rest_w]

/-- What is left of the second half's loop over rows runs from their number to itself. -/
theorem t16_eq (hpq : p ≤ q) (hq : q ≤ 50000) (hs : p ≤ s) (hse : s ≤ e) (he : e ≤ 50000) (t : Fin (k0_t11_loop (w p) (w q)).trips)
    (h : 0 < cntIn p t.val s e) : k0_t16_loop (w p) (w q) t (w s) (w e) = ⟨w (cntIn p t.val s e), w (cntIn p t.val s e), 1#32⟩ :=
  t14_eq hpq hq hs hse he t h

/-- The first half's loop over rows makes one turn for each. -/
theorem t13_trips (hpq : p ≤ q) (hq : q ≤ 50000) (hs : p ≤ s) (hse : s ≤ e) (he : e ≤ 50000) (t : Fin (k0_t11_loop (w p) (w q)).trips)
    (h : 0 < cntIn p t.val s e) : (k0_t13_loop (w p) (w q) t (w s) (w e)).trips = cntIn p t.val s e := by
  rw [t13_eq hpq hq hs hse he t h]
  exact Words.trips_w (by have := cntIn_le (p := p) (t := t.val) (s := s) (e := e); omega)

/-- The second half's loop over rows makes one turn for each. -/
theorem t15_trips (hpq : p ≤ q) (hq : q ≤ 50000) (hs : p ≤ s) (hse : s ≤ e) (he : e ≤ 50000) (t : Fin (k0_t11_loop (w p) (w q)).trips)
    (h : 0 < cntIn p t.val s e) : (k0_t15_loop (w p) (w q) t (w s) (w e)).trips = cntIn p t.val s e :=
  t13_trips hpq hq hs hse he t h

/-- What is left of the first half's loop makes no turn. -/
theorem t14_trips (hpq : p ≤ q) (hq : q ≤ 50000) (hs : p ≤ s) (hse : s ≤ e) (he : e ≤ 50000) (t : Fin (k0_t11_loop (w p) (w q)).trips)
    (h : 0 < cntIn p t.val s e) : (k0_t14_loop (w p) (w q) t (w s) (w e)).trips = 0 := by
  rw [t14_eq hpq hq hs hse he t h]
  exact none_trips

/-- What is left of the second half's loop makes no turn. -/
theorem t16_trips (hpq : p ≤ q) (hq : q ≤ 50000) (hs : p ≤ s) (hse : s ≤ e) (he : e ≤ 50000) (t : Fin (k0_t11_loop (w p) (w q)).trips)
    (h : 0 < cntIn p t.val s e) : (k0_t16_loop (w p) (w q) t (w s) (w e)).trips = 0 :=
  t14_trips hpq hq hs hse he t h

/-- The side condition of the walk over the graphs. -/
theorem chk11 (hpq : p ≤ q) (hq : q ≤ 50000) (hs : p ≤ s) (hse : s ≤ e) (he : e ≤ 50000) (t : Fin (k0_t11_loop (w p) (w q)).trips) :
    k0_chk11 (w p) (w q) t (w s) (w e) := by
  have hc : k0_cond5 (w p) (w q) t (w s) (w e) = 1#1 → 0 < cntIn p t.val s e := (cond5_iff hpq hq hs hse he t).1
  have hk := cntIn_le (p := p) (t := t.val) (s := s) (e := e)
  have ok : k0_cond5 (w p) (w q) t (w s) (w e) = 1#1 → (k0_t13_loop (w p) (w q) t (w s) (w e)).OK := fun h => by
    rw [t13_eq hpq hq hs hse he t (hc h)]
    exact loop_ok (n := cntIn p t.val s e) (by omega)
  have ok' : k0_cond5 (w p) (w q) t (w s) (w e) = 1#1 → (k0_t14_loop (w p) (w q) t (w s) (w e)).OK := fun h => by
    rw [t14_eq hpq hq hs hse he t (hc h)]
    exact none_ok (n := cntIn p t.val s e) (by omega)
  have z : ∀ {P : Prop}, k0_cond5 (w p) (w q) t (w s) (w e) = 1#1 → Fin (k0_t14_loop (w p) (w q) t (w s) (w e)).trips → P := fun h k =>
    absurd (Nat.lt_of_lt_of_eq k.isLt (t14_trips hpq hq hs hse he t (hc h))) (Nat.not_lt_zero _)
  have r : k0_cond5 (w p) (w q) t (w s) (w e) = 1#1 → ∀ (k : Fin (k0_t13_loop (w p) (w q) t (w s) (w e)).trips) (c : ℕ), c ≤ 496 →
      ∀ i, rowOff (w p) t.val (w s) k.val c i + S1x1x16.size i ≤ S3x40x512.size i := fun h k c hcc => by
    have hkn : k.val < cntIn p t.val s e := Nat.lt_of_lt_of_eq k.isLt (t13_trips hpq hq hs hse he t (hc h))
    rw [rowOff_w hs hse he (lt_of_fin hpq hq t) hkn]
    exact row3_inb (Nat.mod_lt _ (by decide)) (bufRow_lt hs hse he hkn) hcc
  exact ⟨⟨fun _ h => ok h,
      fun k _ h => r h k 0 (by decide),
      fun k _ h => r h k 16 (by decide),
      fun k _ h => r h k 32 (by decide),
      fun k _ h => r h k 48 (by decide),
      fun k _ h => r h k 64 (by decide),
      fun k _ h => r h k 80 (by decide),
      fun k _ h => r h k 96 (by decide),
      fun k _ h => r h k 112 (by decide),
      fun k _ h => r h k 128 (by decide),
      fun k _ h => r h k 144 (by decide),
      fun k _ h => r h k 160 (by decide),
      fun k _ h => r h k 176 (by decide),
      fun k _ h => r h k 192 (by decide),
      fun k _ h => r h k 208 (by decide),
      fun k _ h => r h k 224 (by decide),
      fun k _ h => r h k 240 (by decide),
      fun _ h => ok' h,
      fun k _ h => z h k, fun k _ h => z h k, fun k _ h => z h k, fun k _ h => z h k, fun k _ h => z h k, fun k _ h => z h k, fun k _ h => z h k, fun k _ h => z h k, fun k _ h => z h k, fun k _ h => z h k, fun k _ h => z h k, fun k _ h => z h k, fun k _ h => z h k, fun k _ h => z h k⟩,
    ⟨fun k _ h => z h k, fun k _ h => z h k, fun _ h => ok h,
      fun k _ h => r h k 256 (by decide),
      fun k _ h => r h k 272 (by decide),
      fun k _ h => r h k 288 (by decide),
      fun k _ h => r h k 304 (by decide),
      fun k _ h => r h k 320 (by decide),
      fun k _ h => r h k 336 (by decide),
      fun k _ h => r h k 352 (by decide),
      fun k _ h => r h k 368 (by decide),
      fun k _ h => r h k 384 (by decide),
      fun k _ h => r h k 400 (by decide),
      fun k _ h => r h k 416 (by decide),
      fun k _ h => r h k 432 (by decide),
      fun k _ h => r h k 448 (by decide),
      fun k _ h => r h k 464 (by decide),
      fun k _ h => r h k 480 (by decide),
      fun k _ h => r h k 496 (by decide),
      fun _ h => ok' h,
      fun k _ h => z h k, fun k _ h => z h k, fun k _ h => z h k, fun k _ h => z h k, fun k _ h => z h k, fun k _ h => z h k, fun k _ h => z h k, fun k _ h => z h k, fun k _ h => z h k, fun k _ h => z h k, fun k _ h => z h k, fun k _ h => z h k⟩,
    fun k _ h => z h k, fun k _ h => z h k, fun k _ h => z h k, fun k _ h => z h k⟩

end Rows

end Cert.Proof.Sc

end
-- ==== Proof.Chunk.lean ====
/-
  The chunks' buffer: one of its three slots holding forty rows of `x`, and a load of sixteen columns
  of one of them. Also how a program is read from its head when it is bracketed to the left.
-/
module

public import proofs.«01_k».proof.Proof.Acc
public import proofs.«01_k».proof.Proof.Rows
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

/-- A program bracketed to the left. -/
theorem wp_assoc {α β γ : Type} {p : Prog (TpuEff nD τ sig (Elt F) Λ₀ (.scVector (cV L) (jV L))) α}
    {f : α → Prog (TpuEff nD τ sig (Elt F) Λ₀ (.scVector (cV L) (jV L))) β}
    {k : β → Prog (TpuEff nD τ sig (Elt F) Λ₀ (.scVector (cV L) (jV L))) γ} {X : sProp (MM F)} {Q : γ → sProp (MM F)}
    (h : X ⊢ WP d L (p >>= fun a => f a >>= k) Q) : X ⊢ WP d L ((p >>= f) >>= k) Q := by
  rw [bind_assoc]; exact h

/-- A value handed on. -/
theorem wp_ret {α β : Type} {a : α} {k : α → Prog (TpuEff nD τ sig (Elt F) Λ₀ (.scVector (cV L) (jV L))) β} {X : sProp (MM F)}
    {Q : β → sProp (MM F)} (h : X ⊢ WP d L (k a) Q) : X ⊢ WP d L (pure a >>= k) Q := by
  rw [pure_bind]; exact h

/-- A register as one row of one slot. -/
abbrev up3 (v : V16 F) : S1x1x16.Idx → F .f32 := fun y => v (lane (y 2).val)

/-- Widening a register to the chunk buffer's rank and back gives the register. -/
theorem down3 (v : V16 F) : shapeCast S16 (up3 v) shapeCasts_S1x1x16_S16 = v := by
  have e : up3 v = shapeCast ⟨3, ![1, 1, 16]⟩ (shapeCast ⟨2, ![1, 16]⟩ v shapeCasts_S16_S1x16) (by decide) := by
    funext y
    rw [show y = ix3 (y 0) (y 1) (y 2) from eq_ix3 y]
    refine Eq.trans ?_ ((shapeCast_ab_1ab_apply _ _ _ _ _).trans (shapeCast_a_1a_apply v shapeCasts_S16_S1x16 _ _)).symm
    refine congrArg v (congrArg ix1 (Fin.ext ?_))
    exact Nat.mod_eq_of_lt (y 2).isLt
  rw [e, shapeCast_comp, shapeCast_comp, shapeCast_id]

/-- A slot holding the forty rows of `x` from `a` on. -/
def chunkBuf (x : S50000x512.Idx → F .f32) (a : ℕ) : S3x40x512.Idx → F .f32 := fun y => x (xIx (a + (y 1).val) (y 2).val)

/-- The places of slot `s`. -/
def slotSet (s : ℕ) : Finset S3x40x512.Idx := Finset.univ.filter fun y => (y 0).val = s

/-- Slot `s` holding the rows from `a` on. -/
abbrev chP (d : Dev nD) (L : grid0.Coords) (x : S50000x512.Idx → F .f32) (s a : ℕ) : sProp (MM F) :=
  chM.view.loc (thr d L) ↦[(slotSet s : Finset (Idx (chM.view.loc (thr d L))))]{fullShare} (chunkBuf x a : Buf (Elt F) (chM.view.loc (thr d L)))

abbrev chR (off : Fin 3 → ℕ) (inb : ∀ a, off a + S1x1x16.size a ≤ S3x40x512.size a) : Rect S3x40x512 :=
  Rect.unit (s := S3x40x512) off S1x1x16.size inb

/-- Sixteen lanes read in a slot that holds the rows from `a` on are those of row `a + r`. -/
theorem read_ch (x : S50000x512.Idx → F .f32) {a s r j : ℕ} {off : Fin 3 → ℕ} {inb} (h : off = ![s, r, 16 * j]) :
    (chM.access (chR off inb)).read (Elt F) (chunkBuf x a) = up3 (rowV x j (a + r)) := by
  subst h
  funext y
  rw [View.read_apply]
  have h1 : (y 1).val = 0 := by have := (y 1).isLt; simp [S1x1x16] at this; omega
  have h2 : (y 2).val < 16 := (y 2).isLt
  show x (xIx (a + (r + 1 * (y 1).val)) (16 * j + 1 * (y 2).val)) = x (xIx (a + r) (16 * j + (y 2).val % 16))
  rw [h1, Nat.mod_eq_of_lt h2, Nat.one_mul (y 2).val]
  rfl

/-- A read within a slot touches that slot only. -/
theorem sub_slot {s r j : ℕ} {off : Fin 3 → ℕ} {inb} (h : off = ![s, r, 16 * j]) : (chM.access (chR off inb)).set ⊆ slotSet s := by
  subst h
  intro y hy
  obtain ⟨z, -, rfl⟩ := Finset.mem_map.1 hy
  refine Finset.mem_filter.2 ⟨Finset.mem_univ _, ?_⟩
  have h0 : (z 0).val = 0 := by have := (z 0).isLt; simp [S1x1x16] at this; omega
  show s + 1 * (z 0).val = s
  omega

/-- A load of sixteen columns of a row of the slot. -/
theorem ld_ch {x : S50000x512.Idx → F .f32} {a s r : ℕ} (j : ℕ) {off : Fin 3 → ℕ} {inb}
    {hl : chM.view.LoadsAt (chR off inb).toLoadRect} {α : Type}
    {kk : (S1x1x16.Idx → F .f32) → Prog (TpuEff nD τ sig (Elt F) Λ₀ (.scVector (cV L) (jV L))) α}
    {R : sProp (MM F)} {Q : α → sProp (MM F)} (h : off = ![s, r, 16 * j])
    (hk : iprop(chP d L x s a ∗ R) ⊢ WP d L (kk (up3 (rowV x j (a + r)))) Q) :
    iprop(chP d L x s a ∗ R) ⊢ WP d L (Prog.lift (.load chM (chR off inb).toLoadRect hl) >>= kk) Q :=
  wp_ld (sub_slot h) (by rw [read_ch x h]; exact hk)

/-! ## Folding on -/

/-- A fold over `n` rows and then over the next `m` is the fold over all of them. -/
theorem foldV_add {V : Type} (op : V → V → V) (z : V) (v : ℕ → V) (lo n : ℕ) : ∀ m, foldV op (foldV op z v lo n) v (lo + n) m = foldV op z v lo (n + m)
  | 0 => rfl
  | m + 1 => by
    show op (foldV op (foldV op z v lo n) v (lo + n) m) (v (lo + n + m)) = op (foldV op z v lo (n + m)) (v (lo + (n + m)))
    rw [foldV_add op z v lo n m, Nat.add_assoc]

end Cert.Proof.Sc

end
-- ==== Proof.Ring.lean ====
/-
  Transfers of a tile: one issued and one awaited, and the ring of three slots the rows travel through.
-/
module

public import proofs.«01_k».proof.Proof.Chunk
public import proofs.«01_k».proof.Proof.Geo
public import Idealize.ShloMosaic.Lib.Transfers
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

/-! ## A transfer -/

/-- What a tile owes, and the evidence for its waits. -/
abbrev OW (d : Dev nD) (L : grid0.Coords) (O : CellTallies nD τ sig (HIx 1)) (W : Waits sig (HIx 1)) : sProp (MM F) :=
  iprop(Transfers.MayWaits (thr d L) (default : HIx 1) O ∗ ∃ W', ⌜∀ p ∈ W', p ∈ W ∨ p.2 = none⌝ ∗ owes (thr d L) O W')

abbrev FL (d : Dev nD) (L : grid0.Coords) (sm : SemLoc sig) (N : ℕ) (D : sProp (MM F)) : sProp (MM F) :=
  Transfers.Flight countersEmb (thr d L) sm (default : HIx 1) N D

/-- A transfer, issued. -/
theorem dma_run {sp sp' : Space} {s : Shape} {e : EltTy} {src : Memref sig .scVector sp s e} {dst : Memref sig .scVector sp' s e} {sm : SemLoc sig}
    {hsrc : src.view.WordExact} {hdst : dst.view.WordExact} {hsem : DmaTarget.Typed (nD := nD) (τ := τ) (p := .scVector (cV L) (jV L)) sp sm (.here dst)}
    {q : PosShare TreeShare} {fs : Buf (Elt F) (src.view.loc (thr d L))} {Sd : Finset (Idx (dst.view.loc (thr d L)))}
    {fd : Buf (Elt F) (dst.view.loc (thr d L))} (N : ℕ) (hN : dst.view.amount sm = N) (hN0 : 0 < N) (hSd : dst.view.set ⊆ Sd) :
    iprop((src.view.loc (thr d L) ↦[src.view.set]{q} fs) ∗ (dst.view.loc (thr d L) ↦[Sd]{fullShare} fd) ∗ semVal (thr d L, sm) 0)
      ⊢ WP d L (Prog.lift (.enqueueDma src (.here dst) sm hsrc hdst hsem))
          (fun _ => FL d L sm N iprop((dst.view.loc (thr d L) ↦[Sd]{fullShare} (dst.view.write (Elt F) fd (src.view.read (Elt F) fs) Finset.univ)) ∗
            (src.view.loc (thr d L) ↦[src.view.set]{q} fs))) := by
  iintro ⟨H1, H2, H3⟩
  iapply (Transfers.wp_dmaLocal countersEmb 𝒱₀ (thr d L) none (defs := defs₀ (F := F)) (q := q) (fs := fs) (Sd := Sd) (fd := fd)
    (src := src) (dst := dst) (via := .same) (default : HIx 1) N hN hN0 hSd) $$ [H1 H2 H3]
  · iframe
  iintro H
  iapply (wp_done (a := PUnit.unit) (Entails.of_eq rfl))
  iexact H

/-- A transfer, awaited. -/
theorem wait_run {sp sp' : Space} {s s' : Shape} {e e' : EltTy} {srcw : Memref sig .scVector sp' s' e'} {dstw : Memref sig .scVector sp s e} {sem : DmaSem sig}
    {hsrc : srcw.view.WordExact} {hdst : dstw.view.WordExact} {N : ℕ} (hN : dstw.view.dmaCredit = N) {D : sProp (MM F)}
    {O : CellTallies nD τ sig (HIx 1)} {W : Waits sig (HIx 1)} :
    iprop(FL d L (.dma sem) N D ∗ OW d L O W)
      ⊢ WP d L (Prog.lift (.waitDma2 sem srcw dstw hsrc hdst)) (fun _ => iprop((D ∗ semVal (thr d L, .dma sem) 0) ∗ OW d L O W)) := by
  iintro ⟨HF, #Hmw, %W', %hW, HO⟩
  iapply (Transfers.wp_waitLocalO countersEmb 𝒱₀ (thr d L) none (defs := defs₀ (F := F)) (default : HIx 1) hN) $$ [HF HO]
  · isplitl [HF]; · iexact HF
    isplitl [HO]; · iexact HO
    iapply (Transfers.MayWaits.elim (.dma sem)); iexact Hmw
  iintro ⟨HD, Hs, HO⟩
  iapply (wp_done (a := PUnit.unit) (Entails.of_eq rfl))
  isplitl [HD Hs]
  · isplitl [HD] <;> iassumption
  isplitr [HO]
  · iexact Hmw
  iexists (insert (SemLoc.dma sem, (default : HIx 1)) W')
  isplitr [HO]
  · ipureintro
    intro p hp
    rcases Finset.mem_insert.1 hp with h | h
    · exact .inr (by rw [h]; rfl)
    · exact hW p h
  · iexact HO

/-! ## The ring -/

abbrev xP (d : Dev nD) (L : grid0.Coords) (x : S50000x512.Idx → F .f32) (q : PosShare TreeShare) : sProp (MM F) :=
  xM.view.loc (thr d L) ↦{q} (x : Buf (Elt F) (xM.view.loc (thr d L)))

/-- The part of a tile's share of the rows that slot `s` reads them by. -/
def piece (q : PosShare TreeShare) (s : ℕ) : PosShare TreeShare := if s = 0 then q.left else if s = 1 then q.right.left else q.right.right

abbrev semAt (off : Fin 1 → ℕ) (inb : ∀ a, off a + S1.size a ≤ S3.size a) : DmaSem sig :=
  ((cc0_scratch5.slice (Rect.unit (s := S3) off S1.size inb)).squeeze S_ squeezes_S1_S_).sem

/-- The semaphore of slot `s`. -/
def semOf (s : ℕ) : DmaSem sig := semAt ![s % 3] (sem_inb (Nat.mod_lt _ (by decide)))

/-- A semaphore taken at slot `s` is that slot's. -/
theorem semAt_eq {off : Fin 1 → ℕ} {inb} {s : ℕ} (h : off = ![s]) (hs : s < 3) : semAt off inb = semOf s := by
  subst h
  unfold semOf
  have e : s % 3 = s := Nat.mod_eq_of_lt hs
  simp only [e]

abbrev slotAt (off : Fin 3 → ℕ) (inb : ∀ a, off a + S1x40x512.size a ≤ S3x40x512.size a) : Memref sig .scVector .vmem S40x512 .f32 :=
  (chM.slice (Rect.unit (s := S3x40x512) off S1x40x512.size inb) (fun _ => rfl)).squeeze S40x512 squeezes_S1x40x512_S40x512

abbrev rowsAt (off : Fin 2 → ℕ) (inb : ∀ a, off a + S40x512.size a ≤ S50000x512.size a) : Memref sig .scVector .hbm S40x512 .f32 :=
  xM.slice (Rect.unit (s := S50000x512) off S40x512.size inb) (fun _ => rfl)

/-- Where a slot's entries lie in the ring. -/
theorem slot_emb {s : ℕ} {inb} (z : S40x512.Idx) :
    (slotAt ![s, 0, 0] inb).view.emb z = (ix3 ⟨s, by have := inb 0; simp [S1x40x512, S3x40x512] at this; omega⟩ (z 0) (z 1) : S3x40x512.Idx) := by
  show ((chM.slice (Rect.unit (s := S3x40x512) ![s, 0, 0] S1x40x512.size inb) (fun _ => rfl)).view.reshape S40x512 squeezes_S1x40x512_S40x512.numel_eq).emb z = _
  rw [eq_ix2 z]
  have e := shapeCast_1ab_ab_apply (fun i : (⟨3, ![1, 40, 512]⟩ : Shape).Idx => i) (by decide) (z 0) (z 1)
  refine Eq.trans (congrArg (chM.slice (Rect.unit (s := S3x40x512) ![s, 0, 0] S1x40x512.size inb) (fun _ => rfl)).view.emb e) ?_
  funext a
  match a with
  | ⟨0, _⟩ => exact Fin.ext (by show s + 1 * 0 = s; omega)
  | ⟨1, _⟩ => exact Fin.ext (by show 0 + 1 * (z 0).val = (z 0).val; omega)
  | ⟨2, _⟩ => exact Fin.ext (by show 0 + 1 * (z 1).val = (z 1).val; omega)

/-- A slot's view touches that slot only. -/
theorem slot_sub {s : ℕ} {inb} : (slotAt ![s, 0, 0] inb).view.set ⊆ slotSet s := by
  intro y hy
  obtain ⟨z, -, rfl⟩ := Finset.mem_map.1 hy
  refine Finset.mem_filter.2 ⟨Finset.mem_univ _, ?_⟩
  rw [slot_emb]

/-- A slot once the rows from `a` on have landed in it. -/
theorem slot_write (x : S50000x512.Idx → F .f32) {s a : ℕ} (ha : a ≤ 49960) {inb inb'} (f : S3x40x512.Idx → F .f32) (y : S3x40x512.Idx) (hy : y ∈ slotSet s) :
    (slotAt ![s, 0, 0] inb).view.write (Elt F) f ((rowsAt ![a, 0] inb').view.read (Elt F) x) Finset.univ y = chunkBuf x a y := by
  have h0 : (y 0).val = s := (Finset.mem_filter.1 hy).2
  have e : y = (slotAt ![s, 0, 0] inb).view.emb (ix2 (y 1) (y 2) : S40x512.Idx) := by
    rw [slot_emb]
    refine (eq_ix3 y).trans ?_
    congr 1
    exact Fin.ext h0
  conv_lhs => rw [e]
  rw [View.write_emb_of_mem _ _ (Finset.mem_univ _), View.read_apply]
  unfold chunkBuf
  refine congrArg x ?_
  have h1 : (y 1).val < 40 := (y 1).isLt
  have h2 : (y 2).val < 512 := (y 2).isLt
  funext b
  match b with
  | ⟨0, _⟩ => exact Fin.ext (by show a + 1 * (y 1).val = (a + (y 1).val) % 50000; omega)
  | ⟨1, _⟩ => exact Fin.ext (by show 0 + 1 * (y 2).val = (y 2).val % 512; omega)

def NN : ℕ := (slotAt ![0, 0, 0] (slot_inb (by decide))).view.dmaCredit

/-- A slot with nothing on its way. -/
abbrev Idle (d : Dev nD) (L : grid0.Coords) (x : S50000x512.Idx → F .f32) (q : PosShare TreeShare) (s : ℕ) : sProp (MM F) :=
  iprop((∃ f, chM.view.loc (thr d L) ↦[(slotSet s : Finset (Idx (chM.view.loc (thr d L))))]{fullShare} f) ∗ xP d L x (piece q s) ∗ semVal (thr d L, .dma (semOf s)) 0)

/-- A slot the rows from `a` on are on their way to. -/
abbrev Busy (d : Dev nD) (L : grid0.Coords) (x : S50000x512.Idx → F .f32) (q : PosShare TreeShare) (s a : ℕ) : sProp (MM F) :=
  iprop(∃ M : Finset (Idx (xM.view.loc (thr d L))), FL d L (.dma (semOf s)) NN iprop(chP d L x s a ∗ (xM.view.loc (thr d L) ↦[M]{piece q s} (x : Buf (Elt F) (xM.view.loc (thr d L))))) ∗
    (xM.view.loc (thr d L) ↦[Finset.univ \ M]{piece q s} (x : Buf (Elt F) (xM.view.loc (thr d L)))))

/-- A chunk's copy counts for something. -/
theorem NN_pos : 0 < NN := by decide

/-- A copy just started leaves its slot on the way, with the rows that it will hold. -/
theorem busy_intro {x : S50000x512.Idx → F .f32} {q : PosShare TreeShare} {s a : ℕ} (ha : a ≤ 49960) {i1 i2} {f : S3x40x512.Idx → F .f32} :
    iprop(FL d L (.dma (semOf s)) NN iprop((chM.view.loc (thr d L) ↦[(slotSet s : Finset (Idx (chM.view.loc (thr d L))))]{fullShare}
        ((slotAt ![s, 0, 0] i1).view.write (Elt F) f ((rowsAt ![a, 0] i2).view.read (Elt F) x) Finset.univ : Buf (Elt F) (chM.view.loc (thr d L)))) ∗
        (xM.view.loc (thr d L) ↦[(rowsAt ![a, 0] i2).view.set]{piece q s} (x : Buf (Elt F) (xM.view.loc (thr d L))))) ∗
      (xM.view.loc (thr d L) ↦[Finset.univ \ (rowsAt ![a, 0] i2).view.set]{piece q s} (x : Buf (Elt F) (xM.view.loc (thr d L))))) ⊢ Busy d L x q s a := by
  iintro ⟨H1, H2⟩
  iexists ((rowsAt ![a, 0] i2).view.set : Finset (Idx (xM.view.loc (thr d L))))
  isplitl [H1]
  · have e : (chM.view.loc (thr d L) ↦[(slotSet s : Finset (Idx (chM.view.loc (thr d L))))]{fullShare}
        ((slotAt ![s, 0, 0] i1).view.write (Elt F) f ((rowsAt ![a, 0] i2).view.read (Elt F) x) Finset.univ : Buf (Elt F) (chM.view.loc (thr d L))) : sProp (MM F))
        = chP d L x s a := pointsTo_congr fun y hy => slot_write x ha f y hy
    iapply (Entails.of_eq (congrArg (fun P => FL d L (.dma (semOf s)) NN iprop(P ∗
      (xM.view.loc (thr d L) ↦[(rowsAt ![a, 0] i2).view.set]{piece q s} (x : Buf (Elt F) (xM.view.loc (thr d L)))))) e))
    iexact H1
  · iexact H2

/-- A chunk's rows sent for. -/
theorem issue_run {x : S50000x512.Idx → F .f32} {q : PosShare TreeShare} {s a : ℕ} (ha : a ≤ 49960)
    {o1 : Fin 3 → ℕ} {i1} (h1 : o1 = ![s, 0, 0]) {o2 : Fin 2 → ℕ} {i2} (h2 : o2 = ![a, 0]) {sem : DmaSem sig} (h3 : sem = semOf s) {hsrc hdst hsem} :
    Idle d L x q s ⊢ WP d L (Prog.lift (.enqueueDma (rowsAt o2 i2) (.here (slotAt o1 i1)) (.dma sem) hsrc hdst hsem)) (fun _ => Busy d L x q s a) := by
  subst h1 h2 h3
  iintro ⟨⟨%f, Hf⟩, Hx, Hs⟩
  ihave Hx' := (pointsTo_split_subset (q := piece q s) (f := (x : Buf (Elt F) (xM.view.loc (thr d L)))) (S := Finset.univ) (Finset.subset_univ ((rowsAt ![a, 0] i2).view.set))).1 $$ Hx
  icases Hx' with ⟨Hx, Hr⟩
  iapply ((wp_beside (R := iprop(xM.view.loc (thr d L) ↦[Finset.univ \ (rowsAt ![a, 0] i2).view.set]{piece q s} (x : Buf (Elt F) (xM.view.loc (thr d L)))))
    (dma_run (src := rowsAt ![a, 0] i2) (dst := slotAt ![s, 0, 0] i1) (sm := .dma (semOf s)) (hsrc := hsrc) (hdst := hdst) (hsem := hsem) (q := piece q s)
      (fs := (x : Buf (Elt F) (xM.view.loc (thr d L)))) (Sd := (slotSet s : Finset (Idx (chM.view.loc (thr d L))))) (fd := f) NN rfl NN_pos slot_sub)).trans
    (wp_mono _ _ _ fun _ => busy_intro ha))
  iframe

/-- A wait that has ended leaves the slot filled, the share of the rows whole and the semaphore at zero. -/
theorem await_end {x : S50000x512.Idx → F .f32} {q : PosShare TreeShare} {s a : ℕ} {O : CellTallies nD τ sig (HIx 1)} {W : Waits sig (HIx 1)}
    {M : Finset (Idx (xM.view.loc (thr d L)))} :
    iprop((((chP d L x s a ∗ (xM.view.loc (thr d L) ↦[M]{piece q s} (x : Buf (Elt F) (xM.view.loc (thr d L))))) ∗ semVal (thr d L, .dma (semOf s)) 0) ∗ OW d L O W) ∗
      (xM.view.loc (thr d L) ↦[Finset.univ \ M]{piece q s} (x : Buf (Elt F) (xM.view.loc (thr d L))))) ⊢
      iprop((chP d L x s a ∗ (xP d L x (piece q s) ∗ semVal (thr d L, .dma (semOf s)) 0)) ∗ OW d L O W) := by
  iintro ⟨⟨⟨⟨H1, H2⟩, H3⟩, H4⟩, H5⟩
  isplitr [H4]
  · isplitl [H1]; · iexact H1
    isplitr [H3]
    · iapply (pointsTo_split_subset (q := piece q s) (f := (x : Buf (Elt F) (xM.view.loc (thr d L)))) (S := Finset.univ) (Finset.subset_univ M)).2
      isplitl [H2] <;> iassumption
    · iexact H3
  · iexact H4

/-- A chunk's rows received. -/
theorem await_run {x : S50000x512.Idx → F .f32} {q : PosShare TreeShare} {s a : ℕ} {O : CellTallies nD τ sig (HIx 1)} {W : Waits sig (HIx 1)}
    {o1 : Fin 3 → ℕ} {i1} {o2 : Fin 2 → ℕ} {i2} {sem : DmaSem sig} (h3 : sem = semOf s) {hsrc hdst} :
    iprop(Busy d L x q s a ∗ OW d L O W) ⊢ WP d L (Prog.lift (.waitDma2 sem (rowsAt o2 i2) (slotAt o1 i1) hsrc hdst))
      (fun _ => iprop((chP d L x s a ∗ (xP d L x (piece q s) ∗ semVal (thr d L, .dma (semOf s)) 0)) ∗ OW d L O W)) := by
  subst h3
  iintro ⟨⟨%M, HF, Hr⟩, HO⟩
  iapply ((wp_beside (R := iprop(xM.view.loc (thr d L) ↦[Finset.univ \ M]{piece q s} (x : Buf (Elt F) (xM.view.loc (thr d L)))))
    (wait_run (srcw := rowsAt o2 i2) (dstw := slotAt o1 i1) (hsrc := hsrc) (hdst := hdst) (sem := semOf s) (N := NN) rfl
      (D := iprop(chP d L x s a ∗ (xM.view.loc (thr d L) ↦[M]{piece q s} (x : Buf (Elt F) (xM.view.loc (thr d L)))))) (O := O) (W := W))).trans
    (wp_mono _ _ _ fun _ => await_end))
  iframe

end Cert.Proof.Sc

end
-- ==== Proof.RowRun.lean ====
/-
  One row of a graph: every one of its thirty-two registers, sixteen sums and sixteen maxima, takes in
  sixteen columns of the row. Either half of the columns.
-/
module

public import proofs.«01_k».proof.Proof.Chunk
public import proofs.«01_k».proof.Proof.SearchRun
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

/-- Sixteen sums and sixteen maxima, as the loop carries them. -/
abbrev Regs (F : FTy → Type) : Type := V16 F × V16 F × V16 F × V16 F × V16 F × V16 F × V16 F × V16 F × V16 F × V16 F × V16 F × V16 F × V16 F × V16 F × V16 F × V16 F × V16 F × V16 F × V16 F × V16 F × V16 F × V16 F × V16 F × V16 F × V16 F × V16 F × V16 F × V16 F × V16 F × V16 F × V16 F × V16 F

/-- The registers of two families. -/
abbrev tup (s m : ℕ → V16 F) : Regs F :=
  (s 0, s 1, s 2, s 3, s 4, s 5, s 6, s 7, s 8, s 9, s 10, s 11, s 12, s 13, s 14, s 15,
    m 0, m 1, m 2, m 3, m 4, m 5, m 6, m 7, m 8, m 9, m 10, m 11, m 12, m 13, m 14, m 15)

/-- A family of registers after `n` rows from `lo` on: columns `16 (c + j)` into register `j`. -/
abbrev famAt (op : V16 F → V16 F → V16 F) (x : S50000x512.Idx → F .f32) (z : ℕ → V16 F) (c lo n : ℕ) : ℕ → V16 F := fun j =>
  foldV op (z j) (rowV x (c + j)) lo n

abbrev regsAt (x : S50000x512.Idx → F .f32) (s0 m0 : ℕ → V16 F) (c lo n : ℕ) : Regs F :=
  tup (famAt addf x s0 c lo n) (famAt maximumf x m0 c lo n)

/-- A fact beside a resource. -/
theorem pureR {φ : Prop} {P : sProp (MM F)} (h : φ) : P ⊢ iprop(⌜φ⌝ ∗ P) := by
  iintro H
  isplitl []
  · ipureintro; exact h
  · iexact H

/-- One row of a graph, its columns from 0 on. -/
theorem t13_body_run {p q s e : ℕ} (hpq : p ≤ q) (hq : q ≤ 50000) (hs : p ≤ s) (hse : s ≤ e) (he : e ≤ 50000)
    {x : S50000x512.Idx → F .f32} {s0 m0 : ℕ → V16 F} {h1 : k0_cond1 (w p) (w q) = 1#1}
    {t : Fin (k0_t11_loop (w p) (w q)).trips} (hn : 0 < cntIn p t.val s e) {v3562 arg13 v3591 v3592 : BitVec 32} {t12 : Fin k0_t12_loop.trips}
    {hw11 : k0_chk11 (w p) (w q) t (w s) (w e)} {h5 : k0_cond5 (w p) (w q) t (w s) (w e) = 1#1}
    {z0 z1 z2 z3 z4 z5 z6 z7 z8 z9 z10 z11 z12 z13 z14 z15 z16 z17 z18 z19 z20 z21 z22 z23 z24 z25 z26 z27 z28 : V16 F}
    (k : Fin (k0_t13_loop (w p) (w q) t (w s) (w e)).trips) (acc : Regs F) :
    iprop(⌜acc = regsAt x s0 m0 0 (lo p t.val s) k.val⌝ ∗ chP d L x (t.val % 3) (r0 p t.val)) ⊢
      WP d L (onBufs (k0_t13_body L) (w p) (w q) h1 t v3562 t12 arg13 (w s) (w e) hw11 h5 v3591 v3592
        z0 z1 z2 z3 z4 z5 z6 z7 z8 z9 z10 z11 z12 z13 z14 z15 z16 z17 z18 z19 z20 z21 z22 z23 z24 z25 z26 z27 z28 k acc)
        (fun acc' => iprop(⌜acc' = regsAt x s0 m0 0 (lo p t.val s) (k.val + 1)⌝ ∗ chP d L x (t.val % 3) (r0 p t.val))) := by
  refine pureL fun hacc => ?_
  subst hacc
  have hkn : k.val < cntIn p t.val s e := Nat.lt_of_lt_of_eq k.isLt (t13_trips hpq hq hs hse he t hn)
  have hr : ∀ j, rowOff (w p) t.val (w s) k.val (16 * j) = ![t.val % 3, bufRow p t.val s k.val, 16 * j] := fun j =>
    rowOff_w hs hse he (lt_of_fin hpq hq t) hkn _
  unfold onBufs k0_t13_body
  dsimp only [regsAt, tup]
  rw [k0_part7_eq_skeleton]; unfold k0_part7_skel
  refine alone.trans ?_
  refine wp_assoc (ld_ch 0 (hr 0) ?_)
  refine wp_assoc (ld_ch 1 (hr 1) ?_)
  refine wp_assoc (ld_ch 2 (hr 2) ?_)
  refine wp_assoc (ld_ch 3 (hr 3) ?_)
  refine wp_assoc (ld_ch 4 (hr 4) ?_)
  refine wp_assoc (ld_ch 5 (hr 5) ?_)
  refine wp_assoc (ld_ch 6 (hr 6) ?_)
  refine wp_assoc (ld_ch 7 (hr 7) ?_)
  refine wp_assoc (ld_ch 8 (hr 8) ?_)
  refine wp_assoc (ld_ch 9 (hr 9) ?_)
  refine wp_ret ?_
  dsimp only
  rw [k0_part8_eq_skeleton]; unfold k0_part8_skel
  refine wp_assoc (ld_ch 10 (hr 10) ?_)
  refine wp_assoc (ld_ch 11 (hr 11) ?_)
  refine wp_assoc (ld_ch 12 (hr 12) ?_)
  refine wp_assoc (ld_ch 13 (hr 13) ?_)
  refine wp_assoc (ld_ch 14 (hr 14) ?_)
  refine wp_assoc (ld_ch 15 (hr 15) ?_)
  refine wp_ret ?_
  dsimp only
  refine wp_done ?_
  rw [bufRow_x]
  refine Laws.sep_emp.1.trans ?_
  refine pureR ?_
  iterate 16 refine congrArg₂ Prod.mk (congrArg (addf _) (down3 _)) ?_
  iterate 15 refine congrArg₂ Prod.mk (congrArg (maximumf _) (down3 _)) ?_
  exact congrArg (maximumf _) (down3 _)

/-- One row of a graph, its columns from 256 on. -/
theorem t15_body_run {p q s e : ℕ} (hpq : p ≤ q) (hq : q ≤ 50000) (hs : p ≤ s) (hse : s ≤ e) (he : e ≤ 50000)
    {x : S50000x512.Idx → F .f32} {s0 m0 : ℕ → V16 F} {h1 : k0_cond1 (w p) (w q) = 1#1}
    {t : Fin (k0_t11_loop (w p) (w q)).trips} (hn : 0 < cntIn p t.val s e) {v3562 arg13 v3591 v3592 : BitVec 32} {t12 : Fin k0_t12_loop.trips}
    {hw11 : k0_chk11 (w p) (w q) t (w s) (w e)} {h5 : k0_cond5 (w p) (w q) t (w s) (w e) = 1#1}
    {z21 : Vec F S1x16 .f32} {z0 z1 z2 z3 z4 z5 z6 z7 z8 z9 z10 z11 z12 z13 z14 z15 z16 z17 z18 z19 z20 : V16 F}
    (k : Fin (k0_t15_loop (w p) (w q) t (w s) (w e)).trips) (acc : Regs F) :
    iprop(⌜acc = regsAt x s0 m0 16 (lo p t.val s) k.val⌝ ∗ chP d L x (t.val % 3) (r0 p t.val)) ⊢
      WP d L (onBufs (k0_t15_body L) (w p) (w q) h1 t v3562 t12 arg13 (w s) (w e) hw11 h5 v3591 v3592
        z0 z1 z2 z3 z4 z5 z6 z7 z8 z9 z10 z11 z12 z13 z14 z15 z16 z17 z18 z19 z20 z21 k acc)
        (fun acc' => iprop(⌜acc' = regsAt x s0 m0 16 (lo p t.val s) (k.val + 1)⌝ ∗ chP d L x (t.val % 3) (r0 p t.val))) := by
  refine pureL fun hacc => ?_
  subst hacc
  have hkn : k.val < cntIn p t.val s e := Nat.lt_of_lt_of_eq k.isLt (t15_trips hpq hq hs hse he t hn)
  have hr : ∀ j, rowOff (w p) t.val (w s) k.val (16 * j) = ![t.val % 3, bufRow p t.val s k.val, 16 * j] := fun j =>
    rowOff_w hs hse he (lt_of_fin hpq hq t) hkn _
  unfold onBufs k0_t15_body
  dsimp only [regsAt, tup]
  rw [k0_part11_eq_skeleton]; unfold k0_part11_skel
  refine alone.trans ?_
  refine wp_assoc (ld_ch 16 (hr 16) ?_)
  refine wp_assoc (ld_ch 17 (hr 17) ?_)
  refine wp_assoc (ld_ch 18 (hr 18) ?_)
  refine wp_assoc (ld_ch 19 (hr 19) ?_)
  refine wp_assoc (ld_ch 20 (hr 20) ?_)
  refine wp_assoc (ld_ch 21 (hr 21) ?_)
  refine wp_assoc (ld_ch 22 (hr 22) ?_)
  refine wp_assoc (ld_ch 23 (hr 23) ?_)
  refine wp_assoc (ld_ch 24 (hr 24) ?_)
  refine wp_assoc (ld_ch 25 (hr 25) ?_)
  refine wp_ret ?_
  dsimp only
  rw [k0_part12_eq_skeleton]; unfold k0_part12_skel
  refine wp_assoc (ld_ch 26 (hr 26) ?_)
  refine wp_assoc (ld_ch 27 (hr 27) ?_)
  refine wp_assoc (ld_ch 28 (hr 28) ?_)
  refine wp_assoc (ld_ch 29 (hr 29) ?_)
  refine wp_assoc (ld_ch 30 (hr 30) ?_)
  refine wp_assoc (ld_ch 31 (hr 31) ?_)
  refine wp_ret ?_
  dsimp only
  refine wp_done ?_
  rw [bufRow_x]
  refine Laws.sep_emp.1.trans ?_
  refine pureR ?_
  iterate 16 refine congrArg₂ Prod.mk (congrArg (addf _) (down3 _)) ?_
  iterate 15 refine congrArg₂ Prod.mk (congrArg (maximumf _) (down3 _)) ?_
  exact congrArg (maximumf _) (down3 _)

end Cert.Proof.Sc

end
-- ==== Proof.GraphFrame.lean ====
/-
  One graph in one chunk: its thirty-two pairs of registers are taken out of the accumulator, run over
  the graph's rows in the chunk, and put back; first the left half of the columns, then the right.
-/
module

public import proofs.«01_k».proof.Proof.RowRun
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

/-- A load of a register whose place is known in closed form. -/
theorem get {A : ℕ → ℕ → V16 F} {g cc : ℕ} {off : Fin 2 → ℕ} [c : ClosedOff off] {inb} {hl : acM.view.LoadsAt (accR off inb).toLoadRect} {α : Type}
    {kk : (S1x16.Idx → F .f32) → Prog (TpuEff nD τ sig (Elt F) Λ₀ (.scVector (cV L) (jV L))) α}
    {R : sProp (MM F)} {Q : α → sProp (MM F)} (h : c.form = ![g, cc]) (hc : 16 * (cc / 16) = cc)
    (hk : iprop(accP d L A ∗ R) ⊢ WP d L (kk (up (A g (cc / 16)))) Q) :
    iprop(accP d L A ∗ R) ⊢ WP d L (Prog.lift (.load acM (accR off inb).toLoadRect hl) >>= kk) Q :=
  ld_acc g (cc / 16) (c.eq.trans (h.trans (by rw [hc]))) hk

/-- A load whose value is carried along and never used. -/
theorem see {A : ℕ → ℕ → V16 F} {off : Fin 2 → ℕ} {inb} {hl : acM.view.LoadsAt (accR off inb).toLoadRect} {α : Type}
    {kk : (S1x16.Idx → F .f32) → Prog (TpuEff nD τ sig (Elt F) Λ₀ (.scVector (cV L) (jV L))) α} {R : sProp (MM F)} {Q : α → sProp (MM F)}
    (hk : ∀ v, iprop(accP d L A ∗ R) ⊢ WP d L (kk v) Q) :
    iprop(accP d L A ∗ R) ⊢ WP d L (Prog.lift (.load acM (accR off inb).toLoadRect hl) >>= kk) Q :=
  wp_ld (Finset.subset_univ _) (hk _)

/-- A program's end read as one more step. -/
theorem wp_end {α : Type} {p : Prog (TpuEff nD τ sig (Elt F) Λ₀ (.scVector (cV L) (jV L))) α} {X : sProp (MM F)} {Q : α → sProp (MM F)}
    (h : X ⊢ WP d L (p >>= pure) Q) : X ⊢ WP d L p Q := by
  rw [bind_pure] at h; exact h

/-- A load of a word of the table of bounds, as a program of its own. -/
theorem ld_word {T : ℕ → BitVec 32} (j : ℕ) {off : Fin 1 → ℕ} {inb} {h1 : (sbR off inb).shape.numel = 1} {hp : EltTy.packing .i32 = 1}
    {R : sProp (MM F)} (h : off = ![j]) :
    iprop(sbP d L T ∗ R) ⊢ WP d L (smemLoad sbM (sbR off inb) h1 hp) (fun v => iprop(⌜v = T j⌝ ∗ (sbP d L T ∗ R))) := by
  exact wp_end (ld_sb j h (wp_done (pureR rfl)))

/-- An assumption, as a program of its own. -/
theorem asm_word {P : Prop} {dP : Decidable P} {X : sProp (MM F)} (h : P) :
    X ⊢ WP d L (Prog.lift (.assume P dP)) (fun _ => X) := by
  exact wp_end (wp_asm h (wp_done (Laws.entails_refl _)))

/-- A run of stores begins. -/
theorem fr_start {A : ℕ → ℕ → V16 F} (fin : ℕ → ℕ → V16 F) (ord : ℕ → ℕ × ℕ) {R G : sProp (MM F)}
    (h : iprop(accP d L (fr A fin ord 0) ∗ R) ⊢ G) : iprop(accP d L A ∗ R) ⊢ G := by
  rw [fr_zero] at h; exact h

/-- A loop of no trips. -/
theorem wp_none {σ α : Type} {l : Scf.Loop 32} {hok : l.OK} {init : σ}
    {body : Fin l.trips → σ → Prog (TpuEff nD τ sig (Elt F) Λ₀ (.scVector (cV L) (jV L))) σ}
    {kk : σ → Prog (TpuEff nD τ sig (Elt F) Λ₀ (.scVector (cV L) (jV L))) α} {X : sProp (MM F)} {Q : α → sProp (MM F)}
    (hz : l.trips = 0) (h : X ⊢ WP d L (kk init) Q) : X ⊢ WP d L (Scf.Loop.for l hok init body >>= kk) Q := by
  refine (pureR (rfl : init = init)).trans (wp_seq (fun acc => iprop(⌜acc = init⌝ ∗ X)) (wp_loop (fun _ acc => iprop(⌜acc = init⌝ ∗ X))
    (fun k => absurd (Nat.lt_of_lt_of_eq k.isLt hz) (Nat.not_lt_zero _)) (fun _ => Laws.entails_refl _)) fun acc => pureL fun e => ?_)
  subst e
  exact h

/-- The accumulator's resource set aside while a slot is read, and the reverse. -/
theorem swap2 {A B C G : sProp (MM F)} (h : iprop(B ∗ (A ∗ C)) ⊢ G) : iprop(A ∗ (B ∗ C)) ⊢ G := by
  refine BIBase.Entails.trans ?_ h
  iintro ⟨HA, HB, HC⟩
  iframe

/-- Each register of a graph after `n` more rows from `lo` on. -/
def finOf (A : ℕ → ℕ → V16 F) (x : S50000x512.Idx → F .f32) (lo n : ℕ) : ℕ → ℕ → V16 F := fun g k =>
  if k < 32 then foldV addf (A g k) (rowV x k) lo n else foldV maximumf (A g k) (rowV x (k - 32)) lo n

/-- The order a half's registers are put back in: a sum, its maximum, the next sum, … -/
def halfOrd (t c n : ℕ) : ℕ × ℕ := (t, c + n / 2 + 32 * (n % 2))

/-- The table once graph `t` has taken its rows in. -/
def grUpd (A : ℕ → ℕ → V16 F) (x : S50000x512.Idx → F .f32) (t lo n : ℕ) : ℕ → ℕ → V16 F := fun g k =>
  if g = t ∧ k < 64 then finOf A x lo n g k else A g k

/-- Which registers the stores of one half cover: its sixteen sums and its sixteen maxima. -/
theorem halfOrd_iff (t c g k : ℕ) : (∃ m < 32, halfOrd t c m = (g, k)) ↔ g = t ∧ (c ≤ k ∧ k < c + 16 ∨ 32 + c ≤ k ∧ k < 48 + c) := by
  unfold halfOrd
  constructor
  · rintro ⟨m, hm, e⟩
    rw [Prod.mk.injEq] at e
    refine ⟨e.1.symm, ?_⟩
    rcases Nat.mod_two_eq_zero_or_one m with h | h <;> rw [h] at e <;> omega
  · rintro ⟨rfl, h | h⟩
    · exact ⟨2 * (k - c), by omega, by rw [Prod.mk.injEq]; exact ⟨rfl, by omega⟩⟩
    · exact ⟨2 * (k - c - 32) + 1, by omega, by rw [Prod.mk.injEq]; exact ⟨rfl, by omega⟩⟩

/-- The two halves stored one after the other are the graph's whole update. -/
theorem halves (A : ℕ → ℕ → V16 F) (x : S50000x512.Idx → F .f32) (t lo n : ℕ) :
    fr (fr A (finOf A x lo n) (halfOrd t 0) 32) (finOf (fr A (finOf A x lo n) (halfOrd t 0) 32) x lo n) (halfOrd t 16) 32 = grUpd A x t lo n := by
  funext g k
  unfold grUpd
  by_cases h2 : ∃ m < 32, halfOrd t 16 m = (g, k)
  · have e := (halfOrd_iff t 16 g k).1 h2
    have h1 : ¬ ∃ m < 32, halfOrd t 0 m = (g, k) := fun h => by have := (halfOrd_iff t 0 g k).1 h; omega
    rw [if_pos ⟨e.1, by omega⟩]
    unfold fr
    rw [if_pos h2]
    unfold finOf
    simp only [if_neg h1]
  · have e := fun h => h2 ((halfOrd_iff t 16 g k).2 h)
    by_cases h1 : ∃ m < 32, halfOrd t 0 m = (g, k)
    · have e1 := (halfOrd_iff t 0 g k).1 h1
      rw [if_pos ⟨e1.1, by omega⟩]
      unfold fr
      rw [if_neg h2, if_pos h1]
    · have e1 := fun h => h1 ((halfOrd_iff t 0 g k).2 h)
      rw [if_neg (fun h => by
        rcases h with ⟨hg, hk⟩
        by_cases hc : k < 16 ∨ 32 ≤ k ∧ k < 48
        · exact e1 ⟨hg, by omega⟩
        · exact e ⟨hg, by omega⟩)]
      unfold fr
      rw [if_neg h2, if_neg h1]

/-- A graph with no rows in the chunk. -/
theorem grUpd_none (A : ℕ → ℕ → V16 F) (x : S50000x512.Idx → F .f32) {t lo n : ℕ} (h : n = 0) : grUpd A x t lo n = A := by
  subst h
  funext g k
  unfold grUpd finOf foldV
  split_ifs <;> rfl

/-- The table of bounds brought to the front, and put back. -/
theorem sb_first {A B C G : sProp (MM F)} (h : iprop(C ∗ (A ∗ B)) ⊢ G) : iprop(A ∗ (B ∗ C)) ⊢ G := by
  refine BIBase.Entails.trans ?_ h
  iintro ⟨HA, HB, HC⟩
  iframe

/-- The table of bounds moved from the end to the front. -/
theorem sb_last {A B C G : sProp (MM F)} (h : iprop(A ∗ (B ∗ C)) ⊢ G) : iprop(C ∗ (A ∗ B)) ⊢ G := by
  refine BIBase.Entails.trans ?_ h
  iintro ⟨HC, HA, HB⟩
  iframe

end Cert.Proof.Sc

end
-- ==== Proof.GraphRun.lean ====
/-
  One graph in one chunk: its thirty-two pairs of registers are taken out of the accumulator, run over
  the graph's rows in the chunk, and put back; first the left half of the columns, then the right.
-/
module

public import proofs.«01_k».proof.Proof.GraphFrame
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

variable {S : ℕ → ℕ}

attribute [local irreducible] k0_cond5 in
set_option maxHeartbeats 4000000 in
/-- The walk's step at one graph. -/
theorem t12_body_run {W : ℕ → BitVec 32} (hW : W = w) {p q : ℕ} (hpq : p ≤ q) (hq : q ≤ 50000) {x : S50000x512.Idx → F .f32} {A : ℕ → ℕ → V16 F}
    {h1 : k0_cond1 (W p) (W q) = 1#1} {t : Fin (k0_t11_loop (W p) (W q)).trips} {hw10 : k0_chk10 (W p) (W q)}
    {c8 v61 v63 v65 v3562 : BitVec 32}
    (t12 : Fin k0_t12_loop.trips) (hs : p ≤ S t12.val) (hse : S t12.val ≤ S (t12.val + 1)) (he : S (t12.val + 1) ≤ 50000) :
    iprop(accP d L A ∗ (chP d L x (t.val % 3) (r0 p t.val) ∗ sbP d L (fun j => W (S j)))) ⊢
      WP d L (onBufs (k0_t12_body L) (W p) (W q) hw10 c8 v61 v63 v65 h1 t v3562 (cW (W p) t.val) (Scalar.minsi (cW (W p) t.val) 49960#32) t12 ())
        (fun _ => iprop(accP d L (grUpd A x t12.val (lo p t.val (S t12.val)) (cntIn p t.val (S t12.val) (S (t12.val + 1)))) ∗
          (chP d L x (t.val % 3) (r0 p t.val) ∗ sbP d L (fun j => W (S j))))) := by
  have hS8 := t12.isLt
  unfold onBufs k0_t12_body
  dsimp only
  refine sb_first ?_
  refine wp_seq _ (ld_word t12.val (k0_off85_eq t12)) fun v3581 => pureL fun hv => ?_
  refine wp_seq _ (ld_word (t12.val + 1) (k0_off86_eq t12)) fun v3584 => pureL fun hv' => ?_
  have hchk : k0_chk11 (W p) (W q) t v3581 v3584 := by subst hW; subst hv; subst hv'; exact chk11 hpq hq hs hse he t
  refine wp_seq _ (asm_word hchk) fun hw => ?_
  refine sb_last ?_
  by_cases h5 : k0_cond5 (W p) (W q) t v3581 v3584 = 1#1
  rotate_left
  · rw [dif_neg h5]
    subst hW; subst hv; subst hv'
    refine wp_ret (wp_done ?_)
    rw [grUpd_none A x (Nat.eq_zero_of_not_pos fun h => h5 ((cond5_iff hpq hq hs hse he t).2 h))]
  rw [dif_pos h5]
  subst hW; subst hv; subst hv'
  have hn : 0 < cntIn p t.val (S t12.val) (S (t12.val + 1)) := (cond5_iff hpq hq hs hse he t).1 h5
  rw [k0_part15_eq_skeleton]; unfold k0_part15_skel
  refine wp_assoc ?_
  iterate 14 refine wp_assoc (get rfl rfl ?_)
  refine wp_ret ?_
  dsimp only
  rw [k0_part16_eq_skeleton]; unfold k0_part16_skel
  refine wp_assoc ?_
  iterate 15 refine wp_assoc (get rfl rfl ?_)
  refine wp_ret ?_
  dsimp only
  rw [k0_part17_eq_skeleton]; unfold k0_part17_skel
  refine wp_assoc ?_
  iterate 3 refine wp_assoc (get rfl rfl ?_)
  refine wp_assoc (swap2 (wp_seqR (fun acc => iprop(⌜acc = regsAt x (fun j => A t12.val (0 + j)) (fun j => A t12.val (32 + j)) 0 (lo p t.val (S t12.val)) (cntIn p t.val (S t12.val) (S (t12.val + 1)))⌝ ∗ chP d L x (t.val % 3) (r0 p t.val))) ?_ fun acc => ?_))
  · refine BIBase.Entails.trans (pureR (φ := _ = regsAt x (fun j => A t12.val (0 + j)) (fun j => A t12.val (32 + j)) 0 (lo p t.val (S t12.val)) 0) ?_)
      (wp_loop (fun k acc => iprop(⌜acc = regsAt x (fun j => A t12.val (0 + j)) (fun j => A t12.val (32 + j)) 0 (lo p t.val (S t12.val)) k⌝ ∗ chP d L x (t.val % 3) (r0 p t.val)))
        (fun k acc => t13_body_run hpq hq hs hse he hn k acc) fun acc => ?_)
    · iterate 31 refine congrArg₂ Prod.mk (down_up _) ?_
      exact down_up _
    · rw [t13_trips hpq hq hs hse he t hn]
  refine (Laws.sep_assoc).1.trans (pureL fun hacc => ?_)
  subst hacc
  refine swap2 (wp_assoc (wp_none (t14_trips hpq hq hs hse he t hn) ?_))
  dsimp only [regsAt, tup]
  refine fr_start (finOf A x (lo p t.val (S t12.val)) (cntIn p t.val (S t12.val) (S (t12.val + 1)))) (halfOrd t12.val 0) ?_
  iterate 6 refine wp_assoc (skip (wp_assoc (put rfl rfl ?_)))
  refine wp_assoc (see fun _ => ?_)
  refine wp_ret ?_
  dsimp only
  rw [k0_part18_eq_skeleton]; unfold k0_part18_skel
  refine wp_assoc ?_
  refine wp_assoc (put rfl rfl ?_)
  iterate 9 refine wp_assoc (skip (wp_assoc (put rfl rfl ?_)))
  refine wp_assoc (see fun _ => ?_)
  refine wp_ret ?_
  rw [k0_part19_eq_skeleton]; unfold k0_part19_skel
  refine wp_assoc ?_
  refine wp_assoc (put rfl rfl ?_)
  iterate 9 refine wp_assoc (skip (wp_assoc (put rfl rfl ?_)))
  refine wp_assoc (see fun _ => ?_)
  refine wp_ret ?_
  rw [k0_part20_eq_skeleton]; unfold k0_part20_skel
  refine wp_assoc ?_
  refine wp_assoc (put rfl rfl ?_)
  iterate 5 refine wp_assoc (skip (wp_assoc (put rfl rfl ?_)))
  generalize hA1 : fr A (finOf A x (lo p t.val (S t12.val)) (cntIn p t.val (S t12.val) (S (t12.val + 1)))) (halfOrd t12.val 0) 32 = A1
  iterate 7 refine wp_assoc (get rfl rfl ?_)
  refine wp_ret ?_
  dsimp only
  rw [k0_part21_eq_skeleton]; unfold k0_part21_skel
  refine wp_assoc ?_
  iterate 15 refine wp_assoc (get rfl rfl ?_)
  refine wp_ret ?_
  dsimp only
  rw [k0_part22_eq_skeleton]; unfold k0_part22_skel
  refine wp_assoc ?_
  iterate 10 refine wp_assoc (get rfl rfl ?_)
  refine wp_assoc (swap2 (wp_seqR (fun acc => iprop(⌜acc = regsAt x (fun j => A1 t12.val (16 + j)) (fun j => A1 t12.val (48 + j)) 16 (lo p t.val (S t12.val)) (cntIn p t.val (S t12.val) (S (t12.val + 1)))⌝ ∗ chP d L x (t.val % 3) (r0 p t.val))) ?_ fun acc => ?_))
  · refine BIBase.Entails.trans (pureR (φ := _ = regsAt x (fun j => A1 t12.val (16 + j)) (fun j => A1 t12.val (48 + j)) 16 (lo p t.val (S t12.val)) 0) ?_)
      (wp_loop (fun k acc => iprop(⌜acc = regsAt x (fun j => A1 t12.val (16 + j)) (fun j => A1 t12.val (48 + j)) 16 (lo p t.val (S t12.val)) k⌝ ∗ chP d L x (t.val % 3) (r0 p t.val)))
        (fun k acc => t15_body_run hpq hq hs hse he hn k acc) fun acc => ?_)
    · iterate 31 refine congrArg₂ Prod.mk (down_up _) ?_
      exact down_up _
    · rw [t15_trips hpq hq hs hse he t hn]
  refine (Laws.sep_assoc).1.trans (pureL fun hacc => ?_)
  subst hacc
  refine swap2 (wp_assoc (wp_none (t16_trips hpq hq hs hse he t hn) ?_))
  dsimp only [regsAt, tup]
  refine fr_start (finOf A1 x (lo p t.val (S t12.val)) (cntIn p t.val (S t12.val) (S (t12.val + 1)))) (halfOrd t12.val 16) ?_
  iterate 1 refine wp_assoc (skip (wp_assoc (put rfl rfl ?_)))
  refine wp_ret ?_
  dsimp only
  rw [k0_part23_eq_skeleton]; unfold k0_part23_skel
  refine wp_assoc ?_
  iterate 10 refine wp_assoc (skip (wp_assoc (put rfl rfl ?_)))
  refine wp_ret ?_
  rw [k0_part24_eq_skeleton]; unfold k0_part24_skel
  refine wp_assoc ?_
  iterate 10 refine wp_assoc (skip (wp_assoc (put rfl rfl ?_)))
  refine wp_ret ?_
  rw [k0_part25_eq_skeleton]; unfold k0_part25_skel
  refine wp_assoc ?_
  iterate 10 refine wp_assoc (skip (wp_assoc (put rfl rfl ?_)))
  refine wp_ret ?_
  refine wp_assoc (skip (wp_assoc (put rfl rfl ?_)))
  refine wp_ret (wp_done ?_)
  subst hA1
  rw [halves]

end Cert.Proof.Sc

end
-- ==== Proof.ChunkRun.lean ====
/-
  The chunk loop: while one chunk's rows are folded into the accumulator, the next two are on their way.
-/
module

public import proofs.«01_k».proof.Proof.Ring
public import proofs.«01_k».proof.Proof.GraphRun
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

/-! ## What is folded in -/

/-- How many rows of the graph `[s, e)` precede chunk `t`. -/
def done (p t s e : ℕ) : ℕ := min e (max s (c0 p t)) - s

/-- The accumulator at the beginning of chunk `t`: the rows of the eight graphs that precede it. -/
def accAt (x : S50000x512.Idx → F .f32) (S : ℕ → ℕ) (p t : ℕ) (A0 : ℕ → ℕ → V16 F) : ℕ → ℕ → V16 F := fun g j =>
  if g < 8 ∧ j < 64 then
    (if j < 32 then sumV x j (S g) (done p t (S g) (S (g + 1))) else maxV x (j - 32) (S g) (done p t (S g) (S (g + 1))))
  else A0 g j

/-- The same with chunk `t` folded in for the graphs below `m`. -/
def accMid (x : S50000x512.Idx → F .f32) (S : ℕ → ℕ) (p t : ℕ) (A0 : ℕ → ℕ → V16 F) (m : ℕ) : ℕ → ℕ → V16 F := fun g j =>
  if g < m then accAt x S p (t + 1) A0 g j else accAt x S p t A0 g j

/-- What a graph has after chunk `t`: what it had before, folded on with the rows that chunk `t` adds. -/
theorem fold_on {V : Type} (op : V → V → V) (z : V) (v : ℕ → V) (p t s e : ℕ) :
    foldV op (foldV op z v s (done p t s e)) v (lo p t s) (cntIn p t s e) = foldV op z v s (done p (t + 1) s e) := by
  by_cases h : cntIn p t s e = 0
  · rw [h]
    have : done p (t + 1) s e = done p t s e := by unfold cntIn lo at h; unfold done c0 at *; omega
    rw [this]
    rfl
  · have h1 : lo p t s = s + done p t s e := by unfold cntIn at h; unfold done lo c0 at *; omega
    have h2 : done p (t + 1) s e = done p t s e + cntIn p t s e := by unfold done cntIn lo c0 at *; omega
    rw [h1, foldV_add, ← h2]

/-- Graph `m` folded in carries the accumulator from `m` graphs done in this chunk to `m + 1`. -/
theorem accMid_step (x : S50000x512.Idx → F .f32) (S : ℕ → ℕ) (p t : ℕ) (A0 : ℕ → ℕ → V16 F) {m : ℕ} (hm : m < 8) :
    grUpd (accMid x S p t A0 m) x m (lo p t (S m)) (cntIn p t (S m) (S (m + 1))) = accMid x S p t A0 (m + 1) := by
  funext g k
  unfold grUpd
  by_cases h : g = m ∧ k < 64
  · rw [if_pos h]
    obtain ⟨rfl, hk⟩ := h
    unfold finOf accMid
    simp only [if_neg (Nat.lt_irrefl g), if_pos (Nat.lt_succ_self g)]
    unfold accAt
    simp only [if_pos (show g < 8 ∧ k < 64 from ⟨hm, hk⟩)]
    by_cases h32 : k < 32
    · simp only [if_pos h32]
      exact fold_on _ _ _ _ _ _ _
    · simp only [if_neg h32]
      exact fold_on _ _ _ _ _ _ _
  · rw [if_neg h]
    unfold accMid
    by_cases hg : g = m
    · subst hg
      have hk : ¬ k < 64 := fun hk => h ⟨rfl, hk⟩
      rw [if_neg (Nat.lt_irrefl g), if_pos (Nat.lt_succ_self g)]
      unfold accAt
      rw [if_neg (fun c => hk c.2), if_neg (fun c => hk c.2)]
    · refine if_congr ?_ rfl rfl
      omega

/-- With no graph done in chunk `t` the accumulator is as after the chunks before it. -/
theorem accMid_zero (x : S50000x512.Idx → F .f32) (S : ℕ → ℕ) (p t : ℕ) (A0 : ℕ → ℕ → V16 F) : accMid x S p t A0 0 = accAt x S p t A0 := by
  funext g k
  exact if_neg (Nat.not_lt_zero g)

/-- With all eight graphs done the accumulator is as after chunk `t`. -/
theorem accMid_last (x : S50000x512.Idx → F .f32) (S : ℕ → ℕ) (p t : ℕ) (A0 : ℕ → ℕ → V16 F) : accMid x S p t A0 8 = accAt x S p (t + 1) A0 := by
  funext g k
  unfold accMid
  by_cases h : g < 8
  · exact if_pos h
  · rw [if_neg h]
    unfold accAt
    rw [if_neg (fun c => h c.1), if_neg (fun c => h c.1)]

/-- The bounds of the eight graphs. -/
structure Bounds (S : ℕ → ℕ) : Prop where
  mono : ∀ i j, i ≤ j → j ≤ 8 → S i ≤ S j
  le : S 8 ≤ 50000

/-- A chunk folded in. -/
theorem t12_run {S : ℕ → ℕ} (hS : Bounds S) {x : S50000x512.Idx → F .f32} {A0 : ℕ → ℕ → V16 F}
    {h1 : k0_cond1 (w (S 0)) (w (S 8)) = 1#1} {t : Fin (k0_t11_loop (w (S 0)) (w (S 8))).trips} {hw10 : k0_chk10 (w (S 0)) (w (S 8))}
    {c8 v61 v63 v65 v3562 : BitVec 32} :
    iprop(accP d L (accAt x S (S 0) t.val A0) ∗ (chP d L x (t.val % 3) (r0 (S 0) t.val) ∗ sbP d L (fun j => w (S j)))) ⊢
      WP d L (Scf.Loop.for k0_t12_loop k0_t12_ok ⟨⟩ (onBufs (k0_t12_body L) (w (S 0)) (w (S 8)) hw10 c8 v61 v63 v65 h1 t v3562 (cW (w (S 0)) t.val)
          (Scalar.minsi (cW (w (S 0)) t.val) 49960#32)))
        (fun _ => iprop(accP d L (accAt x S (S 0) (t.val + 1) A0) ∗ (chP d L x (t.val % 3) (r0 (S 0) t.val) ∗ sbP d L (fun j => w (S j))))) := by
  have h8 : k0_t12_loop.trips = 8 := by decide
  refine BIBase.Entails.trans ?_ (wp_loop (fun m _ => iprop(accP d L (accMid x S (S 0) t.val A0 m) ∗ (chP d L x (t.val % 3) (r0 (S 0) t.val) ∗ sbP d L (fun j => w (S j)))))
    (fun k acc => ?_) fun acc => ?_)
  · rw [accMid_zero]
  · have hk : k.val < 8 := Nat.lt_of_lt_of_eq k.isLt h8
    refine (t12_body_run (W := w) rfl (hS.mono 0 8 (by omega) (by omega)) hS.le k (hS.mono _ _ (by omega) (by omega)) (hS.mono _ _ (by omega) (by omega))
      ((hS.mono _ 8 (by omega) (by omega)).trans hS.le)).trans (wp_mono _ _ _ fun _ => Entails.of_eq ?_)
    rw [accMid_step x S (S 0) t.val A0 hk]
  · rw [h8, accMid_last]

/-! ## One turn of the ring -/

/-- The slot of chunk `k`: its rows on their way to it, if there is such a chunk. -/
def Jb (d : Dev nD) (L : grid0.Coords) (x : S50000x512.Idx → F .f32) (q : PosShare TreeShare) (p r k : ℕ) : sProp (MM F) :=
  if k < nch p r then Busy d L x q (k % 3) (r0 p k) else Idle d L x q (k % 3)

/-- A chunk that exists is on its way to its slot. -/
theorem Jb_busy {x : S50000x512.Idx → F .f32} {q : PosShare TreeShare} {p r k : ℕ} (h : k < nch p r) : Jb d L x q p r k = Busy d L x q (k % 3) (r0 p k) := if_pos h
/-- The slot of a chunk that does not exist is free. -/
theorem Jb_idle {x : S50000x512.Idx → F .f32} {q : PosShare TreeShare} {p r k : ℕ} (h : ¬ k < nch p r) : Jb d L x q p r k = Idle d L x q (k % 3) := if_neg h

/-- Slots repeat every three chunks, and so do their semaphores. -/
theorem semOf_mod (k : ℕ) : semOf (k % 3) = semOf k := by unfold semOf; simp only [Nat.mod_mod]

/-- The three slots as chunk `k` begins. -/
abbrev Slots (d : Dev nD) (L : grid0.Coords) (x : S50000x512.Idx → F .f32) (q : PosShare TreeShare) (p r k : ℕ) : sProp (MM F) :=
  iprop(Jb d L x q p r k ∗ Jb d L x q p r (k + 1) ∗ Idle d L x q ((k + 2) % 3))

/-- A chunk begins where forty rows are left. -/
theorem r0_le (p t : ℕ) : r0 p t ≤ 49960 := by unfold r0; omega

/-- The rest of a turn, once the chunk after next has been sent for. -/
theorem t11_tail {S : ℕ → ℕ} (hS : Bounds S) {x : S50000x512.Idx → F .f32} {q : PosShare TreeShare} {A0 : ℕ → ℕ → V16 F}
    {O : CellTallies nD τ sig (HIx 1)} {W : Waits sig (HIx 1)}
    {h1 : k0_cond1 (w (S 0)) (w (S 8)) = 1#1} {hw10 : k0_chk10 (w (S 0)) (w (S 8))} {c8 v61 v63 v65 v3562 : BitVec 32}
    (t : Fin (k0_t11_loop (w (S 0)) (w (S 8))).trips) :
    iprop(Jb d L x q (S 0) (S 8) (t.val + 2) ∗ (chP d L x (t.val % 3) (r0 (S 0) t.val) ∗ xP d L x (piece q (t.val % 3)) ∗
    semVal (thr d L, .dma (semOf (t.val % 3))) 0 ∗ OW d L O W ∗ Jb d L x q (S 0) (S 8) (t.val + 1) ∗ accP d L (accAt x S (S 0) t.val A0) ∗ sbP d L (fun j => w (S j)))) ⊢
      WP d L (Scf.Loop.for k0_t12_loop k0_t12_ok ⟨⟩ (onBufs (k0_t12_body L) (w (S 0)) (w (S 8)) hw10 c8 v61 v63 v65 h1 t v3562 (cW (w (S 0)) t.val)
          (Scalar.minsi (cW (w (S 0)) t.val) 49960#32)) >>= fun _ => pure PUnit.unit)
        (fun _ => iprop(Slots d L x q (S 0) (S 8) (t.val + 1) ∗ (OW d L O W ∗ (accP d L (accAt x S (S 0) (t.val + 1) A0) ∗ sbP d L (fun j => w (S j)))))) := by
  refine BIBase.Entails.trans (Q := iprop((accP d L (accAt x S (S 0) t.val A0) ∗ (chP d L x (t.val % 3) (r0 (S 0) t.val) ∗ sbP d L (fun j => w (S j)))) ∗
    (Jb d L x q (S 0) (S 8) (t.val + 2) ∗ xP d L x (piece q (t.val % 3)) ∗
    semVal (thr d L, .dma (semOf (t.val % 3))) 0 ∗ OW d L O W ∗ Jb d L x q (S 0) (S 8) (t.val + 1)))) ?_ ?_
  · iintro ⟨H1, H2, H3, H4, H5, H6, H7, H8⟩
    isplitl [H7 H2 H8]
    · isplitl [H7]; · iexact H7
      isplitl [H2] <;> iassumption
    · isplitl [H1]; · iexact H1
      isplitl [H3]; · iexact H3
      isplitl [H4]; · iexact H4
      isplitl [H5] <;> iassumption
  refine wp_seqR _ (t12_run hS) fun _ => wp_done ?_
  unfold Slots
  rw [show (t.val + 1 + 2) % 3 = t.val % 3 by omega]
  iintro ⟨⟨H1, H2, H3⟩, H4, H5, H6, H7, H8⟩
  isplitl [H2 H4 H5 H6 H8]
  · isplitl [H8]; · iexact H8
    isplitl [H4]; · iexact H4
    isplitl [H2]
    · iexists _; iexact H2
    isplitl [H5] <;> iassumption
  · isplitl [H7]; · iexact H7
    isplitl [H1] <;> iassumption

attribute [local irreducible] k0_cond4 k0_cond5 in
set_option maxHeartbeats 1000000 in
/-- A turn of the ring. -/
theorem t11_body_run {S : ℕ → ℕ} (hS : Bounds S) {x : S50000x512.Idx → F .f32} {q : PosShare TreeShare} {A0 : ℕ → ℕ → V16 F}
    {O : CellTallies nD τ sig (HIx 1)} {W : Waits sig (HIx 1)}
    {h1 : k0_cond1 (w (S 0)) (w (S 8)) = 1#1} {hw10 : k0_chk10 (w (S 0)) (w (S 8))} {c8 v61 v63 v65 : BitVec 32}
    (t : Fin (k0_t11_loop (w (S 0)) (w (S 8))).trips) :
    iprop(Slots d L x q (S 0) (S 8) t.val ∗ (OW d L O W ∗ (accP d L (accAt x S (S 0) t.val A0) ∗ sbP d L (fun j => w (S j))))) ⊢
      WP d L (onBufs (k0_t11_body L) (w (S 0)) (w (S 8)) hw10 c8 v61 v63 v65 (a0W (w (S 0))) h1 t ())
        (fun _ => iprop(Slots d L x q (S 0) (S 8) (t.val + 1) ∗ (OW d L O W ∗ (accP d L (accAt x S (S 0) (t.val + 1) A0) ∗ sbP d L (fun j => w (S j)))))) := by
  have hpq : S 0 ≤ S 8 := hS.mono 0 8 (by omega) (by omega)
  have ht : t.val < nch (S 0) (S 8) := Nat.lt_of_lt_of_eq t.isLt (t11_trips hpq hS.le)
  have h4 := cond4_iff hpq hS.le t
  have hlt : t.val < 1998 := by unfold nch at ht; have := hS.le; omega
  have hn := nch_lt (p := S 0) hS.le
  unfold onBufs k0_t11_body
  dsimp only
  unfold Slots
  rw [Jb_busy ht]
  refine BIBase.Entails.trans (Q := iprop((Busy d L x q (t.val % 3) (r0 (S 0) t.val) ∗ OW d L O W) ∗ (Jb d L x q (S 0) (S 8) (t.val + 1) ∗ Idle d L x q ((t.val + 2) % 3) ∗
    accP d L (accAt x S (S 0) t.val A0) ∗ sbP d L (fun j => w (S j))))) ?_ ?_
  · iintro ⟨⟨H1, H2, H3⟩, H4, H5, H6⟩
    isplitl [H1 H4]
    · isplitl [H1] <;> iassumption
    · isplitl [H2]; · iexact H2
      isplitl [H3]; · iexact H3
      isplitl [H5] <;> iassumption
  refine wp_seqR _ (await_run ((semAt_eq (off81_eq t hlt) (Nat.mod_lt _ (by decide))))) fun _ => ?_
  refine BIBase.Entails.trans (Q := iprop(Idle d L x q ((t.val + 2) % 3) ∗ (chP d L x (t.val % 3) (r0 (S 0) t.val) ∗ xP d L x (piece q (t.val % 3)) ∗
    semVal (thr d L, .dma (semOf (t.val % 3))) 0 ∗ OW d L O W ∗ Jb d L x q (S 0) (S 8) (t.val + 1) ∗ accP d L (accAt x S (S 0) t.val A0) ∗ sbP d L (fun j => w (S j))))) ?_ ?_
  · iintro ⟨⟨⟨H1, H2, H3⟩, H4⟩, H5, H6, H7, H8⟩
    isplitl [H6]; · iexact H6
    isplitl [H1]; · iexact H1
    isplitl [H2]; · iexact H2
    isplitl [H3]; · iexact H3
    isplitl [H4]; · iexact H4
    isplitl [H5]; · iexact H5
    isplitl [H7] <;> iassumption
  by_cases h : k0_cond4 (w (S 0)) (w (S 8)) t = 1#1
  · rw [dif_pos h]
    refine wp_seqR _ (issue_run (r0_le _ _) (off82_eq t hlt) (off83_eq (hpq.trans hS.le) hS.le t hlt) ((semAt_eq (off84_eq t hlt) (Nat.mod_lt _ (by decide))))) fun _ => ?_
    rw [← Jb_busy (d := d) (L := L) (x := x) (q := q) (h4.1 h)]
    exact t11_tail hS t
  · rw [dif_neg h, ← Jb_idle (d := d) (L := L) (x := x) (q := q) (fun c => h (h4.2 c))]
    exact t11_tail hS t

/-! ## All the chunks -/

/-- The accumulator once every row of the eight graphs is folded in. -/
def accFin (x : S50000x512.Idx → F .f32) (S : ℕ → ℕ) (A0 : ℕ → ℕ → V16 F) : ℕ → ℕ → V16 F := fun g j =>
  if g < 8 ∧ j < 64 then (if j < 32 then sumV x j (S g) (S (g + 1) - S g) else maxV x (j - 32) (S g) (S (g + 1) - S g)) else A0 g j

/-- Once the chunks reach the last row, every graph has all of its rows. -/
theorem accAt_fin {S : ℕ → ℕ} (hS : Bounds S) (x : S50000x512.Idx → F .f32) (A0 : ℕ → ℕ → V16 F) {t : ℕ} (ht : S 8 ≤ c0 (S 0) t) :
    accAt x S (S 0) t A0 = accFin x S A0 := by
  funext g j
  unfold accAt accFin
  by_cases h : g < 8 ∧ j < 64
  · have e : done (S 0) t (S g) (S (g + 1)) = S (g + 1) - S g := by
      have := hS.mono (g + 1) 8 (by omega) (by omega)
      unfold done
      omega
    rw [if_pos h, if_pos h, e]
  · rw [if_neg h, if_neg h]

/-- Where the tile has no rows, the accumulator is final from the start. -/
theorem accAt_none {S : ℕ → ℕ} (hS : Bounds S) (hn : ¬ S 0 < S 8) (x : S50000x512.Idx → F .f32) (A0 : ℕ → ℕ → V16 F) {t : ℕ} :
    accAt x S (S 0) t A0 = accFin x S A0 := by
  funext g j
  unfold accAt accFin
  by_cases h : g < 8 ∧ j < 64
  · have e : done (S 0) t (S g) (S (g + 1)) = S (g + 1) - S g := by
      have h1 := hS.mono (g + 1) 8 (by omega) (by omega)
      have h2 := hS.mono 0 g (by omega) (by omega)
      have h3 := hS.mono g (g + 1) (by omega) (by omega)
      unfold done
      omega
    rw [if_pos h, if_pos h, e]
  · rw [if_neg h, if_neg h]

/-- The three slots at rest. -/
abbrev Rest (d : Dev nD) (L : grid0.Coords) (x : S50000x512.Idx → F .f32) (q : PosShare TreeShare) : sProp (MM F) :=
  iprop(Idle d L x q 0 ∗ Idle d L x q 1 ∗ Idle d L x q 2)

/-- After the last chunk all three slots are free. -/
theorem slots_end {x : S50000x512.Idx → F .f32} {q : PosShare TreeShare} {p r : ℕ} : Slots d L x q p r (nch p r) ⊢ Rest d L x q := by
  unfold Slots
  rw [Jb_idle (by omega), Jb_idle (by omega)]
  have h : nch p r % 3 = 0 ∨ nch p r % 3 = 1 ∨ nch p r % 3 = 2 := by omega
  rcases h with h | h | h
  · rw [h, show (nch p r + 1) % 3 = 1 by omega, show (nch p r + 2) % 3 = 2 by omega]
  · rw [h, show (nch p r + 1) % 3 = 2 by omega, show (nch p r + 2) % 3 = 0 by omega]
    iintro ⟨H1, H2, H3⟩
    isplitl [H3]; · iexact H3
    isplitl [H1] <;> iassumption
  · rw [h, show (nch p r + 1) % 3 = 0 by omega, show (nch p r + 2) % 3 = 1 by omega]
    iintro ⟨H1, H2, H3⟩
    isplitl [H2]; · iexact H2
    isplitl [H3] <;> iassumption

/-- Every chunk, from the first two on their way. -/
theorem chunks_run {S : ℕ → ℕ} (hS : Bounds S) {x : S50000x512.Idx → F .f32} {q : PosShare TreeShare} {A0 : ℕ → ℕ → V16 F}
    {O : CellTallies nD τ sig (HIx 1)} {W : Waits sig (HIx 1)} {α : Type}
    {h1 : k0_cond1 (w (S 0)) (w (S 8)) = 1#1} {hw10 : k0_chk10 (w (S 0)) (w (S 8))} {c8 v61 v63 v65 : BitVec 32} {ok ok'} {b17}
    {T : Prog (TpuEff nD τ sig (Elt F) Λ₀ (.scVector (cV L) (jV L))) α} {Q : α → sProp (MM F)}
    (h : iprop(Rest d L x q ∗ (OW d L O W ∗ (accP d L (accFin x S A0) ∗ sbP d L (fun j => w (S j))))) ⊢ WP d L T Q) :
    iprop(Slots d L x q (S 0) (S 8) 0 ∗ (OW d L O W ∗ (accP d L (accAt x S (S 0) 0 A0) ∗ sbP d L (fun j => w (S j))))) ⊢
      WP d L (Scf.Loop.for (k0_t11_loop (w (S 0)) (w (S 8))) ok PUnit.unit (onBufs (k0_t11_body L) (w (S 0)) (w (S 8)) hw10 c8 v61 v63 v65 (a0W (w (S 0))) h1) >>= fun _ =>
        Scf.Loop.for (k0_t17_loop (w (S 0)) (w (S 8))) ok' PUnit.unit b17 >>= fun _ => T) Q := by
  have hpq : S 0 ≤ S 8 := hS.mono 0 8 (by omega) (by omega)
  refine wp_seq _ (wp_loop (fun k _ => iprop(Slots d L x q (S 0) (S 8) k ∗ (OW d L O W ∗ (accP d L (accAt x S (S 0) k A0) ∗ sbP d L (fun j => w (S j))))))
    (fun k _ => t11_body_run hS k) fun _ => Laws.entails_refl _) fun _ => wp_none (t17_trips hpq hS.le) ?_
  rw [t11_trips hpq hS.le, accAt_fin hS x A0 (by unfold c0 nch; have := a0_le (S 0); omega)]
  refine BIBase.Entails.trans ?_ h
  iintro ⟨H1, H2⟩
  isplitl [H1]
  · iapply slots_end; iexact H1
  · iexact H2

attribute [local irreducible] k0_cond1 k0_cond2 k0_cond3 in
set_option maxHeartbeats 1000000 in
/-- The chunks, from nothing on its way; then the number of rows of the first graph. -/
theorem part48_run {S : ℕ → ℕ} (hS : Bounds S) {x : S50000x512.Idx → F .f32} {q : PosShare TreeShare} {A0 : ℕ → ℕ → V16 F}
    {O : CellTallies nD τ sig (HIx 1)} {W : Waits sig (HIx 1)} {hw10 : k0_chk10 (w (S 0)) (w (S 8))} :
    iprop(Rest d L x q ∗ (OW d L O W ∗ (accP d L (accAt x S (S 0) 0 A0) ∗ sbP d L (fun j => w (S j))))) ⊢
      WP d L (onBufs (k0_part48 (F := F) L) (w (S 0)) (w (S 8)) hw10 8#32 (Scalar.divsi (w (S 0)) 8#32)
          (Scalar.extui (Scalar.cmpi .sgt (w (S 0)) 0#32)) (Scalar.extui (Scalar.cmpi .slt (w (S 0)) 0#32)))
        (fun r => iprop(⌜r = ⟨Scalar.subi (w (S 1)) (w (S 0)), k0_pay719 (w (S 1)) (w (S 0))⟩⌝ ∗
          (Rest d L x q ∗ (OW d L O W ∗ (accP d L (accFin x S A0) ∗ sbP d L (fun j => w (S j))))))) := by
  have hpq : S 0 ≤ S 8 := hS.mono 0 8 (by omega) (by omega)
  have tail : iprop(Rest d L x q ∗ (OW d L O W ∗ (accP d L (accFin x S A0) ∗ sbP d L (fun j => w (S j))))) ⊢
      WP d L (smemLoad sbM (sbR ![1] inb_S9_S1_1) numel1_S1 rfl >>= fun v103 => smemLoad sbM (sbR ![0] inb_S9_S1_0) numel1_S1 rfl >>= fun v105 =>
        pure (⟨Scalar.subi v103 v105, k0_pay719 v103 v105⟩ : Σ' (_ : BitVec 32), F .f32))
        (fun r => iprop(⌜r = ⟨Scalar.subi (w (S 1)) (w (S 0)), k0_pay719 (w (S 1)) (w (S 0))⟩⌝ ∗
          (Rest d L x q ∗ (OW d L O W ∗ (accP d L (accFin x S A0) ∗ sbP d L (fun j => w (S j))))))) := by
    refine BIBase.Entails.trans (Q := iprop(sbP d L (fun j => w (S j)) ∗ (Rest d L x q ∗ OW d L O W ∗ accP d L (accFin x S A0)))) ?_ ?_
    · iintro ⟨H1, H2, H3, H4⟩
      isplitl [H4]; · iexact H4
      isplitl [H1]; · iexact H1
      isplitl [H2] <;> iassumption
    refine wp_seq _ (ld_word 1 rfl) fun v => pureL fun hv => wp_seq _ (ld_word 0 rfl) fun v' => pureL fun hv' => wp_done ?_
    subst hv hv'
    iintro ⟨H1, H2, H3, H4⟩
    isplitr [H1 H2 H3 H4]
    · ipureintro; rfl
    isplitl [H2]; · iexact H2
    isplitl [H3]; · iexact H3
    isplitl [H4] <;> iassumption
  have hc1 := cond1_iff (hpq.trans hS.le) hS.le
  have hc2 := cond2_iff hpq hS.le
  have hc3 := cond3_iff hpq hS.le
  unfold onBufs
  rw [k0_part48_eq_skeleton]; unfold k0_part48_skel
  dsimp only
  by_cases h1 : k0_cond1 (w (S 0)) (w (S 8)) = 1#1
  rotate_left
  · rw [dif_neg h1, accAt_none hS (fun c => h1 (hc1.2 c))]
    exact tail
  have hn : 0 < nch (S 0) (S 8) := by have := hc1.1 h1; have := a0_le (S 0); unfold nch; omega
  rw [dif_pos h1, dif_pos (hc2.2 hn)]
  refine BIBase.Entails.trans (Q := iprop(Idle d L x q 0 ∗ (Idle d L x q 1 ∗ Idle d L x q 2 ∗
    (OW d L O W ∗ (accP d L (accAt x S (S 0) 0 A0) ∗ sbP d L (fun j => w (S j))))))) ?_ ?_
  · iintro ⟨⟨H1, H2, H3⟩, H4⟩
    isplitl [H1]; · iexact H1
    isplitl [H2]; · iexact H2
    isplitl [H3] <;> iassumption
  have e76 : k0_off76 = ![0] := by decide
  have e79 : k0_off79 = ![1] := by decide
  have e74 : k0_off74 = ![0, 0, 0] := by decide
  have e77 : k0_off77 = ![1, 0, 0] := by decide
  refine wp_seqR _ (issue_run (r0_le _ _) e74 (off75_eq (hpq.trans hS.le)) (semAt_eq e76 (by decide))) fun _ => ?_
  have eb := Jb_busy (d := d) (L := L) (x := x) (q := q) hn
  rw [show 0 % 3 = 0 from rfl] at eb
  rw [← eb]
  by_cases h3 : k0_cond3 (w (S 0)) (w (S 8)) = 1#1
  · rw [dif_pos h3]
    refine BIBase.Entails.trans (Q := iprop(Idle d L x q 1 ∗ (Jb d L x q (S 0) (S 8) 0 ∗ Idle d L x q 2 ∗
      (OW d L O W ∗ (accP d L (accAt x S (S 0) 0 A0) ∗ sbP d L (fun j => w (S j))))))) ?_ ?_
    · iintro ⟨H1, H2, H3⟩
      isplitl [H2]; · iexact H2
      isplitl [H1] <;> iassumption
    refine wp_seqR _ (issue_run (r0_le _ _) e77 (off78_eq (hpq.trans hS.le)) (semAt_eq e79 (by decide))) fun _ => ?_
    have eb := Jb_busy (d := d) (L := L) (x := x) (q := q) (hc3.1 h3)
    rw [show 1 % 3 = 1 from rfl] at eb
    rw [← eb]
    refine BIBase.Entails.trans ?_ (chunks_run hS tail)
    unfold Slots
    iintro ⟨H1, H2, H3, H4⟩
    isplitr [H4]
    · isplitl [H2]; · iexact H2
      isplitl [H1] <;> iassumption
    · iexact H4
  · rw [dif_neg h3]
    have ei := Jb_idle (d := d) (L := L) (x := x) (q := q) (fun c => h3 (hc3.2 c))
    rw [show 1 % 3 = 1 from rfl] at ei
    rw [← ei]
    refine BIBase.Entails.trans ?_ (chunks_run hS tail)
    unfold Slots
    iintro ⟨H1, H2, H3, H4⟩
    isplitr [H4]
    · isplitl [H1]; · iexact H1
      isplitl [H2] <;> iassumption
    · iexact H4

end Cert.Proof.Sc

end
-- ==== Proof.Prologue.lean ====
/-
Before the chunks: the segment numbers and the weights are brought in, the nine bounds found, and the
accumulator initialized.
-/
module

public import proofs.«01_k».proof.Proof.InitRun
public import proofs.«01_k».proof.Proof.ChunkRun
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

/-! ## The searches are one search -/

section
variable (L : grid0.Coords)

/-- The loop of the second search is the loop of the first. -/
theorem t2_eq (t) : Scf.Loop.for k0_t2_loop k0_t2_ok (0#32, 50000#32) (onBufs (k0_t2_body (F := F) L) t)
    = Scf.Loop.for k0_t1_loop k0_t1_ok (0#32, 50000#32) (onBufs (k0_t1_body (F := F) L) t) := rfl
/-- The loop of the third search is the loop of the first. -/
theorem t3_eq (v2 t c0 c5) : Scf.Loop.for k0_t3_loop k0_t3_ok (0#32, 50000#32) (onBufs (k0_t3_body (F := F) L) v2 t c0 c5)
    = Scf.Loop.for k0_t1_loop k0_t1_ok (0#32, 50000#32) (onBufs (k0_t1_body (F := F) L) t) := rfl
/-- The loop of the fourth search is the loop of the first. -/
theorem t4_eq (v2 v19 c0 c5 t) : Scf.Loop.for k0_t4_loop k0_t4_ok (0#32, 50000#32) (onBufs (k0_t4_body (F := F) L) v2 v19 c0 c5 t)
    = Scf.Loop.for k0_t1_loop k0_t1_ok (0#32, 50000#32) (onBufs (k0_t1_body (F := F) L) t) := rfl
/-- The loop of the fifth search is the loop of the first. -/
theorem t5_eq (v2 v19 c0 c5 t) : Scf.Loop.for k0_t5_loop k0_t5_ok (0#32, 50000#32) (onBufs (k0_t5_body (F := F) L) v2 v19 c0 c5 t)
    = Scf.Loop.for k0_t1_loop k0_t1_ok (0#32, 50000#32) (onBufs (k0_t1_body (F := F) L) t) := rfl
/-- The loop of the sixth search is the loop of the first. -/
theorem t6_eq (v2 v19 c0 c5 t) : Scf.Loop.for k0_t6_loop k0_t6_ok (0#32, 50000#32) (onBufs (k0_t6_body (F := F) L) v2 v19 c0 c5 t)
    = Scf.Loop.for k0_t1_loop k0_t1_ok (0#32, 50000#32) (onBufs (k0_t1_body (F := F) L) t) := rfl
/-- The loop of the seventh search is the loop of the first. -/
theorem t7_eq (v2 t c41 c42 c43 c45) : Scf.Loop.for k0_t7_loop k0_t7_ok (0#32, 50000#32) (onBufs (k0_t7_body (F := F) L) v2 t c41 c42 c43 c45)
    = Scf.Loop.for k0_t1_loop k0_t1_ok (0#32, 50000#32) (onBufs (k0_t1_body (F := F) L) t) := rfl
/-- The loop of the eighth search is the loop of the first. -/
theorem t8_eq (v2 v39 c41 c42 c43 c45 t) : Scf.Loop.for k0_t8_loop k0_t8_ok (0#32, 50000#32) (onBufs (k0_t8_body (F := F) L) v2 v39 c41 c42 c43 c45 t)
    = Scf.Loop.for k0_t1_loop k0_t1_ok (0#32, 50000#32) (onBufs (k0_t1_body (F := F) L) t) := rfl
/-- The loop of the ninth search is the loop of the first. -/
theorem t9_eq (v2 v39 c41 c42 c43 c45 t) : Scf.Loop.for k0_t9_loop k0_t9_ok (0#32, 50000#32) (onBufs (k0_t9_body (F := F) L) v2 v39 c41 c42 c43 c45 t)
    = Scf.Loop.for k0_t1_loop k0_t1_ok (0#32, 50000#32) (onBufs (k0_t1_body (F := F) L) t) := rfl
end

/-- The table of bounds once the first `n` are found. -/
def tb (b : S50000.Idx → BitVec 32) (g : ℕ) (T : ℕ → BitVec 32) (n : ℕ) : ℕ → BitVec 32 := fun j =>
  if j < n then w (first b (g + j)) else T j

/-- Before the first search the table of bounds is as it was. -/
theorem tb_zero (b : S50000.Idx → BitVec 32) (g : ℕ) (T : ℕ → BitVec 32) : tb b g T 0 = T := by
  funext j
  unfold tb
  rw [if_neg (by omega)]

/-- One more search fills one more entry. -/
theorem tb_succ (b : S50000.Idx → BitVec 32) (g : ℕ) (T : ℕ → BitVec 32) (n : ℕ) :
    Function.update (tb b g T n) n (w (first b (g + n))) = tb b g T (n + 1) := by
  funext j
  by_cases h : j = n
  · subst h
    rw [Function.update_self]
    unfold tb
    rw [if_pos (by omega)]
  · rw [Function.update_of_ne h]
    unfold tb
    exact if_congr (by omega) rfl rfl

/-- The search for bound `n`, and its store. -/
theorem srch (b : S50000.Idx → BitVec 32) {B : S50016.Idx → BitVec 32} (hB : IdsOK b B) {g : ℕ} (n : ℕ) {tgt : BitVec 32} (ht : tgt = w (g + n))
    {T : ℕ → BitVec 32} {off off' : Fin 1 → ℕ} {inb inb'} {h1 : (sbR off inb).shape.numel = 1} {hp : EltTy.packing .i32 = 1}
    {hx : (sbM.access (sbR off' inb')).Stores Finset.univ} {hm : Finset.univ = Finset.univ ∨ ∀ a, (sbR off' inb').stride a = 1} {α : Type}
    {kk : BitVec 32 × BitVec 32 → Elt F .i32 → PUnit → Prog (TpuEff nD τ sig (Elt F) Λ₀ (.scVector (cV L) (jV L))) α}
    {R : sProp (MM F)} {Q : α → sProp (MM F)} (h : off = ![n]) (h' : off' = ![n])
    (hk : ∀ a v, iprop(idP d L B ∗ sbP d L (tb b g T (n + 1)) ∗ R) ⊢ WP d L (kk a v ⟨⟩) Q) :
    iprop(idP d L B ∗ sbP d L (tb b g T n) ∗ R) ⊢ WP d L
      (Scf.Loop.for k0_t1_loop k0_t1_ok (0#32, 50000#32) (onBufs (k0_t1_body (F := F) L) tgt) >>= fun acc =>
        smemLoad sbM (sbR off inb) h1 hp >>= fun v =>
          Prog.lift (.store sbM (sbR off' inb') (fun _ => acc.1) Finset.univ hx hm) >>= kk acc v) Q := by
  refine search_store b hB (g + n) n ht h h' ?_
  rw [tb_succ]
  exact hk

/-- The first of the eight graphs of a tile. -/
def g0 (L : grid0.Coords) : ℕ := ((L 1).val * 2 + (L 0).val) * 8

/-- A tile's eight graphs are among the 256. -/
theorem g0_lt : g0 L + 8 ≤ 256 := by
  have h0 : (L 0).val < 2 := (L 0).isLt
  have h1 : (L 1).val < 16 := (L 1).isLt
  unfold g0
  omega

/-- The word the tile computes for it. -/
abbrev g0W (L : grid0.Coords) : BitVec 32 :=
  Scalar.muli (Scalar.addi (Scalar.muli (BitVec.ofNat 32 (L 1).val) 2#32) (BitVec.ofNat 32 (L 0).val)) 8#32

/-- The computed word for a tile's first graph is that graph. -/
theorem g0W_w : g0W L = w (g0 L) := by
  show Scalar.muli (Scalar.addi (Scalar.muli (w (L 1).val) (w 2)) (w (L 0).val)) (w 8) = _
  rw [Words.muli_w, Words.addi_w, Words.muli_w]
  rfl

/-- The computed word for a tile's later graphs likewise. -/
theorem g0W_add (n : ℕ) : Scalar.addi (g0W L) (BitVec.ofNat 32 n) = w (g0 L + n) := by
  rw [g0W_w, show (BitVec.ofNat 32 n : BitVec 32) = w n from rfl, Words.addi_w]

/-! ## The two copies in -/

/-- The tile's memory once the segment numbers are in. -/
def idsB (b : S50000.Idx → BitVec 32) (f0 : S50016.Idx → BitVec 32) : S50016.Idx → BitVec 32 := fun y =>
  if (y 0).val < 50000 then b (bIx (y 0).val) else f0 y

/-- The tile's copy of the segment numbers agrees with them. -/
theorem idsB_ok (b : S50000.Idx → BitVec 32) (f0 : S50016.Idx → BitVec 32) : IdsOK b (idsB b f0) := by
  intro m h
  unfold idsB
  rw [if_pos (by exact h)]

abbrev idS : Memref sig .scVector .vmem S50000 .i32 := idM.slice (Rect.unit (s := S50016) ![0] S50000.size inb_S50016_S50000_0) (fun _ => rfl)

/-- Copying the segment numbers in fills the first 50000 words. -/
theorem ids_write (b : S50000.Idx → BitVec 32) (f0 : S50016.Idx → BitVec 32) :
    idS.view.write (Elt F) f0 (bM.view.read (Elt F) b) Finset.univ = idsB b f0 := by
  funext y
  by_cases hy : (y 0).val < 50000
  · have e : y = idS.view.emb (ix1 (⟨(y 0).val, hy⟩ : Fin 50000) : S50000.Idx) := by
      funext a
      match a with
      | ⟨0, _⟩ => exact Fin.ext (by show (y 0).val = 0 + 1 * (y 0).val; omega)
    conv_lhs => rw [e]
    rw [View.write_emb_of_mem _ _ (Finset.mem_univ _)]
    unfold idsB
    rw [if_pos hy]
    show b _ = b _
    refine congrArg b (congrArg ix1 (Fin.ext ?_))
    show (y 0).val = (y 0).val % 50000
    omega
  · rw [View.write_of_not_mem]
    · unfold idsB; rw [if_neg hy]
    · intro hm
      obtain ⟨x, _, e⟩ := Finset.mem_map.1 hm
      have h0 := congrArg (fun z : S50016.Idx => (z 0).val) e
      have hx : (x 0).val < 50000 := (x 0).isLt
      change 0 + 1 * (x 0).val = (y 0).val at h0
      omega

/-- Copying the weights in replaces the whole buffer. -/
theorem wts_write (wr f1 : S48.Idx → F .f32) : wtM.view.write (Elt F) f1 (wM.view.read (Elt F) wr) Finset.univ = wr := by
  funext y
  have e : y = wtM.view.emb y := rfl
  conv_lhs => rw [e]
  rw [View.write_emb_of_mem _ _ (Finset.mem_univ _)]
  rfl

abbrev wtP (d : Dev nD) (L : grid0.Coords) (wr : S48.Idx → F .f32) : sProp (MM F) :=
  wtM.view.loc (thr d L) ↦{fullShare} (wr : Buf (Elt F) (wtM.view.loc (thr d L)))

/-- Sixteen lanes read from 16 j on are weight `j`'s. -/
theorem wt_read (wr : S48.Idx → F .f32) (j : ℕ) (hj : j < 3) {inb} {hc : Shape.ShapeCasts S16 S16} :
    shapeCast S16 ((wtM.access (Rect.unit (s := S48) ![16 * j] S16.size inb)).read (Elt F) wr) hc = wtV wr j := by
  suffices e : ((wtM.access (Rect.unit (s := S48) ![16 * j] S16.size inb)).read (Elt F) wr : S16.Idx → F .f32) = wtV wr j by
    exact (congrArg (fun v : S16.Idx → F .f32 => shapeCast S16 v hc) e).trans (shapeCast_id _ _)
  funext i
  have hi : (i 0).val < 16 := (i 0).isLt
  show wr _ = wr _
  refine congrArg wr ?_
  funext a
  match a with
  | ⟨0, _⟩ => exact Fin.ext (by show 16 * j + 1 * (i 0).val = (16 * j + (i 0).val) % 48; omega)

abbrev bP (d : Dev nD) (L : grid0.Coords) (q : PosShare TreeShare) (b : S50000.Idx → BitVec 32) : sProp (MM F) :=
  bM.view.loc (thr d L) ↦{q} (b : Buf (Elt F) (bM.view.loc (thr d L)))
abbrev wP (d : Dev nD) (L : grid0.Coords) (q : PosShare TreeShare) (wr : S48.Idx → F .f32) : sProp (MM F) :=
  wM.view.loc (thr d L) ↦{q} (wr : Buf (Elt F) (wM.view.loc (thr d L)))
abbrev sem0 (d : Dev nD) (L : grid0.Coords) (s : DmaSems sig S_) : sProp (MM F) := semVal (thr d L, .dma s.sem) 0

/-- The segment numbers in. -/
theorem ids_in {q : PosShare TreeShare} {b : S50000.Idx → BitVec 32} {f0 : S50016.Idx → BitVec 32} {O : CellTallies nD τ sig (HIx 1)} {W : Waits sig (HIx 1)}
    {h1 h2 h3 h4 h5} {α : Type} {kk : Prog (TpuEff nD τ sig (Elt F) Λ₀ (.scVector (cV L) (jV L))) α} {Q : α → sProp (MM F)} {R : sProp (MM F)}
    (hk : iprop(idP d L (idsB b f0) ∗ (bP d L q b ∗ sem0 d L cc0_scoped0 ∗ OW d L O W ∗ R)) ⊢ WP d L kk Q) :
    iprop(idP d L f0 ∗ (bP d L q b ∗ sem0 d L cc0_scoped0 ∗ OW d L O W ∗ R)) ⊢
      WP d L (Prog.lift (.enqueueDma bM (.here idS) (.dma cc0_scoped0.sem) h1 h2 h3) >>= fun _ =>
        Prog.lift (.waitDma2 cc0_scoped0.sem bM idS h4 h5) >>= fun _ => kk) Q := by
  refine BIBase.Entails.trans (Q := iprop(((bM.view.loc (thr d L) ↦[bM.view.set]{q} (b : Buf (Elt F) (bM.view.loc (thr d L)))) ∗
    (idS.view.loc (thr d L) ↦[Finset.univ]{fullShare} (f0 : Buf (Elt F) (idS.view.loc (thr d L)))) ∗ semVal (thr d L, .dma cc0_scoped0.sem) 0) ∗ (OW d L O W ∗ R))) ?_ ?_
  · rw [show bM.view.set = Finset.univ from View.set_whole _]
    iintro ⟨H1, H2, H3, H4, H5⟩
    isplitr [H4 H5]
    · isplitl [H2]; · iexact H2
      isplitl [H1] <;> iassumption
    · isplitl [H4] <;> iassumption
  refine wp_seqR _ (dma_run _ rfl (by decide) (Finset.subset_univ _)) fun _ => ?_
  refine BIBase.Entails.trans (Laws.sep_assoc).2 ?_
  refine wp_seqR _ (wait_run rfl) fun _ => ?_
  refine BIBase.Entails.trans ?_ hk
  rw [ids_write, show bM.view.set = Finset.univ from View.set_whole _]
  iintro ⟨⟨⟨⟨H1, H2⟩, H3⟩, H4⟩, H5⟩
  isplitl [H1]; · iexact H1
  isplitl [H2]; · iexact H2
  isplitl [H3]; · iexact H3
  isplitl [H4] <;> iassumption

/-- The weights in. -/
theorem wts_in {q : PosShare TreeShare} {wr f1 : S48.Idx → F .f32} {O : CellTallies nD τ sig (HIx 1)} {W : Waits sig (HIx 1)}
    {h1 h2 h3 h4 h5} {α : Type} {kk : Prog (TpuEff nD τ sig (Elt F) Λ₀ (.scVector (cV L) (jV L))) α} {Q : α → sProp (MM F)} {R : sProp (MM F)}
    (hk : iprop(wtP d L wr ∗ (wP d L q wr ∗ sem0 d L cc0_scoped1 ∗ OW d L O W ∗ R)) ⊢ WP d L kk Q) :
    iprop(wtP d L f1 ∗ (wP d L q wr ∗ sem0 d L cc0_scoped1 ∗ OW d L O W ∗ R)) ⊢
      WP d L (Prog.lift (.enqueueDma wM (.here wtM) (.dma cc0_scoped1.sem) h1 h2 h3) >>= fun _ =>
        Prog.lift (.waitDma2 cc0_scoped1.sem wM wtM h4 h5) >>= fun _ => kk) Q := by
  refine BIBase.Entails.trans (Q := iprop(((wM.view.loc (thr d L) ↦[wM.view.set]{q} (wr : Buf (Elt F) (wM.view.loc (thr d L)))) ∗
    (wtM.view.loc (thr d L) ↦[Finset.univ]{fullShare} (f1 : Buf (Elt F) (wtM.view.loc (thr d L)))) ∗ semVal (thr d L, .dma cc0_scoped1.sem) 0) ∗ (OW d L O W ∗ R))) ?_ ?_
  · rw [show wM.view.set = Finset.univ from View.set_whole _]
    iintro ⟨H1, H2, H3, H4, H5⟩
    isplitr [H4 H5]
    · isplitl [H2]; · iexact H2
      isplitl [H1] <;> iassumption
    · isplitl [H4] <;> iassumption
  refine wp_seqR _ (dma_run _ rfl (by decide) (Finset.subset_univ _)) fun _ => ?_
  refine BIBase.Entails.trans (Laws.sep_assoc).2 ?_
  refine wp_seqR _ (wait_run rfl) fun _ => ?_
  refine BIBase.Entails.trans ?_ hk
  rw [wts_write, show wM.view.set = Finset.univ from View.set_whole _]
  iintro ⟨⟨⟨⟨H1, H2⟩, H3⟩, H4⟩, H5⟩
  isplitl [H1]; · iexact H1
  isplitl [H2]; · iexact H2
  isplitl [H3]; · iexact H3
  isplitl [H4] <;> iassumption

/-! ## The parts -/

/-- What a tile holds of its inputs once they are in. -/
abbrev Ins (d : Dev nD) (L : grid0.Coords) (qb qw : PosShare TreeShare) (b : S50000.Idx → BitVec 32) (wr : S48.Idx → F .f32)
    (O : CellTallies nD τ sig (HIx 1)) (W : Waits sig (HIx 1)) : sProp (MM F) :=
  iprop(bP d L qb b ∗ wP d L qw wr ∗ wtP d L wr ∗ sem0 d L cc0_scoped0 ∗ sem0 d L cc0_scoped1 ∗ OW d L O W)

/-- Two results of the prologue are equal if their three weights are. -/
theorem pack {v v' : BitVec 32} {a a' c c' e e' : V16 F} (ha : a = a') (hc : c = c') (he : e = e') :
    (⟨v, a, c, e, v', 0#32, 50000#32⟩ : Σ' (_ : BitVec 32) (_ : V16 F) (_ : V16 F) (_ : V16 F) (_ : BitVec 32) (_ : BitVec 32), BitVec 32)
      = ⟨v, a', c', e', v', 0#32, 50000#32⟩ := by
  subst ha hc he
  rfl

/-- The inputs' copies, the weights' registers and the first two searches. -/
theorem part45_run {qb qw : PosShare TreeShare} {b : S50000.Idx → BitVec 32} {wr f1 : S48.Idx → F .f32} {f0 : S50016.Idx → BitVec 32}
    {O : CellTallies nD τ sig (HIx 1)} {W : Waits sig (HIx 1)} {T : ℕ → BitVec 32} :
    iprop(idP d L f0 ∗ (bP d L qb b ∗ sem0 d L cc0_scoped0 ∗ OW d L O W ∗ (wtP d L f1 ∗ wP d L qw wr ∗ sem0 d L cc0_scoped1 ∗ sbP d L T))) ⊢
      WP d L (onBufs (k0_part45 L)) (fun r => iprop(
        ⌜r = ⟨g0W L, wtV wr 0, wtV wr 1, wtV wr 2, Scalar.addi (g0W L) 2#32, 0#32, 50000#32⟩⌝ ∗
        (idP d L (idsB b f0) ∗ sbP d L (tb b (g0 L) T 2) ∗ Ins d L qb qw b wr O W))) := by
  unfold onBufs
  rw [k0_part45_eq_skeleton]; unfold k0_part45_skel
  dsimp only
  refine ids_in ?_
  refine BIBase.Entails.trans (Q := iprop(wtP d L f1 ∗ (wP d L qw wr ∗ sem0 d L cc0_scoped1 ∗ OW d L O W ∗
    (idP d L (idsB b f0) ∗ sbP d L T ∗ bP d L qb b ∗ sem0 d L cc0_scoped0)))) ?_ ?_
  · iintro ⟨H1, H2, H3, H4, H5, H6, H7, H8⟩
    iframe
  refine wts_in ?_
  refine wp_ld (Finset.subset_univ _) ?_
  refine wp_ld (Finset.subset_univ _) ?_
  refine wp_ld (Finset.subset_univ _) ?_
  refine BIBase.Entails.trans (Q := iprop(idP d L (idsB b f0) ∗ sbP d L (tb b (g0 L) T 0) ∗ Ins d L qb qw b wr O W)) ?_ ?_
  · rw [tb_zero]
    unfold Ins
    iintro ⟨H1, H2, H3, H4, H5, H6, H7, H8⟩
    iframe
  refine srch b (idsB_ok b f0) 0 (g0W_add 0) rfl rfl fun _ _ => ?_
  rw [t2_eq]
  refine srch b (idsB_ok b f0) 1 (g0W_add 1) rfl rfl fun _ _ => ?_
  refine wp_done ?_
  refine pureR ?_
  exact pack (wt_read wr 0 (by decide)) (wt_read wr 1 (by decide)) (wt_read wr 2 (by decide))

/-- The next four searches. -/
theorem part46_run {b : S50000.Idx → BitVec 32} {f0 : S50016.Idx → BitVec 32} {T : ℕ → BitVec 32} {R : sProp (MM F)} :
    iprop(idP d L (idsB b f0) ∗ sbP d L (tb b (g0 L) T 2) ∗ R) ⊢
      WP d L (onBufs (k0_part46 (F := F) L) (g0W L) (Scalar.addi (g0W L) 2#32) 0#32 50000#32) (fun r => iprop(
        ⌜r = ⟨Scalar.addi (g0W L) 6#32, 0#32, 50000#32, 0#32, 1#32⟩⌝ ∗ (idP d L (idsB b f0) ∗ sbP d L (tb b (g0 L) T 6) ∗ R))) := by
  unfold onBufs
  rw [k0_part46_eq_skeleton]; unfold k0_part46_skel
  dsimp only
  rw [t3_eq]
  refine srch b (idsB_ok b f0) 2 (g0W_add 2) rfl rfl fun _ _ => ?_
  rw [t4_eq]
  refine srch b (idsB_ok b f0) 3 (g0W_add 3) rfl rfl fun _ _ => ?_
  rw [t5_eq]
  refine srch b (idsB_ok b f0) 4 (g0W_add 4) rfl rfl fun _ _ => ?_
  rw [t6_eq]
  refine srch b (idsB_ok b f0) 5 (g0W_add 5) rfl rfl fun _ _ => ?_
  exact wp_done (pureR rfl)

/-- Where the rows of a tile's graphs begin. -/
def SS (L : grid0.Coords) (b : S50000.Idx → BitVec 32) (j : ℕ) : ℕ := first b (g0 L + min j 8)

/-- A tile's nine bounds ascend and stay within the rows. -/
theorem SS_bounds (L : grid0.Coords) (b : S50000.Idx → BitVec 32) : Bounds (SS L b) where
  mono i j h hj := first_mono b (by omega) (by have := g0_lt (L := L); omega)
  le := first_le _ _

/-- After nine searches the table holds the tile's bounds. -/
theorem sbP_tb (b : S50000.Idx → BitVec 32) (T : ℕ → BitVec 32) :
    (sbP d L (tb b (g0 L) T 9) : sProp (MM F)) = sbP d L (fun j => w (SS L b j)) := by
  unfold sbP
  have e : sbC (tb b (g0 L) T 9) = sbC (fun j => w (SS L b j)) := by
    funext y
    have hy : (y 0).val < 9 := (y 0).isLt
    unfold sbC tb SS
    rw [if_pos hy]
    show _ = w (first b (g0 L + min (y 0).val 8))
    rw [show min (y 0).val 8 = (y 0).val by omega]
  rw [e]

/-- The last three, the accumulator's first contents, and the range of rows of the tile. -/
theorem part47_run {b : S50000.Idx → BitVec 32} {f0 : S50016.Idx → BitVec 32} {T : ℕ → BitVec 32} {A : ℕ → ℕ → V16 F} {R : sProp (MM F)} {α : Type}
    {G : (Σ' (v58 : Elt F .i32) (v60 : Elt F .i32) (_ : k0_chk10 v58 v60) (_ : BitVec 32) (_ : BitVec 32) (_ : BitVec 32), BitVec 32) → Prog (TpuEff nD τ sig (Elt F) Λ₀ (.scVector (cV L) (jV L))) α} {Q : α → sProp (MM F)}
    (hw : k0_chk10 (w (SS L b 0)) (w (SS L b 8)))
    (hk : iprop(accP d L (fun g k => if g < 8 ∧ k < 64 then ini g k else A g k) ∗ (sbP d L (fun j => w (SS L b j)) ∗ (idP d L (idsB b f0) ∗ R))) ⊢
      WP d L (G ⟨w (SS L b 0), w (SS L b 8), hw, 8#32, Scalar.divsi (w (SS L b 0)) 8#32,
          Scalar.extui (Scalar.cmpi .sgt (w (SS L b 0)) 0#32), Scalar.extui (Scalar.cmpi .slt (w (SS L b 0)) 0#32)⟩) Q) :
    iprop(idP d L (idsB b f0) ∗ sbP d L (tb b (g0 L) T 6) ∗ (accP d L A ∗ R)) ⊢
      WP d L (onBufs (k0_part47 (F := F) L) (g0W L) (Scalar.addi (g0W L) 6#32) 0#32 50000#32 0#32 1#32 >>= G) Q := by
  unfold onBufs
  rw [k0_part47_eq_skeleton]; unfold k0_part47_skel
  dsimp only
  rw [t7_eq]
  simp only [bind_assoc]
  refine srch b (idsB_ok b f0) 6 (g0W_add 6) rfl rfl fun _ _ => ?_
  rw [t8_eq]
  refine srch b (idsB_ok b f0) 7 (g0W_add 7) rfl rfl fun _ _ => ?_
  rw [t9_eq]
  refine srch b (idsB_ok b f0) 8 (g0W_add 8) rfl rfl fun _ _ => ?_
  refine BIBase.Entails.trans (Q := iprop(accP d L A ∗ (sbP d L (fun j => w (SS L b j)) ∗ (idP d L (idsB b f0) ∗ R)))) ?_ ?_
  · rw [sbP_tb]
    iintro ⟨H1, H2, H3, H4⟩
    iframe
  refine wp_seqR _ (t10_run A _ _ _ _ _ _) fun _ => ?_
  refine swap2 (wp_seq _ (ld_word 0 rfl) fun v58 => pureL fun e58 => wp_seq _ (ld_word 8 rfl) fun v60 => pureL fun e60 => swap2 ?_)
  subst e58 e60
  exact wp_asm hw hk

end Cert.Proof.Sc

end
-- ==== Proof.Epi.lean ====
/-
The epilogue: each register of the readout is formed from a sum and a maximum of the accumulator and
put back in the place of the sum.
-/
module

public import proofs.«01_k».proof.Proof.ChunkRun
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

/-- The accumulator once the graphs before `g`, and the first `k` registers of graph `g`, are read out. -/
def ep (A fin : ℕ → ℕ → V16 F) (g k : ℕ) : ℕ → ℕ → V16 F := fun g' k' =>
  if k' < 32 ∧ (g' < g ∨ g' = g ∧ k' < k) then fin g' k' else A g' k'

/-- What a register is replaced with. -/
def epFin (A : ℕ → ℕ → V16 F) (T : ℕ → BitVec 32) (w0 w1 w2 : V16 F) : ℕ → ℕ → V16 F := fun g k =>
  readV w0 w1 w2 (Scalar.subi (T (g + 1)) (T g)) (shapeCast S16 (up (A g k)) shapeCasts_S1x16_S16)
    (shapeCast S16 (up (A g (32 + k))) shapeCasts_S1x16_S16)

/-- Before anything is read out the accumulator is as it was. -/
theorem ep_start (A fin : ℕ → ℕ → V16 F) : ep A fin 0 0 = A := by
  funext g k
  unfold ep
  rw [if_neg (by omega)]

/-- A graph read out whole is the next one not yet begun. -/
theorem ep_next (A fin : ℕ → ℕ → V16 F) (g : ℕ) : ep A fin g 32 = ep A fin (g + 1) 0 := by
  funext g' k'
  unfold ep
  refine if_congr ?_ rfl rfl
  omega

/-- One more register read out. -/
theorem ep_upd (A fin : ℕ → ℕ → V16 F) (g k : ℕ) (hk : k < 32) : upd (ep A fin g k) g k (fin g k) = ep A fin g (k + 1) := by
  funext g' k'
  unfold upd ep
  by_cases h : g' = g ∧ k' = k
  · rw [if_pos h, if_pos (by omega), h.1, h.2]
  · rw [if_neg h]
    exact if_congr (by omega) rfl rfl

variable {A : ℕ → ℕ → V16 F} {T : ℕ → BitVec 32} {w0 w1 w2 : V16 F} {R : sProp (MM F)}

section
variable {fin : ℕ → ℕ → V16 F} {α β : Type}

/-- The load of a sum, and the load that precedes each store. -/
theorem ep_sum {g k : ℕ} {off : Fin 2 → ℕ} {inb} {hl : acM.view.LoadsAt (accR off inb).toLoadRect}
    {kk : (S1x16.Idx → F .f32) → Prog (TpuEff nD τ sig (Elt F) Λ₀ (.scVector (cV L) (jV L))) α}
    {G : α → Prog (TpuEff nD τ sig (Elt F) Λ₀ (.scVector (cV L) (jV L))) β}
    {Q : β → sProp (MM F)} (h : off = ![g, 16 * k])
    (hk : iprop(accP d L (ep A fin g k) ∗ R) ⊢ WP d L (kk (up (A g k)) >>= G) Q) :
    iprop(accP d L (ep A fin g k) ∗ R) ⊢ WP d L ((Prog.lift (.load acM (accR off inb).toLoadRect hl) >>= kk) >>= G) Q := by
  refine wp_assoc (ld_acc g k h ?_)
  unfold ep at hk ⊢
  rw [if_neg (by omega)]
  exact hk

/-- The load of a maximum. -/
theorem ep_max {g k : ℕ} {off : Fin 2 → ℕ} {inb} {hl : acM.view.LoadsAt (accR off inb).toLoadRect}
    {kk : (S1x16.Idx → F .f32) → Prog (TpuEff nD τ sig (Elt F) Λ₀ (.scVector (cV L) (jV L))) α}
    {G : α → Prog (TpuEff nD τ sig (Elt F) Λ₀ (.scVector (cV L) (jV L))) β}
    {Q : β → sProp (MM F)} (h : off = ![g, 16 * (32 + k)])
    (hk : iprop(accP d L (ep A fin g k) ∗ R) ⊢ WP d L (kk (up (A g (32 + k))) >>= G) Q) :
    iprop(accP d L (ep A fin g k) ∗ R) ⊢ WP d L ((Prog.lift (.load acM (accR off inb).toLoadRect hl) >>= kk) >>= G) Q := by
  refine wp_assoc (ld_acc g (32 + k) h ?_)
  unfold ep at hk ⊢
  rw [if_neg (by omega)]
  exact hk

/-- The store of a readout. -/
theorem ep_put {g k : ℕ} {off : Fin 2 → ℕ} {inb} {pay : S1x16.Idx → F .f32}
    {hx : (acM.access (accR off inb)).Stores Finset.univ} {hm : Finset.univ = Finset.univ ∨ ∀ a, (accR off inb).stride a = 1}
    {kk : PUnit → Prog (TpuEff nD τ sig (Elt F) Λ₀ (.scVector (cV L) (jV L))) α}
    {G : α → Prog (TpuEff nD τ sig (Elt F) Λ₀ (.scVector (cV L) (jV L))) β}
    {Q : β → sProp (MM F)} (h : off = ![g, 16 * k]) (hk32 : k < 32) (hp : pay = up (fin g k))
    (hk : iprop(accP d L (ep A fin g (k + 1)) ∗ R) ⊢ WP d L (kk ⟨⟩ >>= G) Q) :
    iprop(accP d L (ep A fin g k) ∗ R) ⊢ WP d L ((Prog.lift (.store acM (accR off inb) pay Finset.univ hx hm) >>= kk) >>= G) Q := by
  refine wp_assoc (st_acc g k (fin g k) h hp ?_)
  rw [ep_upd A fin g k hk32]
  exact hk

/-- The first word of the next graph's count. -/
theorem ep_word {g : ℕ} (j : ℕ) {off : Fin 1 → ℕ} {inb} {h1 : (sbR off inb).shape.numel = 1} {hp : EltTy.packing .i32 = 1}
    {kk : Elt F .i32 → Prog (TpuEff nD τ sig (Elt F) Λ₀ (.scVector (cV L) (jV L))) α}
    {G : α → Prog (TpuEff nD τ sig (Elt F) Λ₀ (.scVector (cV L) (jV L))) β}
    {Q : β → sProp (MM F)} (h : off = ![j]) (hk : iprop(accP d L (ep A fin (g + 1) 0) ∗ (sbP d L T ∗ R)) ⊢ WP d L (kk (T j) >>= G) Q) :
    iprop(accP d L (ep A fin g 32) ∗ (sbP d L T ∗ R)) ⊢ WP d L ((smemLoad sbM (sbR off inb) h1 hp >>= kk) >>= G) Q := by
  refine wp_assoc (swap2 (ld_sb j h (swap2 ?_)))
  rw [ep_next]
  exact hk

/-- The second. -/
theorem ep_word' {B : ℕ → ℕ → V16 F} (j : ℕ) {off : Fin 1 → ℕ} {inb} {h1 : (sbR off inb).shape.numel = 1} {hp : EltTy.packing .i32 = 1}
    {kk : Elt F .i32 → Prog (TpuEff nD τ sig (Elt F) Λ₀ (.scVector (cV L) (jV L))) α}
    {G : α → Prog (TpuEff nD τ sig (Elt F) Λ₀ (.scVector (cV L) (jV L))) β}
    {Q : β → sProp (MM F)} (h : off = ![j]) (hk : iprop(accP d L B ∗ (sbP d L T ∗ R)) ⊢ WP d L (kk (T j) >>= G) Q) :
    iprop(accP d L B ∗ (sbP d L T ∗ R)) ⊢ WP d L ((smemLoad sbM (sbR off inb) h1 hp >>= kk) >>= G) Q :=
  wp_assoc (swap2 (ld_sb j h (swap2 hk)))
end

end Cert.Proof.Sc

end
-- ==== Proof.Out.lean ====
/-
The copy of a tile's eight rows out, and what those rows hold.
-/
module

public import proofs.«01_k».proof.Proof.Prologue
public import proofs.«01_k».proof.Proof.Epi
public import proofs.«01_k».proof.Proof.ChunkRun
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

/-- The eight rows of the result that tile `L` writes. -/
abbrev oS (L : grid0.Coords) : Memref sig .scVector .hbm S8x512 .f32 :=
  oM.slice (Rect.unit (s := S256x512) (k0_off350 L) S8x512.size (k0_off350_inb L)) (fun _ => rfl)
/-- The columns of the accumulator the readout stands in. -/
abbrev aS : Memref sig .scVector .vmem S8x512 .f32 :=
  acM.slice (Rect.unit (s := S8x1024) ![0, 0] S8x512.size inb_S8x1024_S8x512_0_0) (fun _ => rfl)

/-- The tile's rows of the result, holding what `f` holds there. -/
abbrev oP (d : Dev nD) (L : grid0.Coords) (f : S256x512.Idx → F .f32) : sProp (MM F) :=
  (oS L).view.loc (thr d L) ↦[(oS L).view.set]{fullShare} (f : Buf (Elt F) ((oS L).view.loc (thr d L)))

/-- The copy out: issued, then awaited. -/
theorem out_run {A : ℕ → ℕ → V16 F} {fo : S256x512.Idx → F .f32} {O : CellTallies nD τ sig (HIx 1)} {W : Waits sig (HIx 1)}
    {h1 h2 h3 h4 h5} {R : sProp (MM F)} {Q : PUnit → sProp (MM F)}
    (hk : iprop(accP d L A ∗ (oP d L ((oS L).view.write (Elt F) fo (aS.view.read (Elt F) (accC A)) Finset.univ) ∗ sem0 d L cc0_scoped2 ∗ OW d L O W ∗ R)) ⊢
      Q ⟨⟩) :
    iprop(accP d L A ∗ (oP d L fo ∗ sem0 d L cc0_scoped2 ∗ OW d L O W ∗ R)) ⊢
      WP d L ((Prog.lift (.enqueueDma aS (.here (oS L)) (.dma cc0_scoped2.sem) h1 h2 h3) >>= fun _ => pure (⟨⟩ : PUnit)) >>= fun _ =>
        Prog.lift (.waitDma2 cc0_scoped2.sem aS (oS L) h4 h5) >>= fun _ => pure (⟨⟩ : PUnit)) Q := by
  have hs : iprop(accP d L A) ⊣⊢ iprop((aS.view.loc (thr d L) ↦[aS.view.set]{fullShare} (accC A : Buf (Elt F) (aS.view.loc (thr d L)))) ∗
      (aS.view.loc (thr d L) ↦[Finset.univ \ aS.view.set]{fullShare} (accC A : Buf (Elt F) (aS.view.loc (thr d L))))) :=
    pointsTo_split_subset (Finset.subset_univ _)
  obtain ⟨N, hN, h0⟩ : ∃ N, (oS L).view.dmaCredit = N ∧ 0 < N := ⟨aS.view.dmaCredit, rfl, by decide⟩
  refine wp_assoc ?_
  refine BIBase.Entails.trans (Q := iprop(((aS.view.loc (thr d L) ↦[aS.view.set]{fullShare} (accC A : Buf (Elt F) (aS.view.loc (thr d L)))) ∗
    oP d L fo ∗ semVal (thr d L, .dma cc0_scoped2.sem) 0) ∗ (OW d L O W ∗
      ((aS.view.loc (thr d L) ↦[Finset.univ \ aS.view.set]{fullShare} (accC A : Buf (Elt F) (aS.view.loc (thr d L)))) ∗ R)))) ?_ ?_
  · iintro ⟨H1, H2, H3, H4, H5⟩
    ihave ⟨H1, H6⟩ := hs.1 $$ H1
    isplitl [H1 H2 H3]
    · isplitl [H1]; · iexact H1
      isplitl [H2] <;> iassumption
    isplitl [H4]; · iexact H4
    isplitl [H6] <;> iassumption
  refine wp_seqR _ (dma_run N hN h0 (Finset.Subset.refl _)) fun _ => ?_
  refine wp_ret ?_
  refine BIBase.Entails.trans (Laws.sep_assoc).2 ?_
  refine wp_seqR _ (wait_run hN) fun _ => wp_done ?_
  refine BIBase.Entails.trans ?_ hk
  iintro ⟨⟨⟨⟨H1, H2⟩, H3⟩, H4⟩, H5, H6⟩
  isplitl [H2 H5]
  · iapply hs.2
    isplitl [H2] <;> iassumption
  isplitl [H1]; · iexact H1
  isplitl [H3]; · iexact H3
  isplitl [H4] <;> iassumption

/-- What is copied out is the kernel's result at the tile's rows. -/
theorem out_value (x : S50000x512.Idx → F .f32) (b : S50000.Idx → BitVec 32) (wr : S48.Idx → F .f32) (fo : S256x512.Idx → F .f32) (A : ℕ → ℕ → V16 F) :
    oP d L ((oS L).view.write (Elt F) fo (aS.view.read (Elt F) (accC (ep (accFin x (SS L b) A)
      (epFin (accFin x (SS L b) A) (fun j => w (SS L b j)) (wtV wr 0) (wtV wr 1) (wtV wr 2)) 7 32))) Finset.univ) =
    oP d L (outF x b wr) := by
  refine pointsTo_congr fun y hy => ?_
  obtain ⟨z, -, rfl⟩ := Finset.mem_map.1 hy
  refine (View.write_emb_of_mem _ _ (Finset.mem_univ z)).trans ?_
  have hz0 : (z 0).val < 8 := (z 0).isLt
  have hz1 : (z 1).val < 512 := (z 1).isLt
  have e0 : (((oS L).view.emb z : S256x512.Idx) 0).val = g0 L + (z 0).val := by
    show k0_off350 L 0 + 1 * (z 0).val = _
    rw [k0_off350_eq L]
    show 16 * (L 1).val + 8 * (L 0).val + 1 * (z 0).val = ((L 1).val * 2 + (L 0).val) * 8 + (z 0).val
    omega
  have e1 : (((oS L).view.emb z : S256x512.Idx) 1).val = (z 1).val := by
    show k0_off350 L 1 + 1 * (z 1).val = _
    rw [k0_off350_eq L]
    show 0 + 1 * (z 1).val = _
    omega
  have a0 : ((aS.view.emb z : S8x1024.Idx) 0).val = (z 0).val := by show 0 + 1 * (z 0).val = _; omega
  have a1 : ((aS.view.emb z : S8x1024.Idx) 1).val = (z 1).val := by show 0 + 1 * (z 1).val = _; omega
  have hsub : Scalar.subi (w (SS L b ((z 0).val + 1))) (w (SS L b (z 0).val)) = w (SS L b ((z 0).val + 1) - SS L b (z 0).val) := by
    refine Words.subi_w ?_
    exact (SS_bounds L b).mono _ _ (by omega) (by omega)
  have s0 : SS L b (z 0).val = first b (g0 L + (z 0).val) := by unfold SS; rw [Nat.min_eq_left (by omega)]
  have s1 : SS L b ((z 0).val + 1) = first b (g0 L + (z 0).val + 1) := by unfold SS; rw [Nat.min_eq_left (by omega)]; rfl
  rw [View.read_apply]
  unfold outF
  rw [e0, e1]
  simp only [cast_eq]
  unfold accC
  rw [a0, a1]
  unfold ep
  rw [if_pos (by omega)]
  unfold epFin
  rw [down_up, down_up, hsub, s0, s1]
  unfold accFin
  rw [if_pos (by omega), if_pos (by omega), if_pos (by omega), if_neg (by omega), s0, s1, Nat.add_sub_cancel_left]

end Cert.Proof.Sc

end
-- ==== Proof.Share.lean ====
/-
Cutting a memory among the tiles: a full share of the inputs into one share for each tile, the output
into its tiles' rows.
-/
module

public import proofs.«01_k».proof.Proof.Out
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

/-! ## Shares -/

/-- The share of participant `i` of `n + 1`: participant zero takes half, the others share the other half. -/
def cut : (n : ℕ) → PosShare TreeShare → Fin (n + 1) → PosShare TreeShare
  | 0, q => fun _ => q
  | n + 1, q => Fin.cons q.left (cut n q.right)

/-- A separating conjunction over `n + 1` places: the first, and the rest. -/
theorem bigSep_cons {M : Type} [URA M] {n : ℕ} (Φ : Fin (n + 1) → sProp M) :
    bigSep Finset.univ Φ = iprop(Φ 0 ∗ bigSep Finset.univ fun i : Fin n => Φ i.succ) := by
  rw [Fin.univ_succ, Finset.cons_eq_insert, SparseCore.bigSep_insert' (by simp [Fin.succ_ne_zero]), bigSep_map]
  rfl

/-- A read share cut into `n + 1` shares of the same contents. -/
theorem pointsTo_cut {ℓ : Loc nD τ sig} (I : Finset (Idx ℓ)) (f : Buf (Elt F) ℓ) (n : ℕ) (q : PosShare TreeShare) :
    (ℓ ↦[I]{q} f : sProp (MM F)) = bigSep Finset.univ fun i : Fin (n + 1) => ℓ ↦[I]{cut n q i} f := by
  induction n generalizing q with
  | zero => exact (bigSep_univ_of_subsingleton (0 : Fin 1) (Φ := fun i : Fin 1 => (ℓ ↦[I]{cut 0 q i} f : sProp (MM F)))).symm
  | succ n ih =>
    rw [bigSep_cons, BI.Entails.antisymm (pointsTo_share (PosShare.mem_left_op_right q)).1 (pointsTo_share (PosShare.mem_left_op_right q)).2, ih q.right]
    rfl

/-! ## Tiles -/

/-- The tile of core `c` and subcore `s`. -/
def tileOf (p : Fin 2 × Fin 16) : grid0.Coords := fun | 0 => p.1 | 1 => p.2 | ⟨_ + 2, h⟩ => absurd h (Nat.not_lt.2 (Nat.le_add_left _ _))

/-- The tiles in the order of the rows they write. -/
def order : Fin 2 × Fin 16 ≃ Fin (31 + 1) := (Equiv.prodComm _ _).trans (finProdFinEquiv (m := 16) (n := 2))

/-- The tile's share of each input. -/
def shareOf (p : Fin 2 × Fin 16) : PosShare TreeShare := cut 31 fullShare (order p)

/-- A whole array given to the 32 tiles as read shares. -/
theorem pointsTo_tiles {ℓ : Loc nD τ sig} (I : Finset (Idx ℓ)) (f : Buf (Elt F) ℓ) :
    (ℓ ↦[I]{fullShare} f : sProp (MM F)) = bigSep Finset.univ fun c : Fin 2 => bigSep Finset.univ fun s : Fin 16 => ℓ ↦[I]{shareOf (c, s)} f := by
  rw [pointsTo_cut I f 31 fullShare, bigSep_univ_equiv order, bigSep_univ_prod]
  rfl

/-! ## Rows of the output -/

/-- The elements of the output a tile writes. -/
abbrev rowsOf (p : Fin 2 × Fin 16) : Finset S256x512.Idx := (oS (tileOf p)).view.set

/-- A tile's rows of the result, by their number divided by eight. -/
theorem mem_rowsOf (p : Fin 2 × Fin 16) (y : S256x512.Idx) : y ∈ rowsOf p ↔ (y 0).val / 8 = p.2.val * 2 + p.1.val := by
  constructor
  · intro h
    obtain ⟨z, -, rfl⟩ := Finset.mem_map.1 h
    have hz : (z 0).val < 8 := (z 0).isLt
    have e : (((oS (tileOf p)).view.emb z : S256x512.Idx) 0).val = 16 * p.2.val + 8 * p.1.val + 1 * (z 0).val := by
      show k0_off350 (tileOf p) 0 + 1 * (z 0).val = _
      rw [k0_off350_eq (tileOf p)]
      rfl
    rw [e]
    omega
  · intro h
    have h1 : (y 1).val < 512 := (y 1).isLt
    refine Finset.mem_map.2 ⟨ix2 ⟨(y 0).val % 8, Nat.mod_lt _ (by decide)⟩ ⟨(y 1).val, h1⟩, Finset.mem_univ _, ?_⟩
    refine funext fun a => Fin.ext ?_
    match a with
    | 0 =>
      show k0_off350 (tileOf p) 0 + 1 * ((y 0).val % 8) = (y 0).val
      rw [k0_off350_eq (tileOf p)]
      show 16 * p.2.val + 8 * p.1.val + 1 * ((y 0).val % 8) = (y 0).val
      omega
    | 1 =>
      show k0_off350 (tileOf p) 1 + 1 * (y 1).val = (y 1).val
      rw [k0_off350_eq (tileOf p)]
      show 0 + 1 * (y 1).val = (y 1).val
      omega

/-- No row of the result belongs to two tiles. -/
theorem rows_disj : ∀ p ∈ (Finset.univ : Finset (Fin 2 × Fin 16)), ∀ p' ∈ (Finset.univ : Finset (Fin 2 × Fin 16)), p ≠ p' → Disjoint (rowsOf p) (rowsOf p') := by
  intro p _ p' _ hne
  refine Finset.disjoint_left.2 fun y hy hy' => hne ?_
  rw [mem_rowsOf] at hy hy'
  have h1 := p.1.isLt
  have h2 := p'.1.isLt
  exact Prod.ext (Fin.ext (by omega)) (Fin.ext (by omega))

/-- Every row of the result belongs to a tile. -/
theorem rows_cover : (Finset.univ : Finset (Fin 2 × Fin 16)).biUnion rowsOf = Finset.univ := by
  refine Finset.eq_univ_iff_forall.2 fun y => Finset.mem_biUnion.2 ?_
  have h0 : (y 0).val < 256 := (y 0).isLt
  refine ⟨(⟨(y 0).val / 8 % 2, Nat.mod_lt _ (by decide)⟩, ⟨(y 0).val / 16, by omega⟩), Finset.mem_univ _, ?_⟩
  rw [mem_rowsOf]
  show (y 0).val / 8 = (y 0).val / 16 * 2 + (y 0).val / 8 % 2
  omega

variable (d : Dev nD)

abbrev oLoc : Loc nD τ sig := (SparseCore.T d).loc main_v2

/-- The result given to the 32 tiles, each its own rows. -/
theorem pointsTo_rows (f : Buf (Elt F) (oLoc d)) :
    (oLoc d ↦{fullShare} f : sProp (MM F)) = bigSep Finset.univ fun c : Fin 2 => bigSep Finset.univ fun s : Fin 16 => oP d (tileOf (c, s)) f := by
  rw [show (Finset.univ : Finset (Idx (oLoc d))) = (Finset.univ : Finset (Fin 2 × Fin 16)).biUnion rowsOf from rows_cover.symm,
    pointsTo_biUnion Finset.univ (ℓ := oLoc d) rowsOf rows_disj, bigSep_univ_prod]

end Cert.Proof.Sc

end
-- ==== Proof.Own.lean ====
/-
What a tile is given and gives back, in the form its program uses it: its scratch memories and
semaphores one by one, its share of the rows in three, its ring in slots.
-/
module

public import proofs.«01_k».proof.Proof.Out
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

open Idealize.ShloMosaic.SparseCore.Cfg (ownBufs ownSems0 ownCells ownRefs mem_ownCells mem_ownRefs)

/-! ## Semaphores -/

/-- The semaphores the tile's program uses. -/
def semSet : Finset (SemLoc sig) :=
  {SemLoc.dma (semOf 0), SemLoc.dma (semOf 1), SemLoc.dma (semOf 2), SemLoc.dma cc0_scoped0.sem, SemLoc.dma cc0_scoped1.sem, SemLoc.dma cc0_scoped2.sem}

def atThr (t : Thread nD τ) : SemLoc sig ↪ GSem nD τ sig := ⟨fun s => (t, s), fun _ _ h => (Prod.mk.inj h).2⟩

abbrev otherSems (d : Dev nD) (L : grid0.Coords) : sProp (MM F) :=
  bigSep (ownCells (thr d L) \ semSet.map (atThr (thr d L))) fun g => semVal g 0

/-- A tile's semaphores: the three of the ring, the three of the plain copies, the others. -/
theorem ownSems_eq : (ownSems0 (thr d L) : sProp (MM F)) =
    iprop((semVal (thr d L, .dma (semOf 0)) 0 ∗ semVal (thr d L, .dma (semOf 1)) 0 ∗ semVal (thr d L, .dma (semOf 2)) 0 ∗
      sem0 d L cc0_scoped0 ∗ sem0 d L cc0_scoped1 ∗ sem0 d L cc0_scoped2) ∗ otherSems d L) := by
  unfold SparseCore.Cfg.ownSems0
  have hs : ∀ s ∈ semSet, (s : SemLoc sig).isScoped .scVector = true := by decide
  rw [SparseCore.bigSep_sdiff_split' (t := semSet.map (atThr (thr d L))) (fun g hg => by
    obtain ⟨s, hm, rfl⟩ := Finset.mem_map.1 hg
    exact mem_ownCells.mpr ⟨rfl, hs s hm⟩)]
  rw [bigSep_map]
  unfold semSet
  rw [SparseCore.bigSep_insert' (by decide), SparseCore.bigSep_insert' (by decide), SparseCore.bigSep_insert' (by decide),
    SparseCore.bigSep_insert' (by decide), SparseCore.bigSep_insert' (by decide), bigSep_singleton]
  rfl

/-! ## Scratch memories -/

def refSet : Finset (Ref sig .scVector) := {cc0_scratch0, cc0_scratch1, cc0_scratch2, cc0_scratch3, cc0_scratch4}

def refAt (L : grid0.Coords) : Ref sig .scVector ↪ DevRef τ sig := ⟨(Proc.scVector (cV L) (jV L)).devRef, Proc.devRef_injective _⟩

abbrev otherBufs (d : Dev nD) (L : grid0.Coords) : sProp (MM F) :=
  bigSep (ownRefs (τ := τ) (.scVector (cV L) (jV L)) \ refSet.map (refAt L)) fun b => iprop(∃ f, ((d, b) : Loc nD τ sig) ↦{fullShare} f)

/-- A tile's buffers: the five that the kernel uses, and the others. -/
theorem ownBufs_eq : (ownBufs (thr d L) : sProp (MM F)) =
    iprop(((∃ f, idM.view.loc (thr d L) ↦{fullShare} f) ∗ (∃ f, chM.view.loc (thr d L) ↦{fullShare} f) ∗ (∃ f, acM.view.loc (thr d L) ↦{fullShare} f) ∗
      (∃ f, wtM.view.loc (thr d L) ↦{fullShare} f) ∗ (∃ f, sbM.view.loc (thr d L) ↦{fullShare} f)) ∗ otherBufs d L) := by
  unfold SparseCore.Cfg.ownBufs
  have ho : ∀ r ∈ refSet, ((Proc.scVector (cV L) (jV L)).devRef r).owner.home = Proc.scVector (cV L) (jV L) := by
    intro r hr
    unfold refSet at hr
    simp only [Finset.mem_insert, Finset.mem_singleton] at hr
    rcases hr with rfl | rfl | rfl | rfl | rfl <;> rfl
  rw [SparseCore.bigSep_sdiff_split' (t := refSet.map (refAt L)) (fun g hg => by
    obtain ⟨r, hm, rfl⟩ := Finset.mem_map.1 hg
    exact mem_ownRefs.mpr (ho r hm))]
  rw [bigSep_map]
  unfold refSet
  rw [SparseCore.bigSep_insert' (by decide), SparseCore.bigSep_insert' (by decide), SparseCore.bigSep_insert' (by decide),
    SparseCore.bigSep_insert' (by decide), bigSep_singleton]
  rfl

/-! ## What a scratch memory holds at the start -/

/-- Any contents of the accumulator are a table of registers. -/
theorem acc_of (f : S8x1024.Idx → F .f32) : ∃ A, f = accC A := by
  refine ⟨fun g k i => f (ix2 ⟨g % 8, Nat.mod_lt _ (by decide)⟩ ⟨(16 * k + (i 0).val) % 1024, Nat.mod_lt _ (by decide)⟩), funext fun y => ?_⟩
  have h0 : (y 0).val < 8 := (y 0).isLt
  have h1 : (y 1).val < 1024 := (y 1).isLt
  unfold accC
  refine congrArg f ((eq_ix2 y).trans ?_)
  congr 1
  · exact Fin.ext (by show (y 0).val = (y 0).val % 8; omega)
  · exact Fin.ext (by show (y 1).val = (16 * ((y 1).val / 16) + (y 1).val % 16) % 1024; omega)

/-- Any contents of the bounds' buffer are a table of words. -/
theorem sb_of (f : S9.Idx → BitVec 32) : ∃ T, f = sbC T := by
  refine ⟨fun j => f (ix1 ⟨j % 9, Nat.mod_lt _ (by decide)⟩), funext fun y => ?_⟩
  have h0 : (y 0).val < 9 := (y 0).isLt
  unfold sbC
  refine congrArg f ((eq_ix1 y).trans ?_)
  exact congrArg ix1 (Fin.ext (by show (y 0).val = (y 0).val % 9; omega))

/-! ## The ring -/

/-- Two slots have nothing in common. -/
theorem slot_disj {s s' : ℕ} (h : s ≠ s') : Disjoint (slotSet s) (slotSet s') :=
  Finset.disjoint_left.2 fun y hy hy' => h ((Finset.mem_filter.1 hy).2.symm.trans (Finset.mem_filter.1 hy').2)

/-- The three slots are the whole ring. -/
theorem slot_cover : slotSet 0 ∪ (slotSet 1 ∪ slotSet 2) = Finset.univ := by
  ext y
  have h0 : (y 0).val < 3 := (y 0).isLt
  have hm : ∀ s, y ∈ slotSet s ↔ (y 0).val = s := fun s => by unfold slotSet; simp
  simp only [Finset.mem_union, hm, Finset.mem_univ, iff_true]
  omega

/-- The first slot has nothing in common with the other two. -/
theorem slot_disj' : Disjoint (slotSet 0) (slotSet 1 ∪ slotSet 2) :=
  Finset.disjoint_union_right.2 ⟨slot_disj (by decide), slot_disj (by decide)⟩

abbrev slotP (d : Dev nD) (L : grid0.Coords) (s : ℕ) : sProp (MM F) :=
  iprop(∃ f, chM.view.loc (thr d L) ↦[(slotSet s : Finset (Idx (chM.view.loc (thr d L))))]{fullShare} f)

/-- The ring taken apart into its slots. -/
theorem slots_of : (iprop(∃ f, chM.view.loc (thr d L) ↦{fullShare} f) : sProp (MM F)) ⊢ iprop(slotP d L 0 ∗ slotP d L 1 ∗ slotP d L 2) := by
  iintro ⟨%f, H⟩
  rw [show (Finset.univ : Finset (Idx (chM.view.loc (thr d L)))) = slotSet 0 ∪ (slotSet 1 ∪ slotSet 2) from slot_cover.symm]
  ihave ⟨H1, H2⟩ := (pointsTo_union slot_disj').1 $$ H
  ihave ⟨H2, H3⟩ := (pointsTo_union (slot_disj (s := 1) (s' := 2) (by decide))).1 $$ H2
  isplitl [H1]; · iexists f; iexact H1
  isplitl [H2]; · iexists f; iexact H2
  iexists f; iexact H3

/-- The slots put together to the ring. -/
theorem slots_to : iprop(slotP d L 0 ∗ slotP d L 1 ∗ slotP d L 2) ⊢ (iprop(∃ f, chM.view.loc (thr d L) ↦{fullShare} f) : sProp (MM F)) := by
  iintro ⟨⟨%f, H1⟩, ⟨%g, H2⟩, %h, H3⟩
  ihave H2 := (pointsTo_join (Val := Elt F) (ℓ := chM.view.loc (thr d L)) (I := (slotSet 1 : Finset (Idx (chM.view.loc (thr d L))))) (slot_disj (s := 1) (s' := 2) (by decide))) $$ [H2 H3]; · isplitl [H2] <;> iassumption
  ihave H := (pointsTo_join (Val := Elt F) (ℓ := chM.view.loc (thr d L)) (I := (slotSet 0 : Finset (Idx (chM.view.loc (thr d L))))) slot_disj') $$ [H1 H2]; · isplitl [H1] <;> iassumption
  rw [show (Finset.univ : Finset (Idx (chM.view.loc (thr d L)))) = slotSet 0 ∪ (slotSet 1 ∪ slotSet 2) from slot_cover.symm]
  iexists _; iexact H

/-- A share of the rows, by the three slots that read them. -/
theorem rows_pieces {x : S50000x512.Idx → F .f32} {q : PosShare TreeShare} :
    xP d L x q ⊣⊢ iprop(xP d L x (piece q 0) ∗ xP d L x (piece q 1) ∗ xP d L x (piece q 2)) := by
  have h1 := pointsTo_share (Val := Elt F) (ℓ := xM.view.loc (thr d L)) (I := Finset.univ) (f := (x : Buf (Elt F) (xM.view.loc (thr d L)))) (PosShare.mem_left_op_right q)
    (Ix := HIx 1) (Name := ℕ) (U := UU) (Lvl := ℕ)
  have h2 := pointsTo_share (Val := Elt F) (ℓ := xM.view.loc (thr d L)) (I := Finset.univ) (f := (x : Buf (Elt F) (xM.view.loc (thr d L)))) (PosShare.mem_left_op_right q.right)
    (Ix := HIx 1) (Name := ℕ) (U := UU) (Lvl := ℕ)
  rw [show piece q 0 = q.left from rfl, show piece q 1 = q.right.left from rfl, show piece q 2 = q.right.right from rfl]
  constructor
  · iintro H
    ihave ⟨H1, H2⟩ := h1.1 $$ H
    ihave ⟨H2, H3⟩ := h2.1 $$ H2
    isplitl [H1]; · iexact H1
    isplitl [H2] <;> iassumption
  · iintro ⟨H1, H2, H3⟩
    iapply h1.2
    isplitl [H1]; · iexact H1
    iapply h2.2
    isplitl [H2] <;> iassumption

/-- The ring with nothing on its way, from the tile's share of the rows, its memory and its semaphores; and back. -/
theorem rest_of {x : S50000x512.Idx → F .f32} {q : PosShare TreeShare} :
    iprop(xP d L x q ∗ (∃ f, chM.view.loc (thr d L) ↦{fullShare} f) ∗
      (semVal (thr d L, .dma (semOf 0)) 0 ∗ semVal (thr d L, .dma (semOf 1)) 0 ∗ semVal (thr d L, .dma (semOf 2)) 0)) ⊢ Rest d L x q := by
  iintro ⟨Hx, Hc, S0, S1, S2⟩
  ihave ⟨X0, X1, X2⟩ := rows_pieces.1 $$ Hx
  ihave ⟨C0, C1, C2⟩ := slots_of $$ Hc
  isplitl [X0 C0 S0]
  · isplitl [C0]; · iexact C0
    isplitl [X0] <;> iassumption
  isplitl [X1 C1 S1]
  · isplitl [C1]; · iexact C1
    isplitl [X1] <;> iassumption
  · isplitl [C2]; · iexact C2
    isplitl [X2] <;> iassumption

/-- The ring at rest gives back its buffer, its semaphores and the share of the rows. -/
theorem rest_to {x : S50000x512.Idx → F .f32} {q : PosShare TreeShare} :
    Rest d L x q ⊢ iprop(xP d L x q ∗ (∃ f, chM.view.loc (thr d L) ↦{fullShare} f) ∗
      (semVal (thr d L, .dma (semOf 0)) 0 ∗ semVal (thr d L, .dma (semOf 1)) 0 ∗ semVal (thr d L, .dma (semOf 2)) 0)) := by
  iintro ⟨⟨C0, X0, S0⟩, ⟨C1, X1, S1⟩, C2, X2, S2⟩
  isplitl [X0 X1 X2]
  · iapply rows_pieces.2
    isplitl [X0]; · iexact X0
    isplitl [X1] <;> iassumption
  isplitl [C0 C1 C2]
  · iapply slots_to
    isplitl [C0]; · iexact C0
    isplitl [C1] <;> iassumption
  isplitl [S0]; · iexact S0
  isplitl [S1] <;> iassumption

end Cert.Proof.Sc

end
-- ==== Proof.HalfOne.lean ====
/-
The first of the two runs of a tile: everything up to the readout of the fifth graph and the first two
registers of the sixth.
-/
module

public import proofs.«01_k».proof.Proof.Prologue
public import proofs.«01_k».proof.Proof.Epi
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

/-- A step whose result is known, and what follows it. -/
theorem wp_step {α β : Type} {p : Prog (TpuEff nD τ sig (Elt F) Λ₀ (.scVector (cV L) (jV L))) α}
    {k : α → Prog (TpuEff nD τ sig (Elt F) Λ₀ (.scVector (cV L) (jV L))) β}
    {r₀ : α} {X Y : sProp (MM F)} {Q : β → sProp (MM F)} (hp : X ⊢ WP d L p (fun r => iprop(⌜r = r₀⌝ ∗ Y)))
    (hk : Y ⊢ WP d L (k r₀) Q) : X ⊢ WP d L (p >>= k) Q :=
  wp_seq _ hp fun _ => pureL fun hr => hr ▸ hk

/-- The same beside what the step does not touch. -/
theorem wp_stepR {α β : Type} {p : Prog (TpuEff nD τ sig (Elt F) Λ₀ (.scVector (cV L) (jV L))) α}
    {k : α → Prog (TpuEff nD τ sig (Elt F) Λ₀ (.scVector (cV L) (jV L))) β}
    {r₀ r₁ : α} {X Y R : sProp (MM F)} {Q : β → sProp (MM F)} (he : r₀ = r₁) (hp : X ⊢ WP d L p (fun r => iprop(⌜r = r₀⌝ ∗ Y)))
    (hk : iprop(Y ∗ R) ⊢ WP d L (k r₁) Q) : iprop(X ∗ R) ⊢ WP d L (p >>= k) Q :=
  wp_seqR _ hp fun _ => BIBase.Entails.trans (Laws.sep_assoc).1 (pureL fun hr => (hr.trans he) ▸ hk)

/-- Before the first chunk the accumulator holds zeros and minus infinities. -/
theorem accAt_start {S : ℕ → ℕ} (hS : Bounds S) (x : S50000x512.Idx → F .f32) (A : ℕ → ℕ → V16 F) :
    accAt x S (S 0) 0 A = fun g k => if g < 8 ∧ k < 64 then ini g k else A g k := by
  funext g j
  unfold accAt
  by_cases h : g < 8 ∧ j < 64
  · have e : done (S 0) 0 (S g) (S (g + 1)) = 0 := by
      have h2 := hS.mono 0 g (by omega) (by omega)
      have := a0_le (S 0)
      unfold done c0
      omega
    rw [if_pos h, if_pos h, e]
    rfl
  · rw [if_neg h, if_neg h]

attribute [local irreducible] SS first g0 tb in
set_option maxRecDepth 100000 in
set_option maxHeartbeats 8000000 in
/-- The first half of a tile: the copies in, the bounds, the start values, all of its chunks, and the readout of
five graphs and of two registers of the sixth. -/
theorem part137_run {qx qb qw : PosShare TreeShare} {x : S50000x512.Idx → F .f32} {b : S50000.Idx → BitVec 32} {wr f1 : S48.Idx → F .f32}
    {f0 : S50016.Idx → BitVec 32} {O : CellTallies nD τ sig (HIx 1)} {W : Waits sig (HIx 1)} {T : ℕ → BitVec 32} {A : ℕ → ℕ → V16 F} {α : Type}
    {T' : ℕ → BitVec 32} {A' : ℕ → ℕ → V16 F} {w0 w1 w2 : V16 F} {R : sProp (MM F)}
    (hT : T' = fun j => w (SS L b j)) (hA : A' = accFin x (SS L b) A) (h0 : w0 = wtV wr 0) (h1 : w1 = wtV wr 1) (h2 : w2 = wtV wr 2)
    (hw : k0_chk10 (w (SS L b 0)) (w (SS L b 8)))
    (hR : R = iprop(idP d L (idsB b f0) ∗ Rest d L x qx ∗ Ins d L qb qw b wr O W))
    {G : (Σ' (_ : BitVec 32) (_ : V16 F) (_ : V16 F) (_ : V16 F) (_ : V16 F) (_ : V16 F) (_ : V16 F), BitVec 32) →
      Prog (TpuEff nD τ sig (Elt F) Λ₀ (.scVector (cV L) (jV L))) α} {Q : α → sProp (MM F)}
    (h : iprop(accP d L (ep A' (epFin A' T' w0 w1 w2) 5 2) ∗ (sbP d L T' ∗ R)) ⊢ WP d L
      (G ⟨g0W L, w0, w1, w2, k0_pay720 w0 w2 (k0_pay719 (T' 6) (T' 5)), k0_pay721 w1 (Scalar.subi (T' 6) (T' 5)),
        addf (mulf (k0_pay720 w0 w2 (k0_pay719 (T' 6) (T' 5))) (shapeCast S16 (up (A' 5 2)) shapeCasts_S1x16_S16))
          (mulf (k0_pay721 w1 (Scalar.subi (T' 6) (T' 5))) (shapeCast S16 (up (A' 5 34)) shapeCasts_S1x16_S16)), 5#32⟩) Q) :
    iprop(idP d L f0 ∗ (bP d L qb b ∗ sem0 d L cc0_scoped0 ∗ OW d L O W ∗ (wtP d L f1 ∗ wP d L qw wr ∗ sem0 d L cc0_scoped1 ∗ sbP d L T)) ∗
        (accP d L A ∗ Rest d L x qx)) ⊢
      WP d L (onBufs (k0_part137 L) >>= G) Q := by
  unfold onBufs
  rw [k0_part137_eq_skeleton]; unfold k0_part137_skel
  refine wp_assoc ?_
  refine BIBase.Entails.trans (Laws.sep_assoc).2 ?_
  refine wp_stepR rfl part45_run ?_
  dsimp only
  refine wp_assoc ?_
  refine BIBase.Entails.trans (Q := iprop(idP d L (idsB b f0) ∗ sbP d L (tb b (g0 L) T 2) ∗ (accP d L A ∗ (Rest d L x qx ∗ Ins d L qb qw b wr O W)))) ?_ ?_
  · iintro ⟨⟨H1, H2, H3⟩, H4, H5⟩
    isplitl [H1]; · iexact H1
    isplitl [H2]; · iexact H2
    isplitl [H4]; · iexact H4
    isplitl [H5] <;> iassumption
  refine wp_step part46_run ?_
  dsimp only
  refine wp_assoc ?_
  refine part47_run hw ?_
  dsimp only
  refine wp_assoc ?_
  refine BIBase.Entails.trans (Q := iprop((Rest d L x qx ∗ (OW d L O W ∗ (accP d L (accAt x (SS L b) (SS L b 0) 0 A) ∗ sbP d L (fun j => w (SS L b j))))) ∗
    (idP d L (idsB b f0) ∗ bP d L qb b ∗ wP d L qw wr ∗ wtP d L wr ∗ sem0 d L cc0_scoped0 ∗ sem0 d L cc0_scoped1))) ?_ ?_
  · rw [accAt_start (SS_bounds L b) x A]
    iintro ⟨H1, H2, H3, H4, H5, H6, H7, H8, H9, H10⟩
    isplitl [H1 H2 H4 H10]
    · isplitl [H4]; · iexact H4
      isplitl [H10]; · iexact H10
      isplitl [H1] <;> iassumption
    isplitl [H3]; · iexact H3
    isplitl [H5]; · iexact H5
    isplitl [H6]; · iexact H6
    isplitl [H7]; · iexact H7
    isplitl [H8] <;> iassumption
  refine wp_stepR (r₁ := ⟨Scalar.subi (T' 1) (T' 0), k0_pay719 (T' 1) (T' 0)⟩) (by rw [hT]) (part48_run (SS_bounds L b)) ?_
  dsimp only
  refine BIBase.Entails.trans (Q := iprop(accP d L (ep A' (epFin A' T' w0 w1 w2) 0 0) ∗ (sbP d L T' ∗ R))) ?_ ?_
  · rw [ep_start, hT, hA, hR]
    iintro ⟨⟨H4, H10, H1, H2⟩, H3, H5, H6, H7, H8, H9⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9] <;> iassumption
  rw [← h0, ← h1, ← h2]
  clear hT hA h0 h1 h2 hR hw
  simp only [k0_part49_eq_skeleton, k0_part50_eq_skeleton, k0_part51_eq_skeleton, k0_part52_eq_skeleton, k0_part53_eq_skeleton, k0_part54_eq_skeleton,
    k0_part55_eq_skeleton, k0_part56_eq_skeleton, k0_part57_eq_skeleton, k0_part58_eq_skeleton, k0_part59_eq_skeleton, k0_part60_eq_skeleton,
    k0_part61_eq_skeleton, k0_part62_eq_skeleton, k0_part63_eq_skeleton, k0_part64_eq_skeleton, k0_part65_eq_skeleton, k0_part66_eq_skeleton,
    k0_part67_eq_skeleton, k0_part68_eq_skeleton, k0_part69_eq_skeleton, k0_part70_eq_skeleton, k0_part71_eq_skeleton, k0_part72_eq_skeleton,
    k0_part73_eq_skeleton, k0_part74_eq_skeleton, k0_part75_eq_skeleton, k0_part76_eq_skeleton, k0_part77_eq_skeleton, k0_part78_eq_skeleton,
    k0_part79_eq_skeleton, k0_part80_eq_skeleton, k0_part81_eq_skeleton, k0_part82_eq_skeleton, k0_part83_eq_skeleton, k0_part84_eq_skeleton,
    k0_part85_eq_skeleton, k0_part86_eq_skeleton, k0_part87_eq_skeleton, k0_part88_eq_skeleton, k0_part89_eq_skeleton, k0_part90_eq_skeleton,
    k0_part91_eq_skeleton, k0_part92_eq_skeleton, k0_part93_eq_skeleton, k0_part94_eq_skeleton, k0_part95_eq_skeleton, k0_part96_eq_skeleton,
    k0_part97_eq_skeleton, k0_part98_eq_skeleton, k0_part99_eq_skeleton, k0_part100_eq_skeleton, k0_part101_eq_skeleton, k0_part102_eq_skeleton,
    k0_part103_eq_skeleton, k0_part104_eq_skeleton]
  iterate 5
    refine wp_assoc ?_
    refine ep_sum rfl (ep_max rfl (ep_sum rfl (ep_put rfl (by decide) rfl ?_)))
    refine ep_sum rfl (ep_max rfl (ep_sum rfl (ep_put rfl (by decide) rfl ?_)))
    refine ep_sum rfl (ep_max rfl (wp_ret ?_))
    try dsimp only
    iterate 9
      refine wp_assoc ?_
      refine ep_sum rfl (ep_put rfl (by decide) rfl ?_)
      refine ep_sum rfl (ep_max rfl (ep_sum rfl (ep_put rfl (by decide) rfl ?_)))
      refine ep_sum rfl (ep_max rfl (ep_sum rfl (ep_put rfl (by decide) rfl ?_)))
      refine ep_sum rfl (ep_max rfl (wp_ret ?_))
      try dsimp only
    refine wp_assoc ?_
    refine ep_sum rfl (ep_put rfl (by decide) rfl ?_)
    refine ep_sum rfl (ep_max rfl (ep_sum rfl (ep_put rfl (by decide) rfl ?_)))
    refine ep_sum rfl (ep_max rfl (ep_sum rfl (ep_put rfl (by decide) rfl ?_)))
    refine ep_word _ rfl (ep_word' _ rfl (wp_ret ?_))
    try dsimp only
  refine wp_assoc ?_
  refine ep_sum rfl (ep_max rfl (ep_sum rfl (ep_put rfl (by decide) rfl ?_)))
  refine ep_sum rfl (ep_max rfl (ep_sum rfl (ep_put rfl (by decide) rfl ?_)))
  refine ep_sum rfl (ep_max rfl (wp_ret ?_))
  try dsimp only
  refine wp_ret ?_
  exact h

end Cert.Proof.Sc

end
-- ==== Proof.HalfTwo.lean ====
/-
The second of the two runs of a tile: the readout of the last three graphs and the copy out.
-/
module

public import proofs.«01_k».proof.Proof.HalfOne
public import proofs.«01_k».proof.Proof.Out
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

section
variable {qx qb qw : PosShare TreeShare} {x : S50000x512.Idx → F .f32} {b : S50000.Idx → BitVec 32} {wr f1 : S48.Idx → F .f32}
  {f0 : S50016.Idx → BitVec 32} {O : CellTallies nD τ sig (HIx 1)} {W : Waits sig (HIx 1)} {T : ℕ → BitVec 32} {A : ℕ → ℕ → V16 F}
  {T' : ℕ → BitVec 32} {A' : ℕ → ℕ → V16 F} {w0 w1 w2 : V16 F} {R : sProp (MM F)}

/-- The first run, as a step of the tile's program. -/
theorem part137_step (hT : T' = fun j => w (SS L b j)) (hA : A' = accFin x (SS L b) A) (h0 : w0 = wtV wr 0) (h1 : w1 = wtV wr 1) (h2 : w2 = wtV wr 2)
    (hw : k0_chk10 (w (SS L b 0)) (w (SS L b 8))) (hR : R = iprop(idP d L (idsB b f0) ∗ Rest d L x qx ∗ Ins d L qb qw b wr O W)) :
    iprop(idP d L f0 ∗ (bP d L qb b ∗ sem0 d L cc0_scoped0 ∗ OW d L O W ∗ (wtP d L f1 ∗ wP d L qw wr ∗ sem0 d L cc0_scoped1 ∗ sbP d L T)) ∗
        (accP d L A ∗ Rest d L x qx)) ⊢
      WP d L (onBufs (k0_part137 L)) (fun r => iprop(⌜r = ⟨g0W L, w0, w1, w2, k0_pay720 w0 w2 (k0_pay719 (T' 6) (T' 5)), k0_pay721 w1 (Scalar.subi (T' 6) (T' 5)),
        addf (mulf (k0_pay720 w0 w2 (k0_pay719 (T' 6) (T' 5))) (shapeCast S16 (up (A' 5 2)) shapeCasts_S1x16_S16))
          (mulf (k0_pay721 w1 (Scalar.subi (T' 6) (T' 5))) (shapeCast S16 (up (A' 5 34)) shapeCasts_S1x16_S16)), 5#32⟩⌝ ∗
        (accP d L (ep A' (epFin A' T' w0 w1 w2) 5 2) ∗ (sbP d L T' ∗ R)))) := by
  have e := bind_pure (onBufs (k0_part137 (F := F) L))
  rw [← e]
  refine part137_run hT hA h0 h1 h2 hw hR (wp_done ?_)
  iintro H
  isplitr [H]
  · ipureintro; rfl
  · iexact H

set_option maxRecDepth 100000 in
set_option maxHeartbeats 8000000 in
/-- The tile's program: its eight rows of the result are written, and everything it was given is still there. -/
theorem readout_run (hT : T' = fun j => w (SS L b j)) (hA : A' = accFin x (SS L b) A) (h0 : w0 = wtV wr 0) (h1 : w1 = wtV wr 1) (h2 : w2 = wtV wr 2)
    (hw : k0_chk10 (w (SS L b 0)) (w (SS L b 8))) {fo : S256x512.Idx → F .f32} {Q : PUnit → sProp (MM F)}
    (hQ : iprop(accP d L (ep A' (epFin A' T' w0 w1 w2) 7 32) ∗
        (oP d L ((oS L).view.write (Elt F) fo (aS.view.read (Elt F) (accC (ep A' (epFin A' T' w0 w1 w2) 7 32))) Finset.univ) ∗ sem0 d L cc0_scoped2 ∗
          OW d L O W ∗ (sbP d L T' ∗ idP d L (idsB b f0) ∗ Rest d L x qx ∗ bP d L qb b ∗ wP d L qw wr ∗ wtP d L wr ∗
            sem0 d L cc0_scoped0 ∗ sem0 d L cc0_scoped1))) ⊢ Q ⟨⟩) :
    iprop((idP d L f0 ∗ (bP d L qb b ∗ sem0 d L cc0_scoped0 ∗ OW d L O W ∗ (wtP d L f1 ∗ wP d L qw wr ∗ sem0 d L cc0_scoped1 ∗ sbP d L T)) ∗
        (accP d L A ∗ Rest d L x qx)) ∗ (oP d L fo ∗ sem0 d L cc0_scoped2)) ⊢
      WP d L (onBufs (cc0__sc_readout (F := F) L)) Q := by
  unfold onBufs
  rw [cc0__sc_readout_eq_skeleton]; unfold cc0__sc_readout_skel
  refine wp_stepR rfl (part137_step hT hA h0 h1 h2 hw rfl) ?_
  dsimp only
  refine BIBase.Entails.trans (Q := iprop(accP d L (ep A' (epFin A' T' w0 w1 w2) 5 2) ∗ (sbP d L T' ∗
    ((idP d L (idsB b f0) ∗ Rest d L x qx ∗ Ins d L qb qw b wr O W) ∗ (oP d L fo ∗ sem0 d L cc0_scoped2))))) ?_ ?_
  · iintro ⟨⟨H1, H2, H3⟩, H4⟩
    isplitl [H1]; · iexact H1
    isplitl [H2]; · iexact H2
    isplitl [H3] <;> iassumption
  clear hT hA h0 h1 h2 hw
  simp only [k0_part105_eq_skeleton, k0_part106_eq_skeleton, k0_part107_eq_skeleton, k0_part108_eq_skeleton, k0_part109_eq_skeleton,
    k0_part110_eq_skeleton, k0_part111_eq_skeleton, k0_part112_eq_skeleton, k0_part113_eq_skeleton, k0_part114_eq_skeleton, k0_part115_eq_skeleton,
    k0_part116_eq_skeleton, k0_part117_eq_skeleton, k0_part118_eq_skeleton, k0_part119_eq_skeleton, k0_part120_eq_skeleton, k0_part121_eq_skeleton,
    k0_part122_eq_skeleton, k0_part123_eq_skeleton, k0_part124_eq_skeleton, k0_part125_eq_skeleton, k0_part126_eq_skeleton, k0_part127_eq_skeleton,
    k0_part128_eq_skeleton, k0_part129_eq_skeleton, k0_part130_eq_skeleton, k0_part131_eq_skeleton, k0_part132_eq_skeleton, k0_part133_eq_skeleton,
    k0_part134_eq_skeleton, k0_part135_eq_skeleton, k0_part136_eq_skeleton]
  iterate 9
    refine ep_sum rfl (ep_put rfl (by decide) rfl ?_)
    refine ep_sum rfl (ep_max rfl (ep_sum rfl (ep_put rfl (by decide) rfl ?_)))
    refine ep_sum rfl (ep_max rfl (ep_sum rfl (ep_put rfl (by decide) rfl ?_)))
    refine ep_sum rfl (ep_max rfl (wp_ret ?_))
    try dsimp only
  refine ep_sum rfl (ep_put rfl (by decide) rfl ?_)
  refine ep_sum rfl (ep_max rfl (ep_sum rfl (ep_put rfl (by decide) rfl ?_)))
  refine ep_sum rfl (ep_max rfl (ep_sum rfl (ep_put rfl (by decide) rfl ?_)))
  refine ep_word _ rfl (ep_word' _ rfl (wp_ret ?_))
  try dsimp only
  refine ep_sum rfl (ep_max rfl (ep_sum rfl (ep_put rfl (by decide) rfl ?_)))
  refine ep_sum rfl (ep_max rfl (ep_sum rfl (ep_put rfl (by decide) rfl ?_)))
  refine ep_sum rfl (ep_max rfl (wp_ret ?_))
  try dsimp only
  iterate 9
    refine ep_sum rfl (ep_put rfl (by decide) rfl ?_)
    refine ep_sum rfl (ep_max rfl (ep_sum rfl (ep_put rfl (by decide) rfl ?_)))
    refine ep_sum rfl (ep_max rfl (ep_sum rfl (ep_put rfl (by decide) rfl ?_)))
    refine ep_sum rfl (ep_max rfl (wp_ret ?_))
    try dsimp only
  refine ep_sum rfl (ep_put rfl (by decide) rfl ?_)
  refine ep_sum rfl (ep_max rfl (ep_sum rfl (ep_put rfl (by decide) rfl ?_)))
  refine ep_sum rfl (ep_max rfl (ep_sum rfl (ep_put rfl (by decide) rfl ?_)))
  refine ep_word _ rfl (ep_word' _ rfl (wp_ret ?_))
  try dsimp only
  refine ep_sum rfl (ep_max rfl (ep_sum rfl (ep_put rfl (by decide) rfl ?_)))
  refine ep_sum rfl (ep_max rfl (ep_sum rfl (ep_put rfl (by decide) rfl ?_)))
  refine ep_sum rfl (ep_max rfl (wp_ret ?_))
  try dsimp only
  iterate 9
    refine ep_sum rfl (ep_put rfl (by decide) rfl ?_)
    refine ep_sum rfl (ep_max rfl (ep_sum rfl (ep_put rfl (by decide) rfl ?_)))
    refine ep_sum rfl (ep_max rfl (ep_sum rfl (ep_put rfl (by decide) rfl ?_)))
    refine ep_sum rfl (ep_max rfl (wp_ret ?_))
    try dsimp only
  refine ep_sum rfl (ep_put rfl (by decide) rfl ?_)
  refine ep_sum rfl (ep_max rfl (ep_sum rfl (ep_put rfl (by decide) rfl ?_)))
  refine ep_sum rfl (ep_max rfl (ep_sum rfl (ep_put rfl (by decide) rfl ?_)))
  refine BIBase.Entails.trans (Q := iprop(accP d L (ep A' (epFin A' T' w0 w1 w2) 7 32) ∗ (oP d L fo ∗ sem0 d L cc0_scoped2 ∗
          OW d L O W ∗ (sbP d L T' ∗ idP d L (idsB b f0) ∗ Rest d L x qx ∗ bP d L qb b ∗ wP d L qw wr ∗ wtP d L wr ∗
            sem0 d L cc0_scoped0 ∗ sem0 d L cc0_scoped1)))) ?_ ?_
  · unfold Ins
    iintro ⟨H1, H2, ⟨H3, H4, H5, H6, H7, H8, H9, H10⟩, H11, H12⟩
    isplitl [H1]; · iexact H1
    isplitl [H11]; · iexact H11
    isplitl [H12]; · iexact H12
    isplitl [H10]; · iexact H10
    isplitl [H2]; · iexact H2
    isplitl [H3]; · iexact H3
    isplitl [H4]; · iexact H4
    isplitl [H5]; · iexact H5
    isplitl [H6]; · iexact H6
    isplitl [H7]; · iexact H7
    isplitl [H8] <;> iassumption
  exact out_run hQ

end

end Cert.Proof.Sc

end
-- ==== Proof.Tile.lean ====
/-
The tile's run as the launch asks for it: from its shares of the inputs, its rows of the output and
what it owns, its program ends with all of it back, and its rows of the output are the result.
-/
module

public import proofs.«01_k».proof.Proof.Own
public import proofs.«01_k».proof.Proof.HalfTwo
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

open Idealize.ShloMosaic.SparseCore.Cfg (ownBufs ownSems0)

variable {O : CellTallies nD τ sig (HIx 1)} {W : Waits sig (HIx 1)} {q : PosShare TreeShare}

/-- What the tile's program ends with. -/
abbrev tileEnd (d : Dev nD) (L : grid0.Coords) (q : PosShare TreeShare) (x : S50000x512.Idx → F .f32) (b : S50000.Idx → BitVec 32) (wr : S48.Idx → F .f32)
    (fo : S256x512.Idx → F .f32) (f0 : S50016.Idx → BitVec 32) (A : ℕ → ℕ → V16 F) (O : CellTallies nD τ sig (HIx 1)) (W : Waits sig (HIx 1)) : sProp (MM F) :=
  iprop(accP d L (ep (accFin x (SS L b) A) (epFin (accFin x (SS L b) A) (fun j => w (SS L b j)) (wtV wr 0) (wtV wr 1) (wtV wr 2)) 7 32) ∗
    (oP d L ((oS L).view.write (Elt F) fo (aS.view.read (Elt F) (accC (ep (accFin x (SS L b) A)
        (epFin (accFin x (SS L b) A) (fun j => w (SS L b j)) (wtV wr 0) (wtV wr 1) (wtV wr 2)) 7 32))) Finset.univ) ∗ sem0 d L cc0_scoped2 ∗
      OW d L O W ∗ (sbP d L (fun j => w (SS L b j)) ∗ idP d L (idsB b f0) ∗ Rest d L x q ∗ bP d L q b ∗ wP d L q wr ∗ wtP d L wr ∗
        sem0 d L cc0_scoped0 ∗ sem0 d L cc0_scoped1)))

attribute [local irreducible] SS first g0 tb accFin epFin ep outF in
/-- A tile's whole task: from its share of the operands to its eight rows of the result. -/
theorem tile_body (L : grid0.Coords) (x : S50000x512.Idx → F .f32) (b : S50000.Idx → BitVec 32) (wr : S48.Idx → F .f32) (fo : S256x512.Idx → F .f32)
    (hF : (K (F := F)).Facts) (hO : ∀ g, O g none = 0) :
    iprop(levAts (K (F := F)).L (K (F := F)).lev ∗ emp ∗ (xP d L x q ∗ bP d L q b ∗ wP d L q wr ∗ oP d L fo)
        ∗ scopedBufs (thr d L) ∗ scopedSems0 (thr d L) ∗ owes (thr d L) O W)
      ⊢ WP d L (onBufs (cc0__sc_readout (F := F) L)) fun _ => iprop((xP d L x q ∗ bP d L q b ∗ wP d L q wr ∗ oP d L (outF x b wr))
        ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems_eq, ownBufs_eq]
  iintro ⟨#Hlv, -, ⟨Hx, Hb, Hw, Ho⟩, ⟨⟨⟨%f0, Hid⟩, Hch, ⟨%fa, Hac⟩, ⟨%f1, Hwt⟩, %ft, Hsb⟩, Hbufs⟩, ⟨⟨H0, H1, H2, H3, H4, H5⟩, Hsems⟩, HO⟩
  ihave Hmw := (show levAts (K (F := F)).L (K (F := F)).lev ⊢ Transfers.MayWaits (thr d L) (default : HIx 1) O from
    (K (F := F)).mayWaits_none (thr := thr d L) hO) $$ Hlv
  obtain ⟨A, rfl⟩ := acc_of (F := F) fa
  obtain ⟨T, rfl⟩ := sb_of ft
  ihave HR := (rest_of (F := F) (d := d) (L := L) (x := x) (q := q)) $$ [Hx Hch H0 H1 H2]
  · isplitl [Hx]; · iexact Hx
    isplitl [Hch]; · iexact Hch
    isplitl [H0]; · iexact H0
    isplitl [H1] <;> iassumption
  have key := readout_run (F := F) (d := d) (L := L) (x := x) (b := b) (wr := wr) (A := A) (T := T) (f0 := f0) (f1 := f1) (qb := q) (qw := q) (qx := q) (O := O) (W := W)
    rfl rfl rfl rfl rfl (chk10 ((SS_bounds L b).mono 0 8 (by omega) (by omega)) (SS_bounds L b).le) (fo := fo) (Q := fun _ => tileEnd d L q x b wr fo f0 A O W) (Laws.entails_refl _)
  iapply (wp_wand_r _ _ _)
  isplitl [Hid Hb H3 HO Hwt Hw H4 Hsb Hac HR Ho H5]
  · iapply key
    isplitl [Hid Hb H3 HO Hwt Hw H4 Hsb Hac HR]
    · isplitl [Hid]; · iexact Hid
      isplitl [Hb H3 HO Hwt Hw H4 Hsb]
      · isplitl [Hb]; · iexact Hb
        isplitl [H3]; · iexact H3
        isplitl [HO]
        · isplitr; · iexact Hmw
          iexists W; isplitr
          · ipureintro; exact fun p hp => Or.inl hp
          · iexact HO
        isplitl [Hwt]; · iexact Hwt
        isplitl [Hw]; · iexact Hw
        isplitl [H4] <;> iassumption
      isplitl [Hac] <;> iassumption
    isplitl [Ho] <;> iassumption
  iintro %r ⟨Hac, Ho, H5, ⟨-, HO⟩, Hsb, Hid, HR, Hb, Hw, Hwt, H3, H4⟩
  ihave Ho := (Entails.of_eq (out_value x b wr fo A)) $$ Ho
  ihave ⟨Hx, Hch, H0, H1, H2⟩ := (rest_to (F := F) (d := d) (L := L) (x := x) (q := q)) $$ HR
  isplitl [Hx Hb Hw Ho]
  · isplitl [Hx]; · iexact Hx
    isplitl [Hb]; · iexact Hb
    isplitl [Hw] <;> iassumption
  isplitl [Hid Hch Hac Hwt Hsb Hbufs]
  · isplitl [Hid Hch Hac Hwt Hsb]
    · isplitl [Hid]; · iexists _; iexact Hid
      isplitl [Hch]; · iexact Hch
      isplitl [Hac]; · iexists _; iexact Hac
      isplitl [Hwt]; · iexists _; iexact Hwt
      iexists _; iexact Hsb
    · iexact Hbufs
  isplitl [H0 H1 H2 H3 H4 H5 Hsems]
  · isplitl [H0 H1 H2 H3 H4 H5]
    · isplitl [H0]; · iexact H0
      isplitl [H1]; · iexact H1
      isplitl [H2]; · iexact H2
      isplitl [H3]; · iexact H3
      isplitl [H4] <;> iassumption
    · iexact Hsems
  iexact HO

end Cert.Proof.Sc

end
-- ==== Proof.Launch.lean ====
/-
The launch: what the handshakes carry, the tiles' obligation, the program on the TensorCore, and the
run of the whole program.
-/
module

public import proofs.«01_k».proof.Proof.Share
public import proofs.«01_k».proof.Proof.Tile
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

open Idealize.ShloMosaic.StableHlo (held held_split held_sdiff_result wp_hlo_within)
open Idealize.ShloMosaic.SparseCore.Cfg (Pay)

/-- What the launch asks of the kernel's list of calls. -/
theorem launch_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MM F) := embL

variable (m : (ℓ : Loc nD τ sig) → Buf (Elt F) ℓ) (ρ : Dev nD → PrngReg) (d : Dev nD)

/-! ## The host's arrays -/

abbrev rX : DevRef τ sig := Proc.devRef .tc (main_arg0 : Ref sig .tc)
abbrev rB : DevRef τ sig := Proc.devRef .tc (main_arg1 : Ref sig .tc)
abbrev rW : DevRef τ sig := Proc.devRef .tc (main_arg2 : Ref sig .tc)
abbrev rS : DevRef τ sig := Proc.devRef .tc (main_v0 : Ref sig .tc)
abbrev rR : DevRef τ sig := Proc.devRef .tc (main_v1 : Ref sig .tc)
abbrev rO : DevRef τ sig := Proc.devRef .tc (main_v2 : Ref sig .tc)
abbrev hostSet : Finset (DevRef τ sig) := {rX, rB, rW, rS, rR, rO}

/-- Each weight spread over sixteen lanes; then the forty-eight in one row. -/
abbrev opSpread : HloOp τ sig (Elt F) :=
  StableHlo.unary main_arg2 main_v0 (broadcastInDim S3x16 ![0] bcast_S3_S3x16_0 : (⟨S3, .f32⟩ : BufTy).Contents (Elt F) → (⟨S3x16, .f32⟩ : BufTy).Contents (Elt F))
abbrev opRow : HloOp τ sig (Elt F) := StableHlo.reshape main_v0 main_v1 (rfl : (.f32 : EltTy) = .f32) shapeCasts_S3x16_S48

def V0 : Valuation τ sig (Elt F) := fun b => m (d, b)
def V1 : Valuation τ sig (Elt F) := (opSpread (F := F)).result (V0 m d)
def V2 : Valuation τ sig (Elt F) := (opRow (F := F)).result (V1 m d)

/-- The host code before the call changes only the two arrays that it writes. -/
theorem V2_keep {b : DevRef τ sig} (h1 : b ∉ ({rS} : Finset (DevRef τ sig))) (h2 : b ∉ ({rR} : Finset (DevRef τ sig))) : V2 m d b = m (d, b) :=
  ((opRow (F := F)).result_of_not_mem (V1 m d) h2).trans ((opSpread (F := F)).result_of_not_mem (V0 m d) h1)

/-- The rows, the segment numbers and the spread weights as the tiles read them. -/
def xOf : S50000x512.Idx → F .f32 := m (d, rX)
def bOf : S50000.Idx → BitVec 32 := m (d, rB)
def rOf : S48.Idx → F .f32 := V2 m d rR

abbrev lX : Loc nD τ sig := (SparseCore.T d).loc main_arg0
abbrev lB : Loc nD τ sig := (SparseCore.T d).loc main_arg1
abbrev lW : Loc nD τ sig := (SparseCore.T d).loc main_arg2
abbrev lS : Loc nD τ sig := (SparseCore.T d).loc main_v0
abbrev lR : Loc nD τ sig := (SparseCore.T d).loc main_v1

/-- The arrays that the host holds, one by one. -/
theorem held_host (W : Valuation τ sig (Elt F)) :
    (held (T d) hostSet W : sProp (MM F)) = iprop((lX d ↦{fullShare} W rX) ∗ (lB d ↦{fullShare} W rB) ∗ (lW d ↦{fullShare} W rW) ∗
      (lS d ↦{fullShare} W rS) ∗ (lR d ↦{fullShare} W rR) ∗ oLoc d ↦{fullShare} W rO) := by
  unfold held hostSet
  rw [SparseCore.bigSep_insert' (by decide), SparseCore.bigSep_insert' (by decide), SparseCore.bigSep_insert' (by decide),
    SparseCore.bigSep_insert' (by decide), SparseCore.bigSep_insert' (by decide), bigSep_singleton]

/-- At the start the host holds all of its arrays, with what memory holds. -/
theorem unscoped_host : (unscopedBufs d (fun b => m ((SparseCore.T d).loc b)) : sProp (MM F)) = held (T d) hostSet (V0 m d) := by
  rw [held_host]
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]
  rfl

/-! ## What the handshakes carry -/

/-- A tile's shares of the inputs and its rows of the output, these holding what `f` holds. -/
def tileP (p : Fin 2 × Fin 16) (f : S256x512.Idx → F .f32) : sProp (MM F) :=
  iprop(xP d (tileOf p) (xOf m d) (shareOf p) ∗ bP d (tileOf p) (shareOf p) (bOf m d) ∗ wP d (tileOf p) (shareOf p) (rOf m d) ∗ oP d (tileOf p) f)

/-- The sixteen tiles of a core. -/
def coreP (c : Fin 2) (f : S256x512.Idx → F .f32) : sProp (MM F) := bigSep Finset.univ fun s : Fin 16 => tileP m d (c, s) f

/-- The result, and what the output held before. -/
def resOf : S256x512.Idx → F .f32 := outF (xOf m d) (bOf m d) (rOf m d)
def oldOf : S256x512.Idx → F .f32 := m (d, rO)

instance tileP_storable (p : Fin 2 × Fin 16) (f : S256x512.Idx → F .f32) : BI.Storable (upEmb : UEmb _ (MM F)) (tileP m d p f) := by
  unfold tileP; infer_instance
instance coreP_storable (c : Fin 2) (f : S256x512.Idx → F .f32) : BI.Storable (upEmb : UEmb _ (MM F)) (coreP m d c f) := by
  unfold coreP; infer_instance

/-- Sixteen tiles of each core take part. -/
theorem nSub_eq : (K (F := F)).nSub 0 = 16 := rfl
/-- Two cores take part. -/
theorem nCore_eq : (K (F := F)).nCore 0 = 2 := rfl

def PP : (K (F := F)).Pay (nD := nD) (Val := Elt F) (Name := ℕ) (U := UU) where
  st := fun q d c => match q with | 0 => coreP m d (Fin.cast nCore_eq c) (oldOf m d)
  dn := fun q d c => match q with | 0 => coreP m d (Fin.cast nCore_eq c) (resOf m d)
  go := fun q d c i => match q with | 0 => tileP m d (Fin.cast nCore_eq c, Fin.cast nSub_eq i) (oldOf m d)
  td := fun q d c i => match q with | 0 => tileP m d (Fin.cast nCore_eq c, Fin.cast nSub_eq i) (resOf m d)
  x := fun _ _ => iprop(emp)

instance PP_storable : (PP (F := F) m).IsStorable where
  st q d c := match q with | 0 => coreP_storable m d (Fin.cast nCore_eq c) (oldOf m d)
  dn q d c := match q with | 0 => coreP_storable m d (Fin.cast nCore_eq c) (resOf m d)
  go q d c i := match q with | 0 => tileP_storable m d (Fin.cast nCore_eq c, Fin.cast nSub_eq i) (oldOf m d)
  td q d c i := match q with | 0 => tileP_storable m d (Fin.cast nCore_eq c, Fin.cast nSub_eq i) (resOf m d)

/-- What a core is handed is what its tiles are handed together, and likewise what comes back. -/
theorem vecSplit : (K (F := F)).VecSplit' (PP m) 0 := by
  intro d c
  show coreP m d (Fin.cast nCore_eq c) (oldOf m d) ⊢ |={Set.univ}=> iprop(coreP m d (Fin.cast nCore_eq c) (oldOf m d) ∗
    (coreP m d (Fin.cast nCore_eq c) (resOf m d) -∗ coreP m d (Fin.cast nCore_eq c) (resOf m d)))
  iintro H
  imodintro
  isplitl [H]; · iexact H
  iintro H
  iexact H

/-! ## The tiles' obligation -/

/-- A tile's task is the kernel's body at that tile. -/
theorem defs₀_tile (c : Fin τ.nSC) (s : Fin τ.nSub) :
    defs₀ (F := F) (.scVector c s) 0 () = SparseCore.onTile hcore0 hsub0 (fun c s => onBufs (cc0__sc_readout (F := F) (tileOf (c, s)))) ⟨⟩ c s := rfl

/-- A tile that waits on nothing new meets what the launch asks of its waits. -/
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile does its task: from its share of the operands to its rows of the result. -/
theorem tileObl : (K (F := F)).TileObl (D (F := F)) 𝒱 (PP m) v₀ 0 := by
  intro d c i O W hO _ _
  simp only [show (PP m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body (tileOf (Fin.cast nCore_eq c, Fin.cast nSub_eq i)) (xOf m d) (bOf m d) (rOf m d) (oldOf m d) launch_facts hO).trans
    (wp_mono frame _ _ fun _ => obl_post)

/-! ## The launch element -/

def u₀ : UU := (initOf (K (F := F)).hsCells (K (F := F)).hsToks, 1)

/-- The launch's ghost state splits as asked. -/
theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m).x q thr) := by
  have he : ∀ {I : Type} (s : Finset I), (bigSep s fun _ => iprop(emp)) = (iprop(emp) : sProp (MM F)) := fun s => bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [he]; iempintro
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), he]
  iempintro

/-! ## The program on the TensorCore -/

/-- The inputs and the output whole are what the tiles of both cores hold together. -/
theorem cores_eq (f : S256x512.Idx → F .f32) :
    (bigSep Finset.univ fun c : Fin 2 => coreP m d c f) =
      (iprop((lX d ↦{fullShare} (xOf m d : Buf (Elt F) (lX d))) ∗ (lB d ↦{fullShare} (bOf m d : Buf (Elt F) (lB d))) ∗
        (lR d ↦{fullShare} (rOf m d : Buf (Elt F) (lR d))) ∗ oLoc d ↦{fullShare} (f : Buf (Elt F) (oLoc d))) : sProp (MM F)) := by
  unfold coreP tileP
  simp only [bigSep_sep']
  rw [pointsTo_tiles, pointsTo_tiles, pointsTo_tiles, pointsTo_rows]

/-- The cores' operands, counted by the launch and counted to two, are the same. -/
theorem starts_eq (f : S256x512.Idx → F .f32) :
    (bigSep Finset.univ fun c : Fin ((K (F := F)).nCore 0) => coreP m d (Fin.cast nCore_eq c) f) = bigSep Finset.univ fun c : Fin 2 => coreP m d c f := rfl

/-- What the TensorCore's program leaves: the arguments as they were, and the result. -/
abbrev FIN : sProp (MM F) :=
  iprop((lX d ↦{fullShare} m (lX d)) ∗ (lB d ↦{fullShare} m (lB d)) ∗ (lW d ↦{fullShare} m (lW d)) ∗ oLoc d ↦{fullShare} (resOf m d : Buf (Elt F) (oLoc d)))

/-- Spreading the weights touches the host's arrays only. -/
theorem hSpread : (opSpread (F := F)).bufs ⊆ hostSet := show ({rW, rS} : Finset (DevRef τ sig)) ⊆ hostSet by decide
/-- Flattening the spread weights touches the host's arrays only. -/
theorem hRow : (opRow (F := F)).bufs ⊆ hostSet := show ({rS, rR} : Finset (DevRef τ sig)) ⊆ hostSet by decide

attribute [local irreducible] outF in
/-- The host's thread: it spreads the weights, runs the call and ends with the result in place. -/
theorem hmain (κ : GSem nD τ sig → ℕ) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_host]
  simp only [main, wp_bind, wp_pure]
  iintro ⟨#Hctx, Hst, ⟨Hb, Hheld, Hts, -⟩, -⟩
  iapply (wp_hlo_within 𝒱 (SparseCore.T d) none Set.univ (op := opSpread) (S := hostSet) hSpread (V := V0 m d)) $$ [Hb Hheld]
  · isplitl [Hb] <;> iassumption
  iintro ⟨Hb, Hheld⟩
  rw [Idealize.SL.Sem.wp_ret]; imodintro
  iapply (wp_hlo_within 𝒱 (SparseCore.T d) none Set.univ (op := opRow) (S := hostSet) hRow (V := V1 m d)) $$ [Hb Hheld]
  · isplitl [Hb]; · iexact Hb
    iapply (Entails.of_eq (show held (T d) hostSet ((opSpread (F := F)).result (V0 m d)) = held (T d) hostSet (V1 m d) from rfl)); iexact Hheld
  iintro ⟨Hb, Hheld⟩
  rw [Idealize.SL.Sem.wp_ret]; imodintro
  ihave Hh := (Entails.of_eq ((show held (T d) hostSet ((opRow (F := F)).result (V1 m d)) = held (T d) hostSet (V2 m d) from rfl).trans (held_host (F := F) d _))) $$ Hheld
  icases Hh with ⟨Hx, Hbt, Hw, -, Hr, Ho⟩
  rw [V2_keep m d (b := rX) (by decide) (by decide), V2_keep m d (b := rB) (by decide) (by decide), V2_keep m d (b := rW) (by decide) (by decide),
    V2_keep m d (b := rO) (by decide) (by decide)]
  iapply ((K (F := F)).wp_run (D (F := F)) 𝒱 (EH := EH) (P := PP m) κ d 0) $$ [Hst Hx Hbt Hw Hr Ho Hb Hts]
  isplitr; · iexact Hctx
  isplitl [Hst]; · iexact Hst
  isplitl [Hx Hbt Hr Ho]
  · iapply (Entails.of_eq ((cores_eq m d (oldOf m d)).symm.trans (starts_eq m d (oldOf m d)).symm))
    isplitl [Hx]; · iexact Hx
    isplitl [Hbt]; · iexact Hbt
    isplitl [Hr]; · iexact Hr
    iexact Ho
  iintro ⟨Hst, Hdn⟩
  ihave Hdn := (Entails.of_eq ((show (bigSep Finset.univ fun c : Fin ((K (F := F)).nCore 0) => (PP m).dn 0 d c) = _ from starts_eq m d (resOf m d)).trans (cores_eq m d (resOf m d)))) $$ Hdn
  icases Hdn with ⟨Hx, Hbt, -, Ho⟩
  imodintro
  isplitl [Hst]; · iexact Hst
  isplitr [Hb Hts]
  · isplitl [Hx]; · iexact Hx
    isplitl [Hbt]; · iexact Hbt
    isplitl [Hw] <;> iassumption
  isplitl [Hb] <;> iassumption

/-! ## The run -/

/-- What holds of memory at the end. -/
def fq (s' : Phys nD τ sig (Elt F)) : Prop :=
  s'.mem.mem (lX d) = m (lX d) ∧ s'.mem.mem (lB d) = m (lB d) ∧ s'.mem.mem (lW d) = m (lW d) ∧ s'.mem.mem (oLoc d) = (resOf m d : Buf (Elt F) (oLoc d))

set_option maxRecDepth 16384 in
/-- What the host holds at the end is what memory holds. -/
theorem hfin (s' : Phys nD τ sig (Elt F)) : iprop(FIN m d ∗ SI s') ⊢ (⌜fq m d s'⌝ : sProp (MM F)) := by
  iintro ⟨⟨Hx, Hb, Hw, Ho⟩, HSI⟩
  ihave H := (persistent_entails_right (SI_pointsTo_agree (st := s') (ℓ := lX d) (I := Finset.univ) (q := fullShare) (f := m (lX d)))) $$ [HSI Hx]
  · isplitl [HSI] <;> iassumption
  icases H with ⟨%h1, HSI, -⟩
  ihave H := (persistent_entails_right (SI_pointsTo_agree (st := s') (ℓ := lB d) (I := Finset.univ) (q := fullShare) (f := m (lB d)))) $$ [HSI Hb]
  · isplitl [HSI] <;> iassumption
  icases H with ⟨%h2, HSI, -⟩
  ihave H := (persistent_entails_right (SI_pointsTo_agree (st := s') (ℓ := lW d) (I := Finset.univ) (q := fullShare) (f := m (lW d)))) $$ [HSI Hw]
  · isplitl [HSI] <;> iassumption
  icases H with ⟨%h3, HSI, -⟩
  ihave H := (SI_pointsTo_agree (st := s') (ℓ := oLoc d) (I := Finset.univ) (q := fullShare) (f := (resOf m d : Buf (Elt F) (oLoc d)))) $$ [HSI Ho]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-- The whole program ends without fault, its arguments as they were, every semaphore at zero, the result in
    its output. -/
theorem run_main [∀ e, Nonempty (Elt F e)] :
    θ_run (Cert.KernelIdeal.defs (F := F)) (Cert.KernelIdeal.threads (F := F)) ⟨m, fun _ => 0, ρ⟩
      (fun r => (∀ d : Dev nD, r.2.mem (lX d) = m (lX d) ∧ r.2.mem (lB d) = m (lB d) ∧ r.2.mem (lW d) = m (lW d) ∧
        r.2.mem (oLoc d) = (resOf m d : Buf (Elt F) (oLoc d))) ∧ r.2.sem = fun _ => 0) :=
  SparseCore.Cfg.θ_run_sc_quiescent (K := K (F := F)) (D := D (F := F)) (𝒱 := 𝒱) (EH := EH) (P := PP m) (A := ∅) launch_facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (fun κ d => hmain m ρ d κ) (fq m) (hfin m) _ (fun _ h hz => ⟨h, hz⟩)

end Cert.Proof.Sc

end
-- ==== Proof.Frames.lean ====
/-
Every program runs to its end without fault and leaves its arguments as they were; the idealized
kernel names one constant.
-/
module

public import proofs.«01_k».proof.Proof.Launch
public import proofs.«01_k».proof.Proof.Gen.Kernel
public import proofs.«01_k».proof.Proof.Gen.ReferenceIdeal.Run
public import Idealize.ShloMosaic.Lib.ValueIdx

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words (w)

variable {F : FTy → Type} [FloatOps F] [Named F]
variable {d : Dev nD} {L : grid0.Coords}

/-! ## The idealized kernel -/

/-- The idealized kernel ends without fault, its arguments unchanged and its semaphores at zero. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (run_main (F := Ideal) m ρ)

/-! ## The kernel as written

It is the idealized kernel with its named constant read as the number written. -/

section
local instance written : Named Bits := ⟨fun _ _ {_} b => Scalar.ofBits _ b⟩

/-- The same run at the machine's floats. -/
theorem run_bits (m : (ℓ : Loc nD τ sig) → Buf (Elt Bits) ℓ) (ρ : Dev nD → PrngReg) :
    θ_run (Cert.KernelIdeal.defs (F := Bits)) (Cert.KernelIdeal.threads (F := Bits)) ⟨m, fun _ => 0, ρ⟩
      (fun r => (∀ d : Dev nD, r.2.mem (lX d) = m (lX d) ∧ r.2.mem (lB d) = m (lB d) ∧ r.2.mem (lW d) = m (lW d)) ∧ r.2.sem = fun _ => 0) :=
  (θ_run Cert.KernelIdeal.defs _ _).mono (fun _ h => ⟨fun c => ⟨(h.1 c).1, (h.1 c).2.1, (h.1 c).2.2.1⟩, h.2⟩) (run_main (F := Bits) m ρ)

set_option maxRecDepth 100000 in
set_option maxHeartbeats 4000000 in
/-- The kernel ends without fault, its arguments unchanged and its semaphores at zero. -/
theorem frame_bits : Cert.quiescent_Kernel := fun m ρ _ => run_bits m ρ
end

/-! ## The reference -/

/-- The reference ends without fault, its arguments unchanged and its semaphores at zero. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The named constant -/

/-- The idealized kernel is the kernel, with the literal `ninf` read as minus infinity. -/
theorem preserves : Cert.preserves_Kernel_KernelIdeal :=
  IdealRules.named_const.statement Cert.KernelIdeal.κ "ninf" .f32 0xFF7FFFFF#32 ⊥ rfl

end Cert.Proof.Sc

end
-- ==== Proof.Segment.lean ====
/-
  Sorted segment numbers: the rows of a graph are the consecutive rows from its first one to the
  next graph's first one.  Sums and maxima over the rows of a graph become sums and maxima over
  those, which is what the kernel's folds compute at the extended reals.
-/
module

public import proofs.«01_k».proof.Proof.Spec
public import Idealize.ShloMosaic.PureOps.IdealRules
public import Idealize.ShloMosaic.Lib.IdealHost

@[expose] public section

noncomputable section

namespace Cert.Proof.Sc

open Cert.KernelIdeal
open Idealize.ShloMosaic Idealize.ShloMosaic.ValueIdx
open Cert.Proof.Words (w toInt_w)

/-- The segment numbers do not decrease, read signed. -/
def Sorted (b : S50000.Idx → BitVec 32) : Prop := ∀ n, n + 1 < 50000 → (b (bIx n)).toInt ≤ (b (bIx (n + 1))).toInt

/-- Sorted segment numbers ascend over any distance. -/
theorem Sorted.mono {b : S50000.Idx → BitVec 32} (h : Sorted b) {m n : ℕ} (hmn : m ≤ n) (hn : n < 50000) :
    (b (bIx m)).toInt ≤ (b (bIx n)).toInt := by
  induction n with
  | zero => obtain rfl : m = 0 := by omega
            exact le_refl _
  | succ n ih =>
    rcases Nat.lt_or_ge n m with h' | h'
    · obtain rfl : m = n + 1 := by omega
      exact le_refl _
    · exact (ih h' (by omega)).trans (h n hn)

/-- Entry `m` is below graph `G` exactly when it comes before the graph's first row. -/
theorem lt_first {b : S50000.Idx → BitVec 32} (h : Sorted b) {G m : ℕ} (hG : G < 2 ^ 31) (hm : m < 50000) :
    m < first b G ↔ (b (bIx m)).toInt < G := by
  unfold first
  rw [← Search.lb_spec (lt := below b G) ?_ hm]
  · unfold below; rw [BitVec.slt_eq_decide, decide_eq_true_eq, toInt_w hG]
  · intro i j hij hj
    unfold below
    rw [BitVec.slt_eq_decide, BitVec.slt_eq_decide, decide_eq_true_eq, decide_eq_true_eq]
    exact lt_of_le_of_lt (h.mono hij hj)

/-- The number of rows of graph `G`. -/
def count (b : S50000.Idx → BitVec 32) (G : ℕ) : ℕ := first b (G + 1) - first b G

/-- A graph has at most 50000 rows. -/
theorem count_le (b : S50000.Idx → BitVec 32) (G : ℕ) : count b G ≤ 50000 := (Nat.sub_le _ _).trans (first_le _ _)

/-- The rows of graph `G`. -/
def rows (b : S50000.Idx → BitVec 32) (G : ℕ) : Finset (Fin 50000) := Finset.univ.filter fun n => (b (ix1 n)).toInt = (G : ℤ)

/-- The index of node `n`. -/
theorem bIx_val (n : Fin 50000) : bIx n.val = ix1 n := congrArg ix1 (Fin.ext (Nat.mod_eq_of_lt n.isLt))

/-- They are consecutive, from the graph's first row on. -/
theorem rows_eq {b : S50000.Idx → BitVec 32} (h : Sorted b) {G : ℕ} (hG : G + 1 < 2 ^ 31) :
    rows b G = (Finset.range (count b G)).image fun m => ⟨(first b G + m) % 50000, Nat.mod_lt _ (by decide)⟩ := by
  have hle := first_le b (G + 1)
  ext n
  have e : (b (ix1 n)).toInt = (G : ℤ) ↔ first b G ≤ n.val ∧ n.val < first b (G + 1) := by
    have h0 := lt_first h (G := G) (by omega) n.isLt
    have h1 := lt_first h hG n.isLt
    rw [bIx_val] at h0 h1
    push_cast at h1
    omega
  unfold rows
  rw [Finset.mem_filter, Finset.mem_image, e]
  constructor
  · rintro ⟨-, h0, h1⟩
    refine ⟨n.val - first b G, Finset.mem_range.2 (by unfold count; omega), Fin.ext ?_⟩
    show (first b G + (n.val - first b G)) % 50000 = n.val
    rw [Nat.add_sub_cancel' h0, Nat.mod_eq_of_lt n.isLt]
  · rintro ⟨m, hm, rfl⟩
    rw [Finset.mem_range] at hm
    unfold count at hm
    have : (first b G + m) % 50000 = first b G + m := Nat.mod_eq_of_lt (by omega)
    exact ⟨Finset.mem_univ _, by show _ ≤ (first b G + m) % 50000; omega, by show (first b G + m) % 50000 < _; omega⟩

/-- Different places among a graph's rows are different rows. -/
theorem row_inj (b : S50000.Idx → BitVec 32) (G : ℕ) :
    Set.InjOn (fun m => (⟨(first b G + m) % 50000, Nat.mod_lt _ (by decide)⟩ : Fin 50000)) (Finset.range (count b G) : Set ℕ) := by
  intro m hm m' hm' e
  have := first_le b (G + 1)
  have hm := Finset.mem_range.1 hm
  have hm' := Finset.mem_range.1 hm'
  unfold count at hm hm'
  have e : (first b G + m) % 50000 = (first b G + m') % 50000 := congrArg Fin.val e
  rw [Nat.mod_eq_of_lt (by omega), Nat.mod_eq_of_lt (by omega)] at e
  omega

/-- A sum over the rows of a graph, row by row. -/
theorem sum_over_rows {b : S50000.Idx → BitVec 32} (h : Sorted b) {G : ℕ} (hG : G + 1 < 2 ^ 31) (f : Fin 50000 → EReal) :
    ∑ n ∈ rows b G, f n = ∑ m ∈ Finset.range (count b G), f ⟨(first b G + m) % 50000, Nat.mod_lt _ (by decide)⟩ := by
  rw [rows_eq h hG, Finset.sum_image (row_inj b G)]

/-- A maximum over the rows of a graph, row by row. -/
theorem sup_over_rows {b : S50000.Idx → BitVec 32} (h : Sorted b) {G : ℕ} (hG : G + 1 < 2 ^ 31) (f : Fin 50000 → EReal) :
    (rows b G).sup f = (Finset.range (count b G)).sup fun m => f ⟨(first b G + m) % 50000, Nat.mod_lt _ (by decide)⟩ := by
  rw [rows_eq h hG, Finset.sup_image]; rfl

/-! ## The kernel's folds at the extended reals -/

/-- The running sum, lane by lane: the sum over the rows. -/
theorem sumV_apply (x : S50000x512.Idx → EReal) (k lo n : ℕ) (i : S16.Idx) :
    sumV (F := Ideal) x k lo n i = ∑ m ∈ Finset.range n, x (xIx (lo + m) (16 * k + (i 0).val)) := by
  induction n with
  | zero => exact Ideal.ofBits_zero_f32
  | succ n ih => rw [Finset.sum_range_succ, ← ih]; rfl

/-- The running maximum, lane by lane: the supremum over the rows. -/
theorem maxV_apply (x : S50000x512.Idx → EReal) (k lo n : ℕ) (i : S16.Idx) :
    maxV (F := Ideal) x k lo n i = (Finset.range n).sup fun m => x (xIx (lo + m) (16 * k + (i 0).val)) := by
  induction n with
  | zero => exact IdealRules.named_const.ideal_named_scalar _ _ _ _ rfl
  | succ n ih => rw [Finset.range_add_one, Finset.sup_insert, ← ih, sup_comm]; rfl

end Cert.Proof.Sc

end
-- ==== Proof.Readout.lean ====
/-
  The readout of one entry, over the extended reals: the kernel's grouping of the three weighted
  terms and the reference's agree when the weights and the rows are finite.  A graph with no rows
  has sum zero and maximum minus infinity, which both sides replace by zero.
-/
module

public import Idealize.ShloMosaic.PureOps.Ideal
public import Mathlib.Tactic.Ring

@[expose] public section

noncomputable section

namespace Cert.Proof.Readout

open Idealize.ShloMosaic

/-- The quotient of reals by a nonzero real. -/
theorem div_real (a b : ℝ) (hb : b ≠ 0) : Ideal.div (a : EReal) (b : EReal) = ((a * b⁻¹ : ℝ) : EReal) := by
  unfold Ideal.div
  rw [if_neg (by exact_mod_cast hb), EReal.coe_mul, EReal.coe_inv]

/-- A finite sum of reals is a real. -/
theorem sum_real {ι : Type} (s : Finset ι) (f : ι → EReal) (h : ∀ i, ∃ r : ℝ, f i = r) : ∃ r : ℝ, ∑ i ∈ s, f i = r := by
  choose g hg using h
  refine ⟨∑ i ∈ s, g i, ?_⟩
  classical
  induction s using Finset.induction_on with
  | empty => simp
  | insert a s ha ih => rw [Finset.sum_insert ha, Finset.sum_insert ha, ih, hg, EReal.coe_add]

/-- The maximum of finitely many reals, at least one, is a real. -/
theorem sup_real {ι : Type} {s : Finset ι} (hs : s.Nonempty) (f : ι → EReal) (h : ∀ i, ∃ r : ℝ, f i = r) : ∃ r : ℝ, s.sup f = r := by
  obtain ⟨i, -, e⟩ := Finset.exists_mem_eq_sup s hs f
  rw [e]; exact h i

/-- The kernel's readout is the reference's: `n` rows, their sum `s` and their maximum `M`. -/
theorem readout (w0 w1 w2 s : ℝ) (n : ℕ) (M : EReal) (hs : n = 0 → s = 0) (hM : 0 < n → ∃ r : ℝ, M = r) :
    (Ideal.div (w0 : EReal) (max (((n : ℝ)) : EReal) 1) + w2) * s + (w1 * (((min n 1 : ℕ) : ℝ) : EReal)) * M
      = w0 * Ideal.div (s : EReal) (max 1 (((n : ℝ)) : EReal)) + w1 * (if (0 : EReal) < ((n : ℝ) : EReal) then M else 0) + w2 * s := by
  rcases Nat.eq_zero_or_pos n with rfl | hn
  · obtain rfl := hs rfl
    simp [Ideal.div]
  · obtain ⟨r, rfl⟩ := hM hn
    have h1 : (1 : EReal) ≤ ((n : ℝ) : EReal) := by exact_mod_cast hn
    have h0 : (0 : EReal) < ((n : ℝ) : EReal) := by exact_mod_cast hn
    have hne : (n : ℝ) ≠ 0 := by exact_mod_cast hn.ne'
    rw [max_eq_left h1, max_eq_right h1, if_pos h0, Nat.min_eq_right hn, div_real _ _ hne, div_real _ _ hne]
    norm_cast
    push_cast
    ring

end Cert.Proof.Readout

end
-- ==== Proof.ScatterRows.lean ====
/-
  A float scatter that adds whole rows, at the extended reals: entry (g, c) of the result is the
  operand's entry plus the sum of column c over the update rows whose index word, read signed, is g.
-/
module

public import Idealize.ShloMosaic.Lib.Routing.OpsPair
public import Idealize.ShloMosaic.Lib.ValueIdx

@[expose] public section

noncomputable section

namespace Cert.Proof.ScatterRows

open Idealize.ShloMosaic Idealize.ShloMosaic.ValueIdx Idealize.ShloMosaic.Routing

variable {R C N : ℕ}

/-- The one entry of a one-entry list. -/
theorem get_single {α : Type} {l : List α} {q : α} (hl : l = [q]) (n : ℕ) (h : n < l.length) : l[n]'h = q := by
  subst hl; exact List.getElem_singleton _

/-- Update (n, c) lands at (g, e) exactly when row n's index word is g and c is e. -/
theorem lands (d : ScatterDims (shape2 R C) (shape2 N 1) (shape2 N C)) (huw : d.updateWindowDims = [1])
    (hiw : d.insertedWindowDims = [0]) (hsd : d.scatterDimsToOperandDims = [0]) (hiv : d.indexVectorDim = 1)
    (idx : IVec (shape2 N 1) 32) (n : Fin N) (c : Fin C) (g : Fin R) (e : Fin C) :
    d.resultIdx? (ix2 n c) idx = some (ix2 g e) ↔ (idx (ix2 n (0 : Fin 1))).toInt = (g.val : ℤ) ∧ c = e := by
  have hm0 : (0 : Fin 2) ∈ d.scatterDimsToOperandDims := by rw [hsd]; exact List.mem_singleton.2 rfl
  have hm1 : (1 : Fin 2) ∉ d.scatterDimsToOperandDims := by rw [hsd]; exact (by decide : (1 : Fin 2) ∉ ([0] : List (Fin 2)))
  have hk : d.sKept = [1] := by show (shape2 R C).kept d.insertedWindowDims = [1]; rw [hiw]; rfl
  have hu : d.uScatter = [0] := by show (shape2 N C).kept d.updateWindowDims = [0]; rw [huw]; rfl
  have hw0 : d.window (ix2 n c) 0 = 0 := by
    unfold ScatterDims.window
    rw [dif_neg (by rw [hk]; exact (by decide : (0 : Fin 2) ∉ ([1] : List (Fin 2))))]
  have hw1 : d.window (ix2 n c) 1 = c.val := by
    unfold ScatterDims.window
    rw [dif_pos (by rw [hk]; exact List.mem_singleton.2 rfl)]
    exact congrArg (fun q : Fin 2 => (ix2 n c q).val) (get_single huw _ _)
  have hs1 : d.start (ix2 n c) idx 1 = 0 := by
    unfold ScatterDims.start
    rw [dif_neg hm1]
  have hs0 : d.start (ix2 n c) idx 0 = (idx (ix2 n (0 : Fin 1))).toInt := by
    unfold ScatterDims.start
    rw [dif_pos hm0]
    refine congrArg (fun q => (idx q).toInt) (funext fun a => Fin.ext ?_)
    match a with
    | ⟨0, _⟩ =>
      unfold ScatterDims.siIdx
      rw [dif_neg (by rw [hiv]; exact Nat.zero_ne_one)]
      unfold ScatterDims.siCoord
      simp only [Fin.val_cast]
      exact congrArg (fun q : Fin 2 => (ix2 n c q).val) (get_single hu _ _)
    | ⟨1, _⟩ =>
      unfold ScatterDims.siIdx
      rw [dif_pos (by rw [hiv])]
      show List.idxOf (0 : Fin 2) d.scatterDimsToOperandDims = 0
      rw [hsd]; simp
  rw [resultIdx?_ix2, hs0, hs1, hw0, hw1, Fin.ext_iff]
  constructor
  · rintro ⟨h, h'⟩; exact ⟨by omega, by omega⟩
  · rintro ⟨h, h'⟩; exact ⟨by omega, by omega⟩

/-- Entry (g, e) of a scatter that adds rows. -/
theorem sum_rows (d : ScatterDims (shape2 R C) (shape2 N 1) (shape2 N C)) (huw : d.updateWindowDims = [1])
    (hiw : d.insertedWindowDims = [0]) (hsd : d.scatterDimsToOperandDims = [0]) (hiv : d.indexVectorDim = 1)
    (z : FVec Ideal (shape2 R C) .f32) (idx : IVec (shape2 N 1) 32) (u : FVec Ideal (shape2 N C) .f32) (g : Fin R) (e : Fin C) :
    Host.scatterAdd d z idx u (ix2 g e)
      = z (ix2 g e) + ∑ n ∈ Finset.univ.filter (fun n : Fin N => (idx (ix2 n (0 : Fin 1))).toInt = (g.val : ℤ)), u (ix2 n e) := by
  show Ideal.hostScatterAdd d z idx u (ix2 g e) = _
  unfold Ideal.hostScatterAdd
  refine congrArg (z (ix2 g e) + ·) ?_
  refine Finset.sum_nbij' (fun j => (j 0 : Fin N)) (fun n => ix2 n e) ?_ ?_ ?_ ?_ ?_
  · intro j hj
    obtain ⟨n, c, rfl⟩ : ∃ (n : Fin N) (c : Fin C), j = ix2 n c := ⟨j 0, j 1, eq_ix2 j⟩
    exact Finset.mem_filter.2 ⟨Finset.mem_univ _, ((lands d huw hiw hsd hiv idx _ _ _ _).1 (Finset.mem_filter.1 hj).2).1⟩
  · intro n hn
    exact Finset.mem_filter.2 ⟨Finset.mem_univ _, (lands d huw hiw hsd hiv idx _ _ _ _).2 ⟨(Finset.mem_filter.1 hn).2, rfl⟩⟩
  · intro j hj
    obtain ⟨n, c, rfl⟩ : ∃ (n : Fin N) (c : Fin C), j = ix2 n c := ⟨j 0, j 1, eq_ix2 j⟩
    obtain rfl := ((lands d huw hiw hsd hiv idx _ _ _ _).1 (Finset.mem_filter.1 hj).2).2
    rfl
  · intro n _; rfl
  · intro j hj
    obtain ⟨n, c, rfl⟩ : ∃ (n : Fin N) (c : Fin C), j = ix2 n c := ⟨j 0, j 1, eq_ix2 j⟩
    obtain rfl := ((lands d huw hiw hsd hiv idx _ _ _ _).1 (Finset.mem_filter.1 hj).2).2
    rfl

end Cert.Proof.ScatterRows

end
-- ==== Proof.Refv.lean ====
/-
  What the reference computes at the extended reals, entry by entry: per graph the sum of its rows,
  their number, their maximum, and the weighted readout of the three.
-/
module

public import proofs.«01_k».proof.Proof.Gen.ReferenceIdeal
public import proofs.«01_k».proof.Proof.ScatterRows
public import Idealize.ShloMosaic.Lib.Pointwise.Reduce
public import Idealize.ShloMosaic.Lib.IdealHost
public import Idealize.ShloMosaic.Lib.Pipeline.Value
public import Idealize.ShloMosaic.PureOps.Reduce

@[expose] public section

noncomputable section

namespace Cert.Proof.Refv

open Cert.ReferenceIdeal Cert.ReferenceIdeal.Gen
open Idealize.ShloMosaic hiding ix0 ix1 ix2 ix3 eq_ix1 eq_ix2 eq_ix3
open Idealize.ShloMosaic.ValueIdx

variable (x : FVec Ideal S50000x512 .f32) (b : IVec S50000 32) (wt : FVec Ideal S3 .f32)

/-! ## The reference's arrays -/

/-- The sums of the rows. -/
def sums : FVec Ideal S256x512 .f32 :=
  Host.scatterAdd scatter_S256x512_S50000x1_S50000x512_1_0_0_1 (broadcastInDim S256x512 ![] bcast_S_S256x512 (constant S_ .f32 0x00000000#32))
    (broadcastInDim S50000x1 ![0] bcast_S50000_S50000x1_0 b) x

/-- The numbers of rows. -/
def cnts : FVec Ideal S256x1 .f32 :=
  Host.scatterAdd scatter_S256x1_S50000x1_S50000x1_1_0_0_1 (broadcastInDim S256x1 ![] bcast_S_S256x1 (constant S_ .f32 0x00000000#32))
    (broadcastInDim S50000x1 ![0] bcast_S50000_S50000x1_0 b) (broadcastInDim S50000x1 ![] bcast_S_S50000x1 (constant S_ .f32 0x3F800000#32))

/-- The rows, those of another graph replaced by minus infinity. -/
def masked : FVec Ideal S256x50000x512 .f32 :=
  select (broadcastInDim S256x50000x512 ![0, 1, 2] bcast_S256x50000x1_S256x50000x512_0_1_2
      (cmpi .eq (broadcastInDim S256x50000x1 ![0, 1, 2] bcast_S1x50000x1_S256x50000x1_0_1_2 (broadcastInDim S1x50000x1 ![1] bcast_S50000_S1x50000x1_1 b))
        (broadcastInDim S256x50000x1 ![0, 1, 2] bcast_S256x1x1_S256x50000x1_0_1_2 (broadcastInDim S256x1x1 ![0] bcast_S256_S256x1x1_0 (iotaInDim S256 32 0)))))
    (broadcastInDim S256x50000x512 ![0, 1, 2] bcast_S1x50000x512_S256x50000x512_0_1_2 (broadcastInDim S1x50000x512 ![1, 2] bcast_S50000x512_S1x50000x512_1_2 x))
    (broadcastInDim S256x50000x512 ![] bcast_S_S256x50000x512 (id (constant S_ .f32 0xFF800000#32)))

/-- The maxima of the rows. -/
def maxs : FVec Ideal S256x512 .f32 :=
  Host.reduce FloatOps.maximumf (masked x b) (constant S_ .f32 0xFF800000#32) reducesTo_S256x50000x512_S256x512_d1 h_S_

/-- The reference's result. -/
def out : FVec Ideal S256x512 .f32 :=
  addf (addf (mulf (broadcastInDim S256x512 ![] bcast_S_S256x512 (shapeCast _ (extractStridedSlice S1 ![0] wt slices_S3_S1_0) shapeCasts_S1_S_))
        (Host.divf (sums x b) (broadcastInDim S256x512 ![0, 1] bcast_S256x1_S256x512_0_1
          (maximumf (broadcastInDim S256x1 ![] bcast_S_S256x1 (id (constant S_ .f32 0x3F800000#32))) (cnts b)))))
      (mulf (broadcastInDim S256x512 ![] bcast_S_S256x512 (shapeCast _ (extractStridedSlice S1 ![1] wt slices_S3_S1_1) shapeCasts_S1_S_))
        (select (broadcastInDim S256x512 ![0, 1] bcast_S256x1_S256x512_0_1
            (cmpf .ogt (cnts b) (broadcastInDim S256x1 ![] bcast_S_S256x1 (constant S_ .f32 0x00000000#32))))
          (maxs x b) (broadcastInDim S256x512 ![] bcast_S_S256x512 (constant S_ .f32 0x00000000#32)))))
    (mulf (broadcastInDim S256x512 ![] bcast_S_S256x512 (shapeCast _ (extractStridedSlice S1 ![2] wt slices_S3_S1_2) shapeCasts_S1_S_)) (sums x b))

/-! ## Their entries -/

/-- The rows of graph `g`. -/
def seg (g : ℕ) : Finset (Fin 50000) := Finset.univ.filter fun n => (b (ix1 n)).toInt = (g : ℤ)

/-- The segment numbers as a column. -/
theorem col_apply (n : Fin 50000) : broadcastInDim S50000x1 ![0] bcast_S50000_S50000x1_0 b (ix2 n (0 : Fin 1)) = b (ix1 n) := by
  refine broadcastInDim_apply _ _ _ _ (ix1 n) fun a => ?_
  match a with
  | ⟨0, _⟩ => exact (if_neg (show ¬ (50000 : ℕ) = 1 by decide)).symm

/-- The nodes that the scatter sends to row `g` are those of graph `g`. -/
theorem seg_col (g : ℕ) :
    (Finset.univ.filter fun n : Fin 50000 => (broadcastInDim S50000x1 ![0] bcast_S50000_S50000x1_0 b (ix2 n (0 : Fin 1))).toInt = (g : ℤ)) = seg b g := by
  unfold seg
  refine Finset.filter_congr fun n _ => ?_
  rw [col_apply]

/-- The segment sum: the sum over the graph's nodes. -/
theorem sums_apply (g : Fin 256) (c : Fin 512) : sums x b (ix2 g c) = ∑ n ∈ seg b g.val, x (ix2 n c) := by
  refine (ScatterRows.sum_rows _ rfl rfl rfl rfl _ _ _ g c).trans ?_
  rw [broadcastInDim_scalar_apply, seg_col]
  exact (congrArg (· + _) Ideal.ofBits_zero_f32).trans (zero_add _)

/-- The count: the number of the graph's nodes. -/
theorem cnts_apply (g : Fin 256) : cnts b (ix2 g (0 : Fin 1)) = (((seg b g.val).card : ℝ) : EReal) := by
  refine (ScatterRows.sum_rows _ rfl rfl rfl rfl _ _ _ g (0 : Fin 1)).trans ?_
  rw [broadcastInDim_scalar_apply, seg_col]
  refine ((congrArg (· + _) Ideal.ofBits_zero_f32).trans (zero_add _)).trans ?_
  refine (Finset.sum_congr rfl fun n _ => (broadcastInDim_scalar_apply _ _ _).trans Ideal.ofBits_one_f32).trans ?_
  rw [Finset.sum_const, nsmul_one]
  rfl

/-- A word is the one of a small number exactly when its signed value is that number. -/
theorem eq_word {v : BitVec 32} {g : ℕ} (hg : g < 256) : v = BitVec.ofNat 32 g ↔ v.toInt = (g : ℤ) := by
  have e : (BitVec.ofNat 32 g).toInt = (g : ℤ) := WordCmp.toInt_ofNat_of_lt (by omega)
  rw [← e, BitVec.toInt_inj]

/-- This word is minus infinity. -/
theorem ofBits_bot : Ideal.ofBits .f32 0xFF800000#32 = ⊥ := by simp [Ideal.ofBits, Ideal.ieee]
/-- This word is plus infinity. -/
theorem ofBits_top : Ideal.ofBits .f32 0x7F800000#32 = ⊤ := by simp [Ideal.ofBits, Ideal.ieee]

/-- Which rows are of graph `g`, spread over the columns. -/
theorem mask_apply (g : Fin 256) (n : Fin 50000) (c : Fin 512) :
    broadcastInDim S256x50000x512 ![0, 1, 2] bcast_S256x50000x1_S256x50000x512_0_1_2
      (cmpi .eq (broadcastInDim S256x50000x1 ![0, 1, 2] bcast_S1x50000x1_S256x50000x1_0_1_2 (broadcastInDim S1x50000x1 ![1] bcast_S50000_S1x50000x1_1 b))
        (broadcastInDim S256x50000x1 ![0, 1, 2] bcast_S256x1x1_S256x50000x1_0_1_2 (broadcastInDim S256x1x1 ![0] bcast_S256_S256x1x1_0 (iotaInDim S256 32 0)))) (ix3 g n c)
      = IntOp.cmpi .eq (b (ix1 n)) (BitVec.ofNat 32 g.val) := by
  refine (broadcastInDim_apply _ _ _ _ (ix3 g n (0 : Fin 1)) fun a => ?_).trans ?_
  · match a with
    | ⟨0, _⟩ => exact (if_neg (show ¬ (256 : ℕ) = 1 by decide)).symm
    | ⟨1, _⟩ => exact (if_neg (show ¬ (50000 : ℕ) = 1 by decide)).symm
    | ⟨2, _⟩ => exact (if_pos rfl).symm
  refine congrArg₂ (IntOp.cmpi .eq) ?_ ?_
  · refine (broadcastInDim_apply _ _ _ _ (ix3 (0 : Fin 1) n (0 : Fin 1)) fun a => ?_).trans (broadcastInDim_apply _ _ _ _ (ix1 n) fun a => ?_)
    · match a with
      | ⟨0, _⟩ => exact (if_pos rfl).symm
      | ⟨1, _⟩ => exact (if_neg (show ¬ (50000 : ℕ) = 1 by decide)).symm
      | ⟨2, _⟩ => exact (if_pos rfl).symm
    · match a with
      | ⟨0, _⟩ => exact (if_neg (show ¬ (50000 : ℕ) = 1 by decide)).symm
  · refine (broadcastInDim_apply _ _ _ _ (ix3 g (0 : Fin 1) (0 : Fin 1)) fun a => ?_).trans
      ((broadcastInDim_apply _ _ _ _ (ix1 g) fun a => ?_).trans (iotaInDim_apply _ _ _))
    · match a with
      | ⟨0, _⟩ => exact (if_neg (show ¬ (256 : ℕ) = 1 by decide)).symm
      | ⟨1, _⟩ => exact (if_pos rfl).symm
      | ⟨2, _⟩ => exact (if_pos rfl).symm
    · match a with
      | ⟨0, _⟩ => exact (if_neg (show ¬ (256 : ℕ) = 1 by decide)).symm

/-- The rows, spread over the graphs. -/
theorem spreadRows_apply (g : Fin 256) (n : Fin 50000) (c : Fin 512) :
    broadcastInDim S256x50000x512 ![0, 1, 2] bcast_S1x50000x512_S256x50000x512_0_1_2 (broadcastInDim S1x50000x512 ![1, 2] bcast_S50000x512_S1x50000x512_1_2 x) (ix3 g n c)
      = x (ix2 n c) := by
  refine (broadcastInDim_apply _ _ _ _ (ix3 (0 : Fin 1) n c) fun a => ?_).trans (broadcastInDim_apply _ _ _ _ (ix2 n c) fun a => ?_)
  · match a with
    | ⟨0, _⟩ => exact (if_pos rfl).symm
    | ⟨1, _⟩ => exact (if_neg (show ¬ (50000 : ℕ) = 1 by decide)).symm
    | ⟨2, _⟩ => exact (if_neg (show ¬ (512 : ℕ) = 1 by decide)).symm
  · match a with
    | ⟨0, _⟩ => exact (if_neg (show ¬ (50000 : ℕ) = 1 by decide)).symm
    | ⟨1, _⟩ => exact (if_neg (show ¬ (512 : ℕ) = 1 by decide)).symm

/-- The masked rows: the row of a node of the graph, minus infinity for the others. -/
theorem masked_apply (g : Fin 256) (n : Fin 50000) (c : Fin 512) :
    masked x b (ix3 g n c) = if (b (ix1 n)).toInt = (g.val : ℤ) then x (ix2 n c) else ⊥ := by
  have hbot : broadcastInDim S256x50000x512 ![] bcast_S_S256x50000x512 (id (constant (F := Ideal) S_ .f32 0xFF800000#32)) (ix3 g n c) = (⊥ : EReal) :=
    (broadcastInDim_scalar_apply _ _ _).trans ofBits_bot
  unfold masked
  rw [select_apply, mask_apply, spreadRows_apply, hbot]
  by_cases h : b (ix1 n) = BitVec.ofNat 32 g.val
  · rw [if_pos ((eq_word g.isLt).1 h), h]
    simp [IntOp.cmpi, Scalar.select]
  · rw [if_neg fun e => h ((eq_word g.isLt).2 e)]
    have e : (b (ix1 n) == BitVec.ofNat 32 g.val) = false := beq_eq_false_iff_ne.2 h
    simp [IntOp.cmpi, Scalar.select, e]

/-- The masked maximum: the supremum over the graph's nodes. -/
theorem maxs_apply (g : Fin 256) (c : Fin 512) : maxs x b (ix2 g c) = (seg b g.val).sup fun n => x (ix2 n c) := by
  unfold maxs
  rw [show (FloatOps.maximumf : Ideal .f32 → Ideal .f32 → Ideal .f32) = (max : EReal → EReal → EReal) from rfl, Host.reduce_eq_fold,
    Shape.ReducesTo.fold_fiber_r3_a1]
  show Finset.univ.fold max (Ideal.ofBits .f32 0xFF800000#32) (fun n : Fin 50000 => masked x b (ix3 g n c)) = _
  rw [ofBits_bot]
  show Finset.univ.sup (fun n : Fin 50000 => masked x b (ix3 g n c)) = _
  refine le_antisymm (Finset.sup_le fun n _ => ?_) (Finset.sup_le fun n hn => ?_)
  · rw [masked_apply]
    split
    · rename_i h
      exact Finset.le_sup (f := fun n => x (ix2 n c)) (Finset.mem_filter.2 ⟨Finset.mem_univ n, h⟩)
    · exact bot_le
  · refine le_trans (le_of_eq ?_) (Finset.le_sup (f := fun n : Fin 50000 => masked x b (ix3 g n c)) (Finset.mem_univ n))
    show _ = masked x b (ix3 g n c)
    rw [masked_apply, if_pos (Finset.mem_filter.1 hn).2]

/-- A column spread along the rows. -/
theorem spread_apply {α : Type} (v : S256x1.Idx → α) (g : Fin 256) (c : Fin 512) :
    broadcastInDim S256x512 ![0, 1] bcast_S256x1_S256x512_0_1 v (ix2 g c) = v (ix2 g (0 : Fin 1)) := by
  refine broadcastInDim_apply _ _ _ _ (ix2 g (0 : Fin 1)) fun a => ?_
  match a with
  | ⟨0, _⟩ => exact (if_neg (show ¬ (256 : ℕ) = 1 by decide)).symm
  | ⟨1, _⟩ => exact (if_pos rfl).symm

/-- A comparison, entry by entry. -/
theorem greater_apply {s : Shape} (v z : FVec Ideal s .f32) (i : s.Idx) : cmpf .ogt v z i = Ideal.cmp .ogt (v i) (z i) := rfl

/-- An entry of the result: the mean, the maximum (zero for a graph without rows) and the sum, weighted. -/
theorem out_apply (g : Fin 256) (c : Fin 512) :
    out x b wt (ix2 g c) =
      wt (ix1 (0 : Fin 3)) * Ideal.div (∑ n ∈ seg b g.val, x (ix2 n c)) (max 1 (((seg b g.val).card : ℝ) : EReal))
      + wt (ix1 (1 : Fin 3)) * (if (0 : EReal) < (((seg b g.val).card : ℝ) : EReal) then (seg b g.val).sup (fun n => x (ix2 n c)) else 0)
      + wt (ix1 (2 : Fin 3)) * ∑ n ∈ seg b g.val, x (ix2 n c) := by
  have hw : ∀ (j : ℕ) (hj : j < 3) (hs : S3.Slices ![j] S1),
      broadcastInDim S256x512 ![] bcast_S_S256x512 (shapeCast S_ (extractStridedSlice S1 ![j] wt hs) shapeCasts_S1_S_) (ix2 g c) = wt (ix1 ⟨j, hj⟩) := by
    intro j hj hs
    rw [broadcastInDim_scalar_apply]
    refine congrArg wt (funext fun a => Fin.ext ?_)
    match a with
    | ⟨0, _⟩ =>
      have e : ∀ q : S1.Idx, (q 0).val = 0 := fun q => by have : (q 0).val < 1 := (q 0).isLt; omega
      show j + ((Shape.reshapeEquiv shapeCasts_S1_S_ ix0) 0).val = j
      rw [e, Nat.add_zero]
  have hden : broadcastInDim S256x512 ![0, 1] bcast_S256x1_S256x512_0_1
      (maximumf (broadcastInDim S256x1 ![] bcast_S_S256x1 (id (constant S_ .f32 0x3F800000#32))) (cnts b)) (ix2 g c) = max 1 (cnts b (ix2 g (0 : Fin 1))) := by
    refine (spread_apply _ g c).trans ?_
    rw [maximumf_apply, broadcastInDim_scalar_apply]
    exact congrArg (max · _) Ideal.ofBits_one_f32
  have htest : broadcastInDim S256x512 ![0, 1] bcast_S256x1_S256x512_0_1
      (cmpf .ogt (cnts b) (broadcastInDim S256x1 ![] bcast_S_S256x1 (constant S_ .f32 0x00000000#32))) (ix2 g c) = Ideal.cmp .ogt (cnts b (ix2 g (0 : Fin 1))) 0 := by
    refine (spread_apply _ g c).trans ?_
    rw [greater_apply, broadcastInDim_scalar_apply]
    exact congrArg (Ideal.cmp .ogt _) Ideal.ofBits_zero_f32
  have hzero : broadcastInDim S256x512 ![] bcast_S_S256x512 (constant (F := Ideal) S_ .f32 0x00000000#32) (ix2 g c) = 0 :=
    (broadcastInDim_scalar_apply _ _ _).trans Ideal.ofBits_zero_f32
  rw [← sums_apply, ← maxs_apply, ← cnts_apply]
  unfold out
  rw [addf_apply, addf_apply, mulf_apply, mulf_apply, mulf_apply, hw 0 (by decide), hw 1 (by decide), hw 2 (by decide), hostDivf_apply, hden, select_apply,
    htest, hzero]
  have hsel : Scalar.select (Ideal.cmp .ogt (cnts b (ix2 g (0 : Fin 1))) 0) (maxs x b (ix2 g c)) 0
      = if (0 : EReal) < cnts b (ix2 g (0 : Fin 1)) then maxs x b (ix2 g c) else 0 := by
    by_cases h : (0 : EReal) < cnts b (ix2 g (0 : Fin 1))
    · rw [if_pos h]; simp [Ideal.cmp, Scalar.select, h]
    · rw [if_neg h]; simp [Ideal.cmp, Scalar.select, h]
  rw [hsel]
  rfl

end Cert.Proof.Refv

end
-- ==== Proof.Value.lean ====
/-
  The kernel's result is the reference's: at the extended reals, for sorted segment numbers and
  finite rows and weights.
-/
module

public import proofs.«01_k».proof.Proof.Segment
public import proofs.«01_k».proof.Proof.Readout
public import proofs.«01_k».proof.Proof.Refv

@[expose] public section

noncomputable section

namespace Cert.Proof.Sc

open Cert.KernelIdeal
open Idealize.ShloMosaic hiding ix1 ix2 ix3 eq_ix1 eq_ix2 eq_ix3
open Idealize.ShloMosaic.ValueIdx
open Cert.Proof.Words (w toInt_w)

/-- Every entry is a real. -/
def Finite {s : Shape} (v : FVec Ideal s .f32) : Prop := ∀ i, ∃ r : ℝ, v i = (r : EReal)

/-- The number of rows of a graph. -/
theorem card_rows {b : S50000.Idx → BitVec 32} (h : Sorted b) {G : ℕ} (hG : G + 1 < 2 ^ 31) : (rows b G).card = count b G := by
  rw [rows_eq h hG, Finset.card_image_of_injOn (row_inj b G), Finset.card_range]

/-- The equation: for sorted segment numbers and finite rows and weights, what the kernel leaves is what the
reference computes. -/
theorem out_eq (x : FVec Ideal S50000x512 .f32) (b : IVec S50000 32) (wt : FVec Ideal S3 .f32) (wr : FVec Ideal S48 .f32)
    (hb : Sorted b) (hx : Finite x) (hw : Finite wt)
    (hwr : ∀ (j : Fin 3) (l : ℕ), l < 16 → wr (wIx (16 * j.val + l)) = wt (ix1 j)) : outF (F := Ideal) x b wr = Refv.out x b wt := by
  funext y
  obtain ⟨g, c, rfl⟩ : ∃ (g : Fin 256) (c : Fin 512), y = ix2 g c := ⟨y 0, y 1, eq_ix2 y⟩
  have hG : g.val + 1 < 2 ^ 31 := by have := g.isLt; omega
  have hn := count_le b g.val
  have hl : c.val % 16 < 16 := Nat.mod_lt _ (by decide)
  have hrow : ∀ m, xIx (first b g.val + m) (16 * (c.val / 16) + c.val % 16) = ix2 (⟨(first b g.val + m) % 50000, Nat.mod_lt _ (by decide)⟩ : Fin 50000) c := by
    intro m
    refine congrArg (ix2 _) (Fin.ext ?_)
    show (16 * (c.val / 16) + c.val % 16) % 512 = c.val
    rw [Nat.div_add_mod, Nat.mod_eq_of_lt c.isLt]
  have hS : sumV (F := Ideal) x (c.val / 16) (first b g.val) (count b g.val) (lane c.val) = ∑ n ∈ rows b g.val, x (ix2 n c) := by
    rw [sumV_apply, sum_over_rows hb hG]
    exact Finset.sum_congr rfl fun m _ => congrArg x (hrow m)
  have hM : maxV (F := Ideal) x (c.val / 16) (first b g.val) (count b g.val) (lane c.val) = (rows b g.val).sup fun n => x (ix2 n c) := by
    rw [maxV_apply, sup_over_rows hb hG]
    exact Finset.sup_congr rfl fun m _ => congrArg x (hrow m)
  obtain ⟨s, hs⟩ := Readout.sum_real (rows b g.val) (fun n => x (ix2 n c)) fun n => hx _
  obtain ⟨w0, h0⟩ := hw (ix1 (0 : Fin 3))
  obtain ⟨w1, h1⟩ := hw (ix1 (1 : Fin 3))
  obtain ⟨w2, h2⟩ := hw (ix1 (2 : Fin 3))
  have hc := card_rows hb hG
  rw [Refv.out_apply, h0, h1, h2]
  show (Ideal.div (wr (wIx (16 * (0 : Fin 3).val + c.val % 16))) (max ((((w (count b g.val)).toInt : ℝ)) : EReal) (Ideal.ofBits .f32 0x3F800000#32))
        + wr (wIx (16 * (2 : Fin 3).val + c.val % 16))) * sumV (F := Ideal) x (c.val / 16) (first b g.val) (count b g.val) (lane c.val)
      + (wr (wIx (16 * (1 : Fin 3).val + c.val % 16)) * ((((Scalar.minsi (w (count b g.val)) (w 1)).toInt : ℝ)) : EReal))
        * maxV (F := Ideal) x (c.val / 16) (first b g.val) (count b g.val) (lane c.val)
    = (w0 : EReal) * Ideal.div (∑ n ∈ rows b g.val, x (ix2 n c)) (max 1 (((rows b g.val).card : ℝ) : EReal))
      + w1 * (if (0 : EReal) < (((rows b g.val).card : ℝ) : EReal) then (rows b g.val).sup (fun n => x (ix2 n c)) else 0)
      + w2 * ∑ n ∈ rows b g.val, x (ix2 n c)
  rw [hS, hM, hs, hc, hwr _ _ hl, hwr _ _ hl, hwr _ _ hl, h0, h1, h2, Ideal.ofBits_one_f32, Words.minsi_w (by omega) (by decide), toInt_w (by omega),
    toInt_w (by omega), Int.cast_natCast, Int.cast_natCast]
  refine Readout.readout w0 w1 w2 s (count b g.val) _ (fun h => ?_) (fun h => ?_)
  · have he : rows b g.val = ∅ := Finset.card_eq_zero.1 (hc.trans h)
    rw [he, Finset.sum_empty] at hs
    exact_mod_cast hs.symm
  · exact Readout.sup_real (Finset.card_pos.1 (hc ▸ h)) _ fun n => hx _

end Cert.Proof.Sc

end
-- ==== Proof.Algebraic.lean ====
/-
  The kernel and the reference end with equal results: at the extended reals, for sorted segment
  numbers and finite rows and weights.
-/
module

public import proofs.«01_k».proof.Defs
public import proofs.«01_k».proof.Proof.Launch
public import proofs.«01_k».proof.Proof.Value
public import proofs.«01_k».proof.Proof.Gen.ReferenceIdeal.Run

@[expose] public section

noncomputable section

namespace Cert.Proof.Sc

open Cert.KernelIdeal Cert.KernelIdeal.Gen
open Idealize.ShloMosaic hiding ix1 ix2 ix3 eq_ix1 eq_ix2 eq_ix3
open Idealize.ShloMosaic.ValueIdx
open Idealize.SL.Sem

variable {F : FTy → Type} [FloatOps F] [Named F]

/-! ## The weights as the tiles read them -/

/-- Weight `j` stands in the sixteen places from 16 j on. -/
theorem rOf_apply (m : (ℓ : Loc nD τ sig) → Buf (Elt F) ℓ) (d : Dev nD) (j : Fin 3) (l : ℕ) (hl : l < 16) :
    rOf m d (wIx (16 * j.val + l)) = (m (d, rW) : S3.Idx → F .f32) (ix1 j) := by
  have h1 : (V1 m d rS : S3x16.Idx → F .f32) = broadcastInDim S3x16 ![0] bcast_S3_S3x16_0 (m (d, rW) : S3.Idx → F .f32) :=
    StableHlo.unary_result main_arg2 main_v0 _ _ _ (V0 m d)
  have h2 : rOf m d = shapeCast S48 (V1 m d rS : S3x16.Idx → F .f32) shapeCasts_S3x16_S48 := by
    unfold rOf V2 opRow
    exact StableHlo.reshape_result main_v0 main_v1 rfl shapeCasts_S3x16_S48 _ _ (V1 m d)
  have e : Shape.reshapeEquiv shapeCasts_S3x16_S48 (wIx (16 * j.val + l)) = (ix2 j (⟨l, hl⟩ : Fin 16) : S3x16.Idx) := by
    refine Shape.reshapeEquiv_eq_of_rowMajor _ ?_
    rw [Shape.rowMajor_val_two, Shape.rowMajor_val_one]
    show j.val * 16 + l = (16 * j.val + l) % 48
    have := j.isLt
    omega
  rw [h2, h1]
  show broadcastInDim S3x16 ![0] bcast_S3_S3x16_0 (m (d, rW) : S3.Idx → F .f32) (Shape.reshapeEquiv shapeCasts_S3x16_S48 (wIx (16 * j.val + l))) = _
  rw [e]
  refine congrArg (m (d, rW) : S3.Idx → F .f32) (funext fun a => ?_)
  match a with
  | ⟨0, _⟩ => rfl

/-! ## What the precondition says -/

/-- The shape relations the precondition is stated over. -/
theorem preFacts : Cert.Pre_sorted_and_finite.Facts where
  slices_S50000_S49999_0 := by decide
  slices_S50000_S49999_1 := by decide
  bcast_S_S50000x512 := by decide
  bcast_S_S3 := by decide

/-- A value whose magnitude is below infinity is a real. -/
theorem real_of_lt {v : EReal} (h : Ideal.cmp .olt (max v (-v)) (Ideal.ofBits .f32 0x7F800000#32) = 1#1) : ∃ r : ℝ, v = (r : EReal) := by
  rw [Refv.ofBits_top] at h
  induction v using EReal.rec with
  | bot => simp [Ideal.cmp] at h
  | top => simp [Ideal.cmp] at h
  | coe r => exact ⟨r, rfl⟩

/-- The precondition read off the memory: the segment numbers are sorted, the rows and the weights are reals. -/
theorem pre_reads (m : (ℓ : Loc nD τ sig) → Buf (Elt Ideal) ℓ) (h : Cert.Pre_KernelIdeal_sorted_and_finite (hPre_sorted_and_finite := preFacts) m) (d : Dev nD) :
    Sorted (bOf m d) ∧ Finite (s := S50000x512) (xOf m d) ∧ Finite (s := S3) (m (d, rW)) := by
  obtain ⟨hb, hx, hw⟩ := h d
  refine ⟨fun n hn => ?_, fun i => ?_, fun i => ?_⟩
  · have e := congrFun hb (ix1 (⟨n, by omega⟩ : Fin 49999))
    have e : IntOp.cmpi .sle (bOf m d (bIx n)) (bOf m d (bIx (n + 1))) = 1#1 := by
      refine Eq.trans (congrArg₂ (IntOp.cmpi .sle) (congrArg (bOf m d) ?_) (congrArg (bOf m d) ?_)) e
      · refine funext fun a => Fin.ext ?_
        match a with
        | ⟨0, _⟩ => exact (Nat.mod_eq_of_lt (by omega)).trans (Nat.zero_add n).symm
      · refine funext fun a => Fin.ext ?_
        match a with
        | ⟨0, _⟩ => exact (Nat.mod_eq_of_lt hn).trans (Nat.add_comm n 1)
    unfold IntOp.cmpi at e
    by_contra hc
    simp [BitVec.sle_eq_decide, hc] at e
  · exact real_of_lt (congrFun hx i)
  · exact real_of_lt (congrFun hw i)

/-! ## The claim -/

/-- From equal arguments that meet the precondition, kernel and reference end with equal results. -/
theorem algebraic : Cert.algebraic_KernelIdeal_ReferenceIdeal_pre_sorted_and_finite (hPre_sorted_and_finite := preFacts) := by
  intro m g m' g' hpre hargs
  refine ⟨fun c => resOf (F := Ideal) m c, ?_, ?_⟩
  · exact (θ_run Cert.KernelIdeal.defs _ _).mono (fun _ h c => ⟨(h.1 c).2.2.2, (h.1 c).1, (h.1 c).2.1, (h.1 c).2.2.1⟩) (run_main (F := Ideal) m g)
  · refine (θ_run Cert.ReferenceIdeal.defs _ _).mono (fun r h c => ⟨(h c).1.trans ?_, (h c).2⟩) (Cert.ReferenceIdeal.Value.run (F := Ideal) m' g')
    obtain ⟨hx, hb, hw⟩ := hargs c
    rw [hx, hb, hw]
    obtain ⟨sb, fx, fw⟩ := pre_reads m hpre c
    exact (out_eq (xOf m c) (bOf m c) (m (c, rW)) (rOf m c) sb fx fw (rOf_apply m c)).symm

end Cert.Proof.Sc

end
-- ==== Proof.lean ====
/-
The certificate: each claim from the module that proves it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts, Sc.preFacts,
    Sc.frame_bits, Sc.frame_ideal, fun m ρ _ => Sc.frame_ideal m ρ trivial,
    Sc.frame_ref, fun m ρ _ => Sc.frame_ref m ρ trivial, Sc.preserves, Sc.algebraic⟩

end Cert.Proof

end
